-- ==== Defs.lean ====
def Pre_Chart (m : (ℓ : Loc Cert.Chart.nD Cert.Chart.τ Cert.Chart.sig) → Buf (Elt Bits) ℓ) : Prop :=
  True

def Pre_ChartIdeal (m : (ℓ : Loc Cert.ChartIdeal.nD Cert.ChartIdeal.τ Cert.ChartIdeal.sig) → Buf (Elt Ideal) ℓ) : Prop :=
  True

def Pre_ChartReferenceIdeal (m : (ℓ : Loc Cert.ChartReferenceIdeal.nD Cert.ChartReferenceIdeal.τ Cert.ChartReferenceIdeal.sig) → Buf (Elt Ideal) ℓ) : Prop :=
  True

def Pre_Two [hPre_new_charts_in_range : Cert.Pre_new_charts_in_range.Facts] (m : (ℓ : Loc Cert.Two.nD Cert.Two.τ Cert.Two.sig) → Buf (Elt Bits) ℓ) : Prop :=
  ∀ c : Dev Cert.Two.nD,
    (Cert.Pre_new_charts_in_range.fn (F := Bits) (m ((c.tc : Thread Cert.Two.nD Cert.Two.τ).loc Cert.Two.main_arg0)) (m ((c.tc : Thread Cert.Two.nD Cert.Two.τ).loc Cert.Two.main_arg1)) (m ((c.tc : Thread Cert.Two.nD Cert.Two.τ).loc Cert.Two.main_arg2)) (m ((c.tc : Thread Cert.Two.nD Cert.Two.τ).loc Cert.Two.main_arg3)) (m ((c.tc : Thread Cert.Two.nD Cert.Two.τ).loc Cert.Two.main_arg4)) (m ((c.tc : Thread Cert.Two.nD Cert.Two.τ).loc Cert.Two.main_arg5)) (m ((c.tc : Thread Cert.Two.nD Cert.Two.τ).loc Cert.Two.main_arg6)) (m ((c.tc : Thread Cert.Two.nD Cert.Two.τ).loc Cert.Two.main_arg7)) (m ((c.tc : Thread Cert.Two.nD Cert.Two.τ).loc Cert.Two.main_arg8))) = (fun _ => 1#1)

def Pre_TwoIdeal [hPre_new_charts_in_range : Cert.Pre_new_charts_in_range.Facts] (m : (ℓ : Loc Cert.TwoIdeal.nD Cert.TwoIdeal.τ Cert.TwoIdeal.sig) → Buf (Elt Ideal) ℓ) : Prop :=
  ∀ c : Dev Cert.TwoIdeal.nD,
    (Cert.Pre_new_charts_in_range.fn (F := Ideal) (m ((c.tc : Thread Cert.TwoIdeal.nD Cert.TwoIdeal.τ).loc Cert.TwoIdeal.main_arg0)) (m ((c.tc : Thread Cert.TwoIdeal.nD Cert.TwoIdeal.τ).loc Cert.TwoIdeal.main_arg1)) (m ((c.tc : Thread Cert.TwoIdeal.nD Cert.TwoIdeal.τ).loc Cert.TwoIdeal.main_arg2)) (m ((c.tc : Thread Cert.TwoIdeal.nD Cert.TwoIdeal.τ).loc Cert.TwoIdeal.main_arg3)) (m ((c.tc : Thread Cert.TwoIdeal.nD Cert.TwoIdeal.τ).loc Cert.TwoIdeal.main_arg4)) (m ((c.tc : Thread Cert.TwoIdeal.nD Cert.TwoIdeal.τ).loc Cert.TwoIdeal.main_arg5)) (m ((c.tc : Thread Cert.TwoIdeal.nD Cert.TwoIdeal.τ).loc Cert.TwoIdeal.main_arg6)) (m ((c.tc : Thread Cert.TwoIdeal.nD Cert.TwoIdeal.τ).loc Cert.TwoIdeal.main_arg7)) (m ((c.tc : Thread Cert.TwoIdeal.nD Cert.TwoIdeal.τ).loc Cert.TwoIdeal.main_arg8))) = (fun _ => 1#1)

def Pre_TwoReferenceIdeal (m : (ℓ : Loc Cert.TwoReferenceIdeal.nD Cert.TwoReferenceIdeal.τ Cert.TwoReferenceIdeal.sig) → Buf (Elt Ideal) ℓ) : Prop :=
  True

def Pre_TwoReferenceIdeal_new_charts_in_range [hPre_new_charts_in_range : Cert.Pre_new_charts_in_range.Facts] (m : (ℓ : Loc Cert.TwoReferenceIdeal.nD Cert.TwoReferenceIdeal.τ Cert.TwoReferenceIdeal.sig) → Buf (Elt Ideal) ℓ) : Prop :=
  ∀ c : Dev Cert.TwoReferenceIdeal.nD,
    (Cert.Pre_new_charts_in_range.fn (F := Ideal) (m ((c.tc : Thread Cert.TwoReferenceIdeal.nD Cert.TwoReferenceIdeal.τ).loc Cert.TwoReferenceIdeal.main_arg0)) (m ((c.tc : Thread Cert.TwoReferenceIdeal.nD Cert.TwoReferenceIdeal.τ).loc Cert.TwoReferenceIdeal.main_arg1)) (m ((c.tc : Thread Cert.TwoReferenceIdeal.nD Cert.TwoReferenceIdeal.τ).loc Cert.TwoReferenceIdeal.main_arg2)) (m ((c.tc : Thread Cert.TwoReferenceIdeal.nD Cert.TwoReferenceIdeal.τ).loc Cert.TwoReferenceIdeal.main_arg3)) (m ((c.tc : Thread Cert.TwoReferenceIdeal.nD Cert.TwoReferenceIdeal.τ).loc Cert.TwoReferenceIdeal.main_arg4)) (m ((c.tc : Thread Cert.TwoReferenceIdeal.nD Cert.TwoReferenceIdeal.τ).loc Cert.TwoReferenceIdeal.main_arg5)) (m ((c.tc : Thread Cert.TwoReferenceIdeal.nD Cert.TwoReferenceIdeal.τ).loc Cert.TwoReferenceIdeal.main_arg6)) (m ((c.tc : Thread Cert.TwoReferenceIdeal.nD Cert.TwoReferenceIdeal.τ).loc Cert.TwoReferenceIdeal.main_arg7)) (m ((c.tc : Thread Cert.TwoReferenceIdeal.nD Cert.TwoReferenceIdeal.τ).loc Cert.TwoReferenceIdeal.main_arg8))) = (fun _ => 1#1)

def quiescent_Chart [hChart : Cert.Chart.Facts] : Prop :=
  ∀ (m : (ℓ : Loc Cert.Chart.nD Cert.Chart.τ Cert.Chart.sig) → Buf (Elt Bits) ℓ) (g : Dev Cert.Chart.nD → PrngReg), Pre_Chart m →
    θ_run (Cert.Chart.defs (F := Bits)) (onTc (τ := Cert.Chart.τ) (Cert.Chart.main (F := Bits))) ⟨m, fun _ => 0, g⟩ (fun r => (∀ c : Dev Cert.Chart.nD,
      r.2.mem ((c.tc : Thread Cert.Chart.nD Cert.Chart.τ).loc Cert.Chart.main_arg0) = m ((c.tc : Thread Cert.Chart.nD Cert.Chart.τ).loc Cert.Chart.main_arg0)
      ∧ r.2.mem ((c.tc : Thread Cert.Chart.nD Cert.Chart.τ).loc Cert.Chart.main_arg1) = m ((c.tc : Thread Cert.Chart.nD Cert.Chart.τ).loc Cert.Chart.main_arg1))
      ∧ r.2.sem = fun _ => 0)

def quiescent_ChartIdeal [hChartIdeal : Cert.ChartIdeal.Facts] : Prop :=
  ∀ (m : (ℓ : Loc Cert.ChartIdeal.nD Cert.ChartIdeal.τ Cert.ChartIdeal.sig) → Buf (Elt Ideal) ℓ) (g : Dev Cert.ChartIdeal.nD → PrngReg), Pre_ChartIdeal m →
    θ_run (Cert.ChartIdeal.defs (F := Ideal)) (onTc (τ := Cert.ChartIdeal.τ) (Cert.ChartIdeal.main (F := Ideal))) ⟨m, fun _ => 0, g⟩ (fun r => (∀ c : Dev Cert.ChartIdeal.nD,
      r.2.mem ((c.tc : Thread Cert.ChartIdeal.nD Cert.ChartIdeal.τ).loc Cert.ChartIdeal.main_arg0) = m ((c.tc : Thread Cert.ChartIdeal.nD Cert.ChartIdeal.τ).loc Cert.ChartIdeal.main_arg0)
      ∧ r.2.mem ((c.tc : Thread Cert.ChartIdeal.nD Cert.ChartIdeal.τ).loc Cert.ChartIdeal.main_arg1) = m ((c.tc : Thread Cert.ChartIdeal.nD Cert.ChartIdeal.τ).loc Cert.ChartIdeal.main_arg1))
      ∧ r.2.sem = fun _ => 0)

def quiescent_ChartReferenceIdeal [hChartReferenceIdeal : Cert.ChartReferenceIdeal.Facts] : Prop :=
  ∀ (m : (ℓ : Loc Cert.ChartReferenceIdeal.nD Cert.ChartReferenceIdeal.τ Cert.ChartReferenceIdeal.sig) → Buf (Elt Ideal) ℓ) (g : Dev Cert.ChartReferenceIdeal.nD → PrngReg), Pre_ChartReferenceIdeal m →
    θ_run (Cert.ChartReferenceIdeal.defs (F := Ideal)) (onTc (τ := Cert.ChartReferenceIdeal.τ) (Cert.ChartReferenceIdeal.main (F := Ideal))) ⟨m, fun _ => 0, g⟩ (fun r => (∀ c : Dev Cert.ChartReferenceIdeal.nD,
      r.2.mem ((c.tc : Thread Cert.ChartReferenceIdeal.nD Cert.ChartReferenceIdeal.τ).loc Cert.ChartReferenceIdeal.main_arg0) = m ((c.tc : Thread Cert.ChartReferenceIdeal.nD Cert.ChartReferenceIdeal.τ).loc Cert.ChartReferenceIdeal.main_arg0)
      ∧ r.2.mem ((c.tc : Thread Cert.ChartReferenceIdeal.nD Cert.ChartReferenceIdeal.τ).loc Cert.ChartReferenceIdeal.main_arg1) = m ((c.tc : Thread Cert.ChartReferenceIdeal.nD Cert.ChartReferenceIdeal.τ).loc Cert.ChartReferenceIdeal.main_arg1))
      ∧ r.2.sem = fun _ => 0)

def quiescent_Two [hTwo : Cert.Two.Facts] [hPre_new_charts_in_range : Cert.Pre_new_charts_in_range.Facts] : Prop :=
  ∀ (m : (ℓ : Loc Cert.Two.nD Cert.Two.τ Cert.Two.sig) → Buf (Elt Bits) ℓ) (g : Dev Cert.Two.nD → PrngReg), Pre_Two m →
    θ_run (Cert.Two.defs (F := Bits)) (onTc (τ := Cert.Two.τ) (Cert.Two.main (F := Bits))) ⟨m, fun _ => 0, g⟩ (fun r => (∀ c : Dev Cert.Two.nD,
      r.2.mem ((c.tc : Thread Cert.Two.nD Cert.Two.τ).loc Cert.Two.main_arg0) = m ((c.tc : Thread Cert.Two.nD Cert.Two.τ).loc Cert.Two.main_arg0)
      ∧ r.2.mem ((c.tc : Thread Cert.Two.nD Cert.Two.τ).loc Cert.Two.main_arg1) = m ((c.tc : Thread Cert.Two.nD Cert.Two.τ).loc Cert.Two.main_arg1)
      ∧ r.2.mem ((c.tc : Thread Cert.Two.nD Cert.Two.τ).loc Cert.Two.main_arg2) = m ((c.tc : Thread Cert.Two.nD Cert.Two.τ).loc Cert.Two.main_arg2)
      ∧ r.2.mem ((c.tc : Thread Cert.Two.nD Cert.Two.τ).loc Cert.Two.main_arg3) = m ((c.tc : Thread Cert.Two.nD Cert.Two.τ).loc Cert.Two.main_arg3)
      ∧ r.2.mem ((c.tc : Thread Cert.Two.nD Cert.Two.τ).loc Cert.Two.main_arg4) = m ((c.tc : Thread Cert.Two.nD Cert.Two.τ).loc Cert.Two.main_arg4)
      ∧ r.2.mem ((c.tc : Thread Cert.Two.nD Cert.Two.τ).loc Cert.Two.main_arg5) = m ((c.tc : Thread Cert.Two.nD Cert.Two.τ).loc Cert.Two.main_arg5)
      ∧ r.2.mem ((c.tc : Thread Cert.Two.nD Cert.Two.τ).loc Cert.Two.main_arg6) = m ((c.tc : Thread Cert.Two.nD Cert.Two.τ).loc Cert.Two.main_arg6)
      ∧ r.2.mem ((c.tc : Thread Cert.Two.nD Cert.Two.τ).loc Cert.Two.main_arg7) = m ((c.tc : Thread Cert.Two.nD Cert.Two.τ).loc Cert.Two.main_arg7)
      ∧ r.2.mem ((c.tc : Thread Cert.Two.nD Cert.Two.τ).loc Cert.Two.main_arg8) = m ((c.tc : Thread Cert.Two.nD Cert.Two.τ).loc Cert.Two.main_arg8))
      ∧ r.2.sem = fun _ => 0)

def quiescent_TwoIdeal [hTwoIdeal : Cert.TwoIdeal.Facts] [hPre_new_charts_in_range : Cert.Pre_new_charts_in_range.Facts] : Prop :=
  ∀ (m : (ℓ : Loc Cert.TwoIdeal.nD Cert.TwoIdeal.τ Cert.TwoIdeal.sig) → Buf (Elt Ideal) ℓ) (g : Dev Cert.TwoIdeal.nD → PrngReg), Pre_TwoIdeal m →
    θ_run (Cert.TwoIdeal.defs (F := Ideal)) (onTc (τ := Cert.TwoIdeal.τ) (Cert.TwoIdeal.main (F := Ideal))) ⟨m, fun _ => 0, g⟩ (fun r => (∀ c : Dev Cert.TwoIdeal.nD,
      r.2.mem ((c.tc : Thread Cert.TwoIdeal.nD Cert.TwoIdeal.τ).loc Cert.TwoIdeal.main_arg0) = m ((c.tc : Thread Cert.TwoIdeal.nD Cert.TwoIdeal.τ).loc Cert.TwoIdeal.main_arg0)
      ∧ r.2.mem ((c.tc : Thread Cert.TwoIdeal.nD Cert.TwoIdeal.τ).loc Cert.TwoIdeal.main_arg1) = m ((c.tc : Thread Cert.TwoIdeal.nD Cert.TwoIdeal.τ).loc Cert.TwoIdeal.main_arg1)
      ∧ r.2.mem ((c.tc : Thread Cert.TwoIdeal.nD Cert.TwoIdeal.τ).loc Cert.TwoIdeal.main_arg2) = m ((c.tc : Thread Cert.TwoIdeal.nD Cert.TwoIdeal.τ).loc Cert.TwoIdeal.main_arg2)
      ∧ r.2.mem ((c.tc : Thread Cert.TwoIdeal.nD Cert.TwoIdeal.τ).loc Cert.TwoIdeal.main_arg3) = m ((c.tc : Thread Cert.TwoIdeal.nD Cert.TwoIdeal.τ).loc Cert.TwoIdeal.main_arg3)
      ∧ r.2.mem ((c.tc : Thread Cert.TwoIdeal.nD Cert.TwoIdeal.τ).loc Cert.TwoIdeal.main_arg4) = m ((c.tc : Thread Cert.TwoIdeal.nD Cert.TwoIdeal.τ).loc Cert.TwoIdeal.main_arg4)
      ∧ r.2.mem ((c.tc : Thread Cert.TwoIdeal.nD Cert.TwoIdeal.τ).loc Cert.TwoIdeal.main_arg5) = m ((c.tc : Thread Cert.TwoIdeal.nD Cert.TwoIdeal.τ).loc Cert.TwoIdeal.main_arg5)
      ∧ r.2.mem ((c.tc : Thread Cert.TwoIdeal.nD Cert.TwoIdeal.τ).loc Cert.TwoIdeal.main_arg6) = m ((c.tc : Thread Cert.TwoIdeal.nD Cert.TwoIdeal.τ).loc Cert.TwoIdeal.main_arg6)
      ∧ r.2.mem ((c.tc : Thread Cert.TwoIdeal.nD Cert.TwoIdeal.τ).loc Cert.TwoIdeal.main_arg7) = m ((c.tc : Thread Cert.TwoIdeal.nD Cert.TwoIdeal.τ).loc Cert.TwoIdeal.main_arg7)
      ∧ r.2.mem ((c.tc : Thread Cert.TwoIdeal.nD Cert.TwoIdeal.τ).loc Cert.TwoIdeal.main_arg8) = m ((c.tc : Thread Cert.TwoIdeal.nD Cert.TwoIdeal.τ).loc Cert.TwoIdeal.main_arg8))
      ∧ r.2.sem = fun _ => 0)

def quiescent_TwoReferenceIdeal [hTwoReferenceIdeal : Cert.TwoReferenceIdeal.Facts] : Prop :=
  ∀ (m : (ℓ : Loc Cert.TwoReferenceIdeal.nD Cert.TwoReferenceIdeal.τ Cert.TwoReferenceIdeal.sig) → Buf (Elt Ideal) ℓ) (g : Dev Cert.TwoReferenceIdeal.nD → PrngReg), Pre_TwoReferenceIdeal m →
    θ_run (Cert.TwoReferenceIdeal.defs (F := Ideal)) (onTc (τ := Cert.TwoReferenceIdeal.τ) (Cert.TwoReferenceIdeal.main (F := Ideal))) ⟨m, fun _ => 0, g⟩ (fun r => (∀ c : Dev Cert.TwoReferenceIdeal.nD,
      r.2.mem ((c.tc : Thread Cert.TwoReferenceIdeal.nD Cert.TwoReferenceIdeal.τ).loc Cert.TwoReferenceIdeal.main_arg0) = m ((c.tc : Thread Cert.TwoReferenceIdeal.nD Cert.TwoReferenceIdeal.τ).loc Cert.TwoReferenceIdeal.main_arg0)
      ∧ r.2.mem ((c.tc : Thread Cert.TwoReferenceIdeal.nD Cert.TwoReferenceIdeal.τ).loc Cert.TwoReferenceIdeal.main_arg1) = m ((c.tc : Thread Cert.TwoReferenceIdeal.nD Cert.TwoReferenceIdeal.τ).loc Cert.TwoReferenceIdeal.main_arg1)
      ∧ r.2.mem ((c.tc : Thread Cert.TwoReferenceIdeal.nD Cert.TwoReferenceIdeal.τ).loc Cert.TwoReferenceIdeal.main_arg2) = m ((c.tc : Thread Cert.TwoReferenceIdeal.nD Cert.TwoReferenceIdeal.τ).loc Cert.TwoReferenceIdeal.main_arg2)
      ∧ r.2.mem ((c.tc : Thread Cert.TwoReferenceIdeal.nD Cert.TwoReferenceIdeal.τ).loc Cert.TwoReferenceIdeal.main_arg3) = m ((c.tc : Thread Cert.TwoReferenceIdeal.nD Cert.TwoReferenceIdeal.τ).loc Cert.TwoReferenceIdeal.main_arg3)
      ∧ r.2.mem ((c.tc : Thread Cert.TwoReferenceIdeal.nD Cert.TwoReferenceIdeal.τ).loc Cert.TwoReferenceIdeal.main_arg4) = m ((c.tc : Thread Cert.TwoReferenceIdeal.nD Cert.TwoReferenceIdeal.τ).loc Cert.TwoReferenceIdeal.main_arg4)
      ∧ r.2.mem ((c.tc : Thread Cert.TwoReferenceIdeal.nD Cert.TwoReferenceIdeal.τ).loc Cert.TwoReferenceIdeal.main_arg5) = m ((c.tc : Thread Cert.TwoReferenceIdeal.nD Cert.TwoReferenceIdeal.τ).loc Cert.TwoReferenceIdeal.main_arg5)
      ∧ r.2.mem ((c.tc : Thread Cert.TwoReferenceIdeal.nD Cert.TwoReferenceIdeal.τ).loc Cert.TwoReferenceIdeal.main_arg6) = m ((c.tc : Thread Cert.TwoReferenceIdeal.nD Cert.TwoReferenceIdeal.τ).loc Cert.TwoReferenceIdeal.main_arg6)
      ∧ r.2.mem ((c.tc : Thread Cert.TwoReferenceIdeal.nD Cert.TwoReferenceIdeal.τ).loc Cert.TwoReferenceIdeal.main_arg7) = m ((c.tc : Thread Cert.TwoReferenceIdeal.nD Cert.TwoReferenceIdeal.τ).loc Cert.TwoReferenceIdeal.main_arg7)
      ∧ r.2.mem ((c.tc : Thread Cert.TwoReferenceIdeal.nD Cert.TwoReferenceIdeal.τ).loc Cert.TwoReferenceIdeal.main_arg8) = m ((c.tc : Thread Cert.TwoReferenceIdeal.nD Cert.TwoReferenceIdeal.τ).loc Cert.TwoReferenceIdeal.main_arg8))
      ∧ r.2.sem = fun _ => 0)

def quiescent_TwoReferenceIdeal_pre_new_charts_in_range [hTwoReferenceIdeal : Cert.TwoReferenceIdeal.Facts] [hPre_new_charts_in_range : Cert.Pre_new_charts_in_range.Facts] : Prop :=
  ∀ (m : (ℓ : Loc Cert.TwoReferenceIdeal.nD Cert.TwoReferenceIdeal.τ Cert.TwoReferenceIdeal.sig) → Buf (Elt Ideal) ℓ) (g : Dev Cert.TwoReferenceIdeal.nD → PrngReg), Pre_TwoReferenceIdeal_new_charts_in_range m →
    θ_run (Cert.TwoReferenceIdeal.defs (F := Ideal)) (onTc (τ := Cert.TwoReferenceIdeal.τ) (Cert.TwoReferenceIdeal.main (F := Ideal))) ⟨m, fun _ => 0, g⟩ (fun r => (∀ c : Dev Cert.TwoReferenceIdeal.nD,
      r.2.mem ((c.tc : Thread Cert.TwoReferenceIdeal.nD Cert.TwoReferenceIdeal.τ).loc Cert.TwoReferenceIdeal.main_arg0) = m ((c.tc : Thread Cert.TwoReferenceIdeal.nD Cert.TwoReferenceIdeal.τ).loc Cert.TwoReferenceIdeal.main_arg0)
      ∧ r.2.mem ((c.tc : Thread Cert.TwoReferenceIdeal.nD Cert.TwoReferenceIdeal.τ).loc Cert.TwoReferenceIdeal.main_arg1) = m ((c.tc : Thread Cert.TwoReferenceIdeal.nD Cert.TwoReferenceIdeal.τ).loc Cert.TwoReferenceIdeal.main_arg1)
      ∧ r.2.mem ((c.tc : Thread Cert.TwoReferenceIdeal.nD Cert.TwoReferenceIdeal.τ).loc Cert.TwoReferenceIdeal.main_arg2) = m ((c.tc : Thread Cert.TwoReferenceIdeal.nD Cert.TwoReferenceIdeal.τ).loc Cert.TwoReferenceIdeal.main_arg2)
      ∧ r.2.mem ((c.tc : Thread Cert.TwoReferenceIdeal.nD Cert.TwoReferenceIdeal.τ).loc Cert.TwoReferenceIdeal.main_arg3) = m ((c.tc : Thread Cert.TwoReferenceIdeal.nD Cert.TwoReferenceIdeal.τ).loc Cert.TwoReferenceIdeal.main_arg3)
      ∧ r.2.mem ((c.tc : Thread Cert.TwoReferenceIdeal.nD Cert.TwoReferenceIdeal.τ).loc Cert.TwoReferenceIdeal.main_arg4) = m ((c.tc : Thread Cert.TwoReferenceIdeal.nD Cert.TwoReferenceIdeal.τ).loc Cert.TwoReferenceIdeal.main_arg4)
      ∧ r.2.mem ((c.tc : Thread Cert.TwoReferenceIdeal.nD Cert.TwoReferenceIdeal.τ).loc Cert.TwoReferenceIdeal.main_arg5) = m ((c.tc : Thread Cert.TwoReferenceIdeal.nD Cert.TwoReferenceIdeal.τ).loc Cert.TwoReferenceIdeal.main_arg5)
      ∧ r.2.mem ((c.tc : Thread Cert.TwoReferenceIdeal.nD Cert.TwoReferenceIdeal.τ).loc Cert.TwoReferenceIdeal.main_arg6) = m ((c.tc : Thread Cert.TwoReferenceIdeal.nD Cert.TwoReferenceIdeal.τ).loc Cert.TwoReferenceIdeal.main_arg6)
      ∧ r.2.mem ((c.tc : Thread Cert.TwoReferenceIdeal.nD Cert.TwoReferenceIdeal.τ).loc Cert.TwoReferenceIdeal.main_arg7) = m ((c.tc : Thread Cert.TwoReferenceIdeal.nD Cert.TwoReferenceIdeal.τ).loc Cert.TwoReferenceIdeal.main_arg7)
      ∧ r.2.mem ((c.tc : Thread Cert.TwoReferenceIdeal.nD Cert.TwoReferenceIdeal.τ).loc Cert.TwoReferenceIdeal.main_arg8) = m ((c.tc : Thread Cert.TwoReferenceIdeal.nD Cert.TwoReferenceIdeal.τ).loc Cert.TwoReferenceIdeal.main_arg8))
      ∧ r.2.sem = fun _ => 0)

def preserves_Chart_ChartIdeal : Prop :=
  True

def algebraic_ChartIdeal_ChartReferenceIdeal [hChartIdeal : Cert.ChartIdeal.Facts] [hChartReferenceIdeal : Cert.ChartReferenceIdeal.Facts] : Prop :=
  ∀ (m : (ℓ : Loc Cert.ChartIdeal.nD Cert.ChartIdeal.τ Cert.ChartIdeal.sig) → Buf (Elt Ideal) ℓ) (g : Dev Cert.ChartIdeal.nD → PrngReg)
    (m' : (ℓ : Loc Cert.ChartReferenceIdeal.nD Cert.ChartReferenceIdeal.τ Cert.ChartReferenceIdeal.sig) → Buf (Elt Ideal) ℓ) (g' : Dev Cert.ChartReferenceIdeal.nD → PrngReg), Pre_ChartIdeal m →
    (∀ c : Dev Cert.ChartIdeal.nD,
      m' ((c.tc : Thread Cert.ChartReferenceIdeal.nD Cert.ChartReferenceIdeal.τ).loc Cert.ChartReferenceIdeal.main_arg0) = m ((c.tc : Thread Cert.ChartIdeal.nD Cert.ChartIdeal.τ).loc Cert.ChartIdeal.main_arg0)
      ∧ m' ((c.tc : Thread Cert.ChartReferenceIdeal.nD Cert.ChartReferenceIdeal.τ).loc Cert.ChartReferenceIdeal.main_arg1) = m ((c.tc : Thread Cert.ChartIdeal.nD Cert.ChartIdeal.τ).loc Cert.ChartIdeal.main_arg1)) →
    ∃ (v0 : (c : Dev Cert.ChartIdeal.nD) → Buf (Elt Ideal) ((c.tc : Thread Cert.ChartIdeal.nD Cert.ChartIdeal.τ).loc Cert.ChartIdeal.main_v0)),
      θ_run (Cert.ChartIdeal.defs (F := Ideal)) (onTc (τ := Cert.ChartIdeal.τ) (Cert.ChartIdeal.main (F := Ideal))) ⟨m, fun _ => 0, g⟩ (fun r => ∀ c : Dev Cert.ChartIdeal.nD,
          r.2.mem ((c.tc : Thread Cert.ChartIdeal.nD Cert.ChartIdeal.τ).loc Cert.ChartIdeal.main_v0) = v0 c
          ∧ r.2.mem ((c.tc : Thread Cert.ChartIdeal.nD Cert.ChartIdeal.τ).loc Cert.ChartIdeal.main_arg0) = m ((c.tc : Thread Cert.ChartIdeal.nD Cert.ChartIdeal.τ).loc Cert.ChartIdeal.main_arg0)
          ∧ r.2.mem ((c.tc : Thread Cert.ChartIdeal.nD Cert.ChartIdeal.τ).loc Cert.ChartIdeal.main_arg1) = m ((c.tc : Thread Cert.ChartIdeal.nD Cert.ChartIdeal.τ).loc Cert.ChartIdeal.main_arg1))
      ∧ θ_run (Cert.ChartReferenceIdeal.defs (F := Ideal)) (onTc (τ := Cert.ChartReferenceIdeal.τ) (Cert.ChartReferenceIdeal.main (F := Ideal))) ⟨m', fun _ => 0, g'⟩ (fun r => ∀ c : Dev Cert.ChartReferenceIdeal.nD,
          r.2.mem ((c.tc : Thread Cert.ChartReferenceIdeal.nD Cert.ChartReferenceIdeal.τ).loc Cert.ChartReferenceIdeal.main_v16) = v0 c
          ∧ r.2.mem ((c.tc : Thread Cert.ChartReferenceIdeal.nD Cert.ChartReferenceIdeal.τ).loc Cert.ChartReferenceIdeal.main_arg0) = m' ((c.tc : Thread Cert.ChartReferenceIdeal.nD Cert.ChartReferenceIdeal.τ).loc Cert.ChartReferenceIdeal.main_arg0)
          ∧ r.2.mem ((c.tc : Thread Cert.ChartReferenceIdeal.nD Cert.ChartReferenceIdeal.τ).loc Cert.ChartReferenceIdeal.main_arg1) = m' ((c.tc : Thread Cert.ChartReferenceIdeal.nD Cert.ChartReferenceIdeal.τ).loc Cert.ChartReferenceIdeal.main_arg1))

def preserves_Two_TwoIdeal : Prop :=
  True

def algebraic_TwoIdeal_TwoReferenceIdeal [hTwoIdeal : Cert.TwoIdeal.Facts] [hTwoReferenceIdeal : Cert.TwoReferenceIdeal.Facts] [hPre_new_charts_in_range : Cert.Pre_new_charts_in_range.Facts] : Prop :=
  ∀ (m : (ℓ : Loc Cert.TwoIdeal.nD Cert.TwoIdeal.τ Cert.TwoIdeal.sig) → Buf (Elt Ideal) ℓ) (g : Dev Cert.TwoIdeal.nD → PrngReg)
    (m' : (ℓ : Loc Cert.TwoReferenceIdeal.nD Cert.TwoReferenceIdeal.τ Cert.TwoReferenceIdeal.sig) → Buf (Elt Ideal) ℓ) (g' : Dev Cert.TwoReferenceIdeal.nD → PrngReg), Pre_TwoIdeal m →
    (∀ c : Dev Cert.TwoIdeal.nD,
      m' ((c.tc : Thread Cert.TwoReferenceIdeal.nD Cert.TwoReferenceIdeal.τ).loc Cert.TwoReferenceIdeal.main_arg0) = m ((c.tc : Thread Cert.TwoIdeal.nD Cert.TwoIdeal.τ).loc Cert.TwoIdeal.main_arg0)
      ∧ m' ((c.tc : Thread Cert.TwoReferenceIdeal.nD Cert.TwoReferenceIdeal.τ).loc Cert.TwoReferenceIdeal.main_arg1) = m ((c.tc : Thread Cert.TwoIdeal.nD Cert.TwoIdeal.τ).loc Cert.TwoIdeal.main_arg1)
      ∧ m' ((c.tc : Thread Cert.TwoReferenceIdeal.nD Cert.TwoReferenceIdeal.τ).loc Cert.TwoReferenceIdeal.main_arg2) = m ((c.tc : Thread Cert.TwoIdeal.nD Cert.TwoIdeal.τ).loc Cert.TwoIdeal.main_arg2)
      ∧ m' ((c.tc : Thread Cert.TwoReferenceIdeal.nD Cert.TwoReferenceIdeal.τ).loc Cert.TwoReferenceIdeal.main_arg3) = m ((c.tc : Thread Cert.TwoIdeal.nD Cert.TwoIdeal.τ).loc Cert.TwoIdeal.main_arg3)
      ∧ m' ((c.tc : Thread Cert.TwoReferenceIdeal.nD Cert.TwoReferenceIdeal.τ).loc Cert.TwoReferenceIdeal.main_arg4) = m ((c.tc : Thread Cert.TwoIdeal.nD Cert.TwoIdeal.τ).loc Cert.TwoIdeal.main_arg4)
      ∧ m' ((c.tc : Thread Cert.TwoReferenceIdeal.nD Cert.TwoReferenceIdeal.τ).loc Cert.TwoReferenceIdeal.main_arg5) = m ((c.tc : Thread Cert.TwoIdeal.nD Cert.TwoIdeal.τ).loc Cert.TwoIdeal.main_arg5)
      ∧ m' ((c.tc : Thread Cert.TwoReferenceIdeal.nD Cert.TwoReferenceIdeal.τ).loc Cert.TwoReferenceIdeal.main_arg6) = m ((c.tc : Thread Cert.TwoIdeal.nD Cert.TwoIdeal.τ).loc Cert.TwoIdeal.main_arg6)
      ∧ m' ((c.tc : Thread Cert.TwoReferenceIdeal.nD Cert.TwoReferenceIdeal.τ).loc Cert.TwoReferenceIdeal.main_arg7) = m ((c.tc : Thread Cert.TwoIdeal.nD Cert.TwoIdeal.τ).loc Cert.TwoIdeal.main_arg7)
      ∧ m' ((c.tc : Thread Cert.TwoReferenceIdeal.nD Cert.TwoReferenceIdeal.τ).loc Cert.TwoReferenceIdeal.main_arg8) = m ((c.tc : Thread Cert.TwoIdeal.nD Cert.TwoIdeal.τ).loc Cert.TwoIdeal.main_arg8)) →
    ∃ (v0 : (c : Dev Cert.TwoIdeal.nD) → Buf (Elt Ideal) ((c.tc : Thread Cert.TwoIdeal.nD Cert.TwoIdeal.τ).loc Cert.TwoIdeal.main_v4_0)) (v1 : (c : Dev Cert.TwoIdeal.nD) → Buf (Elt Ideal) ((c.tc : Thread Cert.TwoIdeal.nD Cert.TwoIdeal.τ).loc Cert.TwoIdeal.main_v4_1)),
      θ_run (Cert.TwoIdeal.defs (F := Ideal)) (onTc (τ := Cert.TwoIdeal.τ) (Cert.TwoIdeal.main (F := Ideal))) ⟨m, fun _ => 0, g⟩ (fun r => ∀ c : Dev Cert.TwoIdeal.nD,
          r.2.mem ((c.tc : Thread Cert.TwoIdeal.nD Cert.TwoIdeal.τ).loc Cert.TwoIdeal.main_v4_0) = v0 c
          ∧ r.2.mem ((c.tc : Thread Cert.TwoIdeal.nD Cert.TwoIdeal.τ).loc Cert.TwoIdeal.main_v4_1) = v1 c
          ∧ r.2.mem ((c.tc : Thread Cert.TwoIdeal.nD Cert.TwoIdeal.τ).loc Cert.TwoIdeal.main_arg0) = m ((c.tc : Thread Cert.TwoIdeal.nD Cert.TwoIdeal.τ).loc Cert.TwoIdeal.main_arg0)
          ∧ r.2.mem ((c.tc : Thread Cert.TwoIdeal.nD Cert.TwoIdeal.τ).loc Cert.TwoIdeal.main_arg1) = m ((c.tc : Thread Cert.TwoIdeal.nD Cert.TwoIdeal.τ).loc Cert.TwoIdeal.main_arg1)
          ∧ r.2.mem ((c.tc : Thread Cert.TwoIdeal.nD Cert.TwoIdeal.τ).loc Cert.TwoIdeal.main_arg2) = m ((c.tc : Thread Cert.TwoIdeal.nD Cert.TwoIdeal.τ).loc Cert.TwoIdeal.main_arg2)
          ∧ r.2.mem ((c.tc : Thread Cert.TwoIdeal.nD Cert.TwoIdeal.τ).loc Cert.TwoIdeal.main_arg3) = m ((c.tc : Thread Cert.TwoIdeal.nD Cert.TwoIdeal.τ).loc Cert.TwoIdeal.main_arg3)
          ∧ r.2.mem ((c.tc : Thread Cert.TwoIdeal.nD Cert.TwoIdeal.τ).loc Cert.TwoIdeal.main_arg4) = m ((c.tc : Thread Cert.TwoIdeal.nD Cert.TwoIdeal.τ).loc Cert.TwoIdeal.main_arg4)
          ∧ r.2.mem ((c.tc : Thread Cert.TwoIdeal.nD Cert.TwoIdeal.τ).loc Cert.TwoIdeal.main_arg5) = m ((c.tc : Thread Cert.TwoIdeal.nD Cert.TwoIdeal.τ).loc Cert.TwoIdeal.main_arg5)
          ∧ r.2.mem ((c.tc : Thread Cert.TwoIdeal.nD Cert.TwoIdeal.τ).loc Cert.TwoIdeal.main_arg6) = m ((c.tc : Thread Cert.TwoIdeal.nD Cert.TwoIdeal.τ).loc Cert.TwoIdeal.main_arg6)
          ∧ r.2.mem ((c.tc : Thread Cert.TwoIdeal.nD Cert.TwoIdeal.τ).loc Cert.TwoIdeal.main_arg7) = m ((c.tc : Thread Cert.TwoIdeal.nD Cert.TwoIdeal.τ).loc Cert.TwoIdeal.main_arg7)
          ∧ r.2.mem ((c.tc : Thread Cert.TwoIdeal.nD Cert.TwoIdeal.τ).loc Cert.TwoIdeal.main_arg8) = m ((c.tc : Thread Cert.TwoIdeal.nD Cert.TwoIdeal.τ).loc Cert.TwoIdeal.main_arg8))
      ∧ θ_run (Cert.TwoReferenceIdeal.defs (F := Ideal)) (onTc (τ := Cert.TwoReferenceIdeal.τ) (Cert.TwoReferenceIdeal.main (F := Ideal))) ⟨m', fun _ => 0, g'⟩ (fun r => ∀ c : Dev Cert.TwoReferenceIdeal.nD,
          r.2.mem ((c.tc : Thread Cert.TwoReferenceIdeal.nD Cert.TwoReferenceIdeal.τ).loc Cert.TwoReferenceIdeal.main_v8) = v0 c
          ∧ r.2.mem ((c.tc : Thread Cert.TwoReferenceIdeal.nD Cert.TwoReferenceIdeal.τ).loc Cert.TwoReferenceIdeal.main_v10) = v1 c
          ∧ r.2.mem ((c.tc : Thread Cert.TwoReferenceIdeal.nD Cert.TwoReferenceIdeal.τ).loc Cert.TwoReferenceIdeal.main_arg0) = m' ((c.tc : Thread Cert.TwoReferenceIdeal.nD Cert.TwoReferenceIdeal.τ).loc Cert.TwoReferenceIdeal.main_arg0)
          ∧ r.2.mem ((c.tc : Thread Cert.TwoReferenceIdeal.nD Cert.TwoReferenceIdeal.τ).loc Cert.TwoReferenceIdeal.main_arg1) = m' ((c.tc : Thread Cert.TwoReferenceIdeal.nD Cert.TwoReferenceIdeal.τ).loc Cert.TwoReferenceIdeal.main_arg1)
          ∧ r.2.mem ((c.tc : Thread Cert.TwoReferenceIdeal.nD Cert.TwoReferenceIdeal.τ).loc Cert.TwoReferenceIdeal.main_arg2) = m' ((c.tc : Thread Cert.TwoReferenceIdeal.nD Cert.TwoReferenceIdeal.τ).loc Cert.TwoReferenceIdeal.main_arg2)
          ∧ r.2.mem ((c.tc : Thread Cert.TwoReferenceIdeal.nD Cert.TwoReferenceIdeal.τ).loc Cert.TwoReferenceIdeal.main_arg3) = m' ((c.tc : Thread Cert.TwoReferenceIdeal.nD Cert.TwoReferenceIdeal.τ).loc Cert.TwoReferenceIdeal.main_arg3)
          ∧ r.2.mem ((c.tc : Thread Cert.TwoReferenceIdeal.nD Cert.TwoReferenceIdeal.τ).loc Cert.TwoReferenceIdeal.main_arg4) = m' ((c.tc : Thread Cert.TwoReferenceIdeal.nD Cert.TwoReferenceIdeal.τ).loc Cert.TwoReferenceIdeal.main_arg4)
          ∧ r.2.mem ((c.tc : Thread Cert.TwoReferenceIdeal.nD Cert.TwoReferenceIdeal.τ).loc Cert.TwoReferenceIdeal.main_arg5) = m' ((c.tc : Thread Cert.TwoReferenceIdeal.nD Cert.TwoReferenceIdeal.τ).loc Cert.TwoReferenceIdeal.main_arg5)
          ∧ r.2.mem ((c.tc : Thread Cert.TwoReferenceIdeal.nD Cert.TwoReferenceIdeal.τ).loc Cert.TwoReferenceIdeal.main_arg6) = m' ((c.tc : Thread Cert.TwoReferenceIdeal.nD Cert.TwoReferenceIdeal.τ).loc Cert.TwoReferenceIdeal.main_arg6)
          ∧ r.2.mem ((c.tc : Thread Cert.TwoReferenceIdeal.nD Cert.TwoReferenceIdeal.τ).loc Cert.TwoReferenceIdeal.main_arg7) = m' ((c.tc : Thread Cert.TwoReferenceIdeal.nD Cert.TwoReferenceIdeal.τ).loc Cert.TwoReferenceIdeal.main_arg7)
          ∧ r.2.mem ((c.tc : Thread Cert.TwoReferenceIdeal.nD Cert.TwoReferenceIdeal.τ).loc Cert.TwoReferenceIdeal.main_arg8) = m' ((c.tc : Thread Cert.TwoReferenceIdeal.nD Cert.TwoReferenceIdeal.τ).loc Cert.TwoReferenceIdeal.main_arg8))

def Claim : Prop :=
  ∃ (hChart : Cert.Chart.Facts) (hChartIdeal : Cert.ChartIdeal.Facts) (hChartReferenceIdeal : Cert.ChartReferenceIdeal.Facts) (hTwo : Cert.Two.Facts) (hTwoIdeal : Cert.TwoIdeal.Facts) (hTwoReferenceIdeal : Cert.TwoReferenceIdeal.Facts) (hPre_new_charts_in_range : Cert.Pre_new_charts_in_range.Facts),
    quiescent_Chart (hChart := hChart)
    ∧ quiescent_ChartIdeal (hChartIdeal := hChartIdeal)
    ∧ quiescent_ChartReferenceIdeal (hChartReferenceIdeal := hChartReferenceIdeal)
    ∧ quiescent_Two (hTwo := hTwo) (hPre_new_charts_in_range := hPre_new_charts_in_range)
    ∧ quiescent_TwoIdeal (hTwoIdeal := hTwoIdeal) (hPre_new_charts_in_range := hPre_new_charts_in_range)
    ∧ quiescent_TwoReferenceIdeal (hTwoReferenceIdeal := hTwoReferenceIdeal)
    ∧ quiescent_TwoReferenceIdeal_pre_new_charts_in_range (hTwoReferenceIdeal := hTwoReferenceIdeal) (hPre_new_charts_in_range := hPre_new_charts_in_range)
    ∧ preserves_Chart_ChartIdeal
    ∧ algebraic_ChartIdeal_ChartReferenceIdeal (hChartIdeal := hChartIdeal) (hChartReferenceIdeal := hChartReferenceIdeal)
    ∧ preserves_Two_TwoIdeal
    ∧ algebraic_TwoIdeal_TwoReferenceIdeal (hTwoIdeal := hTwoIdeal) (hTwoReferenceIdeal := hTwoReferenceIdeal) (hPre_new_charts_in_range := hPre_new_charts_in_range)
-- ==== Pre_new_charts_in_range.lean ====
abbrev S4096 : Shape := ⟨1, ![4096]⟩
abbrev S4096x64 : Shape := ⟨2, ![4096, 64]⟩
abbrev S1024x128 : Shape := ⟨2, ![1024, 128]⟩
abbrev S1024x64x64 : Shape := ⟨3, ![1024, 64, 64]⟩
abbrev S1024x64 : Shape := ⟨2, ![1024, 64]⟩
abbrev S_ : Shape := ⟨0, ![]⟩

class Facts : Prop where
  bcast_S_S4096 : S_.BroadcastsInDim S4096 (![] : Fin 0 → Fin S4096.rank)

variable [Facts]

def fn {F : FTy → Type} [FloatOps F] (main_arg0 : IVec S4096 32) (main_arg1 : IVec S4096 32) (main_arg2 : IVec S4096 32) (main_arg3 : FVec F S4096x64 .f32) (main_arg4 : FVec F S4096x64 .f32) (main_arg5 : IVec S1024x128 32) (main_arg6 : FVec F S1024x64x64 .f32) (main_arg7 : FVec F S1024x64 .f32) (main_arg8 : FVec F S1024x64 .f32) : IVec S4096 1 :=
  let main_c : IVec S_ 32 := constantI S_ 32 0#32
  let main_v0 : IVec S4096 32 := broadcastInDim S4096 ![] bcast_S_S4096 main_c
  let main_v1 : IVec S4096 1 := cmpi .sge main_arg1 main_v0
  let main_c_0 : IVec S_ 32 := constantI S_ 32 1024#32
  let main_v2 : IVec S4096 32 := broadcastInDim S4096 ![] bcast_S_S4096 main_c_0
  let main_v3 : IVec S4096 1 := cmpi .slt main_arg1 main_v2
  let main_v4 : IVec S4096 1 := andi main_v1 main_v3
  main_v4
-- ==== Chart.lean ====
abbrev S4096x64 : Shape := ⟨2, ![4096, 64]⟩
abbrev S1024x32 : Shape := ⟨2, ![1024, 32]⟩
abbrev S8x1x512 : Shape := ⟨3, ![8, 1, 512]⟩
abbrev S512x64 : Shape := ⟨2, ![512, 64]⟩
abbrev S1x1x512 : Shape := ⟨3, ![1, 1, 512]⟩
abbrev S512x32 : Shape := ⟨2, ![512, 32]⟩
abbrev S512 : Shape := ⟨1, ![512]⟩
abbrev S512x1 : Shape := ⟨2, ![512, 1]⟩
abbrev S512x1024 : Shape := ⟨2, ![512, 1024]⟩
abbrev S1024 : Shape := ⟨1, ![1024]⟩
abbrev S1x1024 : Shape := ⟨2, ![1, 1024]⟩

abbrev nBuf : Space → Nat
  | .hbm => 3
  | .vmem => 5
  | .smem => 0
  | _ => 0

abbrev bufTy : (tb : Table) → Fin (tcTables nBuf tb) → BufTy
  | .hbm, ⟨0, _⟩ => ⟨S4096x64, .f32⟩
  | .hbm, ⟨1, _⟩ => ⟨S1024x32, .f32⟩
  | .hbm, ⟨2, _⟩ => ⟨S8x1x512, .i32⟩
  | .local _ .vmem, ⟨0, _⟩ => ⟨S512x64, .f32⟩
  | .local _ .vmem, ⟨1, _⟩ => ⟨S512x64, .f32⟩
  | .local _ .vmem, ⟨2, _⟩ => ⟨S1024x32, .f32⟩
  | .local _ .vmem, ⟨3, _⟩ => ⟨S1x1x512, .i32⟩
  | .local _ .vmem, ⟨4, _⟩ => ⟨S1x1x512, .i32⟩
  | _, _ => ⟨S4096x64, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | _, _ => false

abbrev semScoped : Fin 0 → Bool
  | ⟨_, h⟩ => absurd h (Nat.not_lt_zero _)

abbrev dmaSemScoped : Fin 5 → Bool
  | ⟨0, _⟩ => true
  | ⟨1, _⟩ => true
  | ⟨2, _⟩ => true
  | ⟨3, _⟩ => true
  | ⟨4, _⟩ => true
  | _ => false

abbrev sig : RefSig :=
  ofTc nBuf bufTy 0 5 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4

abbrev nD : Nat := 1
abbrev τ : Topo := Topo.v7x

variable {F : FTy → Type} [FloatOps F]

abbrev grid0 : Pipeline.Grid := ⟨1, ![8], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

abbrev stage0_0 : Fin 2 → Memref sig .tc .vmem S512x64 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S1024x32 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 2 → Memref sig .tc .vmem S1x1x512 .i32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]
-- ==== ChartReferenceIdeal.lean ====
abbrev S4096x64 : Shape := ⟨2, ![4096, 64]⟩
abbrev S1024x32 : Shape := ⟨2, ![1024, 32]⟩
abbrev S4096x32 : Shape := ⟨2, ![4096, 32]⟩
abbrev S_ : Shape := ⟨0, ![]⟩
abbrev S4096 : Shape := ⟨1, ![4096]⟩
abbrev S4096x1 : Shape := ⟨2, ![4096, 1]⟩
abbrev S32x1024 : Shape := ⟨2, ![32, 1024]⟩
abbrev S4096x1024 : Shape := ⟨2, ![4096, 1024]⟩
abbrev S1024 : Shape := ⟨1, ![1024]⟩
abbrev S1x1024 : Shape := ⟨2, ![1, 1024]⟩
abbrev S8x1x512 : Shape := ⟨3, ![8, 1, 512]⟩

abbrev nBuf : Space → Nat
  | .hbm => 26
  | .vmem => 0
  | .smem => 0
  | _ => 0

abbrev bufTy : (tb : Table) → Fin (tcTables nBuf tb) → BufTy
  | .hbm, ⟨0, _⟩ => ⟨S4096x64, .f32⟩
  | .hbm, ⟨1, _⟩ => ⟨S1024x32, .f32⟩
  | .hbm, ⟨2, _⟩ => ⟨S4096x32, .f32⟩
  | .hbm, ⟨3, _⟩ => ⟨S4096x32, .f32⟩
  | .hbm, ⟨4, _⟩ => ⟨S_, .f32⟩
  | .hbm, ⟨5, _⟩ => ⟨S4096, .f32⟩
  | .hbm, ⟨6, _⟩ => ⟨S4096x1, .f32⟩
  | .hbm, ⟨7, _⟩ => ⟨S_, .f32⟩
  | .hbm, ⟨8, _⟩ => ⟨S4096x32, .f32⟩
  | .hbm, ⟨9, _⟩ => ⟨S4096x32, .f32⟩
  | .hbm, ⟨10, _⟩ => ⟨S32x1024, .f32⟩
  | .hbm, ⟨11, _⟩ => ⟨S4096x1024, .f32⟩
  | .hbm, ⟨12, _⟩ => ⟨S4096x1024, .f32⟩
  | .hbm, ⟨13, _⟩ => ⟨S4096x1024, .f32⟩
  | .hbm, ⟨14, _⟩ => ⟨S1024x32, .f32⟩
  | .hbm, ⟨15, _⟩ => ⟨S_, .f32⟩
  | .hbm, ⟨16, _⟩ => ⟨S1024, .f32⟩
  | .hbm, ⟨17, _⟩ => ⟨S1x1024, .f32⟩
  | .hbm, ⟨18, _⟩ => ⟨S4096x1024, .f32⟩
  | .hbm, ⟨19, _⟩ => ⟨S4096x1024, .f32⟩
  | .hbm, ⟨20, _⟩ => ⟨S4096x1024, .i32⟩
  | .hbm, ⟨21, _⟩ => ⟨S_, .f32⟩
  | .hbm, ⟨22, _⟩ => ⟨S_, .i32⟩
  | .hbm, ⟨23, _⟩ => ⟨S4096, .f32⟩
  | .hbm, ⟨24, _⟩ => ⟨S4096, .i32⟩
  | .hbm, ⟨25, _⟩ => ⟨S8x1x512, .i32⟩
  | _, _ => ⟨S4096x64, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_cst : Ref sig .tc := ⟨.hbm, 4, rfl⟩
abbrev main_v2 : Ref sig .tc := ⟨.hbm, 5, rfl⟩
abbrev main_v3 : Ref sig .tc := ⟨.hbm, 6, rfl⟩
abbrev main_cst_0 : Ref sig .tc := ⟨.hbm, 7, rfl⟩
abbrev main_v4 : Ref sig .tc := ⟨.hbm, 8, rfl⟩
abbrev main_v5 : Ref sig .tc := ⟨.hbm, 9, rfl⟩
abbrev main_v6 : Ref sig .tc := ⟨.hbm, 10, rfl⟩
abbrev main_v7 : Ref sig .tc := ⟨.hbm, 11, rfl⟩
abbrev main_v8 : Ref sig .tc := ⟨.hbm, 12, rfl⟩
abbrev main_v9 : Ref sig .tc := ⟨.hbm, 13, rfl⟩
abbrev main_v10 : Ref sig .tc := ⟨.hbm, 14, rfl⟩
abbrev main_cst_1 : Ref sig .tc := ⟨.hbm, 15, rfl⟩
abbrev main_v11 : Ref sig .tc := ⟨.hbm, 16, rfl⟩
abbrev main_v12 : Ref sig .tc := ⟨.hbm, 17, rfl⟩
abbrev main_v13 : Ref sig .tc := ⟨.hbm, 18, rfl⟩
abbrev main_v14 : Ref sig .tc := ⟨.hbm, 19, rfl⟩
abbrev main_call0_v0 : Ref sig .tc := ⟨.hbm, 20, rfl⟩
abbrev main_call0_cst : Ref sig .tc := ⟨.hbm, 21, rfl⟩
abbrev main_call0_c : Ref sig .tc := ⟨.hbm, 22, rfl⟩
abbrev main_call0_v1_0 : Ref sig .tc := ⟨.hbm, 23, rfl⟩
abbrev main_v15 : Ref sig .tc := ⟨.hbm, 24, rfl⟩
abbrev main_v16 : Ref sig .tc := ⟨.hbm, 25, rfl⟩

abbrev nD : Nat := 1
abbrev τ : Topo := Topo.v7x

variable {F : FTy → Type} [FloatOps F]
-- ==== Two.lean ====
abbrev S4096 : Shape := ⟨1, ![4096]⟩
abbrev S4096x64 : Shape := ⟨2, ![4096, 64]⟩
abbrev S1024x128 : Shape := ⟨2, ![1024, 128]⟩
abbrev S1024x64x64 : Shape := ⟨3, ![1024, 64, 64]⟩
abbrev S1024x64 : Shape := ⟨2, ![1024, 64]⟩
abbrev S_ : Shape := ⟨0, ![]⟩
abbrev S1024x0 : Shape := ⟨2, ![1024, 0]⟩
abbrev S1024x256 : Shape := ⟨2, ![1024, 256]⟩
abbrev S1024x1x256 : Shape := ⟨3, ![1024, 1, 256]⟩
abbrev S256x1x128 : Shape := ⟨3, ![256, 1, 128]⟩
abbrev S1x64x64 : Shape := ⟨3, ![1, 64, 64]⟩
abbrev S1 : Shape := ⟨1, ![1]⟩
abbrev S1x1x256 : Shape := ⟨3, ![1, 1, 256]⟩
abbrev S16x64 : Shape := ⟨2, ![16, 64]⟩
abbrev S1x1x128 : Shape := ⟨3, ![1, 1, 128]⟩
abbrev S1x1x64 : Shape := ⟨3, ![1, 1, 64]⟩
abbrev S1x64 : Shape := ⟨2, ![1, 64]⟩
abbrev S64x64 : Shape := ⟨2, ![64, 64]⟩
abbrev S1x128 : Shape := ⟨2, ![1, 128]⟩

abbrev nBuf : Space → Nat
  | .hbm => 13
  | .vmem => 72
  | .smem => 3
  | _ => 0

abbrev bufTy : (tb : Table) → Fin (tcTables nBuf tb) → BufTy
  | .hbm, ⟨0, _⟩ => ⟨S4096x64, .f32⟩
  | .hbm, ⟨1, _⟩ => ⟨S4096x64, .f32⟩
  | .hbm, ⟨2, _⟩ => ⟨S1024x128, .i32⟩
  | .hbm, ⟨3, _⟩ => ⟨S1024x64x64, .f32⟩
  | .hbm, ⟨4, _⟩ => ⟨S1024x64, .f32⟩
  | .hbm, ⟨5, _⟩ => ⟨S1024x64, .f32⟩
  | .hbm, ⟨6, _⟩ => ⟨S_, .f32⟩
  | .hbm, ⟨7, _⟩ => ⟨S1024x0, .f32⟩
  | .hbm, ⟨8, _⟩ => ⟨S1024x128, .f32⟩
  | .hbm, ⟨9, _⟩ => ⟨S1024x256, .f32⟩
  | .hbm, ⟨10, _⟩ => ⟨S1024x1x256, .f32⟩
  | .hbm, ⟨11, _⟩ => ⟨S4096x64, .f32⟩
  | .hbm, ⟨12, _⟩ => ⟨S256x1x128, .i32⟩
  | .local _ .vmem, ⟨0, _⟩ => ⟨S1x64x64, .f32⟩
  | .local _ .vmem, ⟨1, _⟩ => ⟨S1x64x64, .f32⟩
  | .local _ .vmem, ⟨2, _⟩ => ⟨S1x64x64, .f32⟩
  | .local _ .vmem, ⟨3, _⟩ => ⟨S1x64x64, .f32⟩
  | .local _ .vmem, ⟨4, _⟩ => ⟨S1x64x64, .f32⟩
  | .local _ .vmem, ⟨5, _⟩ => ⟨S1x64x64, .f32⟩
  | .local _ .vmem, ⟨6, _⟩ => ⟨S1x64x64, .f32⟩
  | .local _ .vmem, ⟨7, _⟩ => ⟨S1x64x64, .f32⟩
  | .local _ .vmem, ⟨8, _⟩ => ⟨S1x64x64, .f32⟩
  | .local _ .vmem, ⟨9, _⟩ => ⟨S1x64x64, .f32⟩
  | .local _ .vmem, ⟨10, _⟩ => ⟨S1x64x64, .f32⟩
  | .local _ .vmem, ⟨11, _⟩ => ⟨S1x64x64, .f32⟩
  | .local _ .vmem, ⟨12, _⟩ => ⟨S1x64x64, .f32⟩
  | .local _ .vmem, ⟨13, _⟩ => ⟨S1x64x64, .f32⟩
  | .local _ .vmem, ⟨14, _⟩ => ⟨S1x64x64, .f32⟩
  | .local _ .vmem, ⟨15, _⟩ => ⟨S1x64x64, .f32⟩
  | .local _ .vmem, ⟨16, _⟩ => ⟨S1x64x64, .f32⟩
  | .local _ .vmem, ⟨17, _⟩ => ⟨S1x64x64, .f32⟩
  | .local _ .vmem, ⟨18, _⟩ => ⟨S1x64x64, .f32⟩
  | .local _ .vmem, ⟨19, _⟩ => ⟨S1x64x64, .f32⟩
  | .local _ .vmem, ⟨20, _⟩ => ⟨S1x64x64, .f32⟩
  | .local _ .vmem, ⟨21, _⟩ => ⟨S1x64x64, .f32⟩
  | .local _ .vmem, ⟨22, _⟩ => ⟨S1x64x64, .f32⟩
  | .local _ .vmem, ⟨23, _⟩ => ⟨S1x64x64, .f32⟩
  | .local _ .vmem, ⟨24, _⟩ => ⟨S1x64x64, .f32⟩
  | .local _ .vmem, ⟨25, _⟩ => ⟨S1x64x64, .f32⟩
  | .local _ .vmem, ⟨26, _⟩ => ⟨S1x64x64, .f32⟩
  | .local _ .vmem, ⟨27, _⟩ => ⟨S1x64x64, .f32⟩
  | .local _ .vmem, ⟨28, _⟩ => ⟨S1x64x64, .f32⟩
  | .local _ .vmem, ⟨29, _⟩ => ⟨S1x64x64, .f32⟩
  | .local _ .vmem, ⟨30, _⟩ => ⟨S1x64x64, .f32⟩
  | .local _ .vmem, ⟨31, _⟩ => ⟨S1x64x64, .f32⟩
  | .local _ .vmem, ⟨32, _⟩ => ⟨S1x1x256, .f32⟩
  | .local _ .vmem, ⟨33, _⟩ => ⟨S1x1x256, .f32⟩
  | .local _ .vmem, ⟨34, _⟩ => ⟨S1x1x256, .f32⟩
  | .local _ .vmem, ⟨35, _⟩ => ⟨S1x1x256, .f32⟩
  | .local _ .vmem, ⟨36, _⟩ => ⟨S1x1x256, .f32⟩
  | .local _ .vmem, ⟨37, _⟩ => ⟨S1x1x256, .f32⟩
  | .local _ .vmem, ⟨38, _⟩ => ⟨S1x1x256, .f32⟩
  | .local _ .vmem, ⟨39, _⟩ => ⟨S1x1x256, .f32⟩
  | .local _ .vmem, ⟨40, _⟩ => ⟨S1x1x256, .f32⟩
  | .local _ .vmem, ⟨41, _⟩ => ⟨S1x1x256, .f32⟩
  | .local _ .vmem, ⟨42, _⟩ => ⟨S1x1x256, .f32⟩
  | .local _ .vmem, ⟨43, _⟩ => ⟨S1x1x256, .f32⟩
  | .local _ .vmem, ⟨44, _⟩ => ⟨S1x1x256, .f32⟩
  | .local _ .vmem, ⟨45, _⟩ => ⟨S1x1x256, .f32⟩
  | .local _ .vmem, ⟨46, _⟩ => ⟨S1x1x256, .f32⟩
  | .local _ .vmem, ⟨47, _⟩ => ⟨S1x1x256, .f32⟩
  | .local _ .vmem, ⟨48, _⟩ => ⟨S1x1x256, .f32⟩
  | .local _ .vmem, ⟨49, _⟩ => ⟨S1x1x256, .f32⟩
  | .local _ .vmem, ⟨50, _⟩ => ⟨S1x1x256, .f32⟩
  | .local _ .vmem, ⟨51, _⟩ => ⟨S1x1x256, .f32⟩
  | .local _ .vmem, ⟨52, _⟩ => ⟨S1x1x256, .f32⟩
  | .local _ .vmem, ⟨53, _⟩ => ⟨S1x1x256, .f32⟩
  | .local _ .vmem, ⟨54, _⟩ => ⟨S1x1x256, .f32⟩
  | .local _ .vmem, ⟨55, _⟩ => ⟨S1x1x256, .f32⟩
  | .local _ .vmem, ⟨56, _⟩ => ⟨S1x1x256, .f32⟩
  | .local _ .vmem, ⟨57, _⟩ => ⟨S1x1x256, .f32⟩
  | .local _ .vmem, ⟨58, _⟩ => ⟨S1x1x256, .f32⟩
  | .local _ .vmem, ⟨59, _⟩ => ⟨S1x1x256, .f32⟩
  | .local _ .vmem, ⟨60, _⟩ => ⟨S1x1x256, .f32⟩
  | .local _ .vmem, ⟨61, _⟩ => ⟨S1x1x256, .f32⟩
  | .local _ .vmem, ⟨62, _⟩ => ⟨S1x1x256, .f32⟩
  | .local _ .vmem, ⟨63, _⟩ => ⟨S1x1x256, .f32⟩
  | .local _ .vmem, ⟨64, _⟩ => ⟨S16x64, .f32⟩
  | .local _ .vmem, ⟨65, _⟩ => ⟨S16x64, .f32⟩
  | .local _ .vmem, ⟨66, _⟩ => ⟨S16x64, .f32⟩
  | .local _ .vmem, ⟨67, _⟩ => ⟨S16x64, .f32⟩
  | .local _ .vmem, ⟨68, _⟩ => ⟨S16x64, .f32⟩
  | .local _ .vmem, ⟨69, _⟩ => ⟨S16x64, .f32⟩
  | .local _ .vmem, ⟨70, _⟩ => ⟨S1x1x128, .i32⟩
  | .local _ .vmem, ⟨71, _⟩ => ⟨S1x1x128, .i32⟩
  | .local _ .smem, ⟨0, _⟩ => ⟨S4096, .i32⟩
  | .local _ .smem, ⟨1, _⟩ => ⟨S4096, .i32⟩
  | .local _ .smem, ⟨2, _⟩ => ⟨S4096, .i32⟩
  | _, _ => ⟨S4096x64, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | .vmem, ⟨23, _⟩ => true
  | .vmem, ⟨24, _⟩ => true
  | .vmem, ⟨25, _⟩ => true
  | .vmem, ⟨26, _⟩ => true
  | .vmem, ⟨27, _⟩ => true
  | .vmem, ⟨28, _⟩ => true
  | .vmem, ⟨29, _⟩ => true
  | .vmem, ⟨30, _⟩ => true
  | .vmem, ⟨31, _⟩ => true
  | .vmem, ⟨32, _⟩ => true
  | .vmem, ⟨33, _⟩ => true
  | .vmem, ⟨34, _⟩ => true
  | .vmem, ⟨35, _⟩ => true
  | .vmem, ⟨36, _⟩ => true
  | .vmem, ⟨37, _⟩ => true
  | .vmem, ⟨38, _⟩ => true
  | .vmem, ⟨39, _⟩ => true
  | .vmem, ⟨40, _⟩ => true
  | .vmem, ⟨41, _⟩ => true
  | .vmem, ⟨42, _⟩ => true
  | .vmem, ⟨43, _⟩ => true
  | .vmem, ⟨44, _⟩ => true
  | .vmem, ⟨45, _⟩ => true
  | .vmem, ⟨46, _⟩ => true
  | .vmem, ⟨47, _⟩ => true
  | .vmem, ⟨48, _⟩ => true
  | .vmem, ⟨49, _⟩ => true
  | .vmem, ⟨50, _⟩ => true
  | .vmem, ⟨51, _⟩ => true
  | .vmem, ⟨52, _⟩ => true
  | .vmem, ⟨53, _⟩ => true
  | .vmem, ⟨54, _⟩ => true
  | .vmem, ⟨55, _⟩ => true
  | .vmem, ⟨56, _⟩ => true
  | .vmem, ⟨57, _⟩ => true
  | .vmem, ⟨58, _⟩ => true
  | .vmem, ⟨59, _⟩ => true
  | .vmem, ⟨60, _⟩ => true
  | .vmem, ⟨61, _⟩ => true
  | .vmem, ⟨62, _⟩ => true
  | .vmem, ⟨63, _⟩ => true
  | .vmem, ⟨64, _⟩ => true
  | .vmem, ⟨65, _⟩ => true
  | .vmem, ⟨66, _⟩ => true
  | .vmem, ⟨67, _⟩ => true
  | .vmem, ⟨68, _⟩ => true
  | .vmem, ⟨69, _⟩ => true
  | .vmem, ⟨70, _⟩ => true
  | .vmem, ⟨71, _⟩ => true
  | _, _ => false

abbrev semScoped : Fin 0 → Bool
  | ⟨_, h⟩ => absurd h (Nat.not_lt_zero _)

abbrev dmaSemScoped : Fin 72 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | ⟨24, _⟩ => true
  | ⟨25, _⟩ => true
  | ⟨26, _⟩ => true
  | ⟨27, _⟩ => true
  | ⟨28, _⟩ => true
  | ⟨29, _⟩ => true
  | ⟨30, _⟩ => true
  | ⟨31, _⟩ => true
  | ⟨32, _⟩ => true
  | ⟨33, _⟩ => true
  | ⟨34, _⟩ => true
  | ⟨35, _⟩ => true
  | ⟨36, _⟩ => true
  | ⟨37, _⟩ => true
  | ⟨38, _⟩ => true
  | ⟨39, _⟩ => true
  | ⟨40, _⟩ => true
  | ⟨41, _⟩ => true
  | ⟨42, _⟩ => true
  | ⟨43, _⟩ => true
  | ⟨44, _⟩ => true
  | ⟨45, _⟩ => true
  | ⟨46, _⟩ => true
  | ⟨47, _⟩ => true
  | ⟨48, _⟩ => true
  | ⟨49, _⟩ => true
  | ⟨50, _⟩ => true
  | ⟨51, _⟩ => true
  | ⟨52, _⟩ => true
  | ⟨53, _⟩ => true
  | ⟨54, _⟩ => true
  | ⟨55, _⟩ => true
  | ⟨56, _⟩ => true
  | ⟨57, _⟩ => true
  | ⟨58, _⟩ => true
  | ⟨59, _⟩ => true
  | ⟨60, _⟩ => true
  | ⟨61, _⟩ => true
  | ⟨62, _⟩ => true
  | ⟨63, _⟩ => true
  | ⟨64, _⟩ => true
  | ⟨65, _⟩ => true
  | ⟨66, _⟩ => true
  | ⟨67, _⟩ => true
  | ⟨68, _⟩ => true
  | ⟨69, _⟩ => true
  | ⟨70, _⟩ => true
  | ⟨71, _⟩ => true
  | _ => false

abbrev sig : RefSig :=
  ofTc nBuf bufTy 0 72 bufScoped semScoped dmaSemScoped tileCredit tileCredit_eq_zero tileCredit_pos

abbrev main_arg3 : Ref sig .tc := ⟨.hbm, 0, rfl⟩
abbrev main_arg4 : Ref sig .tc := ⟨.hbm, 1, rfl⟩
abbrev main_arg5 : Ref sig .tc := ⟨.hbm, 2, rfl⟩
abbrev main_arg6 : Ref sig .tc := ⟨.hbm, 3, rfl⟩
abbrev main_arg7 : Ref sig .tc := ⟨.hbm, 4, rfl⟩
abbrev main_arg8 : Ref sig .tc := ⟨.hbm, 5, rfl⟩
abbrev main_cst : Ref sig .tc := ⟨.hbm, 6, rfl⟩
abbrev main_v0 : Ref sig .tc := ⟨.hbm, 7, rfl⟩
abbrev main_v1 : Ref sig .tc := ⟨.hbm, 8, rfl⟩
abbrev main_v2 : Ref sig .tc := ⟨.hbm, 9, rfl⟩
abbrev main_v3 : Ref sig .tc := ⟨.hbm, 10, rfl⟩
abbrev main_v4_0 : Ref sig .tc := ⟨.hbm, 11, rfl⟩
abbrev main_v4_1 : Ref sig .tc := ⟨.hbm, 12, rfl⟩
abbrev main_arg0 : Ref sig .tc := ⟨.smem, 0, rfl⟩
abbrev main_arg1 : Ref sig .tc := ⟨.smem, 1, rfl⟩
abbrev main_arg2 : Ref sig .tc := ⟨.smem, 2, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_stg6_0 : Ref sig .tc := ⟨.vmem, 12, rfl⟩
abbrev cc0_stg6_1 : Ref sig .tc := ⟨.vmem, 13, rfl⟩
abbrev cc0_stg7_0 : Ref sig .tc := ⟨.vmem, 14, rfl⟩
abbrev cc0_stg7_1 : Ref sig .tc := ⟨.vmem, 15, rfl⟩
abbrev cc0_stg8_0 : Ref sig .tc := ⟨.vmem, 16, rfl⟩
abbrev cc0_stg8_1 : Ref sig .tc := ⟨.vmem, 17, rfl⟩
abbrev cc0_stg9_0 : Ref sig .tc := ⟨.vmem, 18, rfl⟩
abbrev cc0_stg9_1 : Ref sig .tc := ⟨.vmem, 19, rfl⟩
abbrev cc0_stg10_0 : Ref sig .tc := ⟨.vmem, 20, rfl⟩
abbrev cc0_stg10_1 : Ref sig .tc := ⟨.vmem, 21, rfl⟩
abbrev cc0_stg11_0 : Ref sig .tc := ⟨.vmem, 22, rfl⟩
abbrev cc0_stg11_1 : Ref sig .tc := ⟨.vmem, 23, rfl⟩
abbrev cc0_stg12_0 : Ref sig .tc := ⟨.vmem, 24, rfl⟩
abbrev cc0_stg12_1 : Ref sig .tc := ⟨.vmem, 25, rfl⟩
abbrev cc0_stg13_0 : Ref sig .tc := ⟨.vmem, 26, rfl⟩
abbrev cc0_stg13_1 : Ref sig .tc := ⟨.vmem, 27, rfl⟩
abbrev cc0_stg14_0 : Ref sig .tc := ⟨.vmem, 28, rfl⟩
abbrev cc0_stg14_1 : Ref sig .tc := ⟨.vmem, 29, rfl⟩
abbrev cc0_stg15_0 : Ref sig .tc := ⟨.vmem, 30, rfl⟩
abbrev cc0_stg15_1 : Ref sig .tc := ⟨.vmem, 31, rfl⟩
abbrev cc0_stg16_0 : Ref sig .tc := ⟨.vmem, 32, rfl⟩
abbrev cc0_stg16_1 : Ref sig .tc := ⟨.vmem, 33, rfl⟩
abbrev cc0_stg17_0 : Ref sig .tc := ⟨.vmem, 34, rfl⟩
abbrev cc0_stg17_1 : Ref sig .tc := ⟨.vmem, 35, rfl⟩
abbrev cc0_stg18_0 : Ref sig .tc := ⟨.vmem, 36, rfl⟩
abbrev cc0_stg18_1 : Ref sig .tc := ⟨.vmem, 37, rfl⟩
abbrev cc0_stg19_0 : Ref sig .tc := ⟨.vmem, 38, rfl⟩
abbrev cc0_stg19_1 : Ref sig .tc := ⟨.vmem, 39, rfl⟩
abbrev cc0_stg20_0 : Ref sig .tc := ⟨.vmem, 40, rfl⟩
abbrev cc0_stg20_1 : Ref sig .tc := ⟨.vmem, 41, rfl⟩
abbrev cc0_stg21_0 : Ref sig .tc := ⟨.vmem, 42, rfl⟩
abbrev cc0_stg21_1 : Ref sig .tc := ⟨.vmem, 43, rfl⟩
abbrev cc0_stg22_0 : Ref sig .tc := ⟨.vmem, 44, rfl⟩
abbrev cc0_stg22_1 : Ref sig .tc := ⟨.vmem, 45, rfl⟩
abbrev cc0_stg23_0 : Ref sig .tc := ⟨.vmem, 46, rfl⟩
abbrev cc0_stg23_1 : Ref sig .tc := ⟨.vmem, 47, rfl⟩
abbrev cc0_stg24_0 : Ref sig .tc := ⟨.vmem, 48, rfl⟩
abbrev cc0_stg24_1 : Ref sig .tc := ⟨.vmem, 49, rfl⟩
abbrev cc0_stg25_0 : Ref sig .tc := ⟨.vmem, 50, rfl⟩
abbrev cc0_stg25_1 : Ref sig .tc := ⟨.vmem, 51, rfl⟩
abbrev cc0_stg26_0 : Ref sig .tc := ⟨.vmem, 52, rfl⟩
abbrev cc0_stg26_1 : Ref sig .tc := ⟨.vmem, 53, rfl⟩
abbrev cc0_stg27_0 : Ref sig .tc := ⟨.vmem, 54, rfl⟩
abbrev cc0_stg27_1 : Ref sig .tc := ⟨.vmem, 55, rfl⟩
abbrev cc0_stg28_0 : Ref sig .tc := ⟨.vmem, 56, rfl⟩
abbrev cc0_stg28_1 : Ref sig .tc := ⟨.vmem, 57, rfl⟩
abbrev cc0_stg29_0 : Ref sig .tc := ⟨.vmem, 58, rfl⟩
abbrev cc0_stg29_1 : Ref sig .tc := ⟨.vmem, 59, rfl⟩
abbrev cc0_stg30_0 : Ref sig .tc := ⟨.vmem, 60, rfl⟩
abbrev cc0_stg30_1 : Ref sig .tc := ⟨.vmem, 61, rfl⟩
abbrev cc0_stg31_0 : Ref sig .tc := ⟨.vmem, 62, rfl⟩
abbrev cc0_stg31_1 : Ref sig .tc := ⟨.vmem, 63, rfl⟩
abbrev cc0_stg32_0 : Ref sig .tc := ⟨.vmem, 64, rfl⟩
abbrev cc0_stg32_1 : Ref sig .tc := ⟨.vmem, 65, rfl⟩
abbrev cc0_stg33_0 : Ref sig .tc := ⟨.vmem, 66, rfl⟩
abbrev cc0_stg33_1 : Ref sig .tc := ⟨.vmem, 67, rfl⟩
abbrev cc0_stg34_0 : Ref sig .tc := ⟨.vmem, 68, rfl⟩
abbrev cc0_stg34_1 : Ref sig .tc := ⟨.vmem, 69, rfl⟩
abbrev cc0_stg35_0 : Ref sig .tc := ⟨.vmem, 70, rfl⟩
abbrev cc0_stg35_1 : Ref sig .tc := ⟨.vmem, 71, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11
abbrev cc0_sem6_0 : DmaSem sig := 12
abbrev cc0_sem6_1 : DmaSem sig := 13
abbrev cc0_sem7_0 : DmaSem sig := 14
abbrev cc0_sem7_1 : DmaSem sig := 15
abbrev cc0_sem8_0 : DmaSem sig := 16
abbrev cc0_sem8_1 : DmaSem sig := 17
abbrev cc0_sem9_0 : DmaSem sig := 18
abbrev cc0_sem9_1 : DmaSem sig := 19
abbrev cc0_sem10_0 : DmaSem sig := 20
abbrev cc0_sem10_1 : DmaSem sig := 21
abbrev cc0_sem11_0 : DmaSem sig := 22
abbrev cc0_sem11_1 : DmaSem sig := 23
abbrev cc0_sem12_0 : DmaSem sig := 24
abbrev cc0_sem12_1 : DmaSem sig := 25
abbrev cc0_sem13_0 : DmaSem sig := 26
abbrev cc0_sem13_1 : DmaSem sig := 27
abbrev cc0_sem14_0 : DmaSem sig := 28
abbrev cc0_sem14_1 : DmaSem sig := 29
abbrev cc0_sem15_0 : DmaSem sig := 30
abbrev cc0_sem15_1 : DmaSem sig := 31
abbrev cc0_sem16_0 : DmaSem sig := 32
abbrev cc0_sem16_1 : DmaSem sig := 33
abbrev cc0_sem17_0 : DmaSem sig := 34
abbrev cc0_sem17_1 : DmaSem sig := 35
abbrev cc0_sem18_0 : DmaSem sig := 36
abbrev cc0_sem18_1 : DmaSem sig := 37
abbrev cc0_sem19_0 : DmaSem sig := 38
abbrev cc0_sem19_1 : DmaSem sig := 39
abbrev cc0_sem20_0 : DmaSem sig := 40
abbrev cc0_sem20_1 : DmaSem sig := 41
abbrev cc0_sem21_0 : DmaSem sig := 42
abbrev cc0_sem21_1 : DmaSem sig := 43
abbrev cc0_sem22_0 : DmaSem sig := 44
abbrev cc0_sem22_1 : DmaSem sig := 45
abbrev cc0_sem23_0 : DmaSem sig := 46
abbrev cc0_sem23_1 : DmaSem sig := 47
abbrev cc0_sem24_0 : DmaSem sig := 48
abbrev cc0_sem24_1 : DmaSem sig := 49
abbrev cc0_sem25_0 : DmaSem sig := 50
abbrev cc0_sem25_1 : DmaSem sig := 51
abbrev cc0_sem26_0 : DmaSem sig := 52
abbrev cc0_sem26_1 : DmaSem sig := 53
abbrev cc0_sem27_0 : DmaSem sig := 54
abbrev cc0_sem27_1 : DmaSem sig := 55
abbrev cc0_sem28_0 : DmaSem sig := 56
abbrev cc0_sem28_1 : DmaSem sig := 57
abbrev cc0_sem29_0 : DmaSem sig := 58
abbrev cc0_sem29_1 : DmaSem sig := 59
abbrev cc0_sem30_0 : DmaSem sig := 60
abbrev cc0_sem30_1 : DmaSem sig := 61
abbrev cc0_sem31_0 : DmaSem sig := 62
abbrev cc0_sem31_1 : DmaSem sig := 63
abbrev cc0_sem32_0 : DmaSem sig := 64
abbrev cc0_sem32_1 : DmaSem sig := 65
abbrev cc0_sem33_0 : DmaSem sig := 66
abbrev cc0_sem33_1 : DmaSem sig := 67
abbrev cc0_sem34_0 : DmaSem sig := 68
abbrev cc0_sem34_1 : DmaSem sig := 69
abbrev cc0_sem35_0 : DmaSem sig := 70
abbrev cc0_sem35_1 : DmaSem sig := 71

abbrev nD : Nat := 1
abbrev τ : Topo := Topo.v7x

variable {F : FTy → Type} [FloatOps F]

abbrev grid0 : Pipeline.Grid := ⟨1, ![256], ![false]⟩

abbrev pre0 : Pipeline.Prefetch sig := ⟨3, ![main_arg0.idx, main_arg1.idx, main_arg2.idx], fun | 0 => main_arg0.names | 1 => main_arg1.names | 2 => main_arg2.names | ⟨_ + 3, h⟩ => absurd h (Nat.not_lt.2 (Nat.le_add_left _ _)), fun | 0 => rfl | 1 => rfl | 2 => rfl | ⟨_ + 3, h⟩ => absurd h (Nat.not_lt.2 (Nat.le_add_left _ _))⟩

def k0_off1 (i : grid0.Coords) (c0_i32 : BitVec 32) : Fin 1 → Nat :=
  let arg0 : BitVec 32 := BitVec.ofNat 32 (i 0).val
  let c16_i32 : BitVec 32 := 16#32
  let v0 : BitVec 32 := Scalar.muli arg0 c16_i32
  let v1 : BitVec 32 := Scalar.addi v0 c0_i32
  let v2 : Index := Scalar.indexCast v1
  ![v2.toNat]
def cc0_transform_0 (k0_off1_inb : ∀ i : grid0.Coords, ∀ (r : Fin 16), ∀ a, (k0_off1 i (BitVec.ofNat 32 r.val)) a + S1.size a ≤ S4096.size a) (numel1_S1 : S1.numel = 1) (pf : pre0.Contents (Elt F)) (i : grid0.Coords) : Fin 3 → Nat :=
  let arg0 : BitVec 32 := BitVec.ofNat 32 (i 0).val
  let c16_i32 : BitVec 32 := 16#32
  let v0 : BitVec 32 := Scalar.muli arg0 c16_i32
  let c0_i32 : BitVec 32 := 0#32
  let v1 : BitVec 32 := Scalar.addi v0 c0_i32
  let v2 : Index := Scalar.indexCast v1
  let v3 : BitVec 32 := pf.at 1 (Rect.unit (s := S4096) ![v2.toNat] S1.size (k0_off1_inb i 0)) numel1_S1
  let c0_i32_0 : BitVec 32 := 0#32
  let c0_i32_1 : BitVec 32 := 0#32
  let c0_i32_2 : BitVec 32 := 0#32
  ![v3.toNat, c0_i32_0.toNat, c0_i32_1.toNat]

def cc0_transform_1 (k0_off1_inb : ∀ i : grid0.Coords, ∀ (r : Fin 16), ∀ a, (k0_off1 i (BitVec.ofNat 32 r.val)) a + S1.size a ≤ S4096.size a) (numel1_S1 : S1.numel = 1) (pf : pre0.Contents (Elt F)) (i : grid0.Coords) : Fin 3 → Nat :=
  let arg0 : BitVec 32 := BitVec.ofNat 32 (i 0).val
  let c16_i32 : BitVec 32 := 16#32
  let v0 : BitVec 32 := Scalar.muli arg0 c16_i32
  let c1_i32 : BitVec 32 := 1#32
  let v1 : BitVec 32 := Scalar.addi v0 c1_i32
  let v2 : Index := Scalar.indexCast v1
  let v3 : BitVec 32 := pf.at 1 (Rect.unit (s := S4096) ![v2.toNat] S1.size (k0_off1_inb i 1)) numel1_S1
  let c0_i32 : BitVec 32 := 0#32
  let c0_i32_0 : BitVec 32 := 0#32
  let c0_i32_1 : BitVec 32 := 0#32
  ![v3.toNat, c0_i32.toNat, c0_i32_0.toNat]

def cc0_transform_2 (k0_off1_inb : ∀ i : grid0.Coords, ∀ (r : Fin 16), ∀ a, (k0_off1 i (BitVec.ofNat 32 r.val)) a + S1.size a ≤ S4096.size a) (numel1_S1 : S1.numel = 1) (pf : pre0.Contents (Elt F)) (i : grid0.Coords) : Fin 3 → Nat :=
  let arg0 : BitVec 32 := BitVec.ofNat 32 (i 0).val
  let c16_i32 : BitVec 32 := 16#32
  let v0 : BitVec 32 := Scalar.muli arg0 c16_i32
  let c2_i32 : BitVec 32 := 2#32
  let v1 : BitVec 32 := Scalar.addi v0 c2_i32
  let v2 : Index := Scalar.indexCast v1
  let v3 : BitVec 32 := pf.at 1 (Rect.unit (s := S4096) ![v2.toNat] S1.size (k0_off1_inb i 2)) numel1_S1
  let c0_i32 : BitVec 32 := 0#32
  let c0_i32_0 : BitVec 32 := 0#32
  let c0_i32_1 : BitVec 32 := 0#32
  ![v3.toNat, c0_i32.toNat, c0_i32_0.toNat]

def cc0_transform_3 (k0_off1_inb : ∀ i : grid0.Coords, ∀ (r : Fin 16), ∀ a, (k0_off1 i (BitVec.ofNat 32 r.val)) a + S1.size a ≤ S4096.size a) (numel1_S1 : S1.numel = 1) (pf : pre0.Contents (Elt F)) (i : grid0.Coords) : Fin 3 → Nat :=
  let arg0 : BitVec 32 := BitVec.ofNat 32 (i 0).val
  let c16_i32 : BitVec 32 := 16#32
  let v0 : BitVec 32 := Scalar.muli arg0 c16_i32
  let c3_i32 : BitVec 32 := 3#32
  let v1 : BitVec 32 := Scalar.addi v0 c3_i32
  let v2 : Index := Scalar.indexCast v1
  let v3 : BitVec 32 := pf.at 1 (Rect.unit (s := S4096) ![v2.toNat] S1.size (k0_off1_inb i 3)) numel1_S1
  let c0_i32 : BitVec 32 := 0#32
  let c0_i32_0 : BitVec 32 := 0#32
  let c0_i32_1 : BitVec 32 := 0#32
  ![v3.toNat, c0_i32.toNat, c0_i32_0.toNat]

def cc0_transform_4 (k0_off1_inb : ∀ i : grid0.Coords, ∀ (r : Fin 16), ∀ a, (k0_off1 i (BitVec.ofNat 32 r.val)) a + S1.size a ≤ S4096.size a) (numel1_S1 : S1.numel = 1) (pf : pre0.Contents (Elt F)) (i : grid0.Coords) : Fin 3 → Nat :=
  let arg0 : BitVec 32 := BitVec.ofNat 32 (i 0).val
  let c16_i32 : BitVec 32 := 16#32
  let v0 : BitVec 32 := Scalar.muli arg0 c16_i32
  let c4_i32 : BitVec 32 := 4#32
  let v1 : BitVec 32 := Scalar.addi v0 c4_i32
  let v2 : Index := Scalar.indexCast v1
  let v3 : BitVec 32 := pf.at 1 (Rect.unit (s := S4096) ![v2.toNat] S1.size (k0_off1_inb i 4)) numel1_S1
  let c0_i32 : BitVec 32 := 0#32
  let c0_i32_0 : BitVec 32 := 0#32
  let c0_i32_1 : BitVec 32 := 0#32
  ![v3.toNat, c0_i32.toNat, c0_i32_0.toNat]

def cc0_transform_5 (k0_off1_inb : ∀ i : grid0.Coords, ∀ (r : Fin 16), ∀ a, (k0_off1 i (BitVec.ofNat 32 r.val)) a + S1.size a ≤ S4096.size a) (numel1_S1 : S1.numel = 1) (pf : pre0.Contents (Elt F)) (i : grid0.Coords) : Fin 3 → Nat :=
  let arg0 : BitVec 32 := BitVec.ofNat 32 (i 0).val
  let c16_i32 : BitVec 32 := 16#32
  let v0 : BitVec 32 := Scalar.muli arg0 c16_i32
  let c5_i32 : BitVec 32 := 5#32
  let v1 : BitVec 32 := Scalar.addi v0 c5_i32
  let v2 : Index := Scalar.indexCast v1
  let v3 : BitVec 32 := pf.at 1 (Rect.unit (s := S4096) ![v2.toNat] S1.size (k0_off1_inb i 5)) numel1_S1
  let c0_i32 : BitVec 32 := 0#32
  let c0_i32_0 : BitVec 32 := 0#32
  let c0_i32_1 : BitVec 32 := 0#32
  ![v3.toNat, c0_i32.toNat, c0_i32_0.toNat]

def cc0_transform_6 (k0_off1_inb : ∀ i : grid0.Coords, ∀ (r : Fin 16), ∀ a, (k0_off1 i (BitVec.ofNat 32 r.val)) a + S1.size a ≤ S4096.size a) (numel1_S1 : S1.numel = 1) (pf : pre0.Contents (Elt F)) (i : grid0.Coords) : Fin 3 → Nat :=
  let arg0 : BitVec 32 := BitVec.ofNat 32 (i 0).val
  let c16_i32 : BitVec 32 := 16#32
  let v0 : BitVec 32 := Scalar.muli arg0 c16_i32
  let c6_i32 : BitVec 32 := 6#32
  let v1 : BitVec 32 := Scalar.addi v0 c6_i32
  let v2 : Index := Scalar.indexCast v1
  let v3 : BitVec 32 := pf.at 1 (Rect.unit (s := S4096) ![v2.toNat] S1.size (k0_off1_inb i 6)) numel1_S1
  let c0_i32 : BitVec 32 := 0#32
  let c0_i32_0 : BitVec 32 := 0#32
  let c0_i32_1 : BitVec 32 := 0#32
  ![v3.toNat, c0_i32.toNat, c0_i32_0.toNat]

def cc0_transform_7 (k0_off1_inb : ∀ i : grid0.Coords, ∀ (r : Fin 16), ∀ a, (k0_off1 i (BitVec.ofNat 32 r.val)) a + S1.size a ≤ S4096.size a) (numel1_S1 : S1.numel = 1) (pf : pre0.Contents (Elt F)) (i : grid0.Coords) : Fin 3 → Nat :=
  let arg0 : BitVec 32 := BitVec.ofNat 32 (i 0).val
  let c16_i32 : BitVec 32 := 16#32
  let v0 : BitVec 32 := Scalar.muli arg0 c16_i32
  let c7_i32 : BitVec 32 := 7#32
  let v1 : BitVec 32 := Scalar.addi v0 c7_i32
  let v2 : Index := Scalar.indexCast v1
  let v3 : BitVec 32 := pf.at 1 (Rect.unit (s := S4096) ![v2.toNat] S1.size (k0_off1_inb i 7)) numel1_S1
  let c0_i32 : BitVec 32 := 0#32
  let c0_i32_0 : BitVec 32 := 0#32
  let c0_i32_1 : BitVec 32 := 0#32
  ![v3.toNat, c0_i32.toNat, c0_i32_0.toNat]

def cc0_transform_8 (k0_off1_inb : ∀ i : grid0.Coords, ∀ (r : Fin 16), ∀ a, (k0_off1 i (BitVec.ofNat 32 r.val)) a + S1.size a ≤ S4096.size a) (numel1_S1 : S1.numel = 1) (pf : pre0.Contents (Elt F)) (i : grid0.Coords) : Fin 3 → Nat :=
  let arg0 : BitVec 32 := BitVec.ofNat 32 (i 0).val
  let c16_i32 : BitVec 32 := 16#32
  let v0 : BitVec 32 := Scalar.muli arg0 c16_i32
  let c8_i32 : BitVec 32 := 8#32
  let v1 : BitVec 32 := Scalar.addi v0 c8_i32
  let v2 : Index := Scalar.indexCast v1
  let v3 : BitVec 32 := pf.at 1 (Rect.unit (s := S4096) ![v2.toNat] S1.size (k0_off1_inb i 8)) numel1_S1
  let c0_i32 : BitVec 32 := 0#32
  let c0_i32_0 : BitVec 32 := 0#32
  let c0_i32_1 : BitVec 32 := 0#32
  ![v3.toNat, c0_i32.toNat, c0_i32_0.toNat]

def cc0_transform_9 (k0_off1_inb : ∀ i : grid0.Coords, ∀ (r : Fin 16), ∀ a, (k0_off1 i (BitVec.ofNat 32 r.val)) a + S1.size a ≤ S4096.size a) (numel1_S1 : S1.numel = 1) (pf : pre0.Contents (Elt F)) (i : grid0.Coords) : Fin 3 → Nat :=
  let arg0 : BitVec 32 := BitVec.ofNat 32 (i 0).val
  let c16_i32 : BitVec 32 := 16#32
  let v0 : BitVec 32 := Scalar.muli arg0 c16_i32
  let c9_i32 : BitVec 32 := 9#32
  let v1 : BitVec 32 := Scalar.addi v0 c9_i32
  let v2 : Index := Scalar.indexCast v1
  let v3 : BitVec 32 := pf.at 1 (Rect.unit (s := S4096) ![v2.toNat] S1.size (k0_off1_inb i 9)) numel1_S1
  let c0_i32 : BitVec 32 := 0#32
  let c0_i32_0 : BitVec 32 := 0#32
  let c0_i32_1 : BitVec 32 := 0#32
  ![v3.toNat, c0_i32.toNat, c0_i32_0.toNat]

def cc0_transform_10 (k0_off1_inb : ∀ i : grid0.Coords, ∀ (r : Fin 16), ∀ a, (k0_off1 i (BitVec.ofNat 32 r.val)) a + S1.size a ≤ S4096.size a) (numel1_S1 : S1.numel = 1) (pf : pre0.Contents (Elt F)) (i : grid0.Coords) : Fin 3 → Nat :=
  let arg0 : BitVec 32 := BitVec.ofNat 32 (i 0).val
  let c16_i32 : BitVec 32 := 16#32
  let v0 : BitVec 32 := Scalar.muli arg0 c16_i32
  let c10_i32 : BitVec 32 := 10#32
  let v1 : BitVec 32 := Scalar.addi v0 c10_i32
  let v2 : Index := Scalar.indexCast v1
  let v3 : BitVec 32 := pf.at 1 (Rect.unit (s := S4096) ![v2.toNat] S1.size (k0_off1_inb i 10)) numel1_S1
  let c0_i32 : BitVec 32 := 0#32
  let c0_i32_0 : BitVec 32 := 0#32
  let c0_i32_1 : BitVec 32 := 0#32
  ![v3.toNat, c0_i32.toNat, c0_i32_0.toNat]

def cc0_transform_11 (k0_off1_inb : ∀ i : grid0.Coords, ∀ (r : Fin 16), ∀ a, (k0_off1 i (BitVec.ofNat 32 r.val)) a + S1.size a ≤ S4096.size a) (numel1_S1 : S1.numel = 1) (pf : pre0.Contents (Elt F)) (i : grid0.Coords) : Fin 3 → Nat :=
  let arg0 : BitVec 32 := BitVec.ofNat 32 (i 0).val
  let c16_i32 : BitVec 32 := 16#32
  let v0 : BitVec 32 := Scalar.muli arg0 c16_i32
  let c11_i32 : BitVec 32 := 11#32
  let v1 : BitVec 32 := Scalar.addi v0 c11_i32
  let v2 : Index := Scalar.indexCast v1
  let v3 : BitVec 32 := pf.at 1 (Rect.unit (s := S4096) ![v2.toNat] S1.size (k0_off1_inb i 11)) numel1_S1
  let c0_i32 : BitVec 32 := 0#32
  let c0_i32_0 : BitVec 32 := 0#32
  let c0_i32_1 : BitVec 32 := 0#32
  ![v3.toNat, c0_i32.toNat, c0_i32_0.toNat]

def cc0_transform_12 (k0_off1_inb : ∀ i : grid0.Coords, ∀ (r : Fin 16), ∀ a, (k0_off1 i (BitVec.ofNat 32 r.val)) a + S1.size a ≤ S4096.size a) (numel1_S1 : S1.numel = 1) (pf : pre0.Contents (Elt F)) (i : grid0.Coords) : Fin 3 → Nat :=
  let arg0 : BitVec 32 := BitVec.ofNat 32 (i 0).val
  let c16_i32 : BitVec 32 := 16#32
  let v0 : BitVec 32 := Scalar.muli arg0 c16_i32
  let c12_i32 : BitVec 32 := 12#32
  let v1 : BitVec 32 := Scalar.addi v0 c12_i32
  let v2 : Index := Scalar.indexCast v1
  let v3 : BitVec 32 := pf.at 1 (Rect.unit (s := S4096) ![v2.toNat] S1.size (k0_off1_inb i 12)) numel1_S1
  let c0_i32 : BitVec 32 := 0#32
  let c0_i32_0 : BitVec 32 := 0#32
  let c0_i32_1 : BitVec 32 := 0#32
  ![v3.toNat, c0_i32.toNat, c0_i32_0.toNat]

def cc0_transform_13 (k0_off1_inb : ∀ i : grid0.Coords, ∀ (r : Fin 16), ∀ a, (k0_off1 i (BitVec.ofNat 32 r.val)) a + S1.size a ≤ S4096.size a) (numel1_S1 : S1.numel = 1) (pf : pre0.Contents (Elt F)) (i : grid0.Coords) : Fin 3 → Nat :=
  let arg0 : BitVec 32 := BitVec.ofNat 32 (i 0).val
  let c16_i32 : BitVec 32 := 16#32
  let v0 : BitVec 32 := Scalar.muli arg0 c16_i32
  let c13_i32 : BitVec 32 := 13#32
  let v1 : BitVec 32 := Scalar.addi v0 c13_i32
  let v2 : Index := Scalar.indexCast v1
  let v3 : BitVec 32 := pf.at 1 (Rect.unit (s := S4096) ![v2.toNat] S1.size (k0_off1_inb i 13)) numel1_S1
  let c0_i32 : BitVec 32 := 0#32
  let c0_i32_0 : BitVec 32 := 0#32
  let c0_i32_1 : BitVec 32 := 0#32
  ![v3.toNat, c0_i32.toNat, c0_i32_0.toNat]

def cc0_transform_14 (k0_off1_inb : ∀ i : grid0.Coords, ∀ (r : Fin 16), ∀ a, (k0_off1 i (BitVec.ofNat 32 r.val)) a + S1.size a ≤ S4096.size a) (numel1_S1 : S1.numel = 1) (pf : pre0.Contents (Elt F)) (i : grid0.Coords) : Fin 3 → Nat :=
  let arg0 : BitVec 32 := BitVec.ofNat 32 (i 0).val
  let c16_i32 : BitVec 32 := 16#32
  let v0 : BitVec 32 := Scalar.muli arg0 c16_i32
  let c14_i32 : BitVec 32 := 14#32
  let v1 : BitVec 32 := Scalar.addi v0 c14_i32
  let v2 : Index := Scalar.indexCast v1
  let v3 : BitVec 32 := pf.at 1 (Rect.unit (s := S4096) ![v2.toNat] S1.size (k0_off1_inb i 14)) numel1_S1
  let c0_i32 : BitVec 32 := 0#32
  let c0_i32_0 : BitVec 32 := 0#32
  let c0_i32_1 : BitVec 32 := 0#32
  ![v3.toNat, c0_i32.toNat, c0_i32_0.toNat]

def cc0_transform_15 (k0_off1_inb : ∀ i : grid0.Coords, ∀ (r : Fin 16), ∀ a, (k0_off1 i (BitVec.ofNat 32 r.val)) a + S1.size a ≤ S4096.size a) (numel1_S1 : S1.numel = 1) (pf : pre0.Contents (Elt F)) (i : grid0.Coords) : Fin 3 → Nat :=
  let arg0 : BitVec 32 := BitVec.ofNat 32 (i 0).val
  let c16_i32 : BitVec 32 := 16#32
  let v0 : BitVec 32 := Scalar.muli arg0 c16_i32
  let c15_i32 : BitVec 32 := 15#32
  let v1 : BitVec 32 := Scalar.addi v0 c15_i32
  let v2 : Index := Scalar.indexCast v1
  let v3 : BitVec 32 := pf.at 1 (Rect.unit (s := S4096) ![v2.toNat] S1.size (k0_off1_inb i 15)) numel1_S1
  let c0_i32 : BitVec 32 := 0#32
  let c0_i32_0 : BitVec 32 := 0#32
  let c0_i32_1 : BitVec 32 := 0#32
  ![v3.toNat, c0_i32.toNat, c0_i32_0.toNat]

def cc0_transform_16 (k0_off1_inb : ∀ i : grid0.Coords, ∀ (r : Fin 16), ∀ a, (k0_off1 i (BitVec.ofNat 32 r.val)) a + S1.size a ≤ S4096.size a) (numel1_S1 : S1.numel = 1) (pf : pre0.Contents (Elt F)) (i : grid0.Coords) : Fin 3 → Nat :=
  let arg0 : BitVec 32 := BitVec.ofNat 32 (i 0).val
  let c16_i32 : BitVec 32 := 16#32
  let v0 : BitVec 32 := Scalar.muli arg0 c16_i32
  let c0_i32 : BitVec 32 := 0#32
  let v1 : BitVec 32 := Scalar.addi v0 c0_i32
  let v2 : Index := Scalar.indexCast v1
  let v3 : BitVec 32 := pf.at 1 (Rect.unit (s := S4096) ![v2.toNat] S1.size (k0_off1_inb i 0)) numel1_S1
  let c0_i32_0 : BitVec 32 := 0#32
  let c0_i32_1 : BitVec 32 := 0#32
  let c0_i32_2 : BitVec 32 := 0#32
  ![v3.toNat, c0_i32_0.toNat, c0_i32_1.toNat]

def cc0_transform_17 (k0_off1_inb : ∀ i : grid0.Coords, ∀ (r : Fin 16), ∀ a, (k0_off1 i (BitVec.ofNat 32 r.val)) a + S1.size a ≤ S4096.size a) (numel1_S1 : S1.numel = 1) (pf : pre0.Contents (Elt F)) (i : grid0.Coords) : Fin 3 → Nat :=
  let arg0 : BitVec 32 := BitVec.ofNat 32 (i 0).val
  let c16_i32 : BitVec 32 := 16#32
  let v0 : BitVec 32 := Scalar.muli arg0 c16_i32
  let c1_i32 : BitVec 32 := 1#32
  let v1 : BitVec 32 := Scalar.addi v0 c1_i32
  let v2 : Index := Scalar.indexCast v1
  let v3 : BitVec 32 := pf.at 1 (Rect.unit (s := S4096) ![v2.toNat] S1.size (k0_off1_inb i 1)) numel1_S1
  let c0_i32 : BitVec 32 := 0#32
  let c0_i32_0 : BitVec 32 := 0#32
  let c0_i32_1 : BitVec 32 := 0#32
  ![v3.toNat, c0_i32.toNat, c0_i32_0.toNat]

def cc0_transform_18 (k0_off1_inb : ∀ i : grid0.Coords, ∀ (r : Fin 16), ∀ a, (k0_off1 i (BitVec.ofNat 32 r.val)) a + S1.size a ≤ S4096.size a) (numel1_S1 : S1.numel = 1) (pf : pre0.Contents (Elt F)) (i : grid0.Coords) : Fin 3 → Nat :=
  let arg0 : BitVec 32 := BitVec.ofNat 32 (i 0).val
  let c16_i32 : BitVec 32 := 16#32
  let v0 : BitVec 32 := Scalar.muli arg0 c16_i32
  let c2_i32 : BitVec 32 := 2#32
  let v1 : BitVec 32 := Scalar.addi v0 c2_i32
  let v2 : Index := Scalar.indexCast v1
  let v3 : BitVec 32 := pf.at 1 (Rect.unit (s := S4096) ![v2.toNat] S1.size (k0_off1_inb i 2)) numel1_S1
  let c0_i32 : BitVec 32 := 0#32
  let c0_i32_0 : BitVec 32 := 0#32
  let c0_i32_1 : BitVec 32 := 0#32
  ![v3.toNat, c0_i32.toNat, c0_i32_0.toNat]

def cc0_transform_19 (k0_off1_inb : ∀ i : grid0.Coords, ∀ (r : Fin 16), ∀ a, (k0_off1 i (BitVec.ofNat 32 r.val)) a + S1.size a ≤ S4096.size a) (numel1_S1 : S1.numel = 1) (pf : pre0.Contents (Elt F)) (i : grid0.Coords) : Fin 3 → Nat :=
  let arg0 : BitVec 32 := BitVec.ofNat 32 (i 0).val
  let c16_i32 : BitVec 32 := 16#32
  let v0 : BitVec 32 := Scalar.muli arg0 c16_i32
  let c3_i32 : BitVec 32 := 3#32
  let v1 : BitVec 32 := Scalar.addi v0 c3_i32
  let v2 : Index := Scalar.indexCast v1
  let v3 : BitVec 32 := pf.at 1 (Rect.unit (s := S4096) ![v2.toNat] S1.size (k0_off1_inb i 3)) numel1_S1
  let c0_i32 : BitVec 32 := 0#32
  let c0_i32_0 : BitVec 32 := 0#32
  let c0_i32_1 : BitVec 32 := 0#32
  ![v3.toNat, c0_i32.toNat, c0_i32_0.toNat]

def cc0_transform_20 (k0_off1_inb : ∀ i : grid0.Coords, ∀ (r : Fin 16), ∀ a, (k0_off1 i (BitVec.ofNat 32 r.val)) a + S1.size a ≤ S4096.size a) (numel1_S1 : S1.numel = 1) (pf : pre0.Contents (Elt F)) (i : grid0.Coords) : Fin 3 → Nat :=
  let arg0 : BitVec 32 := BitVec.ofNat 32 (i 0).val
  let c16_i32 : BitVec 32 := 16#32
  let v0 : BitVec 32 := Scalar.muli arg0 c16_i32
  let c4_i32 : BitVec 32 := 4#32
  let v1 : BitVec 32 := Scalar.addi v0 c4_i32
  let v2 : Index := Scalar.indexCast v1
  let v3 : BitVec 32 := pf.at 1 (Rect.unit (s := S4096) ![v2.toNat] S1.size (k0_off1_inb i 4)) numel1_S1
  let c0_i32 : BitVec 32 := 0#32
  let c0_i32_0 : BitVec 32 := 0#32
  let c0_i32_1 : BitVec 32 := 0#32
  ![v3.toNat, c0_i32.toNat, c0_i32_0.toNat]

def cc0_transform_21 (k0_off1_inb : ∀ i : grid0.Coords, ∀ (r : Fin 16), ∀ a, (k0_off1 i (BitVec.ofNat 32 r.val)) a + S1.size a ≤ S4096.size a) (numel1_S1 : S1.numel = 1) (pf : pre0.Contents (Elt F)) (i : grid0.Coords) : Fin 3 → Nat :=
  let arg0 : BitVec 32 := BitVec.ofNat 32 (i 0).val
  let c16_i32 : BitVec 32 := 16#32
  let v0 : BitVec 32 := Scalar.muli arg0 c16_i32
  let c5_i32 : BitVec 32 := 5#32
  let v1 : BitVec 32 := Scalar.addi v0 c5_i32
  let v2 : Index := Scalar.indexCast v1
  let v3 : BitVec 32 := pf.at 1 (Rect.unit (s := S4096) ![v2.toNat] S1.size (k0_off1_inb i 5)) numel1_S1
  let c0_i32 : BitVec 32 := 0#32
  let c0_i32_0 : BitVec 32 := 0#32
  let c0_i32_1 : BitVec 32 := 0#32
  ![v3.toNat, c0_i32.toNat, c0_i32_0.toNat]

def cc0_transform_22 (k0_off1_inb : ∀ i : grid0.Coords, ∀ (r : Fin 16), ∀ a, (k0_off1 i (BitVec.ofNat 32 r.val)) a + S1.size a ≤ S4096.size a) (numel1_S1 : S1.numel = 1) (pf : pre0.Contents (Elt F)) (i : grid0.Coords) : Fin 3 → Nat :=
  let arg0 : BitVec 32 := BitVec.ofNat 32 (i 0).val
  let c16_i32 : BitVec 32 := 16#32
  let v0 : BitVec 32 := Scalar.muli arg0 c16_i32
  let c6_i32 : BitVec 32 := 6#32
  let v1 : BitVec 32 := Scalar.addi v0 c6_i32
  let v2 : Index := Scalar.indexCast v1
  let v3 : BitVec 32 := pf.at 1 (Rect.unit (s := S4096) ![v2.toNat] S1.size (k0_off1_inb i 6)) numel1_S1
  let c0_i32 : BitVec 32 := 0#32
  let c0_i32_0 : BitVec 32 := 0#32
  let c0_i32_1 : BitVec 32 := 0#32
  ![v3.toNat, c0_i32.toNat, c0_i32_0.toNat]

def cc0_transform_23 (k0_off1_inb : ∀ i : grid0.Coords, ∀ (r : Fin 16), ∀ a, (k0_off1 i (BitVec.ofNat 32 r.val)) a + S1.size a ≤ S4096.size a) (numel1_S1 : S1.numel = 1) (pf : pre0.Contents (Elt F)) (i : grid0.Coords) : Fin 3 → Nat :=
  let arg0 : BitVec 32 := BitVec.ofNat 32 (i 0).val
  let c16_i32 : BitVec 32 := 16#32
  let v0 : BitVec 32 := Scalar.muli arg0 c16_i32
  let c7_i32 : BitVec 32 := 7#32
  let v1 : BitVec 32 := Scalar.addi v0 c7_i32
  let v2 : Index := Scalar.indexCast v1
  let v3 : BitVec 32 := pf.at 1 (Rect.unit (s := S4096) ![v2.toNat] S1.size (k0_off1_inb i 7)) numel1_S1
  let c0_i32 : BitVec 32 := 0#32
  let c0_i32_0 : BitVec 32 := 0#32
  let c0_i32_1 : BitVec 32 := 0#32
  ![v3.toNat, c0_i32.toNat, c0_i32_0.toNat]

def cc0_transform_24 (k0_off1_inb : ∀ i : grid0.Coords, ∀ (r : Fin 16), ∀ a, (k0_off1 i (BitVec.ofNat 32 r.val)) a + S1.size a ≤ S4096.size a) (numel1_S1 : S1.numel = 1) (pf : pre0.Contents (Elt F)) (i : grid0.Coords) : Fin 3 → Nat :=
  let arg0 : BitVec 32 := BitVec.ofNat 32 (i 0).val
  let c16_i32 : BitVec 32 := 16#32
  let v0 : BitVec 32 := Scalar.muli arg0 c16_i32
  let c8_i32 : BitVec 32 := 8#32
  let v1 : BitVec 32 := Scalar.addi v0 c8_i32
  let v2 : Index := Scalar.indexCast v1
  let v3 : BitVec 32 := pf.at 1 (Rect.unit (s := S4096) ![v2.toNat] S1.size (k0_off1_inb i 8)) numel1_S1
  let c0_i32 : BitVec 32 := 0#32
  let c0_i32_0 : BitVec 32 := 0#32
  let c0_i32_1 : BitVec 32 := 0#32
  ![v3.toNat, c0_i32.toNat, c0_i32_0.toNat]

def cc0_transform_25 (k0_off1_inb : ∀ i : grid0.Coords, ∀ (r : Fin 16), ∀ a, (k0_off1 i (BitVec.ofNat 32 r.val)) a + S1.size a ≤ S4096.size a) (numel1_S1 : S1.numel = 1) (pf : pre0.Contents (Elt F)) (i : grid0.Coords) : Fin 3 → Nat :=
  let arg0 : BitVec 32 := BitVec.ofNat 32 (i 0).val
  let c16_i32 : BitVec 32 := 16#32
  let v0 : BitVec 32 := Scalar.muli arg0 c16_i32
  let c9_i32 : BitVec 32 := 9#32
  let v1 : BitVec 32 := Scalar.addi v0 c9_i32
  let v2 : Index := Scalar.indexCast v1
  let v3 : BitVec 32 := pf.at 1 (Rect.unit (s := S4096) ![v2.toNat] S1.size (k0_off1_inb i 9)) numel1_S1
  let c0_i32 : BitVec 32 := 0#32
  let c0_i32_0 : BitVec 32 := 0#32
  let c0_i32_1 : BitVec 32 := 0#32
  ![v3.toNat, c0_i32.toNat, c0_i32_0.toNat]

def cc0_transform_26 (k0_off1_inb : ∀ i : grid0.Coords, ∀ (r : Fin 16), ∀ a, (k0_off1 i (BitVec.ofNat 32 r.val)) a + S1.size a ≤ S4096.size a) (numel1_S1 : S1.numel = 1) (pf : pre0.Contents (Elt F)) (i : grid0.Coords) : Fin 3 → Nat :=
  let arg0 : BitVec 32 := BitVec.ofNat 32 (i 0).val
  let c16_i32 : BitVec 32 := 16#32
  let v0 : BitVec 32 := Scalar.muli arg0 c16_i32
  let c10_i32 : BitVec 32 := 10#32
  let v1 : BitVec 32 := Scalar.addi v0 c10_i32
  let v2 : Index := Scalar.indexCast v1
  let v3 : BitVec 32 := pf.at 1 (Rect.unit (s := S4096) ![v2.toNat] S1.size (k0_off1_inb i 10)) numel1_S1
  let c0_i32 : BitVec 32 := 0#32
  let c0_i32_0 : BitVec 32 := 0#32
  let c0_i32_1 : BitVec 32 := 0#32
  ![v3.toNat, c0_i32.toNat, c0_i32_0.toNat]

def cc0_transform_27 (k0_off1_inb : ∀ i : grid0.Coords, ∀ (r : Fin 16), ∀ a, (k0_off1 i (BitVec.ofNat 32 r.val)) a + S1.size a ≤ S4096.size a) (numel1_S1 : S1.numel = 1) (pf : pre0.Contents (Elt F)) (i : grid0.Coords) : Fin 3 → Nat :=
  let arg0 : BitVec 32 := BitVec.ofNat 32 (i 0).val
  let c16_i32 : BitVec 32 := 16#32
  let v0 : BitVec 32 := Scalar.muli arg0 c16_i32
  let c11_i32 : BitVec 32 := 11#32
  let v1 : BitVec 32 := Scalar.addi v0 c11_i32
  let v2 : Index := Scalar.indexCast v1
  let v3 : BitVec 32 := pf.at 1 (Rect.unit (s := S4096) ![v2.toNat] S1.size (k0_off1_inb i 11)) numel1_S1
  let c0_i32 : BitVec 32 := 0#32
  let c0_i32_0 : BitVec 32 := 0#32
  let c0_i32_1 : BitVec 32 := 0#32
  ![v3.toNat, c0_i32.toNat, c0_i32_0.toNat]

def cc0_transform_28 (k0_off1_inb : ∀ i : grid0.Coords, ∀ (r : Fin 16), ∀ a, (k0_off1 i (BitVec.ofNat 32 r.val)) a + S1.size a ≤ S4096.size a) (numel1_S1 : S1.numel = 1) (pf : pre0.Contents (Elt F)) (i : grid0.Coords) : Fin 3 → Nat :=
  let arg0 : BitVec 32 := BitVec.ofNat 32 (i 0).val
  let c16_i32 : BitVec 32 := 16#32
  let v0 : BitVec 32 := Scalar.muli arg0 c16_i32
  let c12_i32 : BitVec 32 := 12#32
  let v1 : BitVec 32 := Scalar.addi v0 c12_i32
  let v2 : Index := Scalar.indexCast v1
  let v3 : BitVec 32 := pf.at 1 (Rect.unit (s := S4096) ![v2.toNat] S1.size (k0_off1_inb i 12)) numel1_S1
  let c0_i32 : BitVec 32 := 0#32
  let c0_i32_0 : BitVec 32 := 0#32
  let c0_i32_1 : BitVec 32 := 0#32
  ![v3.toNat, c0_i32.toNat, c0_i32_0.toNat]

def cc0_transform_29 (k0_off1_inb : ∀ i : grid0.Coords, ∀ (r : Fin 16), ∀ a, (k0_off1 i (BitVec.ofNat 32 r.val)) a + S1.size a ≤ S4096.size a) (numel1_S1 : S1.numel = 1) (pf : pre0.Contents (Elt F)) (i : grid0.Coords) : Fin 3 → Nat :=
  let arg0 : BitVec 32 := BitVec.ofNat 32 (i 0).val
  let c16_i32 : BitVec 32 := 16#32
  let v0 : BitVec 32 := Scalar.muli arg0 c16_i32
  let c13_i32 : BitVec 32 := 13#32
  let v1 : BitVec 32 := Scalar.addi v0 c13_i32
  let v2 : Index := Scalar.indexCast v1
  let v3 : BitVec 32 := pf.at 1 (Rect.unit (s := S4096) ![v2.toNat] S1.size (k0_off1_inb i 13)) numel1_S1
  let c0_i32 : BitVec 32 := 0#32
  let c0_i32_0 : BitVec 32 := 0#32
  let c0_i32_1 : BitVec 32 := 0#32
  ![v3.toNat, c0_i32.toNat, c0_i32_0.toNat]

def cc0_transform_30 (k0_off1_inb : ∀ i : grid0.Coords, ∀ (r : Fin 16), ∀ a, (k0_off1 i (BitVec.ofNat 32 r.val)) a + S1.size a ≤ S4096.size a) (numel1_S1 : S1.numel = 1) (pf : pre0.Contents (Elt F)) (i : grid0.Coords) : Fin 3 → Nat :=
  let arg0 : BitVec 32 := BitVec.ofNat 32 (i 0).val
  let c16_i32 : BitVec 32 := 16#32
  let v0 : BitVec 32 := Scalar.muli arg0 c16_i32
  let c14_i32 : BitVec 32 := 14#32
  let v1 : BitVec 32 := Scalar.addi v0 c14_i32
  let v2 : Index := Scalar.indexCast v1
  let v3 : BitVec 32 := pf.at 1 (Rect.unit (s := S4096) ![v2.toNat] S1.size (k0_off1_inb i 14)) numel1_S1
  let c0_i32 : BitVec 32 := 0#32
  let c0_i32_0 : BitVec 32 := 0#32
  let c0_i32_1 : BitVec 32 := 0#32
  ![v3.toNat, c0_i32.toNat, c0_i32_0.toNat]

def cc0_transform_31 (k0_off1_inb : ∀ i : grid0.Coords, ∀ (r : Fin 16), ∀ a, (k0_off1 i (BitVec.ofNat 32 r.val)) a + S1.size a ≤ S4096.size a) (numel1_S1 : S1.numel = 1) (pf : pre0.Contents (Elt F)) (i : grid0.Coords) : Fin 3 → Nat :=
  let arg0 : BitVec 32 := BitVec.ofNat 32 (i 0).val
  let c16_i32 : BitVec 32 := 16#32
  let v0 : BitVec 32 := Scalar.muli arg0 c16_i32
  let c15_i32 : BitVec 32 := 15#32
  let v1 : BitVec 32 := Scalar.addi v0 c15_i32
  let v2 : Index := Scalar.indexCast v1
  let v3 : BitVec 32 := pf.at 1 (Rect.unit (s := S4096) ![v2.toNat] S1.size (k0_off1_inb i 15)) numel1_S1
  let c0_i32 : BitVec 32 := 0#32
  let c0_i32_0 : BitVec 32 := 0#32
  let c0_i32_1 : BitVec 32 := 0#32
  ![v3.toNat, c0_i32.toNat, c0_i32_0.toNat]

def cc0_transform_32 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_33 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_34 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_35 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

abbrev stage0_0 : Fin 2 → Memref sig .tc .vmem S1x64x64 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S1x64x64 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S1x64x64 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S1x64x64 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 2 → Memref sig .tc .vmem S1x64x64 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 2 → Memref sig .tc .vmem S1x64x64 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

abbrev stage0_6 : Fin 2 → Memref sig .tc .vmem S1x64x64 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true]

abbrev stage0_7 : Fin 2 → Memref sig .tc .vmem S1x64x64 .f32 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true]

abbrev stage0_8 : Fin 2 → Memref sig .tc .vmem S1x64x64 .f32 := fun | 0 => Memref.whole cc0_stg8_0 | 1 => Memref.whole cc0_stg8_1 | ⟨_ + 2, h⟩ => absurd h (Nat.not_lt.2 (Nat.le_add_left _ _))
abbrev sem0_8 : Fin 2 → DmaSem sig := fun | 0 => cc0_sem8_0 | 1 => cc0_sem8_1 | ⟨_ + 2, h⟩ => absurd h (Nat.not_lt.2 (Nat.le_add_left _ _))
abbrev reads0_8 : Fin grid0.rank → Bool := ![true]

abbrev stage0_9 : Fin 2 → Memref sig .tc .vmem S1x64x64 .f32 := fun | 0 => Memref.whole cc0_stg9_0 | 1 => Memref.whole cc0_stg9_1 | ⟨_ + 2, h⟩ => absurd h (Nat.not_lt.2 (Nat.le_add_left _ _))
abbrev sem0_9 : Fin 2 → DmaSem sig := fun | 0 => cc0_sem9_0 | 1 => cc0_sem9_1 | ⟨_ + 2, h⟩ => absurd h (Nat.not_lt.2 (Nat.le_add_left _ _))
abbrev reads0_9 : Fin grid0.rank → Bool := ![true]

abbrev stage0_10 : Fin 2 → Memref sig .tc .vmem S1x64x64 .f32 := fun | 0 => Memref.whole cc0_stg10_0 | 1 => Memref.whole cc0_stg10_1 | ⟨_ + 2, h⟩ => absurd h (Nat.not_lt.2 (Nat.le_add_left _ _))
abbrev sem0_10 : Fin 2 → DmaSem sig := fun | 0 => cc0_sem10_0 | 1 => cc0_sem10_1 | ⟨_ + 2, h⟩ => absurd h (Nat.not_lt.2 (Nat.le_add_left _ _))
abbrev reads0_10 : Fin grid0.rank → Bool := ![true]

abbrev stage0_11 : Fin 2 → Memref sig .tc .vmem S1x64x64 .f32 := fun | 0 => Memref.whole cc0_stg11_0 | 1 => Memref.whole cc0_stg11_1 | ⟨_ + 2, h⟩ => absurd h (Nat.not_lt.2 (Nat.le_add_left _ _))
abbrev sem0_11 : Fin 2 → DmaSem sig := fun | 0 => cc0_sem11_0 | 1 => cc0_sem11_1 | ⟨_ + 2, h⟩ => absurd h (Nat.not_lt.2 (Nat.le_add_left _ _))
abbrev reads0_11 : Fin grid0.rank → Bool := ![true]

abbrev stage0_12 : Fin 2 → Memref sig .tc .vmem S1x64x64 .f32 := fun | 0 => Memref.whole cc0_stg12_0 | 1 => Memref.whole cc0_stg12_1 | ⟨_ + 2, h⟩ => absurd h (Nat.not_lt.2 (Nat.le_add_left _ _))
abbrev sem0_12 : Fin 2 → DmaSem sig := fun | 0 => cc0_sem12_0 | 1 => cc0_sem12_1 | ⟨_ + 2, h⟩ => absurd h (Nat.not_lt.2 (Nat.le_add_left _ _))
abbrev reads0_12 : Fin grid0.rank → Bool := ![true]

abbrev stage0_13 : Fin 2 → Memref sig .tc .vmem S1x64x64 .f32 := fun | 0 => Memref.whole cc0_stg13_0 | 1 => Memref.whole cc0_stg13_1 | ⟨_ + 2, h⟩ => absurd h (Nat.not_lt.2 (Nat.le_add_left _ _))
abbrev sem0_13 : Fin 2 → DmaSem sig := fun | 0 => cc0_sem13_0 | 1 => cc0_sem13_1 | ⟨_ + 2, h⟩ => absurd h (Nat.not_lt.2 (Nat.le_add_left _ _))
abbrev reads0_13 : Fin grid0.rank → Bool := ![true]

abbrev stage0_14 : Fin 2 → Memref sig .tc .vmem S1x64x64 .f32 := fun | 0 => Memref.whole cc0_stg14_0 | 1 => Memref.whole cc0_stg14_1 | ⟨_ + 2, h⟩ => absurd h (Nat.not_lt.2 (Nat.le_add_left _ _))
abbrev sem0_14 : Fin 2 → DmaSem sig := fun | 0 => cc0_sem14_0 | 1 => cc0_sem14_1 | ⟨_ + 2, h⟩ => absurd h (Nat.not_lt.2 (Nat.le_add_left _ _))
abbrev reads0_14 : Fin grid0.rank → Bool := ![true]

abbrev stage0_15 : Fin 2 → Memref sig .tc .vmem S1x64x64 .f32 := fun | 0 => Memref.whole cc0_stg15_0 | 1 => Memref.whole cc0_stg15_1 | ⟨_ + 2, h⟩ => absurd h (Nat.not_lt.2 (Nat.le_add_left _ _))
abbrev sem0_15 : Fin 2 → DmaSem sig := fun | 0 => cc0_sem15_0 | 1 => cc0_sem15_1 | ⟨_ + 2, h⟩ => absurd h (Nat.not_lt.2 (Nat.le_add_left _ _))
abbrev reads0_15 : Fin grid0.rank → Bool := ![true]

abbrev stage0_16 : Fin 2 → Memref sig .tc .vmem S1x1x256 .f32 := fun | 0 => Memref.whole cc0_stg16_0 | 1 => Memref.whole cc0_stg16_1 | ⟨_ + 2, h⟩ => absurd h (Nat.not_lt.2 (Nat.le_add_left _ _))
abbrev sem0_16 : Fin 2 → DmaSem sig := fun | 0 => cc0_sem16_0 | 1 => cc0_sem16_1 | ⟨_ + 2, h⟩ => absurd h (Nat.not_lt.2 (Nat.le_add_left _ _))
abbrev reads0_16 : Fin grid0.rank → Bool := ![true]

abbrev stage0_17 : Fin 2 → Memref sig .tc .vmem S1x1x256 .f32 := fun | 0 => Memref.whole cc0_stg17_0 | 1 => Memref.whole cc0_stg17_1 | ⟨_ + 2, h⟩ => absurd h (Nat.not_lt.2 (Nat.le_add_left _ _))
abbrev sem0_17 : Fin 2 → DmaSem sig := fun | 0 => cc0_sem17_0 | 1 => cc0_sem17_1 | ⟨_ + 2, h⟩ => absurd h (Nat.not_lt.2 (Nat.le_add_left _ _))
abbrev reads0_17 : Fin grid0.rank → Bool := ![true]

abbrev stage0_18 : Fin 2 → Memref sig .tc .vmem S1x1x256 .f32 := fun | 0 => Memref.whole cc0_stg18_0 | 1 => Memref.whole cc0_stg18_1 | ⟨_ + 2, h⟩ => absurd h (Nat.not_lt.2 (Nat.le_add_left _ _))
abbrev sem0_18 : Fin 2 → DmaSem sig := fun | 0 => cc0_sem18_0 | 1 => cc0_sem18_1 | ⟨_ + 2, h⟩ => absurd h (Nat.not_lt.2 (Nat.le_add_left _ _))
abbrev reads0_18 : Fin grid0.rank → Bool := ![true]

abbrev stage0_19 : Fin 2 → Memref sig .tc .vmem S1x1x256 .f32 := fun | 0 => Memref.whole cc0_stg19_0 | 1 => Memref.whole cc0_stg19_1 | ⟨_ + 2, h⟩ => absurd h (Nat.not_lt.2 (Nat.le_add_left _ _))
abbrev sem0_19 : Fin 2 → DmaSem sig := fun | 0 => cc0_sem19_0 | 1 => cc0_sem19_1 | ⟨_ + 2, h⟩ => absurd h (Nat.not_lt.2 (Nat.le_add_left _ _))
abbrev reads0_19 : Fin grid0.rank → Bool := ![true]

abbrev stage0_20 : Fin 2 → Memref sig .tc .vmem S1x1x256 .f32 := fun | 0 => Memref.whole cc0_stg20_0 | 1 => Memref.whole cc0_stg20_1 | ⟨_ + 2, h⟩ => absurd h (Nat.not_lt.2 (Nat.le_add_left _ _))
abbrev sem0_20 : Fin 2 → DmaSem sig := fun | 0 => cc0_sem20_0 | 1 => cc0_sem20_1 | ⟨_ + 2, h⟩ => absurd h (Nat.not_lt.2 (Nat.le_add_left _ _))
abbrev reads0_20 : Fin grid0.rank → Bool := ![true]

abbrev stage0_21 : Fin 2 → Memref sig .tc .vmem S1x1x256 .f32 := fun | 0 => Memref.whole cc0_stg21_0 | 1 => Memref.whole cc0_stg21_1 | ⟨_ + 2, h⟩ => absurd h (Nat.not_lt.2 (Nat.le_add_left _ _))
abbrev sem0_21 : Fin 2 → DmaSem sig := fun | 0 => cc0_sem21_0 | 1 => cc0_sem21_1 | ⟨_ + 2, h⟩ => absurd h (Nat.not_lt.2 (Nat.le_add_left _ _))
abbrev reads0_21 : Fin grid0.rank → Bool := ![true]

abbrev stage0_22 : Fin 2 → Memref sig .tc .vmem S1x1x256 .f32 := fun | 0 => Memref.whole cc0_stg22_0 | 1 => Memref.whole cc0_stg22_1 | ⟨_ + 2, h⟩ => absurd h (Nat.not_lt.2 (Nat.le_add_left _ _))
abbrev sem0_22 : Fin 2 → DmaSem sig := fun | 0 => cc0_sem22_0 | 1 => cc0_sem22_1 | ⟨_ + 2, h⟩ => absurd h (Nat.not_lt.2 (Nat.le_add_left _ _))
abbrev reads0_22 : Fin grid0.rank → Bool := ![true]

abbrev stage0_23 : Fin 2 → Memref sig .tc .vmem S1x1x256 .f32 := fun | 0 => Memref.whole cc0_stg23_0 | 1 => Memref.whole cc0_stg23_1 | ⟨_ + 2, h⟩ => absurd h (Nat.not_lt.2 (Nat.le_add_left _ _))
abbrev sem0_23 : Fin 2 → DmaSem sig := fun | 0 => cc0_sem23_0 | 1 => cc0_sem23_1 | ⟨_ + 2, h⟩ => absurd h (Nat.not_lt.2 (Nat.le_add_left _ _))
abbrev reads0_23 : Fin grid0.rank → Bool := ![true]

abbrev stage0_24 : Fin 2 → Memref sig .tc .vmem S1x1x256 .f32 := fun | 0 => Memref.whole cc0_stg24_0 | 1 => Memref.whole cc0_stg24_1 | ⟨_ + 2, h⟩ => absurd h (Nat.not_lt.2 (Nat.le_add_left _ _))
abbrev sem0_24 : Fin 2 → DmaSem sig := fun | 0 => cc0_sem24_0 | 1 => cc0_sem24_1 | ⟨_ + 2, h⟩ => absurd h (Nat.not_lt.2 (Nat.le_add_left _ _))
abbrev reads0_24 : Fin grid0.rank → Bool := ![true]

abbrev stage0_25 : Fin 2 → Memref sig .tc .vmem S1x1x256 .f32 := fun | 0 => Memref.whole cc0_stg25_0 | 1 => Memref.whole cc0_stg25_1 | ⟨_ + 2, h⟩ => absurd h (Nat.not_lt.2 (Nat.le_add_left _ _))
abbrev sem0_25 : Fin 2 → DmaSem sig := fun | 0 => cc0_sem25_0 | 1 => cc0_sem25_1 | ⟨_ + 2, h⟩ => absurd h (Nat.not_lt.2 (Nat.le_add_left _ _))
abbrev reads0_25 : Fin grid0.rank → Bool := ![true]

abbrev stage0_26 : Fin 2 → Memref sig .tc .vmem S1x1x256 .f32 := fun | 0 => Memref.whole cc0_stg26_0 | 1 => Memref.whole cc0_stg26_1 | ⟨_ + 2, h⟩ => absurd h (Nat.not_lt.2 (Nat.le_add_left _ _))
abbrev sem0_26 : Fin 2 → DmaSem sig := fun | 0 => cc0_sem26_0 | 1 => cc0_sem26_1 | ⟨_ + 2, h⟩ => absurd h (Nat.not_lt.2 (Nat.le_add_left _ _))
abbrev reads0_26 : Fin grid0.rank → Bool := ![true]

abbrev stage0_27 : Fin 2 → Memref sig .tc .vmem S1x1x256 .f32 := fun | 0 => Memref.whole cc0_stg27_0 | 1 => Memref.whole cc0_stg27_1 | ⟨_ + 2, h⟩ => absurd h (Nat.not_lt.2 (Nat.le_add_left _ _))
abbrev sem0_27 : Fin 2 → DmaSem sig := fun | 0 => cc0_sem27_0 | 1 => cc0_sem27_1 | ⟨_ + 2, h⟩ => absurd h (Nat.not_lt.2 (Nat.le_add_left _ _))
abbrev reads0_27 : Fin grid0.rank → Bool := ![true]

abbrev stage0_28 : Fin 2 → Memref sig .tc .vmem S1x1x256 .f32 := fun | 0 => Memref.whole cc0_stg28_0 | 1 => Memref.whole cc0_stg28_1 | ⟨_ + 2, h⟩ => absurd h (Nat.not_lt.2 (Nat.le_add_left _ _))
abbrev sem0_28 : Fin 2 → DmaSem sig := fun | 0 => cc0_sem28_0 | 1 => cc0_sem28_1 | ⟨_ + 2, h⟩ => absurd h (Nat.not_lt.2 (Nat.le_add_left _ _))
abbrev reads0_28 : Fin grid0.rank → Bool := ![true]

abbrev stage0_29 : Fin 2 → Memref sig .tc .vmem S1x1x256 .f32 := fun | 0 => Memref.whole cc0_stg29_0 | 1 => Memref.whole cc0_stg29_1 | ⟨_ + 2, h⟩ => absurd h (Nat.not_lt.2 (Nat.le_add_left _ _))
abbrev sem0_29 : Fin 2 → DmaSem sig := fun | 0 => cc0_sem29_0 | 1 => cc0_sem29_1 | ⟨_ + 2, h⟩ => absurd h (Nat.not_lt.2 (Nat.le_add_left _ _))
abbrev reads0_29 : Fin grid0.rank → Bool := ![true]

abbrev stage0_30 : Fin 2 → Memref sig .tc .vmem S1x1x256 .f32 := fun | 0 => Memref.whole cc0_stg30_0 | 1 => Memref.whole cc0_stg30_1 | ⟨_ + 2, h⟩ => absurd h (Nat.not_lt.2 (Nat.le_add_left _ _))
abbrev sem0_30 : Fin 2 → DmaSem sig := fun | 0 => cc0_sem30_0 | 1 => cc0_sem30_1 | ⟨_ + 2, h⟩ => absurd h (Nat.not_lt.2 (Nat.le_add_left _ _))
abbrev reads0_30 : Fin grid0.rank → Bool := ![true]

abbrev stage0_31 : Fin 2 → Memref sig .tc .vmem S1x1x256 .f32 := fun | 0 => Memref.whole cc0_stg31_0 | 1 => Memref.whole cc0_stg31_1 | ⟨_ + 2, h⟩ => absurd h (Nat.not_lt.2 (Nat.le_add_left _ _))
abbrev sem0_31 : Fin 2 → DmaSem sig := fun | 0 => cc0_sem31_0 | 1 => cc0_sem31_1 | ⟨_ + 2, h⟩ => absurd h (Nat.not_lt.2 (Nat.le_add_left _ _))
abbrev reads0_31 : Fin grid0.rank → Bool := ![true]

abbrev stage0_32 : Fin 2 → Memref sig .tc .vmem S16x64 .f32 := fun | 0 => Memref.whole cc0_stg32_0 | 1 => Memref.whole cc0_stg32_1 | ⟨_ + 2, h⟩ => absurd h (Nat.not_lt.2 (Nat.le_add_left _ _))
abbrev sem0_32 : Fin 2 → DmaSem sig := fun | 0 => cc0_sem32_0 | 1 => cc0_sem32_1 | ⟨_ + 2, h⟩ => absurd h (Nat.not_lt.2 (Nat.le_add_left _ _))
abbrev reads0_32 : Fin grid0.rank → Bool := ![true]

abbrev stage0_33 : Fin 2 → Memref sig .tc .vmem S16x64 .f32 := fun | 0 => Memref.whole cc0_stg33_0 | 1 => Memref.whole cc0_stg33_1 | ⟨_ + 2, h⟩ => absurd h (Nat.not_lt.2 (Nat.le_add_left _ _))
abbrev sem0_33 : Fin 2 → DmaSem sig := fun | 0 => cc0_sem33_0 | 1 => cc0_sem33_1 | ⟨_ + 2, h⟩ => absurd h (Nat.not_lt.2 (Nat.le_add_left _ _))
abbrev reads0_33 : Fin grid0.rank → Bool := ![true]

abbrev stage0_34 : Fin 2 → Memref sig .tc .vmem S16x64 .f32 := fun | 0 => Memref.whole cc0_stg34_0 | 1 => Memref.whole cc0_stg34_1 | ⟨_ + 2, h⟩ => absurd h (Nat.not_lt.2 (Nat.le_add_left _ _))
abbrev sem0_34 : Fin 2 → DmaSem sig := fun | 0 => cc0_sem34_0 | 1 => cc0_sem34_1 | ⟨_ + 2, h⟩ => absurd h (Nat.not_lt.2 (Nat.le_add_left _ _))
abbrev reads0_34 : Fin grid0.rank → Bool := ![true]

abbrev stage0_35 : Fin 2 → Memref sig .tc .vmem S1x1x128 .i32 := fun | 0 => Memref.whole cc0_stg35_0 | 1 => Memref.whole cc0_stg35_1 | ⟨_ + 2, h⟩ => absurd h (Nat.not_lt.2 (Nat.le_add_left _ _))
abbrev sem0_35 : Fin 2 → DmaSem sig := fun | 0 => cc0_sem35_0 | 1 => cc0_sem35_1 | ⟨_ + 2, h⟩ => absurd h (Nat.not_lt.2 (Nat.le_add_left _ _))
abbrev reads0_35 : Fin grid0.rank → Bool := ![true]
-- ==== TwoReferenceIdeal.lean ====
abbrev S4096 : Shape := ⟨1, ![4096]⟩
abbrev S4096x64 : Shape := ⟨2, ![4096, 64]⟩
abbrev S1024x128 : Shape := ⟨2, ![1024, 128]⟩
abbrev S1024x64x64 : Shape := ⟨3, ![1024, 64, 64]⟩
abbrev S1024x64 : Shape := ⟨2, ![1024, 64]⟩
abbrev S_ : Shape := ⟨0, ![]⟩
abbrev S4096x1 : Shape := ⟨2, ![4096, 1]⟩
abbrev S1 : Shape := ⟨1, ![1]⟩
abbrev S1x1 : Shape := ⟨2, ![1, 1]⟩
abbrev S4096x64x64 : Shape := ⟨3, ![4096, 64, 64]⟩
abbrev S256x1x16 : Shape := ⟨3, ![256, 1, 16]⟩
abbrev S256x1x128 : Shape := ⟨3, ![256, 1, 128]⟩

abbrev nBuf : Space → Nat
  | .hbm => 68
  | .vmem => 0
  | .smem => 0
  | _ => 0

abbrev bufTy : (tb : Table) → Fin (tcTables nBuf tb) → BufTy
  | .hbm, ⟨0, _⟩ => ⟨S4096, .i32⟩
  | .hbm, ⟨1, _⟩ => ⟨S4096, .i32⟩
  | .hbm, ⟨2, _⟩ => ⟨S4096, .i32⟩
  | .hbm, ⟨3, _⟩ => ⟨S4096x64, .f32⟩
  | .hbm, ⟨4, _⟩ => ⟨S4096x64, .f32⟩
  | .hbm, ⟨5, _⟩ => ⟨S1024x128, .i32⟩
  | .hbm, ⟨6, _⟩ => ⟨S1024x64x64, .f32⟩
  | .hbm, ⟨7, _⟩ => ⟨S1024x64, .f32⟩
  | .hbm, ⟨8, _⟩ => ⟨S1024x64, .f32⟩
  | .hbm, ⟨9, _⟩ => ⟨S_, .i32⟩
  | .hbm, ⟨10, _⟩ => ⟨S4096, .i32⟩
  | .hbm, ⟨11, _⟩ => ⟨S4096, .i1⟩
  | .hbm, ⟨12, _⟩ => ⟨S_, .i32⟩
  | .hbm, ⟨13, _⟩ => ⟨S4096, .i32⟩
  | .hbm, ⟨14, _⟩ => ⟨S4096, .i1⟩
  | .hbm, ⟨15, _⟩ => ⟨S_, .i32⟩
  | .hbm, ⟨16, _⟩ => ⟨S4096, .i32⟩
  | .hbm, ⟨17, _⟩ => ⟨S4096, .i32⟩
  | .hbm, ⟨18, _⟩ => ⟨S4096, .i32⟩
  | .hbm, ⟨19, _⟩ => ⟨S4096x1, .i32⟩
  | .hbm, ⟨20, _⟩ => ⟨S1, .i32⟩
  | .hbm, ⟨21, _⟩ => ⟨S_, .i32⟩
  | .hbm, ⟨22, _⟩ => ⟨S4096x1, .i32⟩
  | .hbm, ⟨23, _⟩ => ⟨S4096x1, .i1⟩
  | .hbm, ⟨24, _⟩ => ⟨S1x1, .i32⟩
  | .hbm, ⟨25, _⟩ => ⟨S4096x1, .i32⟩
  | .hbm, ⟨26, _⟩ => ⟨S4096x1, .i1⟩
  | .hbm, ⟨27, _⟩ => ⟨S4096x1, .i1⟩
  | .hbm, ⟨28, _⟩ => ⟨S_, .i1⟩
  | .hbm, ⟨29, _⟩ => ⟨S4096, .i1⟩
  | .hbm, ⟨30, _⟩ => ⟨S4096x64x64, .f32⟩
  | .hbm, ⟨31, _⟩ => ⟨S4096x64x64, .i1⟩
  | .hbm, ⟨32, _⟩ => ⟨S_, .f32⟩
  | .hbm, ⟨33, _⟩ => ⟨S4096x64x64, .f32⟩
  | .hbm, ⟨34, _⟩ => ⟨S4096x64x64, .f32⟩
  | .hbm, ⟨35, _⟩ => ⟨S_, .i32⟩
  | .hbm, ⟨36, _⟩ => ⟨S4096, .i32⟩
  | .hbm, ⟨37, _⟩ => ⟨S4096, .i1⟩
  | .hbm, ⟨38, _⟩ => ⟨S_, .i32⟩
  | .hbm, ⟨39, _⟩ => ⟨S4096, .i32⟩
  | .hbm, ⟨40, _⟩ => ⟨S4096, .i32⟩
  | .hbm, ⟨41, _⟩ => ⟨S4096, .i32⟩
  | .hbm, ⟨42, _⟩ => ⟨S4096x1, .i32⟩
  | .hbm, ⟨43, _⟩ => ⟨S1, .i32⟩
  | .hbm, ⟨44, _⟩ => ⟨S_, .i32⟩
  | .hbm, ⟨45, _⟩ => ⟨S4096x1, .i32⟩
  | .hbm, ⟨46, _⟩ => ⟨S4096x1, .i1⟩
  | .hbm, ⟨47, _⟩ => ⟨S1x1, .i32⟩
  | .hbm, ⟨48, _⟩ => ⟨S4096x1, .i32⟩
  | .hbm, ⟨49, _⟩ => ⟨S4096x1, .i1⟩
  | .hbm, ⟨50, _⟩ => ⟨S4096x1, .i1⟩
  | .hbm, ⟨51, _⟩ => ⟨S_, .i1⟩
  | .hbm, ⟨52, _⟩ => ⟨S4096, .i1⟩
  | .hbm, ⟨53, _⟩ => ⟨S4096x64, .f32⟩
  | .hbm, ⟨54, _⟩ => ⟨S4096x64, .i1⟩
  | .hbm, ⟨55, _⟩ => ⟨S_, .f32⟩
  | .hbm, ⟨56, _⟩ => ⟨S4096x64, .f32⟩
  | .hbm, ⟨57, _⟩ => ⟨S4096x64, .f32⟩
  | .hbm, ⟨58, _⟩ => ⟨S4096x64, .f32⟩
  | .hbm, ⟨59, _⟩ => ⟨S4096x64, .f32⟩
  | .hbm, ⟨60, _⟩ => ⟨S4096, .i32⟩
  | .hbm, ⟨61, _⟩ => ⟨S4096x1, .i1⟩
  | .hbm, ⟨62, _⟩ => ⟨S4096x64, .i1⟩
  | .hbm, ⟨63, _⟩ => ⟨S4096x64, .f32⟩
  | .hbm, ⟨64, _⟩ => ⟨S256x1x16, .i32⟩
  | .hbm, ⟨65, _⟩ => ⟨S_, .i32⟩
  | .hbm, ⟨66, _⟩ => ⟨S_, .i32⟩
  | .hbm, ⟨67, _⟩ => ⟨S256x1x128, .i32⟩
  | _, _ => ⟨S4096, .i32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_c : Ref sig .tc := ⟨.hbm, 9, rfl⟩
abbrev main_v0 : Ref sig .tc := ⟨.hbm, 10, rfl⟩
abbrev main_v1 : Ref sig .tc := ⟨.hbm, 11, rfl⟩
abbrev main_call0_c : Ref sig .tc := ⟨.hbm, 12, rfl⟩
abbrev main_call0_v0 : Ref sig .tc := ⟨.hbm, 13, rfl⟩
abbrev main_call0_v1 : Ref sig .tc := ⟨.hbm, 14, rfl⟩
abbrev main_call0_c_0 : Ref sig .tc := ⟨.hbm, 15, rfl⟩
abbrev main_call0_v2 : Ref sig .tc := ⟨.hbm, 16, rfl⟩
abbrev main_call0_v3 : Ref sig .tc := ⟨.hbm, 17, rfl⟩
abbrev main_call0_v4 : Ref sig .tc := ⟨.hbm, 18, rfl⟩
abbrev main_call0_v5 : Ref sig .tc := ⟨.hbm, 19, rfl⟩
abbrev main_call0_c_1 : Ref sig .tc := ⟨.hbm, 20, rfl⟩
abbrev main_call0_c_2 : Ref sig .tc := ⟨.hbm, 21, rfl⟩
abbrev main_call0_v6 : Ref sig .tc := ⟨.hbm, 22, rfl⟩
abbrev main_call0_v7 : Ref sig .tc := ⟨.hbm, 23, rfl⟩
abbrev main_call0_v8 : Ref sig .tc := ⟨.hbm, 24, rfl⟩
abbrev main_call0_v9 : Ref sig .tc := ⟨.hbm, 25, rfl⟩
abbrev main_call0_v10 : Ref sig .tc := ⟨.hbm, 26, rfl⟩
abbrev main_call0_v11 : Ref sig .tc := ⟨.hbm, 27, rfl⟩
abbrev main_call0_c_3 : Ref sig .tc := ⟨.hbm, 28, rfl⟩
abbrev main_call0_v12 : Ref sig .tc := ⟨.hbm, 29, rfl⟩
abbrev main_call0_v13 : Ref sig .tc := ⟨.hbm, 30, rfl⟩
abbrev main_call0_v14 : Ref sig .tc := ⟨.hbm, 31, rfl⟩
abbrev main_call0_cst : Ref sig .tc := ⟨.hbm, 32, rfl⟩
abbrev main_call0_v15 : Ref sig .tc := ⟨.hbm, 33, rfl⟩
abbrev main_v2 : Ref sig .tc := ⟨.hbm, 34, rfl⟩
abbrev main_call1_c : Ref sig .tc := ⟨.hbm, 35, rfl⟩
abbrev main_call1_v0 : Ref sig .tc := ⟨.hbm, 36, rfl⟩
abbrev main_call1_v1 : Ref sig .tc := ⟨.hbm, 37, rfl⟩
abbrev main_call1_c_0 : Ref sig .tc := ⟨.hbm, 38, rfl⟩
abbrev main_call1_v2 : Ref sig .tc := ⟨.hbm, 39, rfl⟩
abbrev main_call1_v3 : Ref sig .tc := ⟨.hbm, 40, rfl⟩
abbrev main_call1_v4 : Ref sig .tc := ⟨.hbm, 41, rfl⟩
abbrev main_call1_v5 : Ref sig .tc := ⟨.hbm, 42, rfl⟩
abbrev main_call1_c_1 : Ref sig .tc := ⟨.hbm, 43, rfl⟩
abbrev main_call1_c_2 : Ref sig .tc := ⟨.hbm, 44, rfl⟩
abbrev main_call1_v6 : Ref sig .tc := ⟨.hbm, 45, rfl⟩
abbrev main_call1_v7 : Ref sig .tc := ⟨.hbm, 46, rfl⟩
abbrev main_call1_v8 : Ref sig .tc := ⟨.hbm, 47, rfl⟩
abbrev main_call1_v9 : Ref sig .tc := ⟨.hbm, 48, rfl⟩
abbrev main_call1_v10 : Ref sig .tc := ⟨.hbm, 49, rfl⟩
abbrev main_call1_v11 : Ref sig .tc := ⟨.hbm, 50, rfl⟩
abbrev main_call1_c_3 : Ref sig .tc := ⟨.hbm, 51, rfl⟩
abbrev main_call1_v12 : Ref sig .tc := ⟨.hbm, 52, rfl⟩
abbrev main_call1_v13 : Ref sig .tc := ⟨.hbm, 53, rfl⟩
abbrev main_call1_v14 : Ref sig .tc := ⟨.hbm, 54, rfl⟩
abbrev main_call1_cst : Ref sig .tc := ⟨.hbm, 55, rfl⟩
abbrev main_call1_v15 : Ref sig .tc := ⟨.hbm, 56, rfl⟩
abbrev main_v3 : Ref sig .tc := ⟨.hbm, 57, rfl⟩
abbrev main_v4 : Ref sig .tc := ⟨.hbm, 58, rfl⟩
abbrev main_v5 : Ref sig .tc := ⟨.hbm, 59, rfl⟩
abbrev main_v6 : Ref sig .tc := ⟨.hbm, 60, rfl⟩
abbrev main_v7 : Ref sig .tc := ⟨.hbm, 61, rfl⟩
abbrev main_call3_v0 : Ref sig .tc := ⟨.hbm, 62, rfl⟩
abbrev main_v8 : Ref sig .tc := ⟨.hbm, 63, rfl⟩
abbrev main_v9 : Ref sig .tc := ⟨.hbm, 64, rfl⟩
abbrev main_c_0 : Ref sig .tc := ⟨.hbm, 65, rfl⟩
abbrev main_call4_v0 : Ref sig .tc := ⟨.hbm, 66, rfl⟩
abbrev main_v10 : Ref sig .tc := ⟨.hbm, 67, rfl⟩

abbrev nD : Nat := 1
abbrev τ : Topo := Topo.v7x

variable {F : FTy → Type} [FloatOps F]
-- ==== Proof.ChartReferenceIdealRun.lean ====
/-
  The host program `ChartReferenceIdeal` as the list of its operations, and its run: every result buffer ends at the operations'
  composed value of the arguments, the arguments unchanged.
-/
module

public import proofs.«01_k».proof.Proof.Gen.ChartReferenceIdeal
public import Idealize.ShloMosaic.Lib.StableHlo.Run

@[expose] public section

noncomputable section

namespace Cert.ChartReferenceIdeal.Value

open Cert.ChartReferenceIdeal Cert.ChartReferenceIdeal.Gen Idealize.ShloMosaic Idealize.ShloMosaic.TcCoe Idealize.SL.Sem Idealize.ShloMosaic.StableHlo

variable {F : FTy → Type} [FloatOps F]

/-- @main's 24 operations, in order (a called function's operations stand in its call's place, spelt `TRef.…`). -/
abbrev opsOf (g1 : (⟨S4096x1024, .f32⟩ : BufTy).Contents (Elt F) → (⟨S4096x1024, .i32⟩ : BufTy).Contents (Elt F) → (⟨S_, .f32⟩ : BufTy).Contents (Elt F) → (⟨S_, .i32⟩ : BufTy).Contents (Elt F) → (⟨S4096, .f32⟩ : BufTy).Contents (Elt F)) (g2 : (⟨S4096x1024, .f32⟩ : BufTy).Contents (Elt F) → (⟨S4096x1024, .i32⟩ : BufTy).Contents (Elt F) → (⟨S_, .f32⟩ : BufTy).Contents (Elt F) → (⟨S_, .i32⟩ : BufTy).Contents (Elt F) → (⟨S4096, .i32⟩ : BufTy).Contents (Elt F)) : List (HloOp τ sig (Elt F)) :=
  [ unary main_arg0 main_v0 ((extractStridedSlice S4096x32 ![0, 0] · slices_S4096x64_S4096x32_0_0) : (⟨S4096x64, .f32⟩ : BufTy).Contents (Elt F) → (⟨S4096x32, .f32⟩ : BufTy).Contents (Elt F)),
    binary main_v0 main_v0 main_v1 (mulf : (⟨S4096x32, .f32⟩ : BufTy).Contents (Elt F) → (⟨S4096x32, .f32⟩ : BufTy).Contents (Elt F) → (⟨S4096x32, .f32⟩ : BufTy).Contents (Elt F)),
    nullary main_cst (constant S_ .f32 0x00000000#32),
    binary main_v1 main_cst main_v2 ((fun x v => Host.reduceAdd x v reducesTo_S4096x32_S4096_d1 h_S_) : (⟨S4096x32, .f32⟩ : BufTy).Contents (Elt F) → (⟨S_, .f32⟩ : BufTy).Contents (Elt F) → (⟨S4096, .f32⟩ : BufTy).Contents (Elt F)),
    unary main_v2 main_v3 (broadcastInDim S4096x1 ![0] bcast_S4096_S4096x1_0 : (⟨S4096, .f32⟩ : BufTy).Contents (Elt F) → (⟨S4096x1, .f32⟩ : BufTy).Contents (Elt F)),
    nullary main_cst_0 (constant S_ .f32 0x40000000#32),
    unary main_cst_0 main_v4 (broadcastInDim S4096x32 ![] bcast_S_S4096x32 : (⟨S_, .f32⟩ : BufTy).Contents (Elt F) → (⟨S4096x32, .f32⟩ : BufTy).Contents (Elt F)),
    binary main_v4 main_v0 main_v5 (mulf : (⟨S4096x32, .f32⟩ : BufTy).Contents (Elt F) → (⟨S4096x32, .f32⟩ : BufTy).Contents (Elt F) → (⟨S4096x32, .f32⟩ : BufTy).Contents (Elt F)),
    unary main_arg1 main_v6 ((transpose S32x1024 [1, 0] · transposes_S1024x32_S32x1024_1_0) : (⟨S1024x32, .f32⟩ : BufTy).Contents (Elt F) → (⟨S32x1024, .f32⟩ : BufTy).Contents (Elt F)),
    binary main_v5 main_v6 main_v7 ((fun l r => Host.dotGeneral dot_S4096x32_S32x1024_S4096x1024_1_0_0_1_n_n none l r) : (⟨S4096x32, .f32⟩ : BufTy).Contents (Elt F) → (⟨S32x1024, .f32⟩ : BufTy).Contents (Elt F) → (⟨S4096x1024, .f32⟩ : BufTy).Contents (Elt F)),
    unary main_v3 main_v8 (broadcastInDim S4096x1024 ![0, 1] bcast_S4096x1_S4096x1024_0_1 : (⟨S4096x1, .f32⟩ : BufTy).Contents (Elt F) → (⟨S4096x1024, .f32⟩ : BufTy).Contents (Elt F)),
    binary main_v8 main_v7 main_v9 (subf : (⟨S4096x1024, .f32⟩ : BufTy).Contents (Elt F) → (⟨S4096x1024, .f32⟩ : BufTy).Contents (Elt F) → (⟨S4096x1024, .f32⟩ : BufTy).Contents (Elt F)),
    binary main_arg1 main_arg1 main_v10 (mulf : (⟨S1024x32, .f32⟩ : BufTy).Contents (Elt F) → (⟨S1024x32, .f32⟩ : BufTy).Contents (Elt F) → (⟨S1024x32, .f32⟩ : BufTy).Contents (Elt F)),
    nullary main_cst_1 (constant S_ .f32 0x00000000#32),
    binary main_v10 main_cst_1 main_v11 ((fun x v => Host.reduceAdd x v reducesTo_S1024x32_S1024_d1 h_S_) : (⟨S1024x32, .f32⟩ : BufTy).Contents (Elt F) → (⟨S_, .f32⟩ : BufTy).Contents (Elt F) → (⟨S1024, .f32⟩ : BufTy).Contents (Elt F)),
    unary main_v11 main_v12 (broadcastInDim S1x1024 ![1] bcast_S1024_S1x1024_1 : (⟨S1024, .f32⟩ : BufTy).Contents (Elt F) → (⟨S1x1024, .f32⟩ : BufTy).Contents (Elt F)),
    unary main_v12 main_v13 (broadcastInDim S4096x1024 ![0, 1] bcast_S1x1024_S4096x1024_0_1 : (⟨S1x1024, .f32⟩ : BufTy).Contents (Elt F) → (⟨S4096x1024, .f32⟩ : BufTy).Contents (Elt F)),
    binary main_v9 main_v13 main_v14 (addf : (⟨S4096x1024, .f32⟩ : BufTy).Contents (Elt F) → (⟨S4096x1024, .f32⟩ : BufTy).Contents (Elt F) → (⟨S4096x1024, .f32⟩ : BufTy).Contents (Elt F)),
    TRef.nullary (TRef.of (T := ⟨S4096x1024, .i32⟩) main_call0_v0) (iotaInDim S4096x1024 32 1),
    TRef.nullary (TRef.of (T := ⟨S_, .f32⟩) main_call0_cst) (constant S_ .f32 0x7F800000#32),
    TRef.nullary (TRef.of (T := ⟨S_, .i32⟩) main_call0_c) (constantI S_ 32 0#32),
    TRef.quaternary (TRef.of (T := ⟨S4096x1024, .f32⟩) main_v14) (TRef.of (T := ⟨S4096x1024, .i32⟩) main_call0_v0) (TRef.of (T := ⟨S_, .f32⟩) main_call0_cst) (TRef.of (T := ⟨S_, .i32⟩) main_call0_c) (TRef.of (T := ⟨S4096, .f32⟩) main_call0_v1_0) g1,
    TRef.quaternary (TRef.of (T := ⟨S4096x1024, .f32⟩) main_v14) (TRef.of (T := ⟨S4096x1024, .i32⟩) main_call0_v0) (TRef.of (T := ⟨S_, .f32⟩) main_call0_cst) (TRef.of (T := ⟨S_, .i32⟩) main_call0_c) (TRef.of (T := ⟨S4096, .i32⟩) main_v15) g2,
    reshape main_v15 main_v16 (rfl : (.i32 : EltTy) = .i32) shapeCasts_S4096_S8x1x512 ]

/-- The host's choice of least entries, component 1. -/
abbrev pick1 : (⟨S4096x1024, .f32⟩ : BufTy).Contents (Elt F) → (⟨S4096x1024, .i32⟩ : BufTy).Contents (Elt F) → (⟨S_, .f32⟩ : BufTy).Contents (Elt F) → (⟨S_, .i32⟩ : BufTy).Contents (Elt F) → (⟨S4096, .f32⟩ : BufTy).Contents (Elt F) :=
  (fun x y u v => fun j => (Host.argReduce reducer_argmin_f32_i32 x y u v reducesTo_S4096x1024_S4096_d1 h_S_ j).1)

/-- The host's choice of least entries, component 2. -/
abbrev pick2 : (⟨S4096x1024, .f32⟩ : BufTy).Contents (Elt F) → (⟨S4096x1024, .i32⟩ : BufTy).Contents (Elt F) → (⟨S_, .f32⟩ : BufTy).Contents (Elt F) → (⟨S_, .i32⟩ : BufTy).Contents (Elt F) → (⟨S4096, .i32⟩ : BufTy).Contents (Elt F) :=
  (fun x y u v => fun j => (Host.argReduce reducer_argmin_f32_i32 x y u v reducesTo_S4096x1024_S4096_d1 h_S_ j).2)

/-- The program is its list of operations in order. -/
theorem main_eq (c : Dev nD) : main (F := F) c = seq (opsOf pick1 pick2) := rfl
/-- No buffer is scoped. -/
theorem scopedRefs_eq : (Finset.univ.filter fun b : Ref sig .tc => b.isScoped) = ∅ := by decide
/-- No semaphore is scoped. -/
theorem scopedSems_eq : (Finset.univ.filter fun sm : SemLoc sig => sm.isScoped .tc) = ∅ := by decide
/-- Every operation touches buffers of the program alone. -/
theorem ops_sub (g1 : (⟨S4096x1024, .f32⟩ : BufTy).Contents (Elt F) → (⟨S4096x1024, .i32⟩ : BufTy).Contents (Elt F) → (⟨S_, .f32⟩ : BufTy).Contents (Elt F) → (⟨S_, .i32⟩ : BufTy).Contents (Elt F) → (⟨S4096, .f32⟩ : BufTy).Contents (Elt F)) (g2 : (⟨S4096x1024, .f32⟩ : BufTy).Contents (Elt F) → (⟨S4096x1024, .i32⟩ : BufTy).Contents (Elt F) → (⟨S_, .f32⟩ : BufTy).Contents (Elt F) → (⟨S_, .i32⟩ : BufTy).Contents (Elt F) → (⟨S4096, .i32⟩ : BufTy).Contents (Elt F)) : (opsOf g1 g2 : List (HloOp τ sig (Elt F))).Forall fun op => op.bufs ⊆ tcRefs τ sig :=
  ⟨unary_bufs_sub .., binary_bufs_sub .., nullary_bufs_sub .., binary_bufs_sub .., unary_bufs_sub .., nullary_bufs_sub .., unary_bufs_sub .., binary_bufs_sub .., unary_bufs_sub .., binary_bufs_sub .., unary_bufs_sub .., binary_bufs_sub .., binary_bufs_sub .., nullary_bufs_sub .., binary_bufs_sub .., unary_bufs_sub .., unary_bufs_sub .., binary_bufs_sub .., nullary_bufs_sub .., nullary_bufs_sub .., nullary_bufs_sub .., quaternary_bufs_sub .., quaternary_bufs_sub .., reshape_bufs_sub ..⟩

set_option maxHeartbeats 2000000 in
/-- On every device, for any float values, from any memory with zero counters: every weakly fair execution of
    @main terminates with each result at the operations' composed term of the arguments and the arguments
    unchanged. -/
theorem runOf (g1 : (⟨S4096x1024, .f32⟩ : BufTy).Contents (Elt F) → (⟨S4096x1024, .i32⟩ : BufTy).Contents (Elt F) → (⟨S_, .f32⟩ : BufTy).Contents (Elt F) → (⟨S_, .i32⟩ : BufTy).Contents (Elt F) → (⟨S4096, .f32⟩ : BufTy).Contents (Elt F)) (g2 : (⟨S4096x1024, .f32⟩ : BufTy).Contents (Elt F) → (⟨S4096x1024, .i32⟩ : BufTy).Contents (Elt F) → (⟨S_, .f32⟩ : BufTy).Contents (Elt F) → (⟨S_, .i32⟩ : BufTy).Contents (Elt F) → (⟨S4096, .i32⟩ : BufTy).Contents (Elt F)) (mn : Dev nD → _) (hm : ∀ c, mn c = seq (opsOf g1 g2)) (m : (ℓ : Loc nD τ sig) → Buf (Elt F) ℓ) (ρ : Dev nD → PrngReg) :
    θ_run defs (onTc (τ := τ) mn) ⟨m, fun _ => 0, ρ⟩ fun r => ∀ c : Dev nD,
      r.2.mem ((c.tc : Thread nD τ).loc main_v16) = shapeCast _ (g2 (addf (subf (broadcastInDim S4096x1024 ![0, 1] bcast_S4096x1_S4096x1024_0_1 (broadcastInDim S4096x1 ![0] bcast_S4096_S4096x1_0 (Host.reduceAdd (mulf (extractStridedSlice S4096x32 ![0, 0] (m ((c.tc : Thread nD τ).loc main_arg0)) slices_S4096x64_S4096x32_0_0) (extractStridedSlice S4096x32 ![0, 0] (m ((c.tc : Thread nD τ).loc main_arg0)) slices_S4096x64_S4096x32_0_0)) (constant S_ .f32 0x00000000#32) reducesTo_S4096x32_S4096_d1 h_S_))) (Host.dotGeneral dot_S4096x32_S32x1024_S4096x1024_1_0_0_1_n_n none (mulf (broadcastInDim S4096x32 ![] bcast_S_S4096x32 (constant S_ .f32 0x40000000#32)) (extractStridedSlice S4096x32 ![0, 0] (m ((c.tc : Thread nD τ).loc main_arg0)) slices_S4096x64_S4096x32_0_0)) (transpose S32x1024 [1, 0] (m ((c.tc : Thread nD τ).loc main_arg1)) transposes_S1024x32_S32x1024_1_0))) (broadcastInDim S4096x1024 ![0, 1] bcast_S1x1024_S4096x1024_0_1 (broadcastInDim S1x1024 ![1] bcast_S1024_S1x1024_1 (Host.reduceAdd (mulf (m ((c.tc : Thread nD τ).loc main_arg1)) (m ((c.tc : Thread nD τ).loc main_arg1))) (constant S_ .f32 0x00000000#32) reducesTo_S1024x32_S1024_d1 h_S_)))) (iotaInDim S4096x1024 32 1) (constant S_ .f32 0x7F800000#32) (constantI S_ 32 0#32)) shapeCasts_S4096_S8x1x512
      ∧ r.2.mem ((c.tc : Thread nD τ).loc main_arg0) = m ((c.tc : Thread nD τ).loc main_arg0)
      ∧ r.2.mem ((c.tc : Thread nD τ).loc main_arg1) = m ((c.tc : Thread nD τ).loc main_arg1) :=
  (θ_run defs _ _).mono (fun _ h c => ⟨(h c main_v16).trans (by simp only [opsOf, TRef.nullary, TRef.quaternary, TRef.toBuf, TRef.ofBuf, cast_eq]; after_results <;> rfl),
      (h c main_arg0).trans (by simp only [opsOf, TRef.nullary, TRef.quaternary, TRef.toBuf, TRef.ofBuf, cast_eq]; after_results <;> rfl),
      (h c main_arg1).trans (by simp only [opsOf, TRef.nullary, TRef.quaternary, TRef.toBuf, TRef.ofBuf, cast_eq]; after_results <;> rfl)⟩)
    (run_seq scopedRefs_eq scopedSems_eq defs mn (fun _ => opsOf g1 g2) hm (fun _ => ops_sub g1 g2) m ρ)

/-- `runOf` of the program itself. -/
theorem run (m : (ℓ : Loc nD τ sig) → Buf (Elt F) ℓ) (ρ : Dev nD → PrngReg) :
    θ_run defs (onTc (τ := τ) (main (F := F))) ⟨m, fun _ => 0, ρ⟩ fun r => ∀ c : Dev nD,
      r.2.mem ((c.tc : Thread nD τ).loc main_v16) = shapeCast _ (pick2 (addf (subf (broadcastInDim S4096x1024 ![0, 1] bcast_S4096x1_S4096x1024_0_1 (broadcastInDim S4096x1 ![0] bcast_S4096_S4096x1_0 (Host.reduceAdd (mulf (extractStridedSlice S4096x32 ![0, 0] (m ((c.tc : Thread nD τ).loc main_arg0)) slices_S4096x64_S4096x32_0_0) (extractStridedSlice S4096x32 ![0, 0] (m ((c.tc : Thread nD τ).loc main_arg0)) slices_S4096x64_S4096x32_0_0)) (constant S_ .f32 0x00000000#32) reducesTo_S4096x32_S4096_d1 h_S_))) (Host.dotGeneral dot_S4096x32_S32x1024_S4096x1024_1_0_0_1_n_n none (mulf (broadcastInDim S4096x32 ![] bcast_S_S4096x32 (constant S_ .f32 0x40000000#32)) (extractStridedSlice S4096x32 ![0, 0] (m ((c.tc : Thread nD τ).loc main_arg0)) slices_S4096x64_S4096x32_0_0)) (transpose S32x1024 [1, 0] (m ((c.tc : Thread nD τ).loc main_arg1)) transposes_S1024x32_S32x1024_1_0))) (broadcastInDim S4096x1024 ![0, 1] bcast_S1x1024_S4096x1024_0_1 (broadcastInDim S1x1024 ![1] bcast_S1024_S1x1024_1 (Host.reduceAdd (mulf (m ((c.tc : Thread nD τ).loc main_arg1)) (m ((c.tc : Thread nD τ).loc main_arg1))) (constant S_ .f32 0x00000000#32) reducesTo_S1024x32_S1024_d1 h_S_)))) (iotaInDim S4096x1024 32 1) (constant S_ .f32 0x7F800000#32) (constantI S_ 32 0#32)) shapeCasts_S4096_S8x1x512
      ∧ r.2.mem ((c.tc : Thread nD τ).loc main_arg0) = m ((c.tc : Thread nD τ).loc main_arg0)
      ∧ r.2.mem ((c.tc : Thread nD τ).loc main_arg1) = m ((c.tc : Thread nD τ).loc main_arg1) :=
  runOf pick1 pick2 _ main_eq m ρ

end Cert.ChartReferenceIdeal.Value

end
-- ==== Proof.ChartReferenceIdealRead.lean ====
/-
  The host program `ChartReferenceIdeal` one operation at a time: `val_b` is the value written to buffer `b` as a function of the
  arguments it depends on, `val_b_apply` that value at an index from its operands' values at an index.
-/
module

public import proofs.«01_k».proof.Proof.ChartReferenceIdealRun
public import Idealize.ShloMosaic.Lib.Pipeline.Value
public import Idealize.ShloMosaic.Lib.ValueIdx
public import Idealize.ShloMosaic.PureOps.Ideal.Laws

@[expose] public section

noncomputable section

namespace Cert.ChartReferenceIdeal.Read

open Cert.ChartReferenceIdeal Cert.ChartReferenceIdeal.Gen Idealize.ShloMosaic Idealize.ShloMosaic.TcCoe Idealize.SL.Sem Idealize.ShloMosaic.StableHlo

variable {F : FTy → Type} [FloatOps F]

def val_main_v0 (x0 : (⟨S4096x64, .f32⟩ : BufTy).Contents (Elt F)) : (⟨S4096x32, .f32⟩ : BufTy).Contents (Elt F) :=
  extractStridedSlice S4096x32 ![0, 0] (x0) slices_S4096x64_S4096x32_0_0
abbrev idx_main_v0 (i : S4096x32.Idx) : S4096x64.Idx := fun a => match a with
  | ⟨0, _⟩ => ⟨(i 0).val, (i 0).isLt⟩
  | ⟨1, _⟩ => ⟨(i 1).val, by have h1 : (i 1).val < 32 := (i 1).isLt; show (i 1).val < 64; omega⟩
/-- The stage `v0` of the reference, read at an index. -/
theorem val_main_v0_apply (x0 : (⟨S4096x64, .f32⟩ : BufTy).Contents (Elt F)) (i : S4096x32.Idx) :
    val_main_v0 (F := F) x0 i = x0 (idx_main_v0 i) := by
  unfold val_main_v0
  exact extractStridedSlice_apply ![0, 0] x0 slices_S4096x64_S4096x32_0_0 i (idx_main_v0 i) (fun a => match a with
    | ⟨0, _⟩ => by show (i 0).val = 0 + (i 0).val; omega
    | ⟨1, _⟩ => by show (i 1).val = 0 + (i 1).val; omega)

def val_main_v1 (x0 : (⟨S4096x64, .f32⟩ : BufTy).Contents (Elt F)) : (⟨S4096x32, .f32⟩ : BufTy).Contents (Elt F) :=
  mulf (val_main_v0 (F := F) x0) (val_main_v0 (F := F) x0)
/-- The stage `v1` of the reference, read at an index. -/
theorem val_main_v1_apply (x0 : (⟨S4096x64, .f32⟩ : BufTy).Contents (Elt F)) (i : S4096x32.Idx) :
    val_main_v1 (F := F) x0 i = FloatOps.mulf (val_main_v0 (F := F) x0 i) (val_main_v0 (F := F) x0 i) := rfl

def val_main_cst : (⟨S_, .f32⟩ : BufTy).Contents (Elt F) :=
  constant S_ .f32 0x00000000#32
/-- The stage `cst` of the reference, read at an index. -/
theorem val_main_cst_apply (i : S_.Idx) :
    val_main_cst (F := F) i = FloatOps.ofBits .f32 0x00000000#32 := rfl

def val_main_v2 (x0 : (⟨S4096x64, .f32⟩ : BufTy).Contents (Elt F)) : (⟨S4096, .f32⟩ : BufTy).Contents (Elt F) :=
  Host.reduceAdd (val_main_v1 (F := F) x0) (val_main_cst (F := F)) reducesTo_S4096x32_S4096_d1 h_S_
abbrev idx_main_v2 (i : S4096.Idx) (k : Fin 32) : S4096x32.Idx := fun a => match a with
  | ⟨0, _⟩ => ⟨(i 0).val, (i 0).isLt⟩
  | ⟨1, _⟩ => ⟨k.val, k.isLt⟩
/-- Stated at `F := Ideal`, where the host's float sum is this sum; at a bit-exact instance it is an opaque function of its operand. -/
theorem val_main_v2_apply (x0 : (⟨S4096x64, .f32⟩ : BufTy).Contents (Elt Ideal)) (i : S4096.Idx) :
    val_main_v2 (F := Ideal) x0 i = (val_main_cst (F := Ideal)) (Shape.Idx.first h_S_) + ∑ k : Fin 32, (val_main_v1 (F := Ideal) x0) (idx_main_v2 i k) := by
  unfold val_main_v2
  generalize val_main_v1 (F := Ideal) x0 = y0
  simp only [Host.reduceAdd, Ideal.hostReduceAdd_def]
  rw [Ideal.hostReduceAdd_single reducesTo_S4096x32_S4096_d1 (by decide)]
  refine congrArg (_ + ·) (Finset.sum_congr rfl fun k _ => ?_)
  exact congrArg y0 (funext fun a => Fin.ext (by match a with | ⟨0, _⟩ => rfl | ⟨1, _⟩ => rfl))

def val_main_v3 (x0 : (⟨S4096x64, .f32⟩ : BufTy).Contents (Elt F)) : (⟨S4096x1, .f32⟩ : BufTy).Contents (Elt F) :=
  broadcastInDim S4096x1 ![0] bcast_S4096_S4096x1_0 (val_main_v2 (F := F) x0)
abbrev idx_main_v3 (i : S4096x1.Idx) : S4096.Idx := fun a => match a with
  | ⟨0, _⟩ => ⟨(i 0).val, (i 0).isLt⟩
/-- The stage `v3` of the reference, read at an index. -/
theorem val_main_v3_apply (x0 : (⟨S4096x64, .f32⟩ : BufTy).Contents (Elt F)) (i : S4096x1.Idx) :
    val_main_v3 (F := F) x0 i = val_main_v2 (F := F) x0 (idx_main_v3 i) := by
  unfold val_main_v3
  generalize val_main_v2 (F := F) x0 = y
  exact broadcastInDim_apply _ bcast_S4096_S4096x1_0 y i (idx_main_v3 i) (fun a => match a with
    | ⟨0, _⟩ => by show (i 0).val = if (4096 : Nat) = 1 then 0 else (i 0).val; rw [if_neg (by decide)])

def val_main_cst_0 : (⟨S_, .f32⟩ : BufTy).Contents (Elt F) :=
  constant S_ .f32 0x40000000#32
/-- The stage `cst_0` of the reference, read at an index. -/
theorem val_main_cst_0_apply (i : S_.Idx) :
    val_main_cst_0 (F := F) i = FloatOps.ofBits .f32 0x40000000#32 := rfl

def val_main_v4 : (⟨S4096x32, .f32⟩ : BufTy).Contents (Elt F) :=
  broadcastInDim S4096x32 ![] bcast_S_S4096x32 (val_main_cst_0 (F := F))
abbrev idx_main_v4 (i : S4096x32.Idx) : S_.Idx := fun a => a.elim0
/-- The stage `v4` of the reference, read at an index. -/
theorem val_main_v4_apply (i : S4096x32.Idx) :
    val_main_v4 (F := F) i = val_main_cst_0 (F := F) (idx_main_v4 i) := by
  unfold val_main_v4
  generalize val_main_cst_0 (F := F) = y
  exact broadcastInDim_apply _ bcast_S_S4096x32 y i (idx_main_v4 i) (fun a => a.elim0)

def val_main_v5 (x0 : (⟨S4096x64, .f32⟩ : BufTy).Contents (Elt F)) : (⟨S4096x32, .f32⟩ : BufTy).Contents (Elt F) :=
  mulf (val_main_v4 (F := F)) (val_main_v0 (F := F) x0)
/-- The stage `v5` of the reference, read at an index. -/
theorem val_main_v5_apply (x0 : (⟨S4096x64, .f32⟩ : BufTy).Contents (Elt F)) (i : S4096x32.Idx) :
    val_main_v5 (F := F) x0 i = FloatOps.mulf (val_main_v4 (F := F) i) (val_main_v0 (F := F) x0 i) := rfl

def val_main_v6 (x1 : (⟨S1024x32, .f32⟩ : BufTy).Contents (Elt F)) : (⟨S32x1024, .f32⟩ : BufTy).Contents (Elt F) :=
  transpose S32x1024 [1, 0] (x1) transposes_S1024x32_S32x1024_1_0
abbrev idx_main_v6 (i : S32x1024.Idx) : S1024x32.Idx := fun a => match a with
  | ⟨0, _⟩ => ⟨(i 1).val, (i 1).isLt⟩
  | ⟨1, _⟩ => ⟨(i 0).val, (i 0).isLt⟩
/-- The stage `v6` of the reference, read at an index. -/
theorem val_main_v6_apply (x1 : (⟨S1024x32, .f32⟩ : BufTy).Contents (Elt F)) (i : S32x1024.Idx) :
    val_main_v6 (F := F) x1 i = x1 (idx_main_v6 i) := by
  unfold val_main_v6
  exact transpose_apply [1, 0] x1 transposes_S1024x32_S32x1024_1_0 i (idx_main_v6 i) (fun b => match b with
    | ⟨0, _⟩ => rfl
    | ⟨1, _⟩ => rfl)

def val_main_v7 (x0 : (⟨S4096x64, .f32⟩ : BufTy).Contents (Elt F)) (x1 : (⟨S1024x32, .f32⟩ : BufTy).Contents (Elt F)) : (⟨S4096x1024, .f32⟩ : BufTy).Contents (Elt F) :=
  Host.dotGeneral dot_S4096x32_S32x1024_S4096x1024_1_0_0_1_n_n none (val_main_v5 (F := F) x0) (val_main_v6 (F := F) x1)
/-- Coordinate 0 of the index the product `v7` reads on its left. -/
theorem lhs_main_v7_0 (i : S4096x1024.Idx) (q : dot_S4096x32_S32x1024_S4096x1024_1_0_0_1_n_n.contr.Idx) :
    (dot_S4096x32_S32x1024_S4096x1024_1_0_0_1_n_n.lhsIdx i q 0).val = (i 0).val := by
  unfold DotDims.lhsIdx
  rw [dif_neg (show ¬(0 : Fin S4096x32.rank) ∈ dot_S4096x32_S32x1024_S4096x1024_1_0_0_1_n_n.lhsBatch by decide), dif_pos (show (0 : Fin S4096x32.rank) ∈ dot_S4096x32_S32x1024_S4096x1024_1_0_0_1_n_n.lhsNonContracting by decide)]
  rfl
/-- Coordinate 1 of the index the product `v7` reads on its left. -/
theorem lhs_main_v7_1 (i : S4096x1024.Idx) (q : dot_S4096x32_S32x1024_S4096x1024_1_0_0_1_n_n.contr.Idx) :
    (dot_S4096x32_S32x1024_S4096x1024_1_0_0_1_n_n.lhsIdx i q 1).val = (q ⟨0, by decide⟩).val :=
  dot_S4096x32_S32x1024_S4096x1024_1_0_0_1_n_n.lhsIdx_val_of_single rfl i q
/-- Coordinate 0 of the index the product `v7` reads on its right. -/
theorem rhs_main_v7_0 (i : S4096x1024.Idx) (q : dot_S4096x32_S32x1024_S4096x1024_1_0_0_1_n_n.contr.Idx) :
    (dot_S4096x32_S32x1024_S4096x1024_1_0_0_1_n_n.rhsIdx i q 0).val = (q ⟨0, by decide⟩).val :=
  dot_S4096x32_S32x1024_S4096x1024_1_0_0_1_n_n.rhsIdx_val_of_single rfl i q
/-- Coordinate 1 of the index the product `v7` reads on its right. -/
theorem rhs_main_v7_1 (i : S4096x1024.Idx) (q : dot_S4096x32_S32x1024_S4096x1024_1_0_0_1_n_n.contr.Idx) :
    (dot_S4096x32_S32x1024_S4096x1024_1_0_0_1_n_n.rhsIdx i q 1).val = (i 1).val := by
  unfold DotDims.rhsIdx
  rw [dif_neg (show ¬(1 : Fin S32x1024.rank) ∈ dot_S4096x32_S32x1024_S4096x1024_1_0_0_1_n_n.rhsBatch by decide), dif_pos (show (1 : Fin S32x1024.rank) ∈ dot_S4096x32_S32x1024_S4096x1024_1_0_0_1_n_n.rhsNonContracting by decide)]
  rfl
abbrev lidx_main_v7 (i : S4096x1024.Idx) (k : Fin 32) : S4096x32.Idx := fun a => match a with
  | ⟨0, _⟩ => ⟨(i 0).val, (i 0).isLt⟩
  | ⟨1, _⟩ => ⟨k.val, k.isLt⟩
abbrev ridx_main_v7 (i : S4096x1024.Idx) (k : Fin 32) : S32x1024.Idx := fun a => match a with
  | ⟨0, _⟩ => ⟨k.val, k.isLt⟩
  | ⟨1, _⟩ => ⟨(i 1).val, (i 1).isLt⟩
/-- Stated at `F := Ideal`, where the host's `dot_general` is this sum; at a bit-exact instance it is an opaque function of its operands. -/
theorem val_main_v7_apply (x0 : (⟨S4096x64, .f32⟩ : BufTy).Contents (Elt Ideal)) (x1 : (⟨S1024x32, .f32⟩ : BufTy).Contents (Elt Ideal)) (i : S4096x1024.Idx) :
    val_main_v7 (F := Ideal) x0 x1 i = ∑ k : Fin 32, (val_main_v5 (F := Ideal) x0) (lidx_main_v7 i k) * (val_main_v6 (F := Ideal) x1) (ridx_main_v7 i k) := by
  unfold val_main_v7
  generalize val_main_v5 (F := Ideal) x0 = y0
  generalize val_main_v6 (F := Ideal) x1 = y1
  simp only [Host.dotGeneral]
  rw [Ideal.dotGeneral_apply, ← Equiv.sum_comp (ValueIdx.contrEquiv1 dot_S4096x32_S32x1024_S4096x1024_1_0_0_1_n_n 32 rfl rfl).symm]
  refine Finset.sum_congr rfl fun k _ => ?_
  have hk := ValueIdx.contrEquiv1_symm_val dot_S4096x32_S32x1024_S4096x1024_1_0_0_1_n_n 32 rfl rfl k
  have el : dot_S4096x32_S32x1024_S4096x1024_1_0_0_1_n_n.lhsIdx i ((ValueIdx.contrEquiv1 dot_S4096x32_S32x1024_S4096x1024_1_0_0_1_n_n 32 rfl rfl).symm k) = lidx_main_v7 i k := funext fun a => Fin.ext (by
    match a with
    | ⟨0, _⟩ => exact lhs_main_v7_0 _ _
    | ⟨1, _⟩ => exact (lhs_main_v7_1 _ _).trans hk)
  have er : dot_S4096x32_S32x1024_S4096x1024_1_0_0_1_n_n.rhsIdx i ((ValueIdx.contrEquiv1 dot_S4096x32_S32x1024_S4096x1024_1_0_0_1_n_n 32 rfl rfl).symm k) = ridx_main_v7 i k := funext fun a => Fin.ext (by
    match a with
    | ⟨0, _⟩ => exact (rhs_main_v7_0 _ _).trans hk
    | ⟨1, _⟩ => exact rhs_main_v7_1 _ _)
  rw [el, er]

def val_main_v8 (x0 : (⟨S4096x64, .f32⟩ : BufTy).Contents (Elt F)) : (⟨S4096x1024, .f32⟩ : BufTy).Contents (Elt F) :=
  broadcastInDim S4096x1024 ![0, 1] bcast_S4096x1_S4096x1024_0_1 (val_main_v3 (F := F) x0)
abbrev idx_main_v8 (i : S4096x1024.Idx) : S4096x1.Idx := fun a => match a with
  | ⟨0, _⟩ => ⟨(i 0).val, (i 0).isLt⟩
  | ⟨1, _⟩ => ⟨0, Nat.one_pos⟩
/-- The stage `v8` of the reference, read at an index. -/
theorem val_main_v8_apply (x0 : (⟨S4096x64, .f32⟩ : BufTy).Contents (Elt F)) (i : S4096x1024.Idx) :
    val_main_v8 (F := F) x0 i = val_main_v3 (F := F) x0 (idx_main_v8 i) := by
  unfold val_main_v8
  generalize val_main_v3 (F := F) x0 = y
  exact broadcastInDim_apply _ bcast_S4096x1_S4096x1024_0_1 y i (idx_main_v8 i) (fun a => match a with
    | ⟨0, _⟩ => by show (i 0).val = if (4096 : Nat) = 1 then 0 else (i 0).val; rw [if_neg (by decide)]
    | ⟨1, _⟩ => by show 0 = if (1 : Nat) = 1 then 0 else (i 1).val; rw [if_pos rfl])

def val_main_v9 (x0 : (⟨S4096x64, .f32⟩ : BufTy).Contents (Elt F)) (x1 : (⟨S1024x32, .f32⟩ : BufTy).Contents (Elt F)) : (⟨S4096x1024, .f32⟩ : BufTy).Contents (Elt F) :=
  subf (val_main_v8 (F := F) x0) (val_main_v7 (F := F) x0 x1)
/-- The stage `v9` of the reference, read at an index. -/
theorem val_main_v9_apply (x0 : (⟨S4096x64, .f32⟩ : BufTy).Contents (Elt F)) (x1 : (⟨S1024x32, .f32⟩ : BufTy).Contents (Elt F)) (i : S4096x1024.Idx) :
    val_main_v9 (F := F) x0 x1 i = FloatOps.subf (val_main_v8 (F := F) x0 i) (val_main_v7 (F := F) x0 x1 i) := rfl

def val_main_v10 (x1 : (⟨S1024x32, .f32⟩ : BufTy).Contents (Elt F)) : (⟨S1024x32, .f32⟩ : BufTy).Contents (Elt F) :=
  mulf (x1) (x1)
/-- The stage `v10` of the reference, read at an index. -/
theorem val_main_v10_apply (x1 : (⟨S1024x32, .f32⟩ : BufTy).Contents (Elt F)) (i : S1024x32.Idx) :
    val_main_v10 (F := F) x1 i = FloatOps.mulf (x1 i) (x1 i) := rfl

def val_main_cst_1 : (⟨S_, .f32⟩ : BufTy).Contents (Elt F) :=
  constant S_ .f32 0x00000000#32
/-- The stage `cst_1` of the reference, read at an index. -/
theorem val_main_cst_1_apply (i : S_.Idx) :
    val_main_cst_1 (F := F) i = FloatOps.ofBits .f32 0x00000000#32 := rfl

def val_main_v11 (x1 : (⟨S1024x32, .f32⟩ : BufTy).Contents (Elt F)) : (⟨S1024, .f32⟩ : BufTy).Contents (Elt F) :=
  Host.reduceAdd (val_main_v10 (F := F) x1) (val_main_cst_1 (F := F)) reducesTo_S1024x32_S1024_d1 h_S_
abbrev idx_main_v11 (i : S1024.Idx) (k : Fin 32) : S1024x32.Idx := fun a => match a with
  | ⟨0, _⟩ => ⟨(i 0).val, (i 0).isLt⟩
  | ⟨1, _⟩ => ⟨k.val, k.isLt⟩
/-- Stated at `F := Ideal`, where the host's float sum is this sum; at a bit-exact instance it is an opaque function of its operand. -/
theorem val_main_v11_apply (x1 : (⟨S1024x32, .f32⟩ : BufTy).Contents (Elt Ideal)) (i : S1024.Idx) :
    val_main_v11 (F := Ideal) x1 i = (val_main_cst_1 (F := Ideal)) (Shape.Idx.first h_S_) + ∑ k : Fin 32, (val_main_v10 (F := Ideal) x1) (idx_main_v11 i k) := by
  unfold val_main_v11
  generalize val_main_v10 (F := Ideal) x1 = y0
  simp only [Host.reduceAdd, Ideal.hostReduceAdd_def]
  rw [Ideal.hostReduceAdd_single reducesTo_S1024x32_S1024_d1 (by decide)]
  refine congrArg (_ + ·) (Finset.sum_congr rfl fun k _ => ?_)
  exact congrArg y0 (funext fun a => Fin.ext (by match a with | ⟨0, _⟩ => rfl | ⟨1, _⟩ => rfl))

def val_main_v12 (x1 : (⟨S1024x32, .f32⟩ : BufTy).Contents (Elt F)) : (⟨S1x1024, .f32⟩ : BufTy).Contents (Elt F) :=
  broadcastInDim S1x1024 ![1] bcast_S1024_S1x1024_1 (val_main_v11 (F := F) x1)
abbrev idx_main_v12 (i : S1x1024.Idx) : S1024.Idx := fun a => match a with
  | ⟨0, _⟩ => ⟨(i 1).val, (i 1).isLt⟩
/-- The stage `v12` of the reference, read at an index. -/
theorem val_main_v12_apply (x1 : (⟨S1024x32, .f32⟩ : BufTy).Contents (Elt F)) (i : S1x1024.Idx) :
    val_main_v12 (F := F) x1 i = val_main_v11 (F := F) x1 (idx_main_v12 i) := by
  unfold val_main_v12
  generalize val_main_v11 (F := F) x1 = y
  exact broadcastInDim_apply _ bcast_S1024_S1x1024_1 y i (idx_main_v12 i) (fun a => match a with
    | ⟨0, _⟩ => by show (i 1).val = if (1024 : Nat) = 1 then 0 else (i 1).val; rw [if_neg (by decide)])

def val_main_v13 (x1 : (⟨S1024x32, .f32⟩ : BufTy).Contents (Elt F)) : (⟨S4096x1024, .f32⟩ : BufTy).Contents (Elt F) :=
  broadcastInDim S4096x1024 ![0, 1] bcast_S1x1024_S4096x1024_0_1 (val_main_v12 (F := F) x1)
abbrev idx_main_v13 (i : S4096x1024.Idx) : S1x1024.Idx := fun a => match a with
  | ⟨0, _⟩ => ⟨0, Nat.one_pos⟩
  | ⟨1, _⟩ => ⟨(i 1).val, (i 1).isLt⟩
/-- The stage `v13` of the reference, read at an index. -/
theorem val_main_v13_apply (x1 : (⟨S1024x32, .f32⟩ : BufTy).Contents (Elt F)) (i : S4096x1024.Idx) :
    val_main_v13 (F := F) x1 i = val_main_v12 (F := F) x1 (idx_main_v13 i) := by
  unfold val_main_v13
  generalize val_main_v12 (F := F) x1 = y
  exact broadcastInDim_apply _ bcast_S1x1024_S4096x1024_0_1 y i (idx_main_v13 i) (fun a => match a with
    | ⟨0, _⟩ => by show 0 = if (1 : Nat) = 1 then 0 else (i 0).val; rw [if_pos rfl]
    | ⟨1, _⟩ => by show (i 1).val = if (1024 : Nat) = 1 then 0 else (i 1).val; rw [if_neg (by decide)])

def val_main_v14 (x0 : (⟨S4096x64, .f32⟩ : BufTy).Contents (Elt F)) (x1 : (⟨S1024x32, .f32⟩ : BufTy).Contents (Elt F)) : (⟨S4096x1024, .f32⟩ : BufTy).Contents (Elt F) :=
  addf (val_main_v9 (F := F) x0 x1) (val_main_v13 (F := F) x1)
/-- The stage `v14` of the reference, read at an index. -/
theorem val_main_v14_apply (x0 : (⟨S4096x64, .f32⟩ : BufTy).Contents (Elt F)) (x1 : (⟨S1024x32, .f32⟩ : BufTy).Contents (Elt F)) (i : S4096x1024.Idx) :
    val_main_v14 (F := F) x0 x1 i = FloatOps.addf (val_main_v9 (F := F) x0 x1 i) (val_main_v13 (F := F) x1 i) := rfl

def val_main_call0_v0 : (⟨S4096x1024, .i32⟩ : BufTy).Contents (Elt F) :=
  iotaInDim S4096x1024 32 1
/-- The stage `call0_v0` of the reference, read at an index. -/
theorem val_main_call0_v0_apply (i : S4096x1024.Idx) :
    val_main_call0_v0 (F := F) i = BitVec.ofNat 32 (i 1).val := rfl

def val_main_call0_cst : (⟨S_, .f32⟩ : BufTy).Contents (Elt F) :=
  constant S_ .f32 0x7F800000#32
/-- The stage `call0_cst` of the reference, read at an index. -/
theorem val_main_call0_cst_apply (i : S_.Idx) :
    val_main_call0_cst (F := F) i = FloatOps.ofBits .f32 0x7F800000#32 := rfl

def val_main_call0_c : (⟨S_, .i32⟩ : BufTy).Contents (Elt F) :=
  constantI S_ 32 0#32
/-- The stage `call0_c` of the reference, read at an index. -/
theorem val_main_call0_c_apply (i : S_.Idx) :
    val_main_call0_c (F := F) i = 0#32 := rfl

def val_main_call0_v1_0 (x0 : (⟨S4096x64, .f32⟩ : BufTy).Contents (Elt F)) (x1 : (⟨S1024x32, .f32⟩ : BufTy).Contents (Elt F)) : (⟨S4096, .f32⟩ : BufTy).Contents (Elt F) :=
  fun j => (Host.argReduce reducer_argmin_f32_i32 (val_main_v14 (F := F) x0 x1) (val_main_call0_v0 (F := F)) (val_main_call0_cst (F := F)) (val_main_call0_c (F := F)) reducesTo_S4096x1024_S4096_d1 h_S_ j).1

def val_main_v15 (x0 : (⟨S4096x64, .f32⟩ : BufTy).Contents (Elt F)) (x1 : (⟨S1024x32, .f32⟩ : BufTy).Contents (Elt F)) : (⟨S4096, .i32⟩ : BufTy).Contents (Elt F) :=
  fun j => (Host.argReduce reducer_argmin_f32_i32 (val_main_v14 (F := F) x0 x1) (val_main_call0_v0 (F := F)) (val_main_call0_cst (F := F)) (val_main_call0_c (F := F)) reducesTo_S4096x1024_S4096_d1 h_S_ j).2

def val_main_v16 (x0 : (⟨S4096x64, .f32⟩ : BufTy).Contents (Elt F)) (x1 : (⟨S1024x32, .f32⟩ : BufTy).Contents (Elt F)) : (⟨S8x1x512, .i32⟩ : BufTy).Contents (Elt F) :=
  shapeCast _ (val_main_v15 (F := F) x0 x1) shapeCasts_S4096_S8x1x512
abbrev idx_main_v16 (i : S8x1x512.Idx) : S4096.Idx := fun a => match a with
  | ⟨0, _⟩ => ⟨((i 0).val * 1 + (i 1).val) * 512 + (i 2).val, by have h0 : (i 0).val < 8 := (i 0).isLt; have h1 : (i 1).val < 1 := (i 1).isLt; have h2 : (i 2).val < 512 := (i 2).isLt; show ((i 0).val * 1 + (i 1).val) * 512 + (i 2).val < 4096; omega⟩
/-- The stage `v16` of the reference, read at an index. -/
theorem val_main_v16_apply (x0 : (⟨S4096x64, .f32⟩ : BufTy).Contents (Elt F)) (x1 : (⟨S1024x32, .f32⟩ : BufTy).Contents (Elt F)) (i : S8x1x512.Idx) :
    val_main_v16 (F := F) x0 x1 i = val_main_v15 (F := F) x0 x1 (idx_main_v16 i) := by
  unfold val_main_v16
  generalize val_main_v15 (F := F) x0 x1 = y
  exact shapeCast_apply y shapeCasts_S4096_S8x1x512 i (idx_main_v16 i)
    (by rewrite [Shape.rowMajor_val_one, Shape.rowMajor_val_three]; have h0 : (i 0).val < 8 := (i 0).isLt; have h1 : (i 1).val < 1 := (i 1).isLt; have h2 : (i 2).val < 512 := (i 2).isLt; show ((i 0).val * 1 + (i 1).val) * 512 + (i 2).val = ((i 0).val * 1 + (i 1).val) * 512 + (i 2).val; omega)

/-- The term the Run module states for `main_v16` is the stage. -/
theorem val_main_v16_eq (x0 : (⟨S4096x64, .f32⟩ : BufTy).Contents (Elt F)) (x1 : (⟨S1024x32, .f32⟩ : BufTy).Contents (Elt F)) :
    shapeCast _ (fun j => (Host.argReduce reducer_argmin_f32_i32 (addf (subf (broadcastInDim S4096x1024 ![0, 1] bcast_S4096x1_S4096x1024_0_1 (broadcastInDim S4096x1 ![0] bcast_S4096_S4096x1_0 (Host.reduceAdd (mulf (extractStridedSlice S4096x32 ![0, 0] (x0) slices_S4096x64_S4096x32_0_0) (extractStridedSlice S4096x32 ![0, 0] (x0) slices_S4096x64_S4096x32_0_0)) (constant S_ .f32 0x00000000#32) reducesTo_S4096x32_S4096_d1 h_S_))) (Host.dotGeneral dot_S4096x32_S32x1024_S4096x1024_1_0_0_1_n_n none (mulf (broadcastInDim S4096x32 ![] bcast_S_S4096x32 (constant S_ .f32 0x40000000#32)) (extractStridedSlice S4096x32 ![0, 0] (x0) slices_S4096x64_S4096x32_0_0)) (transpose S32x1024 [1, 0] (x1) transposes_S1024x32_S32x1024_1_0))) (broadcastInDim S4096x1024 ![0, 1] bcast_S1x1024_S4096x1024_0_1 (broadcastInDim S1x1024 ![1] bcast_S1024_S1x1024_1 (Host.reduceAdd (mulf (x1) (x1)) (constant S_ .f32 0x00000000#32) reducesTo_S1024x32_S1024_d1 h_S_)))) (iotaInDim S4096x1024 32 1) (constant S_ .f32 0x7F800000#32) (constantI S_ 32 0#32) reducesTo_S4096x1024_S4096_d1 h_S_ j).2) shapeCasts_S4096_S8x1x512
      = val_main_v16 (F := F) x0 x1 := rfl

end Cert.ChartReferenceIdeal.Read

end
-- ==== Proof.MinIndex.lean ====
/-
  The first position of a row's least entry, over the extended reals, and the three ways in which the programs compute it:
  the host's arg-min (a fold over pairs of a value and its position), the least position whose entry equals the row's
  minimum, and a minimum taken as a fold.
-/
module

public import Idealize.ShloMosaic.PureOps.Ideal
public import Idealize.ShloMosaic.PureOps.Ideal.Laws
public import Idealize.ShloMosaic.PureOps.Reduce
public import Idealize.ShloMosaic.Lib.ValueIdx
public import Idealize.ShloMosaic.Lib.IdealHost

@[expose] public section

noncomputable section

namespace Cert.Atlas

open Idealize.ShloMosaic

/-- `k` is the first position of the least entry of `f`. -/
def IsFirstMin {n : Nat} (f : Fin n → EReal) (k : Fin n) : Prop :=
  (∀ l, f k ≤ f l) ∧ ∀ l, f l = f k → k ≤ l

/-- A nonempty row has a first least entry. -/
theorem exists_firstMin {n : Nat} (hn : 0 < n) (f : Fin n → EReal) : ∃ k, IsFirstMin f k := by
  haveI : Nonempty (Fin n) := ⟨⟨0, hn⟩⟩
  obtain ⟨k0, hk0⟩ := Finite.exists_min f
  obtain ⟨k, hk, hmin⟩ := Finset.exists_min_image (Finset.univ.filter fun k => f k = f k0) id
    ⟨k0, Finset.mem_filter.2 ⟨Finset.mem_univ _, rfl⟩⟩
  have hk' : f k = f k0 := (Finset.mem_filter.1 hk).2
  refine ⟨k, fun l => hk' ▸ hk0 l, fun l hl => ?_⟩
  exact hmin l (Finset.mem_filter.2 ⟨Finset.mem_univ _, hl.trans hk'⟩)

/-- There is only one. -/
theorem IsFirstMin.unique {n : Nat} {f : Fin n → EReal} {k k' : Fin n} (h : IsFirstMin f k) (h' : IsFirstMin f k') :
    k = k' := by
  have e : f k = f k' := le_antisymm (h.1 k') (h'.1 k)
  exact le_antisymm (h.2 k' e.symm) (h'.2 k e)

/-- The first position of the least entry. -/
def firstMin {n : Nat} (hn : 0 < n) (f : Fin n → EReal) : Fin n := (exists_firstMin hn f).choose

/-- The first least entry is least, and first among the least. -/
theorem firstMin_spec {n : Nat} (hn : 0 < n) (f : Fin n → EReal) : IsFirstMin f (firstMin hn f) :=
  (exists_firstMin hn f).choose_spec

/-- An index that is least and first is the first least entry. -/
theorem firstMin_eq {n : Nat} (hn : 0 < n) {f : Fin n → EReal} {k : Fin n} (h : IsFirstMin f k) : firstMin hn f = k :=
  (firstMin_spec hn f).unique h

/-- The least entry of a row. -/
def leastOf {n : Nat} (hn : 0 < n) (f : Fin n → EReal) : EReal := f (firstMin hn f)

/-- A fold of the minimum from plus infinity over a whole row is its least entry. -/
theorem fold_min_top {n : Nat} (hn : 0 < n) (f : Fin n → EReal) :
    (Finset.univ : Finset (Fin n)).fold min ⊤ f = leastOf hn f := by
  apply le_antisymm
  · exact (Finset.le_fold_min _).1 le_rfl |>.2 _ (Finset.mem_univ _)
  · exact (Finset.le_fold_min _).2 ⟨le_top, fun l _ => (firstMin_spec hn f).1 l⟩

/-- The pattern of plus infinity denotes it. -/
theorem ofBits_top : Ideal.ofBits .f32 0x7F800000#32 = ⊤ := by
  simp [Ideal.ofBits, Ideal.ieee]

/-! ### The host's arg-min -/

/-- `a` comes no later than `b` in the order of values, then positions. -/
def LexLe (a b : EReal × BitVec 32) : Prop := a.1 < b.1 ∨ a.1 = b.1 ∧ a.2.toInt ≤ b.2.toInt

/-- The order by value and then index is reflexive. -/
theorem LexLe.refl (a : EReal × BitVec 32) : LexLe a a := Or.inr ⟨rfl, le_rfl⟩

/-- It is transitive. -/
theorem LexLe.trans {a b c : EReal × BitVec 32} (h : LexLe a b) (h' : LexLe b c) : LexLe a c := by
  rcases h with h | ⟨h, hi⟩ <;> rcases h' with h' | ⟨h', hi'⟩
  · exact Or.inl (h.trans h')
  · exact Or.inl (h' ▸ h)
  · exact Or.inl (h ▸ h')
  · exact Or.inr ⟨h.trans h', hi.trans hi'⟩

/-- A body that keeps the lesser of two pairs. -/
def IsLexMin (r : EReal × BitVec 32 → EReal × BitVec 32 → EReal × BitVec 32) : Prop :=
  ∀ a b, (r a b = a ∨ r a b = b) ∧ LexLe (r a b) a ∧ LexLe (r a b) b

/-- The fold of such a body is the start or one of the pairs, and no later than any of them. -/
theorem foldl_lexMin {r : EReal × BitVec 32 → EReal × BitVec 32 → EReal × BitVec 32} (hr : IsLexMin r)
    (l : List (EReal × BitVec 32)) : ∀ a : EReal × BitVec 32,
      (l.foldl r a = a ∨ l.foldl r a ∈ l) ∧ LexLe (l.foldl r a) a ∧ ∀ p ∈ l, LexLe (l.foldl r a) p := by
  induction l with
  | nil => intro a; exact ⟨Or.inl rfl, LexLe.refl a, fun p hp => absurd hp List.not_mem_nil⟩
  | cons b l ih =>
    intro a
    obtain ⟨h1, h2, h3⟩ := ih (r a b)
    obtain ⟨g1, g2, g3⟩ := hr a b
    rw [List.foldl_cons]
    refine ⟨?_, h2.trans g2, ?_⟩
    · rcases h1 with h1 | h1
      · rcases g1 with g1 | g1
        · exact Or.inl (h1.trans g1)
        · exact Or.inr (by rw [h1, g1]; exact List.mem_cons_self)
      · exact Or.inr (List.mem_cons_of_mem _ h1)
    · intro p hp
      rcases List.mem_cons.1 hp with rfl | hp
      · exact h2.trans g3
      · exact h3 p hp

/-- The printed arg-min body, over the extended reals, keeps the lesser pair. -/
theorem argmin_body_lexMin : IsLexMin (fun a b : EReal × BitVec 32 =>
    (Scalar.select (IntOp.ori (Ideal.cmp .olt a.1 b.1) (Ideal.cmp .une a.1 a.1)) a.1 b.1,
      Scalar.select (IntOp.ori (IntOp.ori (Ideal.cmp .olt a.1 b.1) (Ideal.cmp .une a.1 a.1))
        (IntOp.andi (Ideal.cmp .oeq a.1 b.1) (IntOp.cmpi .slt a.2 b.2))) a.2 b.2)) := by
  rintro ⟨a, i⟩ ⟨b, j⟩
  rcases lt_trichotomy a b with h | h | h
  · have hne : ¬ a = b := ne_of_lt h
    simp [Ideal.cmp, Scalar.select, IntOp.ori, IntOp.andi, LexLe, h, hne]
  · subst h
    by_cases hij : i.toInt < j.toInt
    · have : i.slt j = true := by simpa [BitVec.slt] using hij
      simp [Ideal.cmp, Scalar.select, IntOp.ori, IntOp.andi, IntOp.cmpi, LexLe, this]
      omega
    · have : i.slt j = false := by simpa [BitVec.slt] using hij
      simp [Ideal.cmp, Scalar.select, IntOp.ori, IntOp.andi, IntOp.cmpi, LexLe, this]
      omega
  · have h' : ¬ a < b := not_lt.2 h.le
    have h'' : ¬ a = b := ne_of_gt h
    simp [Ideal.cmp, Scalar.select, IntOp.ori, IntOp.andi, LexLe, h, h', h'']

/-- The signed value of a small position. -/
theorem toInt_ofNat_small {k : Nat} (hk : k < 2 ^ 31) : (BitVec.ofNat 32 k).toInt = k := by
  have h1 : (BitVec.ofNat 32 k).toNat = k := by rw [BitVec.toNat_ofNat]; exact Nat.mod_eq_of_lt (by omega)
  rw [BitVec.toInt_eq_toNat_cond, h1, if_pos (by omega)]

/-- The host's arg-min along one axis, from plus infinity at position zero: the first position of the least entry. -/
theorem argReduce_firstMin {s t u : Shape} {a : Fin s.rank} (h' : s.ReducesTo [a] t) (h : s.Reduces [a] t)
    {r : EReal × BitVec 32 → EReal × BitVec 32 → EReal × BitVec 32} (hr : IsLexMin r)
    (x : FVec Ideal s .f32) (y : s.Idx → BitVec 32) (ix : FVec Ideal u .f32) (iy : u.Idx → BitVec 32) (hu : 0 < u.numel)
    (hix : ix (Shape.Idx.first hu) = ⊤) (hiy : iy (Shape.Idx.first hu) = 0#32)
    (hy : ∀ i, y i = BitVec.ofNat 32 (i a).val) (hn : 0 < s.size a) (hs : s.size a < 2 ^ 31) (j : t.Idx) :
    (Host.argReduce r x y ix iy h' hu j).2 = BitVec.ofNat 32 (firstMin hn fun k => x (h.lift j k)).val := by
  rw [Ideal.argReduce_eq_reduce2, Host.reduce2_eq_foldl_fiber, hix, hiy]
  have hmem : ∀ p, p ∈ Host.argReduceFiber x y h' j ↔ ∃ k, p = (x (h.lift j k), BitVec.ofNat 32 k.val) := by
    intro p
    unfold Host.argReduceFiber
    simp only [List.mem_map, List.mem_filter, List.mem_finRange, true_and, decide_eq_true_eq]
    constructor
    · rintro ⟨n, hn', rfl⟩
      refine ⟨(s.rowMajor.symm n) a, ?_⟩
      rw [Shape.ReducesTo.drop_eq_drop h' h] at hn'
      rw [← hn', h.lift_drop, hy]
    · rintro ⟨k, rfl⟩
      refine ⟨s.rowMajor (h.lift j k), ?_, ?_⟩
      · rw [Shape.ReducesTo.drop_eq_drop h' h, Equiv.symm_apply_apply, h.drop_lift]
      · rw [Equiv.symm_apply_apply, hy]
        congr 2
        show (h.lift j k a).val = k.val
        rw [h.lift_val]; simp [Shape.Reduces.liftVal]
  obtain ⟨h1, h2, h3⟩ := foldl_lexMin hr (Host.argReduceFiber x y h' j) (⊤, 0#32)
  set p := (Host.argReduceFiber x y h' j).foldl r (⊤, 0#32) with hp
  set f : Fin (s.size a) → EReal := fun k => x (h.lift j k) with hf
  have h3' : ∀ k : Fin (s.size a), LexLe p (f k, BitVec.ofNat 32 k.val) := fun k => h3 _ ((hmem _).2 ⟨k, rfl⟩)
  have key : ∃ k : Fin (s.size a), p = (f k, BitVec.ofNat 32 k.val) := by
    rcases h1 with h1 | h1
    · refine ⟨⟨0, hn⟩, ?_⟩
      have := h3' ⟨0, hn⟩
      rw [h1] at this ⊢
      rcases this with h | ⟨h, -⟩
      · exact absurd h (not_lt.2 le_top)
      · simp only at h; rw [← h]
    · exact (hmem _).1 h1
  obtain ⟨k, hk⟩ := key
  have hfm : IsFirstMin f k := by
    constructor
    · intro l
      have := h3' l
      rw [hk] at this
      rcases this with h | ⟨h, -⟩
      · exact le_of_lt h
      · exact le_of_eq h
    · intro l hl
      have := h3' l
      rw [hk] at this
      rcases this with h | ⟨-, h⟩
      · exact absurd h (by simp only [hl]; exact lt_irrefl _)
      · simp only at h
        rw [toInt_ofNat_small (lt_trans k.isLt hs), toInt_ofNat_small (lt_trans l.isLt hs)] at h
        exact Fin.le_def.2 (by omega)
  rw [firstMin_eq hn hfm, hk]

/-! ### The least position whose entry equals the minimum -/

/-- The signed minimum of a fold is the start or one of the entries, and at most each of them. -/
theorem fold_minsi {ι : Type} [DecidableEq ι] (S : Finset ι) (b : BitVec 32) (g : ι → BitVec 32) :
    (S.fold IntOp.minsi b g = b ∨ ∃ i ∈ S, S.fold IntOp.minsi b g = g i) ∧ (S.fold IntOp.minsi b g).toInt ≤ b.toInt
      ∧ ∀ i ∈ S, (S.fold IntOp.minsi b g).toInt ≤ (g i).toInt := by
  induction S using Finset.induction_on with
  | empty => simp
  | insert i S hi ih =>
    rw [Finset.fold_insert hi]
    obtain ⟨h1, h2, h3⟩ := ih
    have hm : ∀ u v : BitVec 32, (IntOp.minsi u v = u ∨ IntOp.minsi u v = v) ∧ (IntOp.minsi u v).toInt ≤ u.toInt
        ∧ (IntOp.minsi u v).toInt ≤ v.toInt := by
      intro u v
      unfold IntOp.minsi
      simp only [BitVec.slt, decide_eq_true_eq]
      split_ifs with h
      · exact ⟨Or.inl rfl, le_rfl, h.le⟩
      · exact ⟨Or.inr rfl, not_lt.1 h, le_rfl⟩
    obtain ⟨m1, m2, m3⟩ := hm (g i) (S.fold IntOp.minsi b g)
    refine ⟨?_, m3.trans h2, ?_⟩
    · rcases m1 with m1 | m1
      · exact Or.inr ⟨i, Finset.mem_insert_self _ _, m1⟩
      · rcases h1 with h1 | ⟨k, hk, h1⟩
        · exact Or.inl (m1.trans h1)
        · exact Or.inr ⟨k, Finset.mem_insert_of_mem hk, m1.trans h1⟩
    · intro k hk
      rcases Finset.mem_insert.1 hk with rfl | hk
      · exact m2
      · exact m3.trans (h3 k hk)

/-- The least of the positions whose entry equals the row's minimum, every other position replaced by a bound above all
    of them, is the first position of the least entry. -/
theorem fold_minsi_firstMin {n : Nat} (hn : 0 < n) (hs : n < 2 ^ 31) (f : Fin n → EReal) (K : Nat) (hK : n ≤ K)
    (hK' : K < 2 ^ 31) (b : BitVec 32) (hb : b.toInt = 2 ^ 31 - 1) :
    (Finset.univ : Finset (Fin n)).fold IntOp.minsi b
        (fun k => Scalar.select (Ideal.cmp .oeq (f k) (leastOf hn f)) (BitVec.ofNat 32 k.val) (BitVec.ofNat 32 K))
      = BitVec.ofNat 32 (firstMin hn f).val := by
  set g : Fin n → BitVec 32 := fun k =>
    Scalar.select (Ideal.cmp .oeq (f k) (leastOf hn f)) (BitVec.ofNat 32 k.val) (BitVec.ofNat 32 K) with hg
  have hg1 : ∀ k, f k = leastOf hn f → g k = BitVec.ofNat 32 k.val := fun k hk => by
    simp [hg, hk, Ideal.cmp, Scalar.select]
  have hg0 : ∀ k, f k ≠ leastOf hn f → g k = BitVec.ofNat 32 K := fun k hk => by
    simp [hg, hk, Ideal.cmp, Scalar.select]
  obtain ⟨h1, h2, h3⟩ := fold_minsi (Finset.univ : Finset (Fin n)) b g
  set p := (Finset.univ : Finset (Fin n)).fold IntOp.minsi b g
  have h0 := h3 (firstMin hn f) (Finset.mem_univ _)
  have hfl := (firstMin hn f).isLt
  rw [hg1 _ rfl, toInt_ofNat_small (lt_trans hfl hs)] at h0
  apply BitVec.eq_of_toInt_eq
  rw [toInt_ofNat_small (lt_trans hfl hs)]
  apply le_antisymm h0
  rcases h1 with h1 | ⟨k, -, h1⟩
  · rw [h1, hb]; omega
  · by_cases hk : f k = leastOf hn f
    · rw [h1, hg1 k hk, toInt_ofNat_small (lt_trans k.isLt hs)]
      have := (firstMin_spec hn f).2 k hk
      exact_mod_cast Fin.le_def.1 this
    · rw [h1, hg0 k hk, toInt_ofNat_small hK']
      omega

end Cert.Atlas

end
-- ==== Proof.ChartRow.lean ====
/-
  The chart call's body, one row at a time: the position it writes for a row is the first nearest centroid, the squared
  distance being spelt as the kernel spells it.
-/
module

public import proofs.«01_k».proof.Proof.Gen.ChartIdeal.Skeleton
public import proofs.«01_k».proof.Proof.MinIndex
public import Idealize.ShloMosaic.Lib.Pipeline.Value
public import Idealize.ShloMosaic.Lib.MatmulPlain
public import Idealize.ShloMosaic.Lib.ValueLayout
public import Idealize.ShloMosaic.Lib.ValueLayoutCasts

@[expose] public section

noncomputable section

namespace Cert.Atlas

open Idealize.ShloMosaic Idealize.ShloMosaic.ValueIdx Cert.ChartIdeal Cert.ChartIdeal.Gen

/-- The squared distance of a point `p` to a centroid `c`, in the expanded form. -/
def chartDist (p c : Fin 32 → EReal) : EReal := (∑ d, p d * p d - 2 * ∑ d, p d * c d) + ∑ d, c d * c d

/-- The chart of a point: its first nearest centroid. -/
def chartOf (p : Fin 32 → EReal) (cs : Fin 1024 → Fin 32 → EReal) : Fin 1024 :=
  firstMin (by decide) fun k => chartDist p (cs k)

/-- The constant two. -/
theorem ofBits_two : Ideal.ofBits .f32 0x40000000#32 = 2 := by
  simp [Ideal.ofBits, Ideal.ieee]
  rw [← EReal.coe_mul]; norm_num; rfl

/-- The kernel's table of squared distances, at a row and a centroid. -/
theorem chart_d2 (v0 : Vec Ideal S512x32 .f32) (v1 : Vec Ideal S1024x32 .f32) (r : Fin 512) (k : Fin 1024) :
    addf (F := Ideal) (subf (broadcastTo S512x1024 (shapeCast S512x1 (multiReduction (F := Ideal) (φ := .f32) .add [1] S512 (mulf v0 v0) 0x00000000#32 Facts₀.reduces_S512x32_S512 (.inl rfl) rfl)
        Facts₀.shapeCasts_S512_S512x1) Facts₀.broadcasts_S512x1_S512x1024)
      (mulf (broadcast S512x1024 (Scalar.ofBits (F := Ideal) .f32 0x40000000#32))
        (matmul (F := Ideal) (φ₁ := .f32) (φ₂ := .f32) dot_S512x32_S1024x32_S512x1024_1_1_0_0_n_n none v0 v1 (constant S512x1024 .f32 0x00000000#32))))
      (broadcastTo S512x1024 (shapeCast S1x1024 (multiReduction (F := Ideal) (φ := .f32) .add [1] S1024 (mulf v1 v1) 0x00000000#32 Facts₀.reduces_S1024x32_S1024 (.inl rfl) rfl)
        Facts₀.shapeCasts_S1024_S1x1024) Facts₀.broadcasts_S1x1024_S512x1024) (ix2 r k)
      = chartDist (fun d => v0 (ix2 r d)) (fun d => v1 (ix2 k d)) := by
  rw [addf_apply, subf_apply, mulf_apply, broadcast_apply]
  rw [broadcastTo_apply _ _ (ix2 r k) (ix2 r 0) (by intro a; fin_cases a <;> rfl)]
  rw [shapeCast_a_a1_apply]
  rw [broadcastTo_1b_ab_apply, shapeCast_a_1a_apply]
  have hm : (matmul (F := Ideal) (φ₁ := .f32) (φ₂ := .f32) dot_S512x32_S1024x32_S512x1024_1_1_0_0_n_n none v0 v1 (constant S512x1024 .f32 0x00000000#32)) (ix2 r k)
      = 0 + ∑ d : Fin 32, v0 (ix2 r d) * v1 (ix2 k d) :=
    (Ideal.matmul_transposedRhs_apply (M := 512) (K := 32) (N := 1024) none v0 v1 _ r k).trans (by
      rw [constant_apply]; rw [Ideal.ofBits_zero_f32])
  rw [hm, zero_add]
  have e2 : (Scalar.ofBits (F := Ideal) .f32 0x40000000#32 : EReal) = 2 := ofBits_two
  refine congrArg₂ (· + ·) (congrArg₂ (· - ·) ((Ideal.multiReduction_add_single _ _ _ _ _ _).trans ?_)
    (congrArg (· * _) e2)) ((Ideal.multiReduction_add_single _ _ _ _ _ _).trans ?_)
  · refine Finset.sum_congr rfl fun d _ => ?_
    have : Facts₀.reduces_S512x32_S512.lift (ix1 r) d = ix2 r d := by
      funext a; apply Fin.ext; fin_cases a <;> rfl
    rw [mulf_apply, this]; rfl
  · refine Finset.sum_congr rfl fun d _ => ?_
    have : Facts₀.reduces_S1024x32_S1024.lift (ix1 k) d = ix2 k d := by
      funext a; apply Fin.ext; fin_cases a <;> rfl
    rw [mulf_apply, this]; rfl

/-- The position written for row `r` of a block. -/
theorem chart_pay (v0 : Vec Ideal S512x32 .f32) (v1 : Vec Ideal S1024x32 .f32) (r : Fin 512) :
    k0_pay1 (F := Ideal) v0 v1 (ix3 0 0 r)
      = BitVec.ofNat 32 (chartOf (fun d => v0 (ix2 r d)) (fun k d => v1 (ix2 k d))).val := by
  unfold k0_pay1
  dsimp only
  rw [shapeCast_apply _ _ (ix3 0 0 r) (ix1 r) (by rw [Shape.rowMajor_val_one, Shape.rowMajor_val_three]; simp)]
  unfold multiReductionI
  dsimp only
  rw [reduceFold_eq_fold, Shape.Reduces.fold_filter_drop_single]
  have hl : ∀ k : Fin 1024, Facts₀.reduces_S512x1024_S512.lift (ix1 r) k = ix2 r k := fun k => by
    funext a; apply Fin.ext; fin_cases a <;> rfl
  refine Eq.trans ?_ (fold_minsi_firstMin (n := 1024) (by decide) (by decide) (fun k => chartDist (fun d => v0 (ix2 r d)) (fun d => v1 (ix2 k d))) 1024 le_rfl (by decide) 2147483647#32 (by decide))
  have hmin : ∀ X : FVec Ideal S512x1024 .f32, (∀ k : Fin 1024, X (ix2 r k) = chartDist (fun d => v0 (ix2 r d)) (fun d => v1 (ix2 k d))) →
      multiReduction (F := Ideal) (φ := .f32) .minimumf [1] S512 X 0x7F800000#32 Facts₀.reduces_S512x1024_S512 (.inl rfl) rfl (ix1 r)
        = leastOf (n := 1024) (by decide) fun k => chartDist (fun d => v0 (ix2 r d)) (fun d => v1 (ix2 k d)) := by
    intro X hX
    unfold multiReduction
    dsimp only
    rw [reduceFold_eq_fold, Shape.Reduces.fold_filter_drop_single]
    rw [← fold_min_top]
    have : (FloatOps.ofBits (F := Ideal) .f32 0x7F800000#32 : EReal) = ⊤ := ofBits_top
    rw [this]
    refine Finset.fold_congr fun k _ => ?_
    show X (Facts₀.reduces_S512x1024_S512.lift (ix1 r) k) = _
    rw [hl k, hX k]
  have step : ∀ (X : FVec Ideal S512x1024 .f32), (∀ k : Fin 1024, X (ix2 r k) = chartDist (fun d => v0 (ix2 r d)) (fun d => v1 (ix2 k d))) →
      ∀ k : Fin 1024, select (cmpf .oeq X (broadcastTo S512x1024 (shapeCast S512x1
          (multiReduction (F := Ideal) (φ := .f32) .minimumf [1] S512 X 0x7F800000#32 Facts₀.reduces_S512x1024_S512 (.inl rfl) rfl)
          Facts₀.shapeCasts_S512_S512x1) Facts₀.broadcasts_S512x1_S512x1024))
        (iota .tc S512x1024 32 [1] Facts₀.iota_S512x1024_d1_w32) (broadcast S512x1024 1024#32) (ix2 r k)
      = Scalar.select (Ideal.cmp .oeq (chartDist (fun d => v0 (ix2 r d)) (fun d => v1 (ix2 k d)))
          (leastOf (n := 1024) (by decide) fun k => chartDist (fun d => v0 (ix2 r d)) (fun d => v1 (ix2 k d))))
        (BitVec.ofNat 32 k.val) (BitVec.ofNat 32 1024) := by
    intro X hX k
    rw [select_apply, cmpf_apply, hX k, broadcast_apply, iota_single_apply]
    rw [broadcastTo_apply _ _ (ix2 r k) (ix2 r 0) (by intro a; fin_cases a <;> rfl)]
    rw [shapeCast_a_a1_apply, hmin X hX]
    rfl
  refine Finset.fold_congr fun k _ => ?_
  show select _ _ _ (Facts₀.reduces_S512x1024_S512.lift (ix1 r) k) = _
  rw [hl k]
  exact step _ (fun k => chart_d2 v0 v1 r k) k

end Cert.Atlas

end
-- ==== Proof.ChartRef.lean ====
/-
  The chart reference at an index: the first nearest centroid of the row, its squared distance spelt as the problem
  spells it, equal to the kernel's spelling.
-/
module

public import proofs.«01_k».proof.Proof.ChartReferenceIdealRead
public import proofs.«01_k».proof.Proof.ChartRow

@[expose] public section

noncomputable section

namespace Cert.Atlas

open Idealize.ShloMosaic Idealize.ShloMosaic.ValueIdx

/-- Doubling a sum is doubling each of its terms. -/
theorem two_mul_sum {ι : Type} (S : Finset ι) (f : ι → EReal) : 2 * ∑ i ∈ S, f i = ∑ i ∈ S, 2 * f i := by
  classical
  have h2 : (2 : EReal) ≠ ⊤ := by
    have : (2 : EReal) = ((2 : ℝ) : EReal) := rfl
    rw [this]; exact EReal.coe_ne_top 2
  induction S using Finset.induction_on with
  | empty => simp
  | insert i S hi ih =>
    rw [Finset.sum_insert hi, Finset.sum_insert hi, EReal.left_distrib_of_nonneg_of_ne_top (by norm_num) h2, ih]

/-- The problem's spelling of the squared distance is the kernel's. -/
theorem chartDist_ref (p c : Fin 32 → EReal) :
    ((0 + ∑ d, p d * p d) - ∑ d, 2 * p d * c d) + (0 + ∑ d, c d * c d) = chartDist p c := by
  unfold chartDist
  rw [zero_add, zero_add, two_mul_sum]
  simp only [mul_assoc]

end Cert.Atlas

namespace Cert.ChartReferenceIdeal.Read

open Cert.ChartReferenceIdeal Cert.ChartReferenceIdeal.Gen Idealize.ShloMosaic Idealize.ShloMosaic.ValueIdx Cert.Atlas

/-- The reference's table of squared distances. -/
theorem d2_apply (x0 : FVec Ideal S4096x64 .f32) (x1 : FVec Ideal S1024x32 .f32) (b : Fin 4096) (k : Fin 1024) :
    val_main_v14 (F := Ideal) x0 x1 (ix2 b k)
      = chartDist (fun d => x0 (ix2 b ⟨d.val, by omega⟩)) (fun d => x1 (ix2 k d)) := by
  rw [val_main_v14_apply, val_main_v9_apply, val_main_v13_apply, val_main_v12_apply, val_main_v8_apply, val_main_v3_apply,
    val_main_v11_apply, val_main_v2_apply, val_main_v7_apply, ← chartDist_ref]
  simp only [val_main_v1_apply, val_main_v10_apply, val_main_v5_apply, val_main_v6_apply, val_main_v4_apply, val_main_v0_apply,
    val_main_cst_apply, val_main_cst_0_apply, val_main_cst_1_apply, Ideal.mulf_def, Ideal.addf_def, Ideal.subf_def, Ideal.ofBits_def]
  rw [ofBits_two, Ideal.ofBits_zero_f32]
  refine congrArg₂ (· + ·) (congrArg₂ (· - ·) (congrArg (0 + ·) ?_) ?_) (congrArg (0 + ·) ?_)
  all_goals
    refine Finset.sum_congr rfl fun d _ => ?_
    refine congrArg₂ (fun u v : EReal => u * v) ?_ ?_
    all_goals first
      | exact congrArg x0 (funext fun a => Fin.ext (by fin_cases a <;> rfl))
      | exact congrArg x1 (funext fun a => Fin.ext (by fin_cases a <;> rfl))
      | exact congrArg (fun i => 2 * x0 i) (funext fun a => Fin.ext (by fin_cases a <;> rfl))

/-- The printed comparison of the arg-min takes the lexicographically smaller pair. -/
theorem reducer_lexMin : IsLexMin (reducer_argmin_f32_i32 (F := Ideal)) := argmin_body_lexMin

/-- The reduction's axis is the one summed over. -/
theorem red_fact : Shape.Reduces S4096x1024 [1] S4096 := by decide

/-- The lifted index is the pair of coordinates. -/
theorem lift_eq (b : Fin 4096) (k : Fin 1024) : red_fact.lift (ix1 b) k = ix2 b k := by
  funext a; apply Fin.ext; fin_cases a <;> rfl

/-- The arg-min of a table along its rows. -/
theorem pick_apply (x : FVec Ideal S4096x1024 .f32) (y : S4096x1024.Idx → BitVec 32) (ix : FVec Ideal S_ .f32)
    (iy : S_.Idx → BitVec 32) (hix : ix (Shape.Idx.first h_S_) = ⊤) (hiy : iy (Shape.Idx.first h_S_) = 0#32)
    (hy : ∀ i, y i = BitVec.ofNat 32 (i 1).val) (b : Fin 4096) :
    (Host.argReduce (reducer_argmin_f32_i32 (F := Ideal)) x y ix iy reducesTo_S4096x1024_S4096_d1 h_S_ (ix1 b)).2
      = BitVec.ofNat 32 (firstMin (n := 1024) (by decide) fun k => x (ix2 b k)).val :=
  (argReduce_firstMin reducesTo_S4096x1024_S4096_d1 red_fact reducer_lexMin x y ix iy h_S_ hix hiy hy (by decide) (by decide) (ix1 b)).trans
    (congrArg (fun f : Fin 1024 → EReal => BitVec.ofNat 32 (firstMin (n := 1024) (by decide) f).val)
      (funext fun k : Fin 1024 => congrArg x (lift_eq b k)))

/-- The starting value of the arg-min is plus infinity. -/
theorem start_top : val_main_call0_cst (F := Ideal) (Shape.Idx.first h_S_) = ⊤ := by
  rw [val_main_call0_cst_apply, Ideal.ofBits_def, ofBits_top]

/-- The reference's chart of every row is the arg-min of its table. -/
theorem v15_eq (x0 : FVec Ideal S4096x64 .f32) (x1 : FVec Ideal S1024x32 .f32) :
    val_main_v15 (F := Ideal) x0 x1 = fun j => (Host.argReduce (reducer_argmin_f32_i32 (F := Ideal)) (val_main_v14 (F := Ideal) x0 x1)
      (val_main_call0_v0 (F := Ideal)) (val_main_call0_cst (F := Ideal)) (val_main_call0_c (F := Ideal))
      reducesTo_S4096x1024_S4096_d1 h_S_ j).2 := by
  unfold val_main_v15; rfl

/-- The reference's chart of row `b`. -/
theorem chart_apply (x0 : FVec Ideal S4096x64 .f32) (x1 : FVec Ideal S1024x32 .f32) (b : Fin 4096) :
    val_main_v15 (F := Ideal) x0 x1 (ix1 b)
      = BitVec.ofNat 32 (chartOf (fun d => x0 (ix2 b ⟨d.val, by omega⟩)) (fun k d => x1 (ix2 k d))).val := by
  have h := pick_apply (val_main_v14 (F := Ideal) x0 x1) (val_main_call0_v0 (F := Ideal)) (val_main_call0_cst (F := Ideal))
    (val_main_call0_c (F := Ideal)) start_top (val_main_call0_c_apply _) val_main_call0_v0_apply b
  rw [v15_eq]
  refine h.trans ?_
  unfold chartOf
  exact congrArg (fun f : Fin 1024 → EReal => BitVec.ofNat 32 (firstMin (n := 1024) (by decide) f).val)
    (funext fun k : Fin 1024 => d2_apply x0 x1 b k)

end Cert.ChartReferenceIdeal.Read

end
-- ==== Proof.ChartValue.lean ====
/-
  What the chart call leaves in its result array: entry (t, 0, r) is the first nearest centroid of row `512 * t + r`, the
  reference's own entry.
-/
module

public import proofs.«01_k».proof.Proof.ChartRef
public import proofs.«01_k».proof.Proof.ChartReferenceIdealRun
public import proofs.«01_k».proof.Proof.Gen.ChartIdeal.Value
public import Idealize.ShloMosaic.Lib.Pipeline.ValueKit.Basic

@[expose] public section

noncomputable section

namespace Cert.Atlas

open Cert.ChartIdeal Cert.ChartIdeal.Gen Idealize.ShloMosaic Idealize.ShloMosaic.TcCoe Idealize.SL.Sem Idealize.ShloMosaic.ValueIdx
open Idealize.ShloMosaic.Pipeline (Dat)

/-- The charts of the rows of `x0`, laid out as eight rows of 512. -/
def charts (x0 : FVec Ideal S4096x64 .f32) (x1 : FVec Ideal S1024x32 .f32) : S8x1x512.Idx → BitVec 32 := fun i =>
  BitVec.ofNat 32 (chartOf
    (fun d => x0 (ix2 (⟨512 * (i 0).val + (i 2).val, by
      have h0 : (i 0).val < 8 := (i 0).isLt
      have h2 : (i 2).val < 512 := (i 2).isLt
      omega⟩ : Fin 4096) (⟨d.val, by omega⟩ : Fin 64)))
    (fun k d => x1 (ix2 k d))).val

variable (m : (ℓ : Loc nD τ sig) → Buf (Elt Ideal) ℓ) (ρ : Dev nD → PrngReg)

/-- The block indices of the three windows at a point, decided over the grid. -/
theorem index_facts : ∀ t : Fin grid0.N, win0_0.index t 0 = t.val ∧ win0_0.index t 1 = 0 ∧ win0_1.index t 0 = 0 ∧ win0_1.index t 1 = 0
    ∧ win0_2.index t 0 = t.val ∧ win0_2.index t 1 = 0 ∧ win0_2.index t 2 = 0 ∧ win0_2.flush t = true := by decide +kernel

/-- The row block of point `t`: rows `512 t …` of the argument. -/
theorem iblk0_apply (c : Dev nD) (t : Fin cfg0.N) (r : Fin 512) (d : Fin 64) (h : 512 * t.val + r.val < 4096) :
    iblk m c 0 t (ix2 r d) = (m ((c : Thread nD τ).loc main_arg0) : FVec Ideal S4096x64 .f32) (ix2 ⟨512 * t.val + r.val, h⟩ d) := by
  obtain ⟨h0, h1, -⟩ := index_facts t
  show V m c main_arg0 ((win0_0.rect t).emb (ix2 r d)) = _
  rw [V_main_arg0]
  refine congrArg _ (funext fun a => Fin.ext ?_)
  match a with
  | ⟨0, _⟩ =>
    refine (win0_0.rect_emb_val t (ix2 r d) 0).trans ?_
    rw [h0]; show t.val * 512 + r.val = 512 * t.val + r.val; omega
  | ⟨1, _⟩ =>
    refine (win0_0.rect_emb_val t (ix2 r d) 1).trans ?_
    rw [h1]; show 0 * 64 + d.val = d.val; omega

/-- The centroid block: the whole argument at every point. -/
theorem iblk1_apply (c : Dev nD) (t : Fin cfg0.N) (k : Fin 1024) (d : Fin 32) :
    iblk m c 1 t (ix2 k d) = (m ((c : Thread nD τ).loc main_arg1) : FVec Ideal S1024x32 .f32) (ix2 k d) := by
  obtain ⟨-, -, h0, h1, -⟩ := index_facts t
  show V m c main_arg1 ((win0_1.rect t).emb (ix2 k d)) = _
  rw [V_main_arg1]
  refine congrArg _ (funext fun a => Fin.ext ?_)
  match a with
  | ⟨0, _⟩ =>
    refine (win0_1.rect_emb_val t (ix2 k d) 0).trans ?_
    rw [h0]; show 0 * 1024 + k.val = k.val; omega
  | ⟨1, _⟩ =>
    refine (win0_1.rect_emb_val t (ix2 k d) 1).trans ?_
    rw [h1]; show 0 * 32 + d.val = d.val; omega

/-- The stored block is the payload of the loaded rows and centroids. -/
theorem out_apply (x0 : FVec Ideal S512x64 .f32) (x1 : FVec Ideal S1024x32 .f32) (r : Fin 512) :
    out0_2 (F := Ideal) x0 x1 (ix3 0 0 r)
      = BitVec.ofNat 32 (chartOf (fun d => x0 (ix2 r ⟨d.val, by omega⟩)) (fun k d => x1 (ix2 k d))).val := by
  unfold out0_2
  rw [View.canon_unit_zero (by funext a; fin_cases a <;> rfl)]
  refine (chart_pay _ _ r).trans ?_
  refine congrArg₂ (fun p cs => BitVec.ofNat 32 (chartOf p cs).val) (funext fun d => ?_) (funext fun k => funext fun d => ?_)
  · exact congrArg x0 (funext fun a => Fin.ext (by fin_cases a <;> simp [Rect.emb_apply] <;> rfl))
  · exact congrArg x1 (funext fun a => Fin.ext (by fin_cases a <;> simp [Rect.emb_apply] <;> rfl))

/-- What a point writes back is its block of `charts`. -/
theorem flushed_charts (c : Dev nD) (t : Fin cfg0.N) :
    (dats m 0 c).flushed 2 t = ((cfg0.win 2).blk t).view.read (Elt Ideal)
      (charts (m ((c : Thread nD τ).loc main_arg0)) (m ((c : Thread nD τ).loc main_arg1))) := by
  rw [Cert.ChartIdeal.Value.flushed2]
  obtain ⟨-, -, -, -, h0, h1, h2, -⟩ := index_facts t
  have hN : t.val < 8 := t.isLt
  funext (y : S1x1x512.Idx)
  have hy : y = ix3 0 0 (y 2) := by
    funext a; apply Fin.ext
    match a with
    | ⟨0, _⟩ => have := (y 0).isLt; show (y 0).val = 0; change (y 0).val < 1 at this; omega
    | ⟨1, _⟩ => have := (y 1).isLt; show (y 1).val = 0; change (y 1).val < 1 at this; omega
    | ⟨2, _⟩ => rfl
  obtain ⟨r, rfl⟩ : ∃ r : Fin 512, y = ix3 0 0 r := ⟨y 2, hy⟩
  show out0_2 (iblk m c 0 t) (iblk m c 1 t) (ix3 0 0 r)
    = charts _ _ ((win0_2.rect t).emb (ix3 0 0 r))
  rw [out_apply]
  unfold charts
  have e0 : ((win0_2.rect t).emb (ix3 0 0 r) 0 : Nat) = t.val := by
    refine (win0_2.rect_emb_val t (ix3 0 0 r) 0).trans ?_
    rw [h0]; show t.val * 1 + 0 = t.val; omega
  have e2 : ((win0_2.rect t).emb (ix3 0 0 r) 2 : Nat) = r.val := by
    refine (win0_2.rect_emb_val t (ix3 0 0 r) 2).trans ?_
    rw [h2]; show 0 * 512 + r.val = r.val; omega
  refine congrArg₂ (fun p cs => BitVec.ofNat 32 (chartOf p cs).val) (funext fun d => ?_) (funext fun k => funext fun d => ?_)
  · refine (iblk0_apply m c t r ⟨d.val, by omega⟩ (by omega)).trans (congrArg _ ?_)
    refine congrArg₂ ix2 (Fin.ext ?_) rfl
    show 512 * t.val + r.val = 512 * ((win0_2.rect t).emb (ix3 0 0 r) 0 : Nat) + ((win0_2.rect t).emb (ix3 0 0 r) 2 : Nat)
    rw [e0, e2]
  · exact iblk1_apply m c t k d

/-- Every entry of the result is in some point's block. -/
theorem cover_charts (i : S8x1x512.Idx) : ∃ t : Fin cfg0.N, (cfg0.win 2).flush t = true ∧ i ∈ ((cfg0.win 2).blk t).view.set := by
  have hi0 : (i 0).val < 8 := (i 0).isLt
  have hi1 : (i 1).val < 1 := (i 1).isLt
  have hi2 : (i 2).val < 512 := (i 2).isLt
  obtain ⟨-, -, -, -, h0, h1, h2, hf⟩ := index_facts ⟨(i 0).val, hi0⟩
  refine ⟨⟨(i 0).val, hi0⟩, hf, ?_⟩
  show i ∈ ((View.whole main_v0).slice (win0_2.rect ⟨(i 0).val, hi0⟩)).set
  rw [View.set_slice_whole, Rect.mem_set_unit]
  intro a
  match a with
  | ⟨0, _⟩ =>
    show win0_2.index ⟨(i 0).val, hi0⟩ 0 * 1 ≤ (i 0).val ∧ (i 0).val < win0_2.index ⟨(i 0).val, hi0⟩ 0 * 1 + 1
    rw [h0]; simp
  | ⟨1, _⟩ =>
    show win0_2.index ⟨(i 0).val, hi0⟩ 1 * 1 ≤ (i 1).val ∧ (i 1).val < win0_2.index ⟨(i 0).val, hi0⟩ 1 * 1 + 1
    rw [h1]; omega
  | ⟨2, _⟩ =>
    show win0_2.index ⟨(i 0).val, hi0⟩ 2 * 512 ≤ (i 2).val ∧ (i 2).val < win0_2.index ⟨(i 0).val, hi0⟩ 2 * 512 + 512
    rw [h2]; omega

/-- The call leaves the charts. -/
theorem chart_run : θ_run defs (onTc (τ := τ) (main (F := Ideal))) ⟨m, fun _ => 0, ρ⟩ fun r => ∀ c : Dev nD,
      r.2.mem ((c : Thread nD τ).loc main_v0)
        = charts (m ((c : Thread nD τ).loc main_arg0)) (m ((c : Thread nD τ).loc main_arg1))
      ∧ r.2.mem ((c : Thread nD τ).loc main_arg0) = m ((c : Thread nD τ).loc main_arg0)
      ∧ r.2.mem ((c : Thread nD τ).loc main_arg1) = m ((c : Thread nD τ).loc main_arg1) :=
  (θ_run defs _ _).mono (fun r h c => ⟨(h c).1.trans ((dats m 0 c).arrAt_eq_of_cover 2 _ (fun t _ => flushed_charts m c t) cover_charts),
      (h c).2⟩)
    (Cert.ChartIdeal.Value.run_blocks m ρ)

/-- The reference's result is the same table of charts. -/
theorem ref_charts (x0 : FVec Ideal S4096x64 .f32) (x1 : FVec Ideal S1024x32 .f32) :
    Cert.ChartReferenceIdeal.Read.val_main_v16 (F := Ideal) x0 x1 = charts x0 x1 := by
  funext i
  rw [Cert.ChartReferenceIdeal.Read.val_main_v16_apply]
  have hi0 : (i 0).val < 8 := (i 0).isLt
  have hi1 : (i 1).val < 1 := (i 1).isLt
  have hi2 : (i 2).val < 512 := (i 2).isLt
  have e : Cert.ChartReferenceIdeal.Read.idx_main_v16 i = ix1 (⟨512 * (i 0).val + (i 2).val, by omega⟩ : Fin 4096) := by
    funext a; apply Fin.ext
    match a with
    | ⟨0, _⟩ => show ((i 0).val * 1 + (i 1).val) * 512 + (i 2).val = 512 * (i 0).val + (i 2).val; omega
  rw [e]
  exact Cert.ChartReferenceIdeal.Read.chart_apply x0 x1 _

end Cert.Atlas

end
-- ==== Proof.ChartClaims.lean ====
/-
  The claims about the chart call and its reference.
-/
module

public import proofs.«01_k».proof.Defs
public import proofs.«01_k».proof.Proof.Gen.Chart.Frame
public import proofs.«01_k».proof.Proof.ChartValue

@[expose] public section

noncomputable section

namespace Cert.Atlas

open Idealize.ShloMosaic Idealize.ShloMosaic.TcCoe Idealize.SL.Sem

/-- The reference's run: its result is the table of charts, its arguments unchanged. -/
theorem chart_ref_run (m : (ℓ : Loc Cert.ChartReferenceIdeal.nD Cert.ChartReferenceIdeal.τ Cert.ChartReferenceIdeal.sig) → Buf (Elt Ideal) ℓ)
    (g : Dev Cert.ChartReferenceIdeal.nD → PrngReg) :
    θ_run (Cert.ChartReferenceIdeal.defs (F := Ideal)) (onTc (τ := Cert.ChartReferenceIdeal.τ) (Cert.ChartReferenceIdeal.main (F := Ideal)))
      ⟨m, fun _ => 0, g⟩ fun r => ∀ c : Dev Cert.ChartReferenceIdeal.nD,
      r.2.mem ((c.tc : Thread Cert.ChartReferenceIdeal.nD Cert.ChartReferenceIdeal.τ).loc Cert.ChartReferenceIdeal.main_v16)
        = charts (m ((c.tc : Thread Cert.ChartReferenceIdeal.nD Cert.ChartReferenceIdeal.τ).loc Cert.ChartReferenceIdeal.main_arg0))
            (m ((c.tc : Thread Cert.ChartReferenceIdeal.nD Cert.ChartReferenceIdeal.τ).loc Cert.ChartReferenceIdeal.main_arg1))
      ∧ r.2.mem ((c.tc : Thread Cert.ChartReferenceIdeal.nD Cert.ChartReferenceIdeal.τ).loc Cert.ChartReferenceIdeal.main_arg0)
        = m ((c.tc : Thread Cert.ChartReferenceIdeal.nD Cert.ChartReferenceIdeal.τ).loc Cert.ChartReferenceIdeal.main_arg0)
      ∧ r.2.mem ((c.tc : Thread Cert.ChartReferenceIdeal.nD Cert.ChartReferenceIdeal.τ).loc Cert.ChartReferenceIdeal.main_arg1)
        = m ((c.tc : Thread Cert.ChartReferenceIdeal.nD Cert.ChartReferenceIdeal.τ).loc Cert.ChartReferenceIdeal.main_arg1) :=
  (θ_run Cert.ChartReferenceIdeal.defs _ _).mono
    (fun _ h c => ⟨(h c).1.trans ((Cert.ChartReferenceIdeal.Read.val_main_v16_eq (F := Ideal) _ _).trans (ref_charts _ _)), (h c).2⟩)
    (Cert.ChartReferenceIdeal.Value.run (F := Ideal) m g)

/-- The chart call runs to its end, arguments unchanged and counters at zero. -/
theorem chart_frame : quiescent_Chart := fun m g _ => Cert.Chart.Gen.frame m g

/-- So does its ideal reading. -/
theorem chartIdeal_frame : quiescent_ChartIdeal := fun m g _ => Cert.ChartIdeal.Gen.frame m g

/-- So does the reference. -/
theorem chartReferenceIdeal_frame : quiescent_ChartReferenceIdeal := fun m g _ =>
  (θ_run Cert.ChartReferenceIdeal.defs _ _).mono
    (fun r h => ⟨fun c => (h c).2, sem_eq_zero_of_no_sems (by decide) r.2⟩) (chart_ref_run m g)

/-- The chart call and the reference agree on their result. -/
theorem chart_algebraic : algebraic_ChartIdeal_ChartReferenceIdeal := fun m g m' g' _ hm =>
  ⟨fun c => charts (m ((c.tc : Thread Cert.ChartIdeal.nD Cert.ChartIdeal.τ).loc Cert.ChartIdeal.main_arg0))
      (m ((c.tc : Thread Cert.ChartIdeal.nD Cert.ChartIdeal.τ).loc Cert.ChartIdeal.main_arg1)),
    chart_run m g,
    (θ_run Cert.ChartReferenceIdeal.defs _ _).mono
      (fun r h c => ⟨(h c).1.trans (by rw [(hm c).1, (hm c).2]), (h c).2⟩) (chart_ref_run m' g')⟩

end Cert.Atlas

end
-- ==== Proof.TwoIdealRuns.lean ====
/-
  The frame kit of the second stage: the buffers at region entry, the tables, the windows' blocks and what the runs of the body share.
  Follows the text generated for the program; the split of three tables is written out by hand.
-/
module

public import proofs.«01_k».proof.Proof.Gen.TwoIdeal.Launch
public import proofs.«01_k».proof.Proof.Gen.TwoIdeal.Skeleton
public import proofs.«01_k».proof.Proof.Gen.TwoIdeal.Points
public import Idealize.ShloMosaic.Lib.Pipeline.FrameBody
public import Idealize.ShloMosaic.Lib.Ring
public import Idealize.ShloMosaic.Lib.Tactic
public import Idealize.ShloMosaic.Lib.WordCmp

@[expose] public section

set_option maxRecDepth 16384

noncomputable section

namespace Cert.TwoIdeal.Kit

open Cert.TwoIdeal Cert.TwoIdeal.Gen

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

abbrev V (c : Dev nD) (b : Ref sig .tc) : Buf (Elt F) ((c : Thread nD τ).loc b) := StableHlo.after hostOps0 (fun b => m (c, b)) b

/-- The operations before the launch write buffers of their own. -/
theorem hostOps0_fresh : (hostOps0 : List (HloOp τ sig (Elt F))).Forall fun op => op.fresh = ∅ := by
  simp only [List.Forall]; repeat' constructor

set_option maxHeartbeats 800000 in
/-- The program is the operations before the launch, then the launch. -/
theorem hmain (𝒱₀ : Variants) : Pipeline.HMainP (Ix := Unit) (Name := ℕ) (U := UR sig nD τ) (Lvl := ℕ) pcfgs 0 defs₀ 𝒱₀ m (main (F := F)) (V m) :=
  Pipeline.hmainP_prefix pcfgs 0 defs₀ 𝒱₀ m main hostOps0 hostOps0_sub hostOps0_fresh main_chain

/-- Argument 0 is unchanged at region entry. -/
theorem V_main_arg0 (c : Dev nD) : V m c main_arg0 = m ((c : Thread nD τ).loc main_arg0) :=
  StableHlo.after_of_forall_not_mem (b := Proc.devRef .tc main_arg0) _ _ (List.forall_iff_forall_mem.mp (by
    simp only [hostOps0, List.flatten_cons, List.flatten_nil, List.append_nil, List.cons_append,
      List.nil_append, List.Forall, StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.mem_singleton]
    repeat' apply And.intro
    all_goals exact StableHlo.devRef_ne_of_ne (by decide)))
/-- Argument 1 is unchanged at region entry. -/
theorem V_main_arg1 (c : Dev nD) : V m c main_arg1 = m ((c : Thread nD τ).loc main_arg1) :=
  StableHlo.after_of_forall_not_mem (b := Proc.devRef .tc main_arg1) _ _ (List.forall_iff_forall_mem.mp (by
    simp only [hostOps0, List.flatten_cons, List.flatten_nil, List.append_nil, List.cons_append,
      List.nil_append, List.Forall, StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.mem_singleton]
    repeat' apply And.intro
    all_goals exact StableHlo.devRef_ne_of_ne (by decide)))
/-- Argument 2 is unchanged at region entry. -/
theorem V_main_arg2 (c : Dev nD) : V m c main_arg2 = m ((c : Thread nD τ).loc main_arg2) :=
  StableHlo.after_of_forall_not_mem (b := Proc.devRef .tc main_arg2) _ _ (List.forall_iff_forall_mem.mp (by
    simp only [hostOps0, List.flatten_cons, List.flatten_nil, List.append_nil, List.cons_append,
      List.nil_append, List.Forall, StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.mem_singleton]
    repeat' apply And.intro
    all_goals exact StableHlo.devRef_ne_of_ne (by decide)))
/-- Argument 3 is unchanged at region entry. -/
theorem V_main_arg3 (c : Dev nD) : V m c main_arg3 = m ((c : Thread nD τ).loc main_arg3) :=
  StableHlo.after_of_forall_not_mem (b := Proc.devRef .tc main_arg3) _ _ (List.forall_iff_forall_mem.mp (by
    simp only [hostOps0, List.flatten_cons, List.flatten_nil, List.append_nil, List.cons_append,
      List.nil_append, List.Forall, StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.mem_singleton]
    repeat' apply And.intro
    all_goals exact StableHlo.devRef_ne_of_ne (by decide)))
/-- Argument 4 is unchanged at region entry. -/
theorem V_main_arg4 (c : Dev nD) : V m c main_arg4 = m ((c : Thread nD τ).loc main_arg4) :=
  StableHlo.after_of_forall_not_mem (b := Proc.devRef .tc main_arg4) _ _ (List.forall_iff_forall_mem.mp (by
    simp only [hostOps0, List.flatten_cons, List.flatten_nil, List.append_nil, List.cons_append,
      List.nil_append, List.Forall, StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.mem_singleton]
    repeat' apply And.intro
    all_goals exact StableHlo.devRef_ne_of_ne (by decide)))
/-- Argument 5 is unchanged at region entry. -/
theorem V_main_arg5 (c : Dev nD) : V m c main_arg5 = m ((c : Thread nD τ).loc main_arg5) :=
  StableHlo.after_of_forall_not_mem (b := Proc.devRef .tc main_arg5) _ _ (List.forall_iff_forall_mem.mp (by
    simp only [hostOps0, List.flatten_cons, List.flatten_nil, List.append_nil, List.cons_append,
      List.nil_append, List.Forall, StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.mem_singleton]
    repeat' apply And.intro
    all_goals exact StableHlo.devRef_ne_of_ne (by decide)))
/-- Argument 6 is unchanged at region entry. -/
theorem V_main_arg6 (c : Dev nD) : V m c main_arg6 = m ((c : Thread nD τ).loc main_arg6) :=
  StableHlo.after_of_forall_not_mem (b := Proc.devRef .tc main_arg6) _ _ (List.forall_iff_forall_mem.mp (by
    simp only [hostOps0, List.flatten_cons, List.flatten_nil, List.append_nil, List.cons_append,
      List.nil_append, List.Forall, StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.mem_singleton]
    repeat' apply And.intro
    all_goals exact StableHlo.devRef_ne_of_ne (by decide)))
/-- Argument 7 is unchanged at region entry. -/
theorem V_main_arg7 (c : Dev nD) : V m c main_arg7 = m ((c : Thread nD τ).loc main_arg7) :=
  StableHlo.after_of_forall_not_mem (b := Proc.devRef .tc main_arg7) _ _ (List.forall_iff_forall_mem.mp (by
    simp only [hostOps0, List.flatten_cons, List.flatten_nil, List.append_nil, List.cons_append,
      List.nil_append, List.Forall, StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.mem_singleton]
    repeat' apply And.intro
    all_goals exact StableHlo.devRef_ne_of_ne (by decide)))
/-- Argument 8 is unchanged at region entry. -/
theorem V_main_arg8 (c : Dev nD) : V m c main_arg8 = m ((c : Thread nD τ).loc main_arg8) :=
  StableHlo.after_of_forall_not_mem (b := Proc.devRef .tc main_arg8) _ _ (List.forall_iff_forall_mem.mp (by
    simp only [hostOps0, List.flatten_cons, List.flatten_nil, List.append_nil, List.cons_append,
      List.nil_append, List.Forall, StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.mem_singleton]
    repeat' apply And.intro
    all_goals exact StableHlo.devRef_ne_of_ne (by decide)))

def tbl : pre0.Contents (Elt F) := fun j => V m (0 : Dev nD) (pre0.ref j)
/-- The tables at region entry. -/
theorem V_pre (c : Dev nD) (j : Fin 3) : V m c (pre0.ref j) = tbl m j := by
  obtain rfl : c = 0 := Subsingleton.elim _ _; rfl
abbrev Ok : Prop := ok0 (F := F) (tbl m)
abbrev adm (hO : Ok m) : (pcfg0 (F := F)).Adm := ⟨tbl m, hO⟩
abbrev cfgM (hO : Ok m) : Pipeline.Cfg sig Λ₀ := cfg0 (adm m hO)

abbrev tbM0_0 : Memref sig .tc .smem S4096 .i32 := Memref.whole main_arg0
abbrev htbM0_0 : tbM0_0.IsWhole := Memref.isWhole_whole _
abbrev tbM0_1 : Memref sig .tc .smem S4096 .i32 := Memref.whole main_arg1
abbrev htbM0_1 : tbM0_1.IsWhole := Memref.isWhole_whole _
abbrev tbM0_2 : Memref sig .tc .smem S4096 .i32 := Memref.whole main_arg2
abbrev htbM0_2 : tbM0_2.IsWhole := Memref.isWhole_whole _

abbrev TbBuf0 (c : Dev nD) {S : Shape} {e : EltTy} (M : Memref sig .tc .smem S e) : Type := Buf (Elt F) (M.view.loc (c : Thread nD τ))
abbrev tbPt0 (c : Dev nD) {S : Shape} {e : EltTy} (M : Memref sig .tc .smem S e) (f : TbBuf0 (F := F) c M) : sProp 𝕄 :=
  M.view.loc (c : Thread nD τ) ↦{fullShare.right} f

/-- The tables split into the single ones. -/
theorem PhiT0_eq (c : Dev nD) : (Pipeline.ΦT pre0 (tbl m) c : sProp 𝕄) = iprop(tbPt0 c tbM0_0 (tbl m 0) ∗ tbPt0 c tbM0_1 (tbl m 1) ∗ tbPt0 c tbM0_2 (tbl m 2)) := by
  unfold Pipeline.ΦT Pipeline.prefHeld
  rw [show (Finset.univ : Finset (Fin 3)) = insert (0 : Fin 3) (insert (1 : Fin 3) {(2 : Fin 3)}) from by decide,
    bigSep_insert (by decide), bigSep_insert (by decide), bigSep_singleton]
  rfl

def iblk (hO : Ok m) (c : Dev nD) (w : Fin (cfgM m hO).W) (t : Fin (cfgM m hO).N) : (((cfgM m hO).win w).xblock ((cfgM m hO).grid.coords t)).Idx → Elt F ((cfgM m hO).win w).elt :=
  (((cfgM m hO).win w).blk t).view.read (Elt F) (V m c (Pipeline.arrRef spec0 w))

/-- Window 0's block on entry is the block of its array. -/
theorem before0_0_of (hO : Ok m) {c : Dev nD} (dat : Dat τ (Elt F) Unit ℕ (UR sig nD τ) ℕ (cfgM m hO) c) (hA : dat.A 0 = V m c (Pipeline.arrRef spec0 0))
    (hafter : ∀ t, dat.after 0 t = iblk m hO c 0 t) (t : Fin (cfgM m hO).N) (d) : dat.before 0 t d = iblk m hO c 0 t :=
  (dat.before_in_eq_fetched 0 rfl (fun _ => rfl) (fun _ _ _ => rfl) (fun t => by rw [hafter]; unfold Dat.blockOf iblk; rw [hA]; try rfl) t d).trans
    (by unfold Dat.fetched Dat.blockOf iblk; rw [hA]; try rfl)
/-- Window 1's block on entry is the block of its array. -/
theorem before0_1_of (hO : Ok m) {c : Dev nD} (dat : Dat τ (Elt F) Unit ℕ (UR sig nD τ) ℕ (cfgM m hO) c) (hA : dat.A 1 = V m c (Pipeline.arrRef spec0 1))
    (hafter : ∀ t, dat.after 1 t = iblk m hO c 1 t) (t : Fin (cfgM m hO).N) (d) : dat.before 1 t d = iblk m hO c 1 t :=
  (dat.before_in_eq_fetched 1 rfl (fun _ => rfl) (fun _ _ _ => rfl) (fun t => by rw [hafter]; unfold Dat.blockOf iblk; rw [hA]; try rfl) t d).trans
    (by unfold Dat.fetched Dat.blockOf iblk; rw [hA]; try rfl)
/-- Window 2's block on entry is the block of its array. -/
theorem before0_2_of (hO : Ok m) {c : Dev nD} (dat : Dat τ (Elt F) Unit ℕ (UR sig nD τ) ℕ (cfgM m hO) c) (hA : dat.A 2 = V m c (Pipeline.arrRef spec0 2))
    (hafter : ∀ t, dat.after 2 t = iblk m hO c 2 t) (t : Fin (cfgM m hO).N) (d) : dat.before 2 t d = iblk m hO c 2 t :=
  (dat.before_in_eq_fetched 2 rfl (fun _ => rfl) (fun _ _ _ => rfl) (fun t => by rw [hafter]; unfold Dat.blockOf iblk; rw [hA]; try rfl) t d).trans
    (by unfold Dat.fetched Dat.blockOf iblk; rw [hA]; try rfl)
/-- Window 3's block on entry is the block of its array. -/
theorem before0_3_of (hO : Ok m) {c : Dev nD} (dat : Dat τ (Elt F) Unit ℕ (UR sig nD τ) ℕ (cfgM m hO) c) (hA : dat.A 3 = V m c (Pipeline.arrRef spec0 3))
    (hafter : ∀ t, dat.after 3 t = iblk m hO c 3 t) (t : Fin (cfgM m hO).N) (d) : dat.before 3 t d = iblk m hO c 3 t :=
  (dat.before_in_eq_fetched 3 rfl (fun _ => rfl) (fun _ _ _ => rfl) (fun t => by rw [hafter]; unfold Dat.blockOf iblk; rw [hA]; try rfl) t d).trans
    (by unfold Dat.fetched Dat.blockOf iblk; rw [hA]; try rfl)
/-- Window 4's block on entry is the block of its array. -/
theorem before0_4_of (hO : Ok m) {c : Dev nD} (dat : Dat τ (Elt F) Unit ℕ (UR sig nD τ) ℕ (cfgM m hO) c) (hA : dat.A 4 = V m c (Pipeline.arrRef spec0 4))
    (hafter : ∀ t, dat.after 4 t = iblk m hO c 4 t) (t : Fin (cfgM m hO).N) (d) : dat.before 4 t d = iblk m hO c 4 t :=
  (dat.before_in_eq_fetched 4 rfl (fun _ => rfl) (fun _ _ _ => rfl) (fun t => by rw [hafter]; unfold Dat.blockOf iblk; rw [hA]; try rfl) t d).trans
    (by unfold Dat.fetched Dat.blockOf iblk; rw [hA]; try rfl)
/-- Window 5's block on entry is the block of its array. -/
theorem before0_5_of (hO : Ok m) {c : Dev nD} (dat : Dat τ (Elt F) Unit ℕ (UR sig nD τ) ℕ (cfgM m hO) c) (hA : dat.A 5 = V m c (Pipeline.arrRef spec0 5))
    (hafter : ∀ t, dat.after 5 t = iblk m hO c 5 t) (t : Fin (cfgM m hO).N) (d) : dat.before 5 t d = iblk m hO c 5 t :=
  (dat.before_in_eq_fetched 5 rfl (fun _ => rfl) (fun _ _ _ => rfl) (fun t => by rw [hafter]; unfold Dat.blockOf iblk; rw [hA]; try rfl) t d).trans
    (by unfold Dat.fetched Dat.blockOf iblk; rw [hA]; try rfl)
/-- Window 6's block on entry is the block of its array. -/
theorem before0_6_of (hO : Ok m) {c : Dev nD} (dat : Dat τ (Elt F) Unit ℕ (UR sig nD τ) ℕ (cfgM m hO) c) (hA : dat.A 6 = V m c (Pipeline.arrRef spec0 6))
    (hafter : ∀ t, dat.after 6 t = iblk m hO c 6 t) (t : Fin (cfgM m hO).N) (d) : dat.before 6 t d = iblk m hO c 6 t :=
  (dat.before_in_eq_fetched 6 rfl (fun _ => rfl) (fun _ _ _ => rfl) (fun t => by rw [hafter]; unfold Dat.blockOf iblk; rw [hA]; try rfl) t d).trans
    (by unfold Dat.fetched Dat.blockOf iblk; rw [hA]; try rfl)
/-- Window 7's block on entry is the block of its array. -/
theorem before0_7_of (hO : Ok m) {c : Dev nD} (dat : Dat τ (Elt F) Unit ℕ (UR sig nD τ) ℕ (cfgM m hO) c) (hA : dat.A 7 = V m c (Pipeline.arrRef spec0 7))
    (hafter : ∀ t, dat.after 7 t = iblk m hO c 7 t) (t : Fin (cfgM m hO).N) (d) : dat.before 7 t d = iblk m hO c 7 t :=
  (dat.before_in_eq_fetched 7 rfl (fun _ => rfl) (fun _ _ _ => rfl) (fun t => by rw [hafter]; unfold Dat.blockOf iblk; rw [hA]; try rfl) t d).trans
    (by unfold Dat.fetched Dat.blockOf iblk; rw [hA]; try rfl)
/-- Window 8's block on entry is the block of its array. -/
theorem before0_8_of (hO : Ok m) {c : Dev nD} (dat : Dat τ (Elt F) Unit ℕ (UR sig nD τ) ℕ (cfgM m hO) c) (hA : dat.A 8 = V m c (Pipeline.arrRef spec0 8))
    (hafter : ∀ t, dat.after 8 t = iblk m hO c 8 t) (t : Fin (cfgM m hO).N) (d) : dat.before 8 t d = iblk m hO c 8 t :=
  (dat.before_in_eq_fetched 8 rfl (fun _ => rfl) (fun _ _ _ => rfl) (fun t => by rw [hafter]; unfold Dat.blockOf iblk; rw [hA]; try rfl) t d).trans
    (by unfold Dat.fetched Dat.blockOf iblk; rw [hA]; try rfl)
/-- Window 9's block on entry is the block of its array. -/
theorem before0_9_of (hO : Ok m) {c : Dev nD} (dat : Dat τ (Elt F) Unit ℕ (UR sig nD τ) ℕ (cfgM m hO) c) (hA : dat.A 9 = V m c (Pipeline.arrRef spec0 9))
    (hafter : ∀ t, dat.after 9 t = iblk m hO c 9 t) (t : Fin (cfgM m hO).N) (d) : dat.before 9 t d = iblk m hO c 9 t :=
  (dat.before_in_eq_fetched 9 rfl (fun _ => rfl) (fun _ _ _ => rfl) (fun t => by rw [hafter]; unfold Dat.blockOf iblk; rw [hA]; try rfl) t d).trans
    (by unfold Dat.fetched Dat.blockOf iblk; rw [hA]; try rfl)
/-- Window 10's block on entry is the block of its array. -/
theorem before0_10_of (hO : Ok m) {c : Dev nD} (dat : Dat τ (Elt F) Unit ℕ (UR sig nD τ) ℕ (cfgM m hO) c) (hA : dat.A 10 = V m c (Pipeline.arrRef spec0 10))
    (hafter : ∀ t, dat.after 10 t = iblk m hO c 10 t) (t : Fin (cfgM m hO).N) (d) : dat.before 10 t d = iblk m hO c 10 t :=
  (dat.before_in_eq_fetched 10 rfl (fun _ => rfl) (fun _ _ _ => rfl) (fun t => by rw [hafter]; unfold Dat.blockOf iblk; rw [hA]; try rfl) t d).trans
    (by unfold Dat.fetched Dat.blockOf iblk; rw [hA]; try rfl)
/-- Window 11's block on entry is the block of its array. -/
theorem before0_11_of (hO : Ok m) {c : Dev nD} (dat : Dat τ (Elt F) Unit ℕ (UR sig nD τ) ℕ (cfgM m hO) c) (hA : dat.A 11 = V m c (Pipeline.arrRef spec0 11))
    (hafter : ∀ t, dat.after 11 t = iblk m hO c 11 t) (t : Fin (cfgM m hO).N) (d) : dat.before 11 t d = iblk m hO c 11 t :=
  (dat.before_in_eq_fetched 11 rfl (fun _ => rfl) (fun _ _ _ => rfl) (fun t => by rw [hafter]; unfold Dat.blockOf iblk; rw [hA]; try rfl) t d).trans
    (by unfold Dat.fetched Dat.blockOf iblk; rw [hA]; try rfl)
/-- Window 12's block on entry is the block of its array. -/
theorem before0_12_of (hO : Ok m) {c : Dev nD} (dat : Dat τ (Elt F) Unit ℕ (UR sig nD τ) ℕ (cfgM m hO) c) (hA : dat.A 12 = V m c (Pipeline.arrRef spec0 12))
    (hafter : ∀ t, dat.after 12 t = iblk m hO c 12 t) (t : Fin (cfgM m hO).N) (d) : dat.before 12 t d = iblk m hO c 12 t :=
  (dat.before_in_eq_fetched 12 rfl (fun _ => rfl) (fun _ _ _ => rfl) (fun t => by rw [hafter]; unfold Dat.blockOf iblk; rw [hA]; try rfl) t d).trans
    (by unfold Dat.fetched Dat.blockOf iblk; rw [hA]; try rfl)
/-- Window 13's block on entry is the block of its array. -/
theorem before0_13_of (hO : Ok m) {c : Dev nD} (dat : Dat τ (Elt F) Unit ℕ (UR sig nD τ) ℕ (cfgM m hO) c) (hA : dat.A 13 = V m c (Pipeline.arrRef spec0 13))
    (hafter : ∀ t, dat.after 13 t = iblk m hO c 13 t) (t : Fin (cfgM m hO).N) (d) : dat.before 13 t d = iblk m hO c 13 t :=
  (dat.before_in_eq_fetched 13 rfl (fun _ => rfl) (fun _ _ _ => rfl) (fun t => by rw [hafter]; unfold Dat.blockOf iblk; rw [hA]; try rfl) t d).trans
    (by unfold Dat.fetched Dat.blockOf iblk; rw [hA]; try rfl)
/-- Window 14's block on entry is the block of its array. -/
theorem before0_14_of (hO : Ok m) {c : Dev nD} (dat : Dat τ (Elt F) Unit ℕ (UR sig nD τ) ℕ (cfgM m hO) c) (hA : dat.A 14 = V m c (Pipeline.arrRef spec0 14))
    (hafter : ∀ t, dat.after 14 t = iblk m hO c 14 t) (t : Fin (cfgM m hO).N) (d) : dat.before 14 t d = iblk m hO c 14 t :=
  (dat.before_in_eq_fetched 14 rfl (fun _ => rfl) (fun _ _ _ => rfl) (fun t => by rw [hafter]; unfold Dat.blockOf iblk; rw [hA]; try rfl) t d).trans
    (by unfold Dat.fetched Dat.blockOf iblk; rw [hA]; try rfl)
/-- Window 15's block on entry is the block of its array. -/
theorem before0_15_of (hO : Ok m) {c : Dev nD} (dat : Dat τ (Elt F) Unit ℕ (UR sig nD τ) ℕ (cfgM m hO) c) (hA : dat.A 15 = V m c (Pipeline.arrRef spec0 15))
    (hafter : ∀ t, dat.after 15 t = iblk m hO c 15 t) (t : Fin (cfgM m hO).N) (d) : dat.before 15 t d = iblk m hO c 15 t :=
  (dat.before_in_eq_fetched 15 rfl (fun _ => rfl) (fun _ _ _ => rfl) (fun t => by rw [hafter]; unfold Dat.blockOf iblk; rw [hA]; try rfl) t d).trans
    (by unfold Dat.fetched Dat.blockOf iblk; rw [hA]; try rfl)
/-- Window 16's block on entry is the block of its array. -/
theorem before0_16_of (hO : Ok m) {c : Dev nD} (dat : Dat τ (Elt F) Unit ℕ (UR sig nD τ) ℕ (cfgM m hO) c) (hA : dat.A 16 = V m c (Pipeline.arrRef spec0 16))
    (hafter : ∀ t, dat.after 16 t = iblk m hO c 16 t) (t : Fin (cfgM m hO).N) (d) : dat.before 16 t d = iblk m hO c 16 t :=
  (dat.before_in_eq_fetched 16 rfl (fun _ => rfl) (fun _ _ _ => rfl) (fun t => by rw [hafter]; unfold Dat.blockOf iblk; rw [hA]; try rfl) t d).trans
    (by unfold Dat.fetched Dat.blockOf iblk; rw [hA]; try rfl)
/-- Window 17's block on entry is the block of its array. -/
theorem before0_17_of (hO : Ok m) {c : Dev nD} (dat : Dat τ (Elt F) Unit ℕ (UR sig nD τ) ℕ (cfgM m hO) c) (hA : dat.A 17 = V m c (Pipeline.arrRef spec0 17))
    (hafter : ∀ t, dat.after 17 t = iblk m hO c 17 t) (t : Fin (cfgM m hO).N) (d) : dat.before 17 t d = iblk m hO c 17 t :=
  (dat.before_in_eq_fetched 17 rfl (fun _ => rfl) (fun _ _ _ => rfl) (fun t => by rw [hafter]; unfold Dat.blockOf iblk; rw [hA]; try rfl) t d).trans
    (by unfold Dat.fetched Dat.blockOf iblk; rw [hA]; try rfl)
/-- Window 18's block on entry is the block of its array. -/
theorem before0_18_of (hO : Ok m) {c : Dev nD} (dat : Dat τ (Elt F) Unit ℕ (UR sig nD τ) ℕ (cfgM m hO) c) (hA : dat.A 18 = V m c (Pipeline.arrRef spec0 18))
    (hafter : ∀ t, dat.after 18 t = iblk m hO c 18 t) (t : Fin (cfgM m hO).N) (d) : dat.before 18 t d = iblk m hO c 18 t :=
  (dat.before_in_eq_fetched 18 rfl (fun _ => rfl) (fun _ _ _ => rfl) (fun t => by rw [hafter]; unfold Dat.blockOf iblk; rw [hA]; try rfl) t d).trans
    (by unfold Dat.fetched Dat.blockOf iblk; rw [hA]; try rfl)
/-- Window 19's block on entry is the block of its array. -/
theorem before0_19_of (hO : Ok m) {c : Dev nD} (dat : Dat τ (Elt F) Unit ℕ (UR sig nD τ) ℕ (cfgM m hO) c) (hA : dat.A 19 = V m c (Pipeline.arrRef spec0 19))
    (hafter : ∀ t, dat.after 19 t = iblk m hO c 19 t) (t : Fin (cfgM m hO).N) (d) : dat.before 19 t d = iblk m hO c 19 t :=
  (dat.before_in_eq_fetched 19 rfl (fun _ => rfl) (fun _ _ _ => rfl) (fun t => by rw [hafter]; unfold Dat.blockOf iblk; rw [hA]; try rfl) t d).trans
    (by unfold Dat.fetched Dat.blockOf iblk; rw [hA]; try rfl)
/-- Window 20's block on entry is the block of its array. -/
theorem before0_20_of (hO : Ok m) {c : Dev nD} (dat : Dat τ (Elt F) Unit ℕ (UR sig nD τ) ℕ (cfgM m hO) c) (hA : dat.A 20 = V m c (Pipeline.arrRef spec0 20))
    (hafter : ∀ t, dat.after 20 t = iblk m hO c 20 t) (t : Fin (cfgM m hO).N) (d) : dat.before 20 t d = iblk m hO c 20 t :=
  (dat.before_in_eq_fetched 20 rfl (fun _ => rfl) (fun _ _ _ => rfl) (fun t => by rw [hafter]; unfold Dat.blockOf iblk; rw [hA]; try rfl) t d).trans
    (by unfold Dat.fetched Dat.blockOf iblk; rw [hA]; try rfl)
/-- Window 21's block on entry is the block of its array. -/
theorem before0_21_of (hO : Ok m) {c : Dev nD} (dat : Dat τ (Elt F) Unit ℕ (UR sig nD τ) ℕ (cfgM m hO) c) (hA : dat.A 21 = V m c (Pipeline.arrRef spec0 21))
    (hafter : ∀ t, dat.after 21 t = iblk m hO c 21 t) (t : Fin (cfgM m hO).N) (d) : dat.before 21 t d = iblk m hO c 21 t :=
  (dat.before_in_eq_fetched 21 rfl (fun _ => rfl) (fun _ _ _ => rfl) (fun t => by rw [hafter]; unfold Dat.blockOf iblk; rw [hA]; try rfl) t d).trans
    (by unfold Dat.fetched Dat.blockOf iblk; rw [hA]; try rfl)
/-- Window 22's block on entry is the block of its array. -/
theorem before0_22_of (hO : Ok m) {c : Dev nD} (dat : Dat τ (Elt F) Unit ℕ (UR sig nD τ) ℕ (cfgM m hO) c) (hA : dat.A 22 = V m c (Pipeline.arrRef spec0 22))
    (hafter : ∀ t, dat.after 22 t = iblk m hO c 22 t) (t : Fin (cfgM m hO).N) (d) : dat.before 22 t d = iblk m hO c 22 t :=
  (dat.before_in_eq_fetched 22 rfl (fun _ => rfl) (fun _ _ _ => rfl) (fun t => by rw [hafter]; unfold Dat.blockOf iblk; rw [hA]; try rfl) t d).trans
    (by unfold Dat.fetched Dat.blockOf iblk; rw [hA]; try rfl)
/-- Window 23's block on entry is the block of its array. -/
theorem before0_23_of (hO : Ok m) {c : Dev nD} (dat : Dat τ (Elt F) Unit ℕ (UR sig nD τ) ℕ (cfgM m hO) c) (hA : dat.A 23 = V m c (Pipeline.arrRef spec0 23))
    (hafter : ∀ t, dat.after 23 t = iblk m hO c 23 t) (t : Fin (cfgM m hO).N) (d) : dat.before 23 t d = iblk m hO c 23 t :=
  (dat.before_in_eq_fetched 23 rfl (fun _ => rfl) (fun _ _ _ => rfl) (fun t => by rw [hafter]; unfold Dat.blockOf iblk; rw [hA]; try rfl) t d).trans
    (by unfold Dat.fetched Dat.blockOf iblk; rw [hA]; try rfl)
/-- Window 24's block on entry is the block of its array. -/
theorem before0_24_of (hO : Ok m) {c : Dev nD} (dat : Dat τ (Elt F) Unit ℕ (UR sig nD τ) ℕ (cfgM m hO) c) (hA : dat.A 24 = V m c (Pipeline.arrRef spec0 24))
    (hafter : ∀ t, dat.after 24 t = iblk m hO c 24 t) (t : Fin (cfgM m hO).N) (d) : dat.before 24 t d = iblk m hO c 24 t :=
  (dat.before_in_eq_fetched 24 rfl (fun _ => rfl) (fun _ _ _ => rfl) (fun t => by rw [hafter]; unfold Dat.blockOf iblk; rw [hA]; try rfl) t d).trans
    (by unfold Dat.fetched Dat.blockOf iblk; rw [hA]; try rfl)
/-- Window 25's block on entry is the block of its array. -/
theorem before0_25_of (hO : Ok m) {c : Dev nD} (dat : Dat τ (Elt F) Unit ℕ (UR sig nD τ) ℕ (cfgM m hO) c) (hA : dat.A 25 = V m c (Pipeline.arrRef spec0 25))
    (hafter : ∀ t, dat.after 25 t = iblk m hO c 25 t) (t : Fin (cfgM m hO).N) (d) : dat.before 25 t d = iblk m hO c 25 t :=
  (dat.before_in_eq_fetched 25 rfl (fun _ => rfl) (fun _ _ _ => rfl) (fun t => by rw [hafter]; unfold Dat.blockOf iblk; rw [hA]; try rfl) t d).trans
    (by unfold Dat.fetched Dat.blockOf iblk; rw [hA]; try rfl)
/-- Window 26's block on entry is the block of its array. -/
theorem before0_26_of (hO : Ok m) {c : Dev nD} (dat : Dat τ (Elt F) Unit ℕ (UR sig nD τ) ℕ (cfgM m hO) c) (hA : dat.A 26 = V m c (Pipeline.arrRef spec0 26))
    (hafter : ∀ t, dat.after 26 t = iblk m hO c 26 t) (t : Fin (cfgM m hO).N) (d) : dat.before 26 t d = iblk m hO c 26 t :=
  (dat.before_in_eq_fetched 26 rfl (fun _ => rfl) (fun _ _ _ => rfl) (fun t => by rw [hafter]; unfold Dat.blockOf iblk; rw [hA]; try rfl) t d).trans
    (by unfold Dat.fetched Dat.blockOf iblk; rw [hA]; try rfl)
/-- Window 27's block on entry is the block of its array. -/
theorem before0_27_of (hO : Ok m) {c : Dev nD} (dat : Dat τ (Elt F) Unit ℕ (UR sig nD τ) ℕ (cfgM m hO) c) (hA : dat.A 27 = V m c (Pipeline.arrRef spec0 27))
    (hafter : ∀ t, dat.after 27 t = iblk m hO c 27 t) (t : Fin (cfgM m hO).N) (d) : dat.before 27 t d = iblk m hO c 27 t :=
  (dat.before_in_eq_fetched 27 rfl (fun _ => rfl) (fun _ _ _ => rfl) (fun t => by rw [hafter]; unfold Dat.blockOf iblk; rw [hA]; try rfl) t d).trans
    (by unfold Dat.fetched Dat.blockOf iblk; rw [hA]; try rfl)
/-- Window 28's block on entry is the block of its array. -/
theorem before0_28_of (hO : Ok m) {c : Dev nD} (dat : Dat τ (Elt F) Unit ℕ (UR sig nD τ) ℕ (cfgM m hO) c) (hA : dat.A 28 = V m c (Pipeline.arrRef spec0 28))
    (hafter : ∀ t, dat.after 28 t = iblk m hO c 28 t) (t : Fin (cfgM m hO).N) (d) : dat.before 28 t d = iblk m hO c 28 t :=
  (dat.before_in_eq_fetched 28 rfl (fun _ => rfl) (fun _ _ _ => rfl) (fun t => by rw [hafter]; unfold Dat.blockOf iblk; rw [hA]; try rfl) t d).trans
    (by unfold Dat.fetched Dat.blockOf iblk; rw [hA]; try rfl)
/-- Window 29's block on entry is the block of its array. -/
theorem before0_29_of (hO : Ok m) {c : Dev nD} (dat : Dat τ (Elt F) Unit ℕ (UR sig nD τ) ℕ (cfgM m hO) c) (hA : dat.A 29 = V m c (Pipeline.arrRef spec0 29))
    (hafter : ∀ t, dat.after 29 t = iblk m hO c 29 t) (t : Fin (cfgM m hO).N) (d) : dat.before 29 t d = iblk m hO c 29 t :=
  (dat.before_in_eq_fetched 29 rfl (fun _ => rfl) (fun _ _ _ => rfl) (fun t => by rw [hafter]; unfold Dat.blockOf iblk; rw [hA]; try rfl) t d).trans
    (by unfold Dat.fetched Dat.blockOf iblk; rw [hA]; try rfl)
/-- Window 30's block on entry is the block of its array. -/
theorem before0_30_of (hO : Ok m) {c : Dev nD} (dat : Dat τ (Elt F) Unit ℕ (UR sig nD τ) ℕ (cfgM m hO) c) (hA : dat.A 30 = V m c (Pipeline.arrRef spec0 30))
    (hafter : ∀ t, dat.after 30 t = iblk m hO c 30 t) (t : Fin (cfgM m hO).N) (d) : dat.before 30 t d = iblk m hO c 30 t :=
  (dat.before_in_eq_fetched 30 rfl (fun _ => rfl) (fun _ _ _ => rfl) (fun t => by rw [hafter]; unfold Dat.blockOf iblk; rw [hA]; try rfl) t d).trans
    (by unfold Dat.fetched Dat.blockOf iblk; rw [hA]; try rfl)
/-- Window 31's block on entry is the block of its array. -/
theorem before0_31_of (hO : Ok m) {c : Dev nD} (dat : Dat τ (Elt F) Unit ℕ (UR sig nD τ) ℕ (cfgM m hO) c) (hA : dat.A 31 = V m c (Pipeline.arrRef spec0 31))
    (hafter : ∀ t, dat.after 31 t = iblk m hO c 31 t) (t : Fin (cfgM m hO).N) (d) : dat.before 31 t d = iblk m hO c 31 t :=
  (dat.before_in_eq_fetched 31 rfl (fun _ => rfl) (fun _ _ _ => rfl) (fun t => by rw [hafter]; unfold Dat.blockOf iblk; rw [hA]; try rfl) t d).trans
    (by unfold Dat.fetched Dat.blockOf iblk; rw [hA]; try rfl)
/-- Window 32's block on entry is the block of its array. -/
theorem before0_32_of (hO : Ok m) {c : Dev nD} (dat : Dat τ (Elt F) Unit ℕ (UR sig nD τ) ℕ (cfgM m hO) c) (hA : dat.A 32 = V m c (Pipeline.arrRef spec0 32))
    (hafter : ∀ t, dat.after 32 t = iblk m hO c 32 t) (t : Fin (cfgM m hO).N) (d) : dat.before 32 t d = iblk m hO c 32 t :=
  (dat.before_in_eq_fetched 32 rfl (fun _ => rfl) (fun _ _ _ => rfl) (fun t => by rw [hafter]; unfold Dat.blockOf iblk; rw [hA]; try rfl) t d).trans
    (by unfold Dat.fetched Dat.blockOf iblk; rw [hA]; try rfl)
/-- Window 33's block on entry is the block of its array. -/
theorem before0_33_of (hO : Ok m) {c : Dev nD} (dat : Dat τ (Elt F) Unit ℕ (UR sig nD τ) ℕ (cfgM m hO) c) (hA : dat.A 33 = V m c (Pipeline.arrRef spec0 33))
    (hafter : ∀ t, dat.after 33 t = iblk m hO c 33 t) (t : Fin (cfgM m hO).N) (d) : dat.before 33 t d = iblk m hO c 33 t :=
  (dat.before_in_eq_fetched 33 rfl (fun _ => rfl) (fun _ _ _ => rfl) (fun t => by rw [hafter]; unfold Dat.blockOf iblk; rw [hA]; try rfl) t d).trans
    (by unfold Dat.fetched Dat.blockOf iblk; rw [hA]; try rfl)

set_option maxHeartbeats 2160000 in
/-- From the run of the pipeline, the arguments end as they began. -/
theorem frame_of (hO : Ok m) (dats : (p : Fin 1) → (c : Dev nD) → Dat τ (Elt F) Unit ℕ (UR sig nD τ) ℕ ((Pipeline.pin pcfgs fun _ => adm m hO) p) c)
    (hA : ∀ c w, (dats 0 c).A w = V m c (Pipeline.arrRef spec0 w))
    (h : θ_run defs (onTc (τ := τ) (main (F := F))) (s₀ m ρ) (Pipeline.FramePost (Pipeline.pin pcfgs fun _ => adm m hO) dats 0 (V m))) :
    θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)) :=
  (θ_run defs _ _).mono (fun _ h c => ⟨((h c).2 main_arg0 (by decide : main_arg0 ∈ Pipeline.restRefs sig spec0)).trans (V_main_arg0 m c),
      ((h c).2 main_arg1 (by decide : main_arg1 ∈ Pipeline.restRefs sig spec0)).trans (V_main_arg1 m c),
      ((h c).2 main_arg2 (by decide : main_arg2 ∈ Pipeline.restRefs sig spec0)).trans (V_main_arg2 m c),
      ((h c).1 32).trans (((dats 0 c).arrAt_in 32 rfl _).trans ((hA c 32).trans (V_main_arg3 m c))),
      ((h c).1 33).trans (((dats 0 c).arrAt_in 33 rfl _).trans ((hA c 33).trans (V_main_arg4 m c))),
      ((h c).2 main_arg5 (by decide : main_arg5 ∈ Pipeline.restRefs sig spec0)).trans (V_main_arg5 m c),
      ((h c).1 15).trans (((dats 0 c).arrAt_in 15 rfl _).trans ((hA c 15).trans (V_main_arg6 m c))),
      ((h c).2 main_arg7 (by decide : main_arg7 ∈ Pipeline.restRefs sig spec0)).trans (V_main_arg7 m c),
      ((h c).2 main_arg8 (by decide : main_arg8 ∈ Pipeline.restRefs sig spec0)).trans (V_main_arg8 m c)⟩) h

abbrev VO0_34 : View sig .tc .vmem S16x64 .f32 := (Memref.whole cc0_stg34_0 : Memref sig .tc .vmem S16x64 .f32).view
abbrev VO0_35 : View sig .tc .vmem S1x1x128 .i32 := (Memref.whole cc0_stg35_0 : Memref sig .tc .vmem S1x1x128 .i32).view
abbrev ms0_0 (hO : Ok m) (t : Fin (cfgM m hO).N) : Memref sig .tc .vmem S1x64x64 .f32 := spec0_0.stage ((cfgM m hO).slots t 0)
abbrev hs0_0 (hO : Ok m) (t : Fin (cfgM m hO).N) : (ms0_0 m hO t).IsWhole := hstage0_0 (((cfgM m hO).slots t 0).cast nbuf0_0)
abbrev ms0_1 (hO : Ok m) (t : Fin (cfgM m hO).N) : Memref sig .tc .vmem S1x64x64 .f32 := spec0_1.stage ((cfgM m hO).slots t 1)
abbrev hs0_1 (hO : Ok m) (t : Fin (cfgM m hO).N) : (ms0_1 m hO t).IsWhole := hstage0_1 (((cfgM m hO).slots t 1).cast nbuf0_1)
abbrev ms0_2 (hO : Ok m) (t : Fin (cfgM m hO).N) : Memref sig .tc .vmem S1x64x64 .f32 := spec0_2.stage ((cfgM m hO).slots t 2)
abbrev hs0_2 (hO : Ok m) (t : Fin (cfgM m hO).N) : (ms0_2 m hO t).IsWhole := hstage0_2 (((cfgM m hO).slots t 2).cast nbuf0_2)
abbrev ms0_3 (hO : Ok m) (t : Fin (cfgM m hO).N) : Memref sig .tc .vmem S1x64x64 .f32 := spec0_3.stage ((cfgM m hO).slots t 3)
abbrev hs0_3 (hO : Ok m) (t : Fin (cfgM m hO).N) : (ms0_3 m hO t).IsWhole := hstage0_3 (((cfgM m hO).slots t 3).cast nbuf0_3)
abbrev ms0_4 (hO : Ok m) (t : Fin (cfgM m hO).N) : Memref sig .tc .vmem S1x64x64 .f32 := spec0_4.stage ((cfgM m hO).slots t 4)
abbrev hs0_4 (hO : Ok m) (t : Fin (cfgM m hO).N) : (ms0_4 m hO t).IsWhole := hstage0_4 (((cfgM m hO).slots t 4).cast nbuf0_4)
abbrev ms0_5 (hO : Ok m) (t : Fin (cfgM m hO).N) : Memref sig .tc .vmem S1x64x64 .f32 := spec0_5.stage ((cfgM m hO).slots t 5)
abbrev hs0_5 (hO : Ok m) (t : Fin (cfgM m hO).N) : (ms0_5 m hO t).IsWhole := hstage0_5 (((cfgM m hO).slots t 5).cast nbuf0_5)
abbrev ms0_6 (hO : Ok m) (t : Fin (cfgM m hO).N) : Memref sig .tc .vmem S1x64x64 .f32 := spec0_6.stage ((cfgM m hO).slots t 6)
abbrev hs0_6 (hO : Ok m) (t : Fin (cfgM m hO).N) : (ms0_6 m hO t).IsWhole := hstage0_6 (((cfgM m hO).slots t 6).cast nbuf0_6)
abbrev ms0_7 (hO : Ok m) (t : Fin (cfgM m hO).N) : Memref sig .tc .vmem S1x64x64 .f32 := spec0_7.stage ((cfgM m hO).slots t 7)
abbrev hs0_7 (hO : Ok m) (t : Fin (cfgM m hO).N) : (ms0_7 m hO t).IsWhole := hstage0_7 (((cfgM m hO).slots t 7).cast nbuf0_7)
abbrev ms0_8 (hO : Ok m) (t : Fin (cfgM m hO).N) : Memref sig .tc .vmem S1x64x64 .f32 := spec0_8.stage ((cfgM m hO).slots t 8)
abbrev hs0_8 (hO : Ok m) (t : Fin (cfgM m hO).N) : (ms0_8 m hO t).IsWhole := hstage0_8 (((cfgM m hO).slots t 8).cast nbuf0_8)
abbrev ms0_9 (hO : Ok m) (t : Fin (cfgM m hO).N) : Memref sig .tc .vmem S1x64x64 .f32 := spec0_9.stage ((cfgM m hO).slots t 9)
abbrev hs0_9 (hO : Ok m) (t : Fin (cfgM m hO).N) : (ms0_9 m hO t).IsWhole := hstage0_9 (((cfgM m hO).slots t 9).cast nbuf0_9)
abbrev ms0_10 (hO : Ok m) (t : Fin (cfgM m hO).N) : Memref sig .tc .vmem S1x64x64 .f32 := spec0_10.stage ((cfgM m hO).slots t 10)
abbrev hs0_10 (hO : Ok m) (t : Fin (cfgM m hO).N) : (ms0_10 m hO t).IsWhole := hstage0_10 (((cfgM m hO).slots t 10).cast nbuf0_10)
abbrev ms0_11 (hO : Ok m) (t : Fin (cfgM m hO).N) : Memref sig .tc .vmem S1x64x64 .f32 := spec0_11.stage ((cfgM m hO).slots t 11)
abbrev hs0_11 (hO : Ok m) (t : Fin (cfgM m hO).N) : (ms0_11 m hO t).IsWhole := hstage0_11 (((cfgM m hO).slots t 11).cast nbuf0_11)
abbrev ms0_12 (hO : Ok m) (t : Fin (cfgM m hO).N) : Memref sig .tc .vmem S1x64x64 .f32 := spec0_12.stage ((cfgM m hO).slots t 12)
abbrev hs0_12 (hO : Ok m) (t : Fin (cfgM m hO).N) : (ms0_12 m hO t).IsWhole := hstage0_12 (((cfgM m hO).slots t 12).cast nbuf0_12)
abbrev ms0_13 (hO : Ok m) (t : Fin (cfgM m hO).N) : Memref sig .tc .vmem S1x64x64 .f32 := spec0_13.stage ((cfgM m hO).slots t 13)
abbrev hs0_13 (hO : Ok m) (t : Fin (cfgM m hO).N) : (ms0_13 m hO t).IsWhole := hstage0_13 (((cfgM m hO).slots t 13).cast nbuf0_13)
abbrev ms0_14 (hO : Ok m) (t : Fin (cfgM m hO).N) : Memref sig .tc .vmem S1x64x64 .f32 := spec0_14.stage ((cfgM m hO).slots t 14)
abbrev hs0_14 (hO : Ok m) (t : Fin (cfgM m hO).N) : (ms0_14 m hO t).IsWhole := hstage0_14 (((cfgM m hO).slots t 14).cast nbuf0_14)
abbrev ms0_15 (hO : Ok m) (t : Fin (cfgM m hO).N) : Memref sig .tc .vmem S1x64x64 .f32 := spec0_15.stage ((cfgM m hO).slots t 15)
abbrev hs0_15 (hO : Ok m) (t : Fin (cfgM m hO).N) : (ms0_15 m hO t).IsWhole := hstage0_15 (((cfgM m hO).slots t 15).cast nbuf0_15)
abbrev ms0_16 (hO : Ok m) (t : Fin (cfgM m hO).N) : Memref sig .tc .vmem S1x1x256 .f32 := spec0_16.stage ((cfgM m hO).slots t 16)
abbrev hs0_16 (hO : Ok m) (t : Fin (cfgM m hO).N) : (ms0_16 m hO t).IsWhole := hstage0_16 (((cfgM m hO).slots t 16).cast nbuf0_16)
abbrev ms0_17 (hO : Ok m) (t : Fin (cfgM m hO).N) : Memref sig .tc .vmem S1x1x256 .f32 := spec0_17.stage ((cfgM m hO).slots t 17)
abbrev hs0_17 (hO : Ok m) (t : Fin (cfgM m hO).N) : (ms0_17 m hO t).IsWhole := hstage0_17 (((cfgM m hO).slots t 17).cast nbuf0_17)
abbrev ms0_18 (hO : Ok m) (t : Fin (cfgM m hO).N) : Memref sig .tc .vmem S1x1x256 .f32 := spec0_18.stage ((cfgM m hO).slots t 18)
abbrev hs0_18 (hO : Ok m) (t : Fin (cfgM m hO).N) : (ms0_18 m hO t).IsWhole := hstage0_18 (((cfgM m hO).slots t 18).cast nbuf0_18)
abbrev ms0_19 (hO : Ok m) (t : Fin (cfgM m hO).N) : Memref sig .tc .vmem S1x1x256 .f32 := spec0_19.stage ((cfgM m hO).slots t 19)
abbrev hs0_19 (hO : Ok m) (t : Fin (cfgM m hO).N) : (ms0_19 m hO t).IsWhole := hstage0_19 (((cfgM m hO).slots t 19).cast nbuf0_19)
abbrev ms0_20 (hO : Ok m) (t : Fin (cfgM m hO).N) : Memref sig .tc .vmem S1x1x256 .f32 := spec0_20.stage ((cfgM m hO).slots t 20)
abbrev hs0_20 (hO : Ok m) (t : Fin (cfgM m hO).N) : (ms0_20 m hO t).IsWhole := hstage0_20 (((cfgM m hO).slots t 20).cast nbuf0_20)
abbrev ms0_21 (hO : Ok m) (t : Fin (cfgM m hO).N) : Memref sig .tc .vmem S1x1x256 .f32 := spec0_21.stage ((cfgM m hO).slots t 21)
abbrev hs0_21 (hO : Ok m) (t : Fin (cfgM m hO).N) : (ms0_21 m hO t).IsWhole := hstage0_21 (((cfgM m hO).slots t 21).cast nbuf0_21)
abbrev ms0_22 (hO : Ok m) (t : Fin (cfgM m hO).N) : Memref sig .tc .vmem S1x1x256 .f32 := spec0_22.stage ((cfgM m hO).slots t 22)
abbrev hs0_22 (hO : Ok m) (t : Fin (cfgM m hO).N) : (ms0_22 m hO t).IsWhole := hstage0_22 (((cfgM m hO).slots t 22).cast nbuf0_22)
abbrev ms0_23 (hO : Ok m) (t : Fin (cfgM m hO).N) : Memref sig .tc .vmem S1x1x256 .f32 := spec0_23.stage ((cfgM m hO).slots t 23)
abbrev hs0_23 (hO : Ok m) (t : Fin (cfgM m hO).N) : (ms0_23 m hO t).IsWhole := hstage0_23 (((cfgM m hO).slots t 23).cast nbuf0_23)
abbrev ms0_24 (hO : Ok m) (t : Fin (cfgM m hO).N) : Memref sig .tc .vmem S1x1x256 .f32 := spec0_24.stage ((cfgM m hO).slots t 24)
abbrev hs0_24 (hO : Ok m) (t : Fin (cfgM m hO).N) : (ms0_24 m hO t).IsWhole := hstage0_24 (((cfgM m hO).slots t 24).cast nbuf0_24)
abbrev ms0_25 (hO : Ok m) (t : Fin (cfgM m hO).N) : Memref sig .tc .vmem S1x1x256 .f32 := spec0_25.stage ((cfgM m hO).slots t 25)
abbrev hs0_25 (hO : Ok m) (t : Fin (cfgM m hO).N) : (ms0_25 m hO t).IsWhole := hstage0_25 (((cfgM m hO).slots t 25).cast nbuf0_25)
abbrev ms0_26 (hO : Ok m) (t : Fin (cfgM m hO).N) : Memref sig .tc .vmem S1x1x256 .f32 := spec0_26.stage ((cfgM m hO).slots t 26)
abbrev hs0_26 (hO : Ok m) (t : Fin (cfgM m hO).N) : (ms0_26 m hO t).IsWhole := hstage0_26 (((cfgM m hO).slots t 26).cast nbuf0_26)
abbrev ms0_27 (hO : Ok m) (t : Fin (cfgM m hO).N) : Memref sig .tc .vmem S1x1x256 .f32 := spec0_27.stage ((cfgM m hO).slots t 27)
abbrev hs0_27 (hO : Ok m) (t : Fin (cfgM m hO).N) : (ms0_27 m hO t).IsWhole := hstage0_27 (((cfgM m hO).slots t 27).cast nbuf0_27)
abbrev ms0_28 (hO : Ok m) (t : Fin (cfgM m hO).N) : Memref sig .tc .vmem S1x1x256 .f32 := spec0_28.stage ((cfgM m hO).slots t 28)
abbrev hs0_28 (hO : Ok m) (t : Fin (cfgM m hO).N) : (ms0_28 m hO t).IsWhole := hstage0_28 (((cfgM m hO).slots t 28).cast nbuf0_28)
abbrev ms0_29 (hO : Ok m) (t : Fin (cfgM m hO).N) : Memref sig .tc .vmem S1x1x256 .f32 := spec0_29.stage ((cfgM m hO).slots t 29)
abbrev hs0_29 (hO : Ok m) (t : Fin (cfgM m hO).N) : (ms0_29 m hO t).IsWhole := hstage0_29 (((cfgM m hO).slots t 29).cast nbuf0_29)
abbrev ms0_30 (hO : Ok m) (t : Fin (cfgM m hO).N) : Memref sig .tc .vmem S1x1x256 .f32 := spec0_30.stage ((cfgM m hO).slots t 30)
abbrev hs0_30 (hO : Ok m) (t : Fin (cfgM m hO).N) : (ms0_30 m hO t).IsWhole := hstage0_30 (((cfgM m hO).slots t 30).cast nbuf0_30)
abbrev ms0_31 (hO : Ok m) (t : Fin (cfgM m hO).N) : Memref sig .tc .vmem S1x1x256 .f32 := spec0_31.stage ((cfgM m hO).slots t 31)
abbrev hs0_31 (hO : Ok m) (t : Fin (cfgM m hO).N) : (ms0_31 m hO t).IsWhole := hstage0_31 (((cfgM m hO).slots t 31).cast nbuf0_31)
abbrev ms0_32 (hO : Ok m) (t : Fin (cfgM m hO).N) : Memref sig .tc .vmem S16x64 .f32 := spec0_32.stage ((cfgM m hO).slots t 32)
abbrev hs0_32 (hO : Ok m) (t : Fin (cfgM m hO).N) : (ms0_32 m hO t).IsWhole := hstage0_32 (((cfgM m hO).slots t 32).cast nbuf0_32)
abbrev ms0_33 (hO : Ok m) (t : Fin (cfgM m hO).N) : Memref sig .tc .vmem S16x64 .f32 := spec0_33.stage ((cfgM m hO).slots t 33)
abbrev hs0_33 (hO : Ok m) (t : Fin (cfgM m hO).N) : (ms0_33 m hO t).IsWhole := hstage0_33 (((cfgM m hO).slots t 33).cast nbuf0_33)
abbrev ms0_34 (hO : Ok m) (t : Fin (cfgM m hO).N) : Memref sig .tc .vmem S16x64 .f32 := spec0_34.stage ((cfgM m hO).slots t 34)
abbrev hs0_34 (hO : Ok m) (t : Fin (cfgM m hO).N) : (ms0_34 m hO t).IsWhole := hstage0_34 (((cfgM m hO).slots t 34).cast nbuf0_34)
abbrev ms0_35 (hO : Ok m) (t : Fin (cfgM m hO).N) : Memref sig .tc .vmem S1x1x128 .i32 := spec0_35.stage ((cfgM m hO).slots t 35)
abbrev hs0_35 (hO : Ok m) (t : Fin (cfgM m hO).N) : (ms0_35 m hO t).IsWhole := hstage0_35 (((cfgM m hO).slots t 35).cast nbuf0_35)

end Cert.TwoIdeal.Kit

end
-- ==== Proof.TwoIdealRunA.lean ====
/-
  The body of the second stage run once: what each store leaves, as pieces, with the triple.
  Follows the text generated for the program.
-/
module

public import proofs.«01_k».proof.Proof.TwoIdealRuns

@[expose] public section

set_option maxRecDepth 16384

noncomputable section

namespace Cert.TwoIdeal.Kit

open Cert.TwoIdeal Cert.TwoIdeal.Gen

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

set_option maxHeartbeats 0 in
noncomputable def kernelRun0_A (c : Dev nD) (i : grid0.Coords) (arg4 : Memref sig .tc .vmem S1x64x64 .f32) (harg4 : arg4.IsWhole) (arg5 : Memref sig .tc .vmem S1x64x64 .f32) (harg5 : arg5.IsWhole) (arg6 : Memref sig .tc .vmem S1x64x64 .f32) (harg6 : arg6.IsWhole) (arg7 : Memref sig .tc .vmem S1x64x64 .f32) (harg7 : arg7.IsWhole) (arg8 : Memref sig .tc .vmem S1x64x64 .f32) (harg8 : arg8.IsWhole) (arg9 : Memref sig .tc .vmem S1x64x64 .f32) (harg9 : arg9.IsWhole) (arg10 : Memref sig .tc .vmem S1x64x64 .f32) (harg10 : arg10.IsWhole) (arg11 : Memref sig .tc .vmem S1x64x64 .f32) (harg11 : arg11.IsWhole) (arg12 : Memref sig .tc .vmem S1x64x64 .f32) (harg12 : arg12.IsWhole) (arg13 : Memref sig .tc .vmem S1x64x64 .f32) (harg13 : arg13.IsWhole) (arg14 : Memref sig .tc .vmem S1x64x64 .f32) (harg14 : arg14.IsWhole) (arg15 : Memref sig .tc .vmem S1x64x64 .f32) (harg15 : arg15.IsWhole) (arg16 : Memref sig .tc .vmem S1x64x64 .f32) (harg16 : arg16.IsWhole) (arg17 : Memref sig .tc .vmem S1x64x64 .f32) (harg17 : arg17.IsWhole) (arg18 : Memref sig .tc .vmem S1x64x64 .f32) (harg18 : arg18.IsWhole) (arg19 : Memref sig .tc .vmem S1x64x64 .f32) (harg19 : arg19.IsWhole) (arg20 : Memref sig .tc .vmem S1x1x256 .f32) (harg20 : arg20.IsWhole) (arg21 : Memref sig .tc .vmem S1x1x256 .f32) (harg21 : arg21.IsWhole) (arg22 : Memref sig .tc .vmem S1x1x256 .f32) (harg22 : arg22.IsWhole) (arg23 : Memref sig .tc .vmem S1x1x256 .f32) (harg23 : arg23.IsWhole) (arg24 : Memref sig .tc .vmem S1x1x256 .f32) (harg24 : arg24.IsWhole) (arg25 : Memref sig .tc .vmem S1x1x256 .f32) (harg25 : arg25.IsWhole) (arg26 : Memref sig .tc .vmem S1x1x256 .f32) (harg26 : arg26.IsWhole) (arg27 : Memref sig .tc .vmem S1x1x256 .f32) (harg27 : arg27.IsWhole) (arg28 : Memref sig .tc .vmem S1x1x256 .f32) (harg28 : arg28.IsWhole) (arg29 : Memref sig .tc .vmem S1x1x256 .f32) (harg29 : arg29.IsWhole) (arg30 : Memref sig .tc .vmem S1x1x256 .f32) (harg30 : arg30.IsWhole) (arg31 : Memref sig .tc .vmem S1x1x256 .f32) (harg31 : arg31.IsWhole) (arg32 : Memref sig .tc .vmem S1x1x256 .f32) (harg32 : arg32.IsWhole) (arg33 : Memref sig .tc .vmem S1x1x256 .f32) (harg33 : arg33.IsWhole) (arg34 : Memref sig .tc .vmem S1x1x256 .f32) (harg34 : arg34.IsWhole) (arg35 : Memref sig .tc .vmem S1x1x256 .f32) (harg35 : arg35.IsWhole) (arg36 : Memref sig .tc .vmem S16x64 .f32) (harg36 : arg36.IsWhole) (arg37 : Memref sig .tc .vmem S16x64 .f32) (harg37 : arg37.IsWhole) (arg38 : Memref sig .tc .vmem S16x64 .f32) (harg38 : arg38.IsWhole) (arg39 : Memref sig .tc .vmem S1x1x128 .i32) (harg39 : arg39.IsWhole)
    (x0 : Vec F S1x64x64 .f32) (x1 : Vec F S1x64x64 .f32) (x2 : Vec F S1x64x64 .f32) (x3 : Vec F S1x64x64 .f32) (x4 : Vec F S1x64x64 .f32) (x5 : Vec F S1x64x64 .f32) (x6 : Vec F S1x64x64 .f32) (x7 : Vec F S1x64x64 .f32) (x8 : Vec F S1x64x64 .f32) (x9 : Vec F S1x64x64 .f32) (x10 : Vec F S1x64x64 .f32) (x11 : Vec F S1x64x64 .f32) (x12 : Vec F S1x64x64 .f32) (x13 : Vec F S1x64x64 .f32) (x14 : Vec F S1x64x64 .f32) (x15 : Vec F S1x64x64 .f32) (x16 : Vec F S1x1x256 .f32) (x17 : Vec F S1x1x256 .f32) (x18 : Vec F S1x1x256 .f32) (x19 : Vec F S1x1x256 .f32) (x20 : Vec F S1x1x256 .f32) (x21 : Vec F S1x1x256 .f32) (x22 : Vec F S1x1x256 .f32) (x23 : Vec F S1x1x256 .f32) (x24 : Vec F S1x1x256 .f32) (x25 : Vec F S1x1x256 .f32) (x26 : Vec F S1x1x256 .f32) (x27 : Vec F S1x1x256 .f32) (x28 : Vec F S1x1x256 .f32) (x29 : Vec F S1x1x256 .f32) (x30 : Vec F S1x1x256 .f32) (x31 : Vec F S1x1x256 .f32) (x32 : Vec F S16x64 .f32) (x33 : Vec F S16x64 .f32) (xt0 : TbBuf0 (F := F) c tbM0_0) (xt1 : TbBuf0 (F := F) c tbM0_1) (xt2 : TbBuf0 (F := F) c tbM0_2) :
    Σ' (L34 : List (View.Piece (Elt F) S16x64 .f32)), { L35 : List (View.Piece (Elt F) S1x1x128 .i32) //
      ∀ (E : Set ℕ) (K : PUnit → sProp 𝕄),
        iprop(owns (c : Thread nD τ) arg4 fullShare x0 ∗ owns (c : Thread nD τ) arg5 fullShare x1 ∗ owns (c : Thread nD τ) arg6 fullShare x2 ∗ owns (c : Thread nD τ) arg7 fullShare x3 ∗ owns (c : Thread nD τ) arg8 fullShare x4 ∗ owns (c : Thread nD τ) arg9 fullShare x5 ∗ owns (c : Thread nD τ) arg10 fullShare x6 ∗ owns (c : Thread nD τ) arg11 fullShare x7 ∗ owns (c : Thread nD τ) arg12 fullShare x8 ∗ owns (c : Thread nD τ) arg13 fullShare x9 ∗ owns (c : Thread nD τ) arg14 fullShare x10 ∗ owns (c : Thread nD τ) arg15 fullShare x11 ∗ owns (c : Thread nD τ) arg16 fullShare x12 ∗ owns (c : Thread nD τ) arg17 fullShare x13 ∗ owns (c : Thread nD τ) arg18 fullShare x14 ∗ owns (c : Thread nD τ) arg19 fullShare x15 ∗ owns (c : Thread nD τ) arg20 fullShare x16 ∗ owns (c : Thread nD τ) arg21 fullShare x17 ∗ owns (c : Thread nD τ) arg22 fullShare x18 ∗ owns (c : Thread nD τ) arg23 fullShare x19 ∗ owns (c : Thread nD τ) arg24 fullShare x20 ∗ owns (c : Thread nD τ) arg25 fullShare x21 ∗ owns (c : Thread nD τ) arg26 fullShare x22 ∗ owns (c : Thread nD τ) arg27 fullShare x23 ∗ owns (c : Thread nD τ) arg28 fullShare x24 ∗ owns (c : Thread nD τ) arg29 fullShare x25 ∗ owns (c : Thread nD τ) arg30 fullShare x26 ∗ owns (c : Thread nD τ) arg31 fullShare x27 ∗ owns (c : Thread nD τ) arg32 fullShare x28 ∗ owns (c : Thread nD τ) arg33 fullShare x29 ∗ owns (c : Thread nD τ) arg34 fullShare x30 ∗ owns (c : Thread nD τ) arg35 fullShare x31 ∗ owns (c : Thread nD τ) arg36 fullShare x32 ∗ owns (c : Thread nD τ) arg37 fullShare x33 ∗ (∃ d, owns (c : Thread nD τ) arg38 fullShare d) ∗ (∃ d, owns (c : Thread nD τ) arg39 fullShare d) ∗ tbPt0 c tbM0_0 xt0 ∗ tbPt0 c tbM0_1 xt1 ∗ tbPt0 c tbM0_2 xt2
            ∗ (iprop(owns (c : Thread nD τ) arg4 fullShare x0 ∗ owns (c : Thread nD τ) arg5 fullShare x1 ∗ owns (c : Thread nD τ) arg6 fullShare x2 ∗ owns (c : Thread nD τ) arg7 fullShare x3 ∗ owns (c : Thread nD τ) arg8 fullShare x4 ∗ owns (c : Thread nD τ) arg9 fullShare x5 ∗ owns (c : Thread nD τ) arg10 fullShare x6 ∗ owns (c : Thread nD τ) arg11 fullShare x7 ∗ owns (c : Thread nD τ) arg12 fullShare x8 ∗ owns (c : Thread nD τ) arg13 fullShare x9 ∗ owns (c : Thread nD τ) arg14 fullShare x10 ∗ owns (c : Thread nD τ) arg15 fullShare x11 ∗ owns (c : Thread nD τ) arg16 fullShare x12 ∗ owns (c : Thread nD τ) arg17 fullShare x13 ∗ owns (c : Thread nD τ) arg18 fullShare x14 ∗ owns (c : Thread nD τ) arg19 fullShare x15 ∗ owns (c : Thread nD τ) arg20 fullShare x16 ∗ owns (c : Thread nD τ) arg21 fullShare x17 ∗ owns (c : Thread nD τ) arg22 fullShare x18 ∗ owns (c : Thread nD τ) arg23 fullShare x19 ∗ owns (c : Thread nD τ) arg24 fullShare x20 ∗ owns (c : Thread nD τ) arg25 fullShare x21 ∗ owns (c : Thread nD τ) arg26 fullShare x22 ∗ owns (c : Thread nD τ) arg27 fullShare x23 ∗ owns (c : Thread nD τ) arg28 fullShare x24 ∗ owns (c : Thread nD τ) arg29 fullShare x25 ∗ owns (c : Thread nD τ) arg30 fullShare x26 ∗ owns (c : Thread nD τ) arg31 fullShare x27 ∗ owns (c : Thread nD τ) arg32 fullShare x28 ∗ owns (c : Thread nD τ) arg33 fullShare x29 ∗ owns (c : Thread nD τ) arg34 fullShare x30 ∗ owns (c : Thread nD τ) arg35 fullShare x31 ∗ owns (c : Thread nD τ) arg36 fullShare x32 ∗ owns (c : Thread nD τ) arg37 fullShare x33 ∗ (∃ f, arg38.view.loc (c : Thread nD τ) ↦[arg38.view.set]{fullShare} arg38.view.writes (Elt F) f L34) ∗ (∃ f, arg39.view.loc (c : Thread nD τ) ↦[arg39.view.set]{fullShare} arg39.view.writes (Elt F) f L35) ∗ tbPt0 c tbM0_0 xt0 ∗ tbPt0 c tbM0_1 xt1 ∗ tbPt0 c tbM0_2 xt2) -∗ K ⟨⟩))
          ⊢ wp frame (wpE (defs₀ (F := F)) Variants.none c none) E (cc0__stage2_kernel i tbM0_0 htbM0_0 tbM0_1 htbM0_1 tbM0_2 htbM0_2 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 arg25 harg25 arg26 harg26 arg27 harg27 arg28 harg28 arg29 harg29 arg30 harg30 arg31 harg31 arg32 harg32 arg33 harg33 arg34 harg34 arg35 harg35 arg36 harg36 arg37 harg37 arg38 harg38 arg39 harg39) K } := by
  refine ⟨?_, ?_, fun E K => ?run⟩
  case run =>
    simp only [cc0__stage2_kernel_eq_skeleton]; unfold cc0__stage2_kernel_skel
    simp only [k0_part14_eq_skeleton, k0_part1_eq_skeleton, k0_part2_eq_skeleton, k0_part3_eq_skeleton, k0_part4_eq_skeleton, k0_part5_eq_skeleton, k0_part6_eq_skeleton, k0_part7_eq_skeleton, k0_part8_eq_skeleton, k0_part9_eq_skeleton, k0_part10_eq_skeleton, k0_part11_eq_skeleton, k0_part12_eq_skeleton, k0_part13_eq_skeleton]
    unfold owns
    iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%f6, %hf6, H6⟩, ⟨%f7, %hf7, H7⟩, ⟨%f8, %hf8, H8⟩, ⟨%f9, %hf9, H9⟩, ⟨%f10, %hf10, H10⟩, ⟨%f11, %hf11, H11⟩, ⟨%f12, %hf12, H12⟩, ⟨%f13, %hf13, H13⟩, ⟨%f14, %hf14, H14⟩, ⟨%f15, %hf15, H15⟩, ⟨%f16, %hf16, H16⟩, ⟨%f17, %hf17, H17⟩, ⟨%f18, %hf18, H18⟩, ⟨%f19, %hf19, H19⟩, ⟨%f20, %hf20, H20⟩, ⟨%f21, %hf21, H21⟩, ⟨%f22, %hf22, H22⟩, ⟨%f23, %hf23, H23⟩, ⟨%f24, %hf24, H24⟩, ⟨%f25, %hf25, H25⟩, ⟨%f26, %hf26, H26⟩, ⟨%f27, %hf27, H27⟩, ⟨%f28, %hf28, H28⟩, ⟨%f29, %hf29, H29⟩, ⟨%f30, %hf30, H30⟩, ⟨%f31, %hf31, H31⟩, ⟨%f32, %hf32, H32⟩, ⟨%f33, %hf33, H33⟩, ⟨%d34, %f34, -, H34⟩, ⟨%d35, %f35, -, H35⟩, HT0, HT1, HT2, Hk⟩
    obtain rfl := harg4.eq_unread hf0; obtain rfl := harg5.eq_unread hf1; obtain rfl := harg6.eq_unread hf2; obtain rfl := harg7.eq_unread hf3; obtain rfl := harg8.eq_unread hf4; obtain rfl := harg9.eq_unread hf5; obtain rfl := harg10.eq_unread hf6; obtain rfl := harg11.eq_unread hf7; obtain rfl := harg12.eq_unread hf8; obtain rfl := harg13.eq_unread hf9; obtain rfl := harg14.eq_unread hf10; obtain rfl := harg15.eq_unread hf11; obtain rfl := harg16.eq_unread hf12; obtain rfl := harg17.eq_unread hf13; obtain rfl := harg18.eq_unread hf14; obtain rfl := harg19.eq_unread hf15; obtain rfl := harg20.eq_unread hf16; obtain rfl := harg21.eq_unread hf17; obtain rfl := harg22.eq_unread hf18; obtain rfl := harg23.eq_unread hf19; obtain rfl := harg24.eq_unread hf20; obtain rfl := harg25.eq_unread hf21; obtain rfl := harg26.eq_unread hf22; obtain rfl := harg27.eq_unread hf23; obtain rfl := harg28.eq_unread hf24; obtain rfl := harg29.eq_unread hf25; obtain rfl := harg30.eq_unread hf26; obtain rfl := harg31.eq_unread hf27; obtain rfl := harg32.eq_unread hf28; obtain rfl := harg33.eq_unread hf29; obtain rfl := harg34.eq_unread hf30; obtain rfl := harg35.eq_unread hf31; obtain rfl := harg36.eq_unread hf32; obtain rfl := harg37.eq_unread hf33
    sl_exec
    sl_step
    iapply Hk
    isplitl [H0]
    · iexists _; isplitr; · ipureintro; exact harg4.read_unread _
      iexact H0
    isplitl [H1]
    · iexists _; isplitr; · ipureintro; exact harg5.read_unread _
      iexact H1
    isplitl [H2]
    · iexists _; isplitr; · ipureintro; exact harg6.read_unread _
      iexact H2
    isplitl [H3]
    · iexists _; isplitr; · ipureintro; exact harg7.read_unread _
      iexact H3
    isplitl [H4]
    · iexists _; isplitr; · ipureintro; exact harg8.read_unread _
      iexact H4
    isplitl [H5]
    · iexists _; isplitr; · ipureintro; exact harg9.read_unread _
      iexact H5
    isplitl [H6]
    · iexists _; isplitr; · ipureintro; exact harg10.read_unread _
      iexact H6
    isplitl [H7]
    · iexists _; isplitr; · ipureintro; exact harg11.read_unread _
      iexact H7
    isplitl [H8]
    · iexists _; isplitr; · ipureintro; exact harg12.read_unread _
      iexact H8
    isplitl [H9]
    · iexists _; isplitr; · ipureintro; exact harg13.read_unread _
      iexact H9
    isplitl [H10]
    · iexists _; isplitr; · ipureintro; exact harg14.read_unread _
      iexact H10
    isplitl [H11]
    · iexists _; isplitr; · ipureintro; exact harg15.read_unread _
      iexact H11
    isplitl [H12]
    · iexists _; isplitr; · ipureintro; exact harg16.read_unread _
      iexact H12
    isplitl [H13]
    · iexists _; isplitr; · ipureintro; exact harg17.read_unread _
      iexact H13
    isplitl [H14]
    · iexists _; isplitr; · ipureintro; exact harg18.read_unread _
      iexact H14
    isplitl [H15]
    · iexists _; isplitr; · ipureintro; exact harg19.read_unread _
      iexact H15
    isplitl [H16]
    · iexists _; isplitr; · ipureintro; exact harg20.read_unread _
      iexact H16
    isplitl [H17]
    · iexists _; isplitr; · ipureintro; exact harg21.read_unread _
      iexact H17
    isplitl [H18]
    · iexists _; isplitr; · ipureintro; exact harg22.read_unread _
      iexact H18
    isplitl [H19]
    · iexists _; isplitr; · ipureintro; exact harg23.read_unread _
      iexact H19
    isplitl [H20]
    · iexists _; isplitr; · ipureintro; exact harg24.read_unread _
      iexact H20
    isplitl [H21]
    · iexists _; isplitr; · ipureintro; exact harg25.read_unread _
      iexact H21
    isplitl [H22]
    · iexists _; isplitr; · ipureintro; exact harg26.read_unread _
      iexact H22
    isplitl [H23]
    · iexists _; isplitr; · ipureintro; exact harg27.read_unread _
      iexact H23
    isplitl [H24]
    · iexists _; isplitr; · ipureintro; exact harg28.read_unread _
      iexact H24
    isplitl [H25]
    · iexists _; isplitr; · ipureintro; exact harg29.read_unread _
      iexact H25
    isplitl [H26]
    · iexists _; isplitr; · ipureintro; exact harg30.read_unread _
      iexact H26
    isplitl [H27]
    · iexists _; isplitr; · ipureintro; exact harg31.read_unread _
      iexact H27
    isplitl [H28]
    · iexists _; isplitr; · ipureintro; exact harg32.read_unread _
      iexact H28
    isplitl [H29]
    · iexists _; isplitr; · ipureintro; exact harg33.read_unread _
      iexact H29
    isplitl [H30]
    · iexists _; isplitr; · ipureintro; exact harg34.read_unread _
      iexact H30
    isplitl [H31]
    · iexists _; isplitr; · ipureintro; exact harg35.read_unread _
      iexact H31
    isplitl [H32]
    · iexists _; isplitr; · ipureintro; exact harg36.read_unread _
      iexact H32
    isplitl [H33]
    · iexists _; isplitr; · ipureintro; exact harg37.read_unread _
      iexact H33
    isplitl [H34]; · iexists _; iexact H34
    isplitl [H35]; · iexists _; iexact H35
    isplitl [HT0]; · iexact HT0
    isplitl [HT1]; · iexact HT1
    iexact HT2

end Cert.TwoIdeal.Kit

end
-- ==== Proof.TwoIdealFrame.lean ====
/-
  The second stage's outputs point by point, the body obligation, the run of the pipeline and the frame.
  Follows the text generated for the program.
-/
module

public import proofs.«01_k».proof.Proof.TwoIdealRunA
public import Idealize.ShloMosaic.Lib.Claim

@[expose] public section

set_option maxRecDepth 16384

noncomputable section

namespace Cert.TwoIdeal.Kit

open Cert.TwoIdeal Cert.TwoIdeal.Gen

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)
/-- The stores to window 34 cover its block. -/
theorem cover0_A_34 (c : Dev nD) (i : grid0.Coords) (arg4 : Memref sig .tc .vmem S1x64x64 .f32) (harg4 : arg4.IsWhole) (arg5 : Memref sig .tc .vmem S1x64x64 .f32) (harg5 : arg5.IsWhole) (arg6 : Memref sig .tc .vmem S1x64x64 .f32) (harg6 : arg6.IsWhole) (arg7 : Memref sig .tc .vmem S1x64x64 .f32) (harg7 : arg7.IsWhole) (arg8 : Memref sig .tc .vmem S1x64x64 .f32) (harg8 : arg8.IsWhole) (arg9 : Memref sig .tc .vmem S1x64x64 .f32) (harg9 : arg9.IsWhole) (arg10 : Memref sig .tc .vmem S1x64x64 .f32) (harg10 : arg10.IsWhole) (arg11 : Memref sig .tc .vmem S1x64x64 .f32) (harg11 : arg11.IsWhole) (arg12 : Memref sig .tc .vmem S1x64x64 .f32) (harg12 : arg12.IsWhole) (arg13 : Memref sig .tc .vmem S1x64x64 .f32) (harg13 : arg13.IsWhole) (arg14 : Memref sig .tc .vmem S1x64x64 .f32) (harg14 : arg14.IsWhole) (arg15 : Memref sig .tc .vmem S1x64x64 .f32) (harg15 : arg15.IsWhole) (arg16 : Memref sig .tc .vmem S1x64x64 .f32) (harg16 : arg16.IsWhole) (arg17 : Memref sig .tc .vmem S1x64x64 .f32) (harg17 : arg17.IsWhole) (arg18 : Memref sig .tc .vmem S1x64x64 .f32) (harg18 : arg18.IsWhole) (arg19 : Memref sig .tc .vmem S1x64x64 .f32) (harg19 : arg19.IsWhole) (arg20 : Memref sig .tc .vmem S1x1x256 .f32) (harg20 : arg20.IsWhole) (arg21 : Memref sig .tc .vmem S1x1x256 .f32) (harg21 : arg21.IsWhole) (arg22 : Memref sig .tc .vmem S1x1x256 .f32) (harg22 : arg22.IsWhole) (arg23 : Memref sig .tc .vmem S1x1x256 .f32) (harg23 : arg23.IsWhole) (arg24 : Memref sig .tc .vmem S1x1x256 .f32) (harg24 : arg24.IsWhole) (arg25 : Memref sig .tc .vmem S1x1x256 .f32) (harg25 : arg25.IsWhole) (arg26 : Memref sig .tc .vmem S1x1x256 .f32) (harg26 : arg26.IsWhole) (arg27 : Memref sig .tc .vmem S1x1x256 .f32) (harg27 : arg27.IsWhole) (arg28 : Memref sig .tc .vmem S1x1x256 .f32) (harg28 : arg28.IsWhole) (arg29 : Memref sig .tc .vmem S1x1x256 .f32) (harg29 : arg29.IsWhole) (arg30 : Memref sig .tc .vmem S1x1x256 .f32) (harg30 : arg30.IsWhole) (arg31 : Memref sig .tc .vmem S1x1x256 .f32) (harg31 : arg31.IsWhole) (arg32 : Memref sig .tc .vmem S1x1x256 .f32) (harg32 : arg32.IsWhole) (arg33 : Memref sig .tc .vmem S1x1x256 .f32) (harg33 : arg33.IsWhole) (arg34 : Memref sig .tc .vmem S1x1x256 .f32) (harg34 : arg34.IsWhole) (arg35 : Memref sig .tc .vmem S1x1x256 .f32) (harg35 : arg35.IsWhole) (arg36 : Memref sig .tc .vmem S16x64 .f32) (harg36 : arg36.IsWhole) (arg37 : Memref sig .tc .vmem S16x64 .f32) (harg37 : arg37.IsWhole) (arg38 : Memref sig .tc .vmem S16x64 .f32) (harg38 : arg38.IsWhole) (arg39 : Memref sig .tc .vmem S1x1x128 .i32) (harg39 : arg39.IsWhole)
    (x0 : Vec F S1x64x64 .f32) (x1 : Vec F S1x64x64 .f32) (x2 : Vec F S1x64x64 .f32) (x3 : Vec F S1x64x64 .f32) (x4 : Vec F S1x64x64 .f32) (x5 : Vec F S1x64x64 .f32) (x6 : Vec F S1x64x64 .f32) (x7 : Vec F S1x64x64 .f32) (x8 : Vec F S1x64x64 .f32) (x9 : Vec F S1x64x64 .f32) (x10 : Vec F S1x64x64 .f32) (x11 : Vec F S1x64x64 .f32) (x12 : Vec F S1x64x64 .f32) (x13 : Vec F S1x64x64 .f32) (x14 : Vec F S1x64x64 .f32) (x15 : Vec F S1x64x64 .f32) (x16 : Vec F S1x1x256 .f32) (x17 : Vec F S1x1x256 .f32) (x18 : Vec F S1x1x256 .f32) (x19 : Vec F S1x1x256 .f32) (x20 : Vec F S1x1x256 .f32) (x21 : Vec F S1x1x256 .f32) (x22 : Vec F S1x1x256 .f32) (x23 : Vec F S1x1x256 .f32) (x24 : Vec F S1x1x256 .f32) (x25 : Vec F S1x1x256 .f32) (x26 : Vec F S1x1x256 .f32) (x27 : Vec F S1x1x256 .f32) (x28 : Vec F S1x1x256 .f32) (x29 : Vec F S1x1x256 .f32) (x30 : Vec F S1x1x256 .f32) (x31 : Vec F S1x1x256 .f32) (x32 : Vec F S16x64 .f32) (x33 : Vec F S16x64 .f32) (xt0 : TbBuf0 (F := F) c tbM0_0) (xt1 : TbBuf0 (F := F) c tbM0_1) (xt2 : TbBuf0 (F := F) c tbM0_2) (y : S16x64.Idx) :
    ∃ pc ∈ (kernelRun0_A c i arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 arg25 harg25 arg26 harg26 arg27 harg27 arg28 harg28 arg29 harg29 arg30 harg30 arg31 harg31 arg32 harg32 arg33 harg33 arg34 harg34 arg35 harg35 arg36 harg36 arg37 harg37 arg38 harg38 arg39 harg39 x0 x1 x2 x3 x4 x5 x6 x7 x8 x9 x10 x11 x12 x13 x14 x15 x16 x17 x18 x19 x20 x21 x22 x23 x24 x25 x26 x27 x28 x29 x30 x31 x32 x33 xt0 xt1 xt2).1, y ∈ pc.1.set :=
  View.cover_of_tiledL (kernelRun0_A c i arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 arg25 harg25 arg26 harg26 arg27 harg27 arg28 harg28 arg29 harg29 arg30 harg30 arg31 harg31 arg32 harg32 arg33 harg33 arg34 harg34 arg35 harg35 arg36 harg36 arg37 harg37 arg38 harg38 arg39 harg39 x0 x1 x2 x3 x4 x5 x6 x7 x8 x9 x10 x11 x12 x13 x14 x15 x16 x17 x18 x19 x20 x21 x22 x23 x24 x25 x26 x27 x28 x29 x30 x31 x32 x33 xt0 xt1 xt2).1 S16x64.size (by sl_kernel_rfl) y

def out0_A_34 (c : Dev nD) (i : grid0.Coords) (arg4 : Memref sig .tc .vmem S1x64x64 .f32) (harg4 : arg4.IsWhole) (arg5 : Memref sig .tc .vmem S1x64x64 .f32) (harg5 : arg5.IsWhole) (arg6 : Memref sig .tc .vmem S1x64x64 .f32) (harg6 : arg6.IsWhole) (arg7 : Memref sig .tc .vmem S1x64x64 .f32) (harg7 : arg7.IsWhole) (arg8 : Memref sig .tc .vmem S1x64x64 .f32) (harg8 : arg8.IsWhole) (arg9 : Memref sig .tc .vmem S1x64x64 .f32) (harg9 : arg9.IsWhole) (arg10 : Memref sig .tc .vmem S1x64x64 .f32) (harg10 : arg10.IsWhole) (arg11 : Memref sig .tc .vmem S1x64x64 .f32) (harg11 : arg11.IsWhole) (arg12 : Memref sig .tc .vmem S1x64x64 .f32) (harg12 : arg12.IsWhole) (arg13 : Memref sig .tc .vmem S1x64x64 .f32) (harg13 : arg13.IsWhole) (arg14 : Memref sig .tc .vmem S1x64x64 .f32) (harg14 : arg14.IsWhole) (arg15 : Memref sig .tc .vmem S1x64x64 .f32) (harg15 : arg15.IsWhole) (arg16 : Memref sig .tc .vmem S1x64x64 .f32) (harg16 : arg16.IsWhole) (arg17 : Memref sig .tc .vmem S1x64x64 .f32) (harg17 : arg17.IsWhole) (arg18 : Memref sig .tc .vmem S1x64x64 .f32) (harg18 : arg18.IsWhole) (arg19 : Memref sig .tc .vmem S1x64x64 .f32) (harg19 : arg19.IsWhole) (arg20 : Memref sig .tc .vmem S1x1x256 .f32) (harg20 : arg20.IsWhole) (arg21 : Memref sig .tc .vmem S1x1x256 .f32) (harg21 : arg21.IsWhole) (arg22 : Memref sig .tc .vmem S1x1x256 .f32) (harg22 : arg22.IsWhole) (arg23 : Memref sig .tc .vmem S1x1x256 .f32) (harg23 : arg23.IsWhole) (arg24 : Memref sig .tc .vmem S1x1x256 .f32) (harg24 : arg24.IsWhole) (arg25 : Memref sig .tc .vmem S1x1x256 .f32) (harg25 : arg25.IsWhole) (arg26 : Memref sig .tc .vmem S1x1x256 .f32) (harg26 : arg26.IsWhole) (arg27 : Memref sig .tc .vmem S1x1x256 .f32) (harg27 : arg27.IsWhole) (arg28 : Memref sig .tc .vmem S1x1x256 .f32) (harg28 : arg28.IsWhole) (arg29 : Memref sig .tc .vmem S1x1x256 .f32) (harg29 : arg29.IsWhole) (arg30 : Memref sig .tc .vmem S1x1x256 .f32) (harg30 : arg30.IsWhole) (arg31 : Memref sig .tc .vmem S1x1x256 .f32) (harg31 : arg31.IsWhole) (arg32 : Memref sig .tc .vmem S1x1x256 .f32) (harg32 : arg32.IsWhole) (arg33 : Memref sig .tc .vmem S1x1x256 .f32) (harg33 : arg33.IsWhole) (arg34 : Memref sig .tc .vmem S1x1x256 .f32) (harg34 : arg34.IsWhole) (arg35 : Memref sig .tc .vmem S1x1x256 .f32) (harg35 : arg35.IsWhole) (arg36 : Memref sig .tc .vmem S16x64 .f32) (harg36 : arg36.IsWhole) (arg37 : Memref sig .tc .vmem S16x64 .f32) (harg37 : arg37.IsWhole) (arg38 : Memref sig .tc .vmem S16x64 .f32) (harg38 : arg38.IsWhole) (arg39 : Memref sig .tc .vmem S1x1x128 .i32) (harg39 : arg39.IsWhole)
    (x0 : Vec F S1x64x64 .f32) (x1 : Vec F S1x64x64 .f32) (x2 : Vec F S1x64x64 .f32) (x3 : Vec F S1x64x64 .f32) (x4 : Vec F S1x64x64 .f32) (x5 : Vec F S1x64x64 .f32) (x6 : Vec F S1x64x64 .f32) (x7 : Vec F S1x64x64 .f32) (x8 : Vec F S1x64x64 .f32) (x9 : Vec F S1x64x64 .f32) (x10 : Vec F S1x64x64 .f32) (x11 : Vec F S1x64x64 .f32) (x12 : Vec F S1x64x64 .f32) (x13 : Vec F S1x64x64 .f32) (x14 : Vec F S1x64x64 .f32) (x15 : Vec F S1x64x64 .f32) (x16 : Vec F S1x1x256 .f32) (x17 : Vec F S1x1x256 .f32) (x18 : Vec F S1x1x256 .f32) (x19 : Vec F S1x1x256 .f32) (x20 : Vec F S1x1x256 .f32) (x21 : Vec F S1x1x256 .f32) (x22 : Vec F S1x1x256 .f32) (x23 : Vec F S1x1x256 .f32) (x24 : Vec F S1x1x256 .f32) (x25 : Vec F S1x1x256 .f32) (x26 : Vec F S1x1x256 .f32) (x27 : Vec F S1x1x256 .f32) (x28 : Vec F S1x1x256 .f32) (x29 : Vec F S1x1x256 .f32) (x30 : Vec F S1x1x256 .f32) (x31 : Vec F S1x1x256 .f32) (x32 : Vec F S16x64 .f32) (x33 : Vec F S16x64 .f32) (xt0 : TbBuf0 (F := F) c tbM0_0) (xt1 : TbBuf0 (F := F) c tbM0_1) (xt2 : TbBuf0 (F := F) c tbM0_2) : Vec F S16x64 .f32 :=
  VO0_34.read (Elt F) (VO0_34.writes (Elt F) VO0_34.junk (kernelRun0_A c i arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 arg25 harg25 arg26 harg26 arg27 harg27 arg28 harg28 arg29 harg29 arg30 harg30 arg31 harg31 arg32 harg32 arg33 harg33 arg34 harg34 arg35 harg35 arg36 harg36 arg37 harg37 arg38 harg38 arg39 harg39 x0 x1 x2 x3 x4 x5 x6 x7 x8 x9 x10 x11 x12 x13 x14 x15 x16 x17 x18 x19 x20 x21 x22 x23 x24 x25 x26 x27 x28 x29 x30 x31 x32 x33 xt0 xt1 xt2).1)

/-- The stores to window 35 cover its block. -/
theorem cover0_A_35 (c : Dev nD) (i : grid0.Coords) (arg4 : Memref sig .tc .vmem S1x64x64 .f32) (harg4 : arg4.IsWhole) (arg5 : Memref sig .tc .vmem S1x64x64 .f32) (harg5 : arg5.IsWhole) (arg6 : Memref sig .tc .vmem S1x64x64 .f32) (harg6 : arg6.IsWhole) (arg7 : Memref sig .tc .vmem S1x64x64 .f32) (harg7 : arg7.IsWhole) (arg8 : Memref sig .tc .vmem S1x64x64 .f32) (harg8 : arg8.IsWhole) (arg9 : Memref sig .tc .vmem S1x64x64 .f32) (harg9 : arg9.IsWhole) (arg10 : Memref sig .tc .vmem S1x64x64 .f32) (harg10 : arg10.IsWhole) (arg11 : Memref sig .tc .vmem S1x64x64 .f32) (harg11 : arg11.IsWhole) (arg12 : Memref sig .tc .vmem S1x64x64 .f32) (harg12 : arg12.IsWhole) (arg13 : Memref sig .tc .vmem S1x64x64 .f32) (harg13 : arg13.IsWhole) (arg14 : Memref sig .tc .vmem S1x64x64 .f32) (harg14 : arg14.IsWhole) (arg15 : Memref sig .tc .vmem S1x64x64 .f32) (harg15 : arg15.IsWhole) (arg16 : Memref sig .tc .vmem S1x64x64 .f32) (harg16 : arg16.IsWhole) (arg17 : Memref sig .tc .vmem S1x64x64 .f32) (harg17 : arg17.IsWhole) (arg18 : Memref sig .tc .vmem S1x64x64 .f32) (harg18 : arg18.IsWhole) (arg19 : Memref sig .tc .vmem S1x64x64 .f32) (harg19 : arg19.IsWhole) (arg20 : Memref sig .tc .vmem S1x1x256 .f32) (harg20 : arg20.IsWhole) (arg21 : Memref sig .tc .vmem S1x1x256 .f32) (harg21 : arg21.IsWhole) (arg22 : Memref sig .tc .vmem S1x1x256 .f32) (harg22 : arg22.IsWhole) (arg23 : Memref sig .tc .vmem S1x1x256 .f32) (harg23 : arg23.IsWhole) (arg24 : Memref sig .tc .vmem S1x1x256 .f32) (harg24 : arg24.IsWhole) (arg25 : Memref sig .tc .vmem S1x1x256 .f32) (harg25 : arg25.IsWhole) (arg26 : Memref sig .tc .vmem S1x1x256 .f32) (harg26 : arg26.IsWhole) (arg27 : Memref sig .tc .vmem S1x1x256 .f32) (harg27 : arg27.IsWhole) (arg28 : Memref sig .tc .vmem S1x1x256 .f32) (harg28 : arg28.IsWhole) (arg29 : Memref sig .tc .vmem S1x1x256 .f32) (harg29 : arg29.IsWhole) (arg30 : Memref sig .tc .vmem S1x1x256 .f32) (harg30 : arg30.IsWhole) (arg31 : Memref sig .tc .vmem S1x1x256 .f32) (harg31 : arg31.IsWhole) (arg32 : Memref sig .tc .vmem S1x1x256 .f32) (harg32 : arg32.IsWhole) (arg33 : Memref sig .tc .vmem S1x1x256 .f32) (harg33 : arg33.IsWhole) (arg34 : Memref sig .tc .vmem S1x1x256 .f32) (harg34 : arg34.IsWhole) (arg35 : Memref sig .tc .vmem S1x1x256 .f32) (harg35 : arg35.IsWhole) (arg36 : Memref sig .tc .vmem S16x64 .f32) (harg36 : arg36.IsWhole) (arg37 : Memref sig .tc .vmem S16x64 .f32) (harg37 : arg37.IsWhole) (arg38 : Memref sig .tc .vmem S16x64 .f32) (harg38 : arg38.IsWhole) (arg39 : Memref sig .tc .vmem S1x1x128 .i32) (harg39 : arg39.IsWhole)
    (x0 : Vec F S1x64x64 .f32) (x1 : Vec F S1x64x64 .f32) (x2 : Vec F S1x64x64 .f32) (x3 : Vec F S1x64x64 .f32) (x4 : Vec F S1x64x64 .f32) (x5 : Vec F S1x64x64 .f32) (x6 : Vec F S1x64x64 .f32) (x7 : Vec F S1x64x64 .f32) (x8 : Vec F S1x64x64 .f32) (x9 : Vec F S1x64x64 .f32) (x10 : Vec F S1x64x64 .f32) (x11 : Vec F S1x64x64 .f32) (x12 : Vec F S1x64x64 .f32) (x13 : Vec F S1x64x64 .f32) (x14 : Vec F S1x64x64 .f32) (x15 : Vec F S1x64x64 .f32) (x16 : Vec F S1x1x256 .f32) (x17 : Vec F S1x1x256 .f32) (x18 : Vec F S1x1x256 .f32) (x19 : Vec F S1x1x256 .f32) (x20 : Vec F S1x1x256 .f32) (x21 : Vec F S1x1x256 .f32) (x22 : Vec F S1x1x256 .f32) (x23 : Vec F S1x1x256 .f32) (x24 : Vec F S1x1x256 .f32) (x25 : Vec F S1x1x256 .f32) (x26 : Vec F S1x1x256 .f32) (x27 : Vec F S1x1x256 .f32) (x28 : Vec F S1x1x256 .f32) (x29 : Vec F S1x1x256 .f32) (x30 : Vec F S1x1x256 .f32) (x31 : Vec F S1x1x256 .f32) (x32 : Vec F S16x64 .f32) (x33 : Vec F S16x64 .f32) (xt0 : TbBuf0 (F := F) c tbM0_0) (xt1 : TbBuf0 (F := F) c tbM0_1) (xt2 : TbBuf0 (F := F) c tbM0_2) (y : S1x1x128.Idx) :
    ∃ pc ∈ (kernelRun0_A c i arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 arg25 harg25 arg26 harg26 arg27 harg27 arg28 harg28 arg29 harg29 arg30 harg30 arg31 harg31 arg32 harg32 arg33 harg33 arg34 harg34 arg35 harg35 arg36 harg36 arg37 harg37 arg38 harg38 arg39 harg39 x0 x1 x2 x3 x4 x5 x6 x7 x8 x9 x10 x11 x12 x13 x14 x15 x16 x17 x18 x19 x20 x21 x22 x23 x24 x25 x26 x27 x28 x29 x30 x31 x32 x33 xt0 xt1 xt2).2.1, y ∈ pc.1.set :=
  View.cover_of_tiledL (kernelRun0_A c i arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 arg25 harg25 arg26 harg26 arg27 harg27 arg28 harg28 arg29 harg29 arg30 harg30 arg31 harg31 arg32 harg32 arg33 harg33 arg34 harg34 arg35 harg35 arg36 harg36 arg37 harg37 arg38 harg38 arg39 harg39 x0 x1 x2 x3 x4 x5 x6 x7 x8 x9 x10 x11 x12 x13 x14 x15 x16 x17 x18 x19 x20 x21 x22 x23 x24 x25 x26 x27 x28 x29 x30 x31 x32 x33 xt0 xt1 xt2).2.1 S1x1x128.size (by sl_kernel_rfl) y

def out0_A_35 (c : Dev nD) (i : grid0.Coords) (arg4 : Memref sig .tc .vmem S1x64x64 .f32) (harg4 : arg4.IsWhole) (arg5 : Memref sig .tc .vmem S1x64x64 .f32) (harg5 : arg5.IsWhole) (arg6 : Memref sig .tc .vmem S1x64x64 .f32) (harg6 : arg6.IsWhole) (arg7 : Memref sig .tc .vmem S1x64x64 .f32) (harg7 : arg7.IsWhole) (arg8 : Memref sig .tc .vmem S1x64x64 .f32) (harg8 : arg8.IsWhole) (arg9 : Memref sig .tc .vmem S1x64x64 .f32) (harg9 : arg9.IsWhole) (arg10 : Memref sig .tc .vmem S1x64x64 .f32) (harg10 : arg10.IsWhole) (arg11 : Memref sig .tc .vmem S1x64x64 .f32) (harg11 : arg11.IsWhole) (arg12 : Memref sig .tc .vmem S1x64x64 .f32) (harg12 : arg12.IsWhole) (arg13 : Memref sig .tc .vmem S1x64x64 .f32) (harg13 : arg13.IsWhole) (arg14 : Memref sig .tc .vmem S1x64x64 .f32) (harg14 : arg14.IsWhole) (arg15 : Memref sig .tc .vmem S1x64x64 .f32) (harg15 : arg15.IsWhole) (arg16 : Memref sig .tc .vmem S1x64x64 .f32) (harg16 : arg16.IsWhole) (arg17 : Memref sig .tc .vmem S1x64x64 .f32) (harg17 : arg17.IsWhole) (arg18 : Memref sig .tc .vmem S1x64x64 .f32) (harg18 : arg18.IsWhole) (arg19 : Memref sig .tc .vmem S1x64x64 .f32) (harg19 : arg19.IsWhole) (arg20 : Memref sig .tc .vmem S1x1x256 .f32) (harg20 : arg20.IsWhole) (arg21 : Memref sig .tc .vmem S1x1x256 .f32) (harg21 : arg21.IsWhole) (arg22 : Memref sig .tc .vmem S1x1x256 .f32) (harg22 : arg22.IsWhole) (arg23 : Memref sig .tc .vmem S1x1x256 .f32) (harg23 : arg23.IsWhole) (arg24 : Memref sig .tc .vmem S1x1x256 .f32) (harg24 : arg24.IsWhole) (arg25 : Memref sig .tc .vmem S1x1x256 .f32) (harg25 : arg25.IsWhole) (arg26 : Memref sig .tc .vmem S1x1x256 .f32) (harg26 : arg26.IsWhole) (arg27 : Memref sig .tc .vmem S1x1x256 .f32) (harg27 : arg27.IsWhole) (arg28 : Memref sig .tc .vmem S1x1x256 .f32) (harg28 : arg28.IsWhole) (arg29 : Memref sig .tc .vmem S1x1x256 .f32) (harg29 : arg29.IsWhole) (arg30 : Memref sig .tc .vmem S1x1x256 .f32) (harg30 : arg30.IsWhole) (arg31 : Memref sig .tc .vmem S1x1x256 .f32) (harg31 : arg31.IsWhole) (arg32 : Memref sig .tc .vmem S1x1x256 .f32) (harg32 : arg32.IsWhole) (arg33 : Memref sig .tc .vmem S1x1x256 .f32) (harg33 : arg33.IsWhole) (arg34 : Memref sig .tc .vmem S1x1x256 .f32) (harg34 : arg34.IsWhole) (arg35 : Memref sig .tc .vmem S1x1x256 .f32) (harg35 : arg35.IsWhole) (arg36 : Memref sig .tc .vmem S16x64 .f32) (harg36 : arg36.IsWhole) (arg37 : Memref sig .tc .vmem S16x64 .f32) (harg37 : arg37.IsWhole) (arg38 : Memref sig .tc .vmem S16x64 .f32) (harg38 : arg38.IsWhole) (arg39 : Memref sig .tc .vmem S1x1x128 .i32) (harg39 : arg39.IsWhole)
    (x0 : Vec F S1x64x64 .f32) (x1 : Vec F S1x64x64 .f32) (x2 : Vec F S1x64x64 .f32) (x3 : Vec F S1x64x64 .f32) (x4 : Vec F S1x64x64 .f32) (x5 : Vec F S1x64x64 .f32) (x6 : Vec F S1x64x64 .f32) (x7 : Vec F S1x64x64 .f32) (x8 : Vec F S1x64x64 .f32) (x9 : Vec F S1x64x64 .f32) (x10 : Vec F S1x64x64 .f32) (x11 : Vec F S1x64x64 .f32) (x12 : Vec F S1x64x64 .f32) (x13 : Vec F S1x64x64 .f32) (x14 : Vec F S1x64x64 .f32) (x15 : Vec F S1x64x64 .f32) (x16 : Vec F S1x1x256 .f32) (x17 : Vec F S1x1x256 .f32) (x18 : Vec F S1x1x256 .f32) (x19 : Vec F S1x1x256 .f32) (x20 : Vec F S1x1x256 .f32) (x21 : Vec F S1x1x256 .f32) (x22 : Vec F S1x1x256 .f32) (x23 : Vec F S1x1x256 .f32) (x24 : Vec F S1x1x256 .f32) (x25 : Vec F S1x1x256 .f32) (x26 : Vec F S1x1x256 .f32) (x27 : Vec F S1x1x256 .f32) (x28 : Vec F S1x1x256 .f32) (x29 : Vec F S1x1x256 .f32) (x30 : Vec F S1x1x256 .f32) (x31 : Vec F S1x1x256 .f32) (x32 : Vec F S16x64 .f32) (x33 : Vec F S16x64 .f32) (xt0 : TbBuf0 (F := F) c tbM0_0) (xt1 : TbBuf0 (F := F) c tbM0_1) (xt2 : TbBuf0 (F := F) c tbM0_2) : Vec F S1x1x128 .i32 :=
  VO0_35.read (Elt F) (VO0_35.writes (Elt F) VO0_35.junk (kernelRun0_A c i arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 arg25 harg25 arg26 harg26 arg27 harg27 arg28 harg28 arg29 harg29 arg30 harg30 arg31 harg31 arg32 harg32 arg33 harg33 arg34 harg34 arg35 harg35 arg36 harg36 arg37 harg37 arg38 harg38 arg39 harg39 x0 x1 x2 x3 x4 x5 x6 x7 x8 x9 x10 x11 x12 x13 x14 x15 x16 x17 x18 x19 x20 x21 x22 x23 x24 x25 x26 x27 x28 x29 x30 x31 x32 x33 xt0 xt1 xt2).2.1)

def outsAt0 (hO : Ok m) (c : Dev nD) (t : Fin (cfgM m hO).N) : Vec F S16x64 .f32 × Vec F S1x1x128 .i32 :=
  (out0_A_34 c (grid0.coords t) (ms0_0 m hO t) (hs0_0 m hO t) (ms0_1 m hO t) (hs0_1 m hO t) (ms0_2 m hO t) (hs0_2 m hO t) (ms0_3 m hO t) (hs0_3 m hO t) (ms0_4 m hO t) (hs0_4 m hO t) (ms0_5 m hO t) (hs0_5 m hO t) (ms0_6 m hO t) (hs0_6 m hO t) (ms0_7 m hO t) (hs0_7 m hO t) (ms0_8 m hO t) (hs0_8 m hO t) (ms0_9 m hO t) (hs0_9 m hO t) (ms0_10 m hO t) (hs0_10 m hO t) (ms0_11 m hO t) (hs0_11 m hO t) (ms0_12 m hO t) (hs0_12 m hO t) (ms0_13 m hO t) (hs0_13 m hO t) (ms0_14 m hO t) (hs0_14 m hO t) (ms0_15 m hO t) (hs0_15 m hO t) (ms0_16 m hO t) (hs0_16 m hO t) (ms0_17 m hO t) (hs0_17 m hO t) (ms0_18 m hO t) (hs0_18 m hO t) (ms0_19 m hO t) (hs0_19 m hO t) (ms0_20 m hO t) (hs0_20 m hO t) (ms0_21 m hO t) (hs0_21 m hO t) (ms0_22 m hO t) (hs0_22 m hO t) (ms0_23 m hO t) (hs0_23 m hO t) (ms0_24 m hO t) (hs0_24 m hO t) (ms0_25 m hO t) (hs0_25 m hO t) (ms0_26 m hO t) (hs0_26 m hO t) (ms0_27 m hO t) (hs0_27 m hO t) (ms0_28 m hO t) (hs0_28 m hO t) (ms0_29 m hO t) (hs0_29 m hO t) (ms0_30 m hO t) (hs0_30 m hO t) (ms0_31 m hO t) (hs0_31 m hO t) (ms0_32 m hO t) (hs0_32 m hO t) (ms0_33 m hO t) (hs0_33 m hO t) (ms0_34 m hO t) (hs0_34 m hO t) (ms0_35 m hO t) (hs0_35 m hO t) (iblk m hO c 0 t) (iblk m hO c 1 t) (iblk m hO c 2 t) (iblk m hO c 3 t) (iblk m hO c 4 t) (iblk m hO c 5 t) (iblk m hO c 6 t) (iblk m hO c 7 t) (iblk m hO c 8 t) (iblk m hO c 9 t) (iblk m hO c 10 t) (iblk m hO c 11 t) (iblk m hO c 12 t) (iblk m hO c 13 t) (iblk m hO c 14 t) (iblk m hO c 15 t) (iblk m hO c 16 t) (iblk m hO c 17 t) (iblk m hO c 18 t) (iblk m hO c 19 t) (iblk m hO c 20 t) (iblk m hO c 21 t) (iblk m hO c 22 t) (iblk m hO c 23 t) (iblk m hO c 24 t) (iblk m hO c 25 t) (iblk m hO c 26 t) (iblk m hO c 27 t) (iblk m hO c 28 t) (iblk m hO c 29 t) (iblk m hO c 30 t) (iblk m hO c 31 t) (iblk m hO c 32 t) (iblk m hO c 33 t) (tbl m 0) (tbl m 1) (tbl m 2), out0_A_35 c (grid0.coords t) (ms0_0 m hO t) (hs0_0 m hO t) (ms0_1 m hO t) (hs0_1 m hO t) (ms0_2 m hO t) (hs0_2 m hO t) (ms0_3 m hO t) (hs0_3 m hO t) (ms0_4 m hO t) (hs0_4 m hO t) (ms0_5 m hO t) (hs0_5 m hO t) (ms0_6 m hO t) (hs0_6 m hO t) (ms0_7 m hO t) (hs0_7 m hO t) (ms0_8 m hO t) (hs0_8 m hO t) (ms0_9 m hO t) (hs0_9 m hO t) (ms0_10 m hO t) (hs0_10 m hO t) (ms0_11 m hO t) (hs0_11 m hO t) (ms0_12 m hO t) (hs0_12 m hO t) (ms0_13 m hO t) (hs0_13 m hO t) (ms0_14 m hO t) (hs0_14 m hO t) (ms0_15 m hO t) (hs0_15 m hO t) (ms0_16 m hO t) (hs0_16 m hO t) (ms0_17 m hO t) (hs0_17 m hO t) (ms0_18 m hO t) (hs0_18 m hO t) (ms0_19 m hO t) (hs0_19 m hO t) (ms0_20 m hO t) (hs0_20 m hO t) (ms0_21 m hO t) (hs0_21 m hO t) (ms0_22 m hO t) (hs0_22 m hO t) (ms0_23 m hO t) (hs0_23 m hO t) (ms0_24 m hO t) (hs0_24 m hO t) (ms0_25 m hO t) (hs0_25 m hO t) (ms0_26 m hO t) (hs0_26 m hO t) (ms0_27 m hO t) (hs0_27 m hO t) (ms0_28 m hO t) (hs0_28 m hO t) (ms0_29 m hO t) (hs0_29 m hO t) (ms0_30 m hO t) (hs0_30 m hO t) (ms0_31 m hO t) (hs0_31 m hO t) (ms0_32 m hO t) (hs0_32 m hO t) (ms0_33 m hO t) (hs0_33 m hO t) (ms0_34 m hO t) (hs0_34 m hO t) (ms0_35 m hO t) (hs0_35 m hO t) (iblk m hO c 0 t) (iblk m hO c 1 t) (iblk m hO c 2 t) (iblk m hO c 3 t) (iblk m hO c 4 t) (iblk m hO c 5 t) (iblk m hO c 6 t) (iblk m hO c 7 t) (iblk m hO c 8 t) (iblk m hO c 9 t) (iblk m hO c 10 t) (iblk m hO c 11 t) (iblk m hO c 12 t) (iblk m hO c 13 t) (iblk m hO c 14 t) (iblk m hO c 15 t) (iblk m hO c 16 t) (iblk m hO c 17 t) (iblk m hO c 18 t) (iblk m hO c 19 t) (iblk m hO c 20 t) (iblk m hO c 21 t) (iblk m hO c 22 t) (iblk m hO c 23 t) (iblk m hO c 24 t) (iblk m hO c 25 t) (iblk m hO c 26 t) (iblk m hO c 27 t) (iblk m hO c 28 t) (iblk m hO c 29 t) (iblk m hO c 30 t) (iblk m hO c 31 t) (iblk m hO c 32 t) (iblk m hO c 33 t) (tbl m 0) (tbl m 1) (tbl m 2))

def dats (hO : Ok m) (_ : Fin 1) (c : Dev nD) : Dat τ (Elt F) Unit ℕ (UR sig nD τ) ℕ (cfgM m hO) c where
  A w := V m c (Pipeline.arrRef spec0 w)
  after w t := match w with
    | ⟨0, _⟩ => iblk m hO c 0 t
    | ⟨1, _⟩ => iblk m hO c 1 t
    | ⟨2, _⟩ => iblk m hO c 2 t
    | ⟨3, _⟩ => iblk m hO c 3 t
    | ⟨4, _⟩ => iblk m hO c 4 t
    | ⟨5, _⟩ => iblk m hO c 5 t
    | ⟨6, _⟩ => iblk m hO c 6 t
    | ⟨7, _⟩ => iblk m hO c 7 t
    | ⟨8, _⟩ => iblk m hO c 8 t
    | ⟨9, _⟩ => iblk m hO c 9 t
    | ⟨10, _⟩ => iblk m hO c 10 t
    | ⟨11, _⟩ => iblk m hO c 11 t
    | ⟨12, _⟩ => iblk m hO c 12 t
    | ⟨13, _⟩ => iblk m hO c 13 t
    | ⟨14, _⟩ => iblk m hO c 14 t
    | ⟨15, _⟩ => iblk m hO c 15 t
    | ⟨16, _⟩ => iblk m hO c 16 t
    | ⟨17, _⟩ => iblk m hO c 17 t
    | ⟨18, _⟩ => iblk m hO c 18 t
    | ⟨19, _⟩ => iblk m hO c 19 t
    | ⟨20, _⟩ => iblk m hO c 20 t
    | ⟨21, _⟩ => iblk m hO c 21 t
    | ⟨22, _⟩ => iblk m hO c 22 t
    | ⟨23, _⟩ => iblk m hO c 23 t
    | ⟨24, _⟩ => iblk m hO c 24 t
    | ⟨25, _⟩ => iblk m hO c 25 t
    | ⟨26, _⟩ => iblk m hO c 26 t
    | ⟨27, _⟩ => iblk m hO c 27 t
    | ⟨28, _⟩ => iblk m hO c 28 t
    | ⟨29, _⟩ => iblk m hO c 29 t
    | ⟨30, _⟩ => iblk m hO c 30 t
    | ⟨31, _⟩ => iblk m hO c 31 t
    | ⟨32, _⟩ => iblk m hO c 32 t
    | ⟨33, _⟩ => iblk m hO c 33 t
    | ⟨34, _⟩ => (outsAt0 m hO c t).1
    | ⟨35, _⟩ => (outsAt0 m hO c t).2
    | ⟨_ + 36, h⟩ => absurd h (Nat.not_lt.2 (Nat.le_add_left _ _))
  Φ _ := iprop(Pipeline.ΦA spec0 c ∗ Pipeline.ΦT pre0 (tbl m) c)
  q w := Pipeline.shareOf spec0 w
  owed _ := 0

/-- The windows' arrays at region entry. -/
theorem A_eq (hO : Ok m) (c : Dev nD) (w : Fin (cfgM m hO).W) : (dats m hO 0 c).A w = V m c (Pipeline.arrRef spec0 w) := by
  dsimp only [dats]

/-- What the body leaves in window 0's block. -/
theorem after0_0 (hO : Ok m) (c : Dev nD) (t : Fin (cfgM m hO).N) : (dats m hO 0 c).after 0 t = iblk m hO c 0 t := by dsimp only [dats]; try rfl
/-- What the body leaves in window 1's block. -/
theorem after0_1 (hO : Ok m) (c : Dev nD) (t : Fin (cfgM m hO).N) : (dats m hO 0 c).after 1 t = iblk m hO c 1 t := by dsimp only [dats]; try rfl
/-- What the body leaves in window 2's block. -/
theorem after0_2 (hO : Ok m) (c : Dev nD) (t : Fin (cfgM m hO).N) : (dats m hO 0 c).after 2 t = iblk m hO c 2 t := by dsimp only [dats]; try rfl
/-- What the body leaves in window 3's block. -/
theorem after0_3 (hO : Ok m) (c : Dev nD) (t : Fin (cfgM m hO).N) : (dats m hO 0 c).after 3 t = iblk m hO c 3 t := by dsimp only [dats]; try rfl
/-- What the body leaves in window 4's block. -/
theorem after0_4 (hO : Ok m) (c : Dev nD) (t : Fin (cfgM m hO).N) : (dats m hO 0 c).after 4 t = iblk m hO c 4 t := by dsimp only [dats]; try rfl
/-- What the body leaves in window 5's block. -/
theorem after0_5 (hO : Ok m) (c : Dev nD) (t : Fin (cfgM m hO).N) : (dats m hO 0 c).after 5 t = iblk m hO c 5 t := by dsimp only [dats]; try rfl
/-- What the body leaves in window 6's block. -/
theorem after0_6 (hO : Ok m) (c : Dev nD) (t : Fin (cfgM m hO).N) : (dats m hO 0 c).after 6 t = iblk m hO c 6 t := by dsimp only [dats]; try rfl
/-- What the body leaves in window 7's block. -/
theorem after0_7 (hO : Ok m) (c : Dev nD) (t : Fin (cfgM m hO).N) : (dats m hO 0 c).after 7 t = iblk m hO c 7 t := by dsimp only [dats]; try rfl
/-- What the body leaves in window 8's block. -/
theorem after0_8 (hO : Ok m) (c : Dev nD) (t : Fin (cfgM m hO).N) : (dats m hO 0 c).after 8 t = iblk m hO c 8 t := by dsimp only [dats]; try rfl
/-- What the body leaves in window 9's block. -/
theorem after0_9 (hO : Ok m) (c : Dev nD) (t : Fin (cfgM m hO).N) : (dats m hO 0 c).after 9 t = iblk m hO c 9 t := by dsimp only [dats]; try rfl
/-- What the body leaves in window 10's block. -/
theorem after0_10 (hO : Ok m) (c : Dev nD) (t : Fin (cfgM m hO).N) : (dats m hO 0 c).after 10 t = iblk m hO c 10 t := by dsimp only [dats]; try rfl
/-- What the body leaves in window 11's block. -/
theorem after0_11 (hO : Ok m) (c : Dev nD) (t : Fin (cfgM m hO).N) : (dats m hO 0 c).after 11 t = iblk m hO c 11 t := by dsimp only [dats]; try rfl
/-- What the body leaves in window 12's block. -/
theorem after0_12 (hO : Ok m) (c : Dev nD) (t : Fin (cfgM m hO).N) : (dats m hO 0 c).after 12 t = iblk m hO c 12 t := by dsimp only [dats]; try rfl
/-- What the body leaves in window 13's block. -/
theorem after0_13 (hO : Ok m) (c : Dev nD) (t : Fin (cfgM m hO).N) : (dats m hO 0 c).after 13 t = iblk m hO c 13 t := by dsimp only [dats]; try rfl
/-- What the body leaves in window 14's block. -/
theorem after0_14 (hO : Ok m) (c : Dev nD) (t : Fin (cfgM m hO).N) : (dats m hO 0 c).after 14 t = iblk m hO c 14 t := by dsimp only [dats]; try rfl
/-- What the body leaves in window 15's block. -/
theorem after0_15 (hO : Ok m) (c : Dev nD) (t : Fin (cfgM m hO).N) : (dats m hO 0 c).after 15 t = iblk m hO c 15 t := by dsimp only [dats]; try rfl
/-- What the body leaves in window 16's block. -/
theorem after0_16 (hO : Ok m) (c : Dev nD) (t : Fin (cfgM m hO).N) : (dats m hO 0 c).after 16 t = iblk m hO c 16 t := by dsimp only [dats]; try rfl
/-- What the body leaves in window 17's block. -/
theorem after0_17 (hO : Ok m) (c : Dev nD) (t : Fin (cfgM m hO).N) : (dats m hO 0 c).after 17 t = iblk m hO c 17 t := by dsimp only [dats]; try rfl
/-- What the body leaves in window 18's block. -/
theorem after0_18 (hO : Ok m) (c : Dev nD) (t : Fin (cfgM m hO).N) : (dats m hO 0 c).after 18 t = iblk m hO c 18 t := by dsimp only [dats]; try rfl
/-- What the body leaves in window 19's block. -/
theorem after0_19 (hO : Ok m) (c : Dev nD) (t : Fin (cfgM m hO).N) : (dats m hO 0 c).after 19 t = iblk m hO c 19 t := by dsimp only [dats]; try rfl
/-- What the body leaves in window 20's block. -/
theorem after0_20 (hO : Ok m) (c : Dev nD) (t : Fin (cfgM m hO).N) : (dats m hO 0 c).after 20 t = iblk m hO c 20 t := by dsimp only [dats]; try rfl
/-- What the body leaves in window 21's block. -/
theorem after0_21 (hO : Ok m) (c : Dev nD) (t : Fin (cfgM m hO).N) : (dats m hO 0 c).after 21 t = iblk m hO c 21 t := by dsimp only [dats]; try rfl
/-- What the body leaves in window 22's block. -/
theorem after0_22 (hO : Ok m) (c : Dev nD) (t : Fin (cfgM m hO).N) : (dats m hO 0 c).after 22 t = iblk m hO c 22 t := by dsimp only [dats]; try rfl
/-- What the body leaves in window 23's block. -/
theorem after0_23 (hO : Ok m) (c : Dev nD) (t : Fin (cfgM m hO).N) : (dats m hO 0 c).after 23 t = iblk m hO c 23 t := by dsimp only [dats]; try rfl
/-- What the body leaves in window 24's block. -/
theorem after0_24 (hO : Ok m) (c : Dev nD) (t : Fin (cfgM m hO).N) : (dats m hO 0 c).after 24 t = iblk m hO c 24 t := by dsimp only [dats]; try rfl
/-- What the body leaves in window 25's block. -/
theorem after0_25 (hO : Ok m) (c : Dev nD) (t : Fin (cfgM m hO).N) : (dats m hO 0 c).after 25 t = iblk m hO c 25 t := by dsimp only [dats]; try rfl
/-- What the body leaves in window 26's block. -/
theorem after0_26 (hO : Ok m) (c : Dev nD) (t : Fin (cfgM m hO).N) : (dats m hO 0 c).after 26 t = iblk m hO c 26 t := by dsimp only [dats]; try rfl
/-- What the body leaves in window 27's block. -/
theorem after0_27 (hO : Ok m) (c : Dev nD) (t : Fin (cfgM m hO).N) : (dats m hO 0 c).after 27 t = iblk m hO c 27 t := by dsimp only [dats]; try rfl
/-- What the body leaves in window 28's block. -/
theorem after0_28 (hO : Ok m) (c : Dev nD) (t : Fin (cfgM m hO).N) : (dats m hO 0 c).after 28 t = iblk m hO c 28 t := by dsimp only [dats]; try rfl
/-- What the body leaves in window 29's block. -/
theorem after0_29 (hO : Ok m) (c : Dev nD) (t : Fin (cfgM m hO).N) : (dats m hO 0 c).after 29 t = iblk m hO c 29 t := by dsimp only [dats]; try rfl
/-- What the body leaves in window 30's block. -/
theorem after0_30 (hO : Ok m) (c : Dev nD) (t : Fin (cfgM m hO).N) : (dats m hO 0 c).after 30 t = iblk m hO c 30 t := by dsimp only [dats]; try rfl
/-- What the body leaves in window 31's block. -/
theorem after0_31 (hO : Ok m) (c : Dev nD) (t : Fin (cfgM m hO).N) : (dats m hO 0 c).after 31 t = iblk m hO c 31 t := by dsimp only [dats]; try rfl
/-- What the body leaves in window 32's block. -/
theorem after0_32 (hO : Ok m) (c : Dev nD) (t : Fin (cfgM m hO).N) : (dats m hO 0 c).after 32 t = iblk m hO c 32 t := by dsimp only [dats]; try rfl
/-- What the body leaves in window 33's block. -/
theorem after0_33 (hO : Ok m) (c : Dev nD) (t : Fin (cfgM m hO).N) : (dats m hO 0 c).after 33 t = iblk m hO c 33 t := by dsimp only [dats]; try rfl
/-- What the body leaves in window 34's block. -/
theorem after0_34 (hO : Ok m) (c : Dev nD) (t : Fin (cfgM m hO).N) : (dats m hO 0 c).after 34 t = (outsAt0 m hO c t).1 := by dsimp only [dats]; try rfl
/-- What the body leaves in window 35's block. -/
theorem after0_35 (hO : Ok m) (c : Dev nD) (t : Fin (cfgM m hO).N) : (dats m hO 0 c).after 35 t = (outsAt0 m hO c t).2 := by dsimp only [dats]; try rfl

/-- What the body finds in window 0's block. -/
theorem before0_0 (hO : Ok m) (c : Dev nD) (t : Fin (cfgM m hO).N) (d) : (dats m hO 0 c).before 0 t d = iblk m hO c 0 t :=
  before0_0_of m hO (dats m hO 0 c) (A_eq m hO c 0) (after0_0 m hO c) t d
/-- What the body finds in window 1's block. -/
theorem before0_1 (hO : Ok m) (c : Dev nD) (t : Fin (cfgM m hO).N) (d) : (dats m hO 0 c).before 1 t d = iblk m hO c 1 t :=
  before0_1_of m hO (dats m hO 0 c) (A_eq m hO c 1) (after0_1 m hO c) t d
/-- What the body finds in window 2's block. -/
theorem before0_2 (hO : Ok m) (c : Dev nD) (t : Fin (cfgM m hO).N) (d) : (dats m hO 0 c).before 2 t d = iblk m hO c 2 t :=
  before0_2_of m hO (dats m hO 0 c) (A_eq m hO c 2) (after0_2 m hO c) t d
/-- What the body finds in window 3's block. -/
theorem before0_3 (hO : Ok m) (c : Dev nD) (t : Fin (cfgM m hO).N) (d) : (dats m hO 0 c).before 3 t d = iblk m hO c 3 t :=
  before0_3_of m hO (dats m hO 0 c) (A_eq m hO c 3) (after0_3 m hO c) t d
/-- What the body finds in window 4's block. -/
theorem before0_4 (hO : Ok m) (c : Dev nD) (t : Fin (cfgM m hO).N) (d) : (dats m hO 0 c).before 4 t d = iblk m hO c 4 t :=
  before0_4_of m hO (dats m hO 0 c) (A_eq m hO c 4) (after0_4 m hO c) t d
/-- What the body finds in window 5's block. -/
theorem before0_5 (hO : Ok m) (c : Dev nD) (t : Fin (cfgM m hO).N) (d) : (dats m hO 0 c).before 5 t d = iblk m hO c 5 t :=
  before0_5_of m hO (dats m hO 0 c) (A_eq m hO c 5) (after0_5 m hO c) t d
/-- What the body finds in window 6's block. -/
theorem before0_6 (hO : Ok m) (c : Dev nD) (t : Fin (cfgM m hO).N) (d) : (dats m hO 0 c).before 6 t d = iblk m hO c 6 t :=
  before0_6_of m hO (dats m hO 0 c) (A_eq m hO c 6) (after0_6 m hO c) t d
/-- What the body finds in window 7's block. -/
theorem before0_7 (hO : Ok m) (c : Dev nD) (t : Fin (cfgM m hO).N) (d) : (dats m hO 0 c).before 7 t d = iblk m hO c 7 t :=
  before0_7_of m hO (dats m hO 0 c) (A_eq m hO c 7) (after0_7 m hO c) t d
/-- What the body finds in window 8's block. -/
theorem before0_8 (hO : Ok m) (c : Dev nD) (t : Fin (cfgM m hO).N) (d) : (dats m hO 0 c).before 8 t d = iblk m hO c 8 t :=
  before0_8_of m hO (dats m hO 0 c) (A_eq m hO c 8) (after0_8 m hO c) t d
/-- What the body finds in window 9's block. -/
theorem before0_9 (hO : Ok m) (c : Dev nD) (t : Fin (cfgM m hO).N) (d) : (dats m hO 0 c).before 9 t d = iblk m hO c 9 t :=
  before0_9_of m hO (dats m hO 0 c) (A_eq m hO c 9) (after0_9 m hO c) t d
/-- What the body finds in window 10's block. -/
theorem before0_10 (hO : Ok m) (c : Dev nD) (t : Fin (cfgM m hO).N) (d) : (dats m hO 0 c).before 10 t d = iblk m hO c 10 t :=
  before0_10_of m hO (dats m hO 0 c) (A_eq m hO c 10) (after0_10 m hO c) t d
/-- What the body finds in window 11's block. -/
theorem before0_11 (hO : Ok m) (c : Dev nD) (t : Fin (cfgM m hO).N) (d) : (dats m hO 0 c).before 11 t d = iblk m hO c 11 t :=
  before0_11_of m hO (dats m hO 0 c) (A_eq m hO c 11) (after0_11 m hO c) t d
/-- What the body finds in window 12's block. -/
theorem before0_12 (hO : Ok m) (c : Dev nD) (t : Fin (cfgM m hO).N) (d) : (dats m hO 0 c).before 12 t d = iblk m hO c 12 t :=
  before0_12_of m hO (dats m hO 0 c) (A_eq m hO c 12) (after0_12 m hO c) t d
/-- What the body finds in window 13's block. -/
theorem before0_13 (hO : Ok m) (c : Dev nD) (t : Fin (cfgM m hO).N) (d) : (dats m hO 0 c).before 13 t d = iblk m hO c 13 t :=
  before0_13_of m hO (dats m hO 0 c) (A_eq m hO c 13) (after0_13 m hO c) t d
/-- What the body finds in window 14's block. -/
theorem before0_14 (hO : Ok m) (c : Dev nD) (t : Fin (cfgM m hO).N) (d) : (dats m hO 0 c).before 14 t d = iblk m hO c 14 t :=
  before0_14_of m hO (dats m hO 0 c) (A_eq m hO c 14) (after0_14 m hO c) t d
/-- What the body finds in window 15's block. -/
theorem before0_15 (hO : Ok m) (c : Dev nD) (t : Fin (cfgM m hO).N) (d) : (dats m hO 0 c).before 15 t d = iblk m hO c 15 t :=
  before0_15_of m hO (dats m hO 0 c) (A_eq m hO c 15) (after0_15 m hO c) t d
/-- What the body finds in window 16's block. -/
theorem before0_16 (hO : Ok m) (c : Dev nD) (t : Fin (cfgM m hO).N) (d) : (dats m hO 0 c).before 16 t d = iblk m hO c 16 t :=
  before0_16_of m hO (dats m hO 0 c) (A_eq m hO c 16) (after0_16 m hO c) t d
/-- What the body finds in window 17's block. -/
theorem before0_17 (hO : Ok m) (c : Dev nD) (t : Fin (cfgM m hO).N) (d) : (dats m hO 0 c).before 17 t d = iblk m hO c 17 t :=
  before0_17_of m hO (dats m hO 0 c) (A_eq m hO c 17) (after0_17 m hO c) t d
/-- What the body finds in window 18's block. -/
theorem before0_18 (hO : Ok m) (c : Dev nD) (t : Fin (cfgM m hO).N) (d) : (dats m hO 0 c).before 18 t d = iblk m hO c 18 t :=
  before0_18_of m hO (dats m hO 0 c) (A_eq m hO c 18) (after0_18 m hO c) t d
/-- What the body finds in window 19's block. -/
theorem before0_19 (hO : Ok m) (c : Dev nD) (t : Fin (cfgM m hO).N) (d) : (dats m hO 0 c).before 19 t d = iblk m hO c 19 t :=
  before0_19_of m hO (dats m hO 0 c) (A_eq m hO c 19) (after0_19 m hO c) t d
/-- What the body finds in window 20's block. -/
theorem before0_20 (hO : Ok m) (c : Dev nD) (t : Fin (cfgM m hO).N) (d) : (dats m hO 0 c).before 20 t d = iblk m hO c 20 t :=
  before0_20_of m hO (dats m hO 0 c) (A_eq m hO c 20) (after0_20 m hO c) t d
/-- What the body finds in window 21's block. -/
theorem before0_21 (hO : Ok m) (c : Dev nD) (t : Fin (cfgM m hO).N) (d) : (dats m hO 0 c).before 21 t d = iblk m hO c 21 t :=
  before0_21_of m hO (dats m hO 0 c) (A_eq m hO c 21) (after0_21 m hO c) t d
/-- What the body finds in window 22's block. -/
theorem before0_22 (hO : Ok m) (c : Dev nD) (t : Fin (cfgM m hO).N) (d) : (dats m hO 0 c).before 22 t d = iblk m hO c 22 t :=
  before0_22_of m hO (dats m hO 0 c) (A_eq m hO c 22) (after0_22 m hO c) t d
/-- What the body finds in window 23's block. -/
theorem before0_23 (hO : Ok m) (c : Dev nD) (t : Fin (cfgM m hO).N) (d) : (dats m hO 0 c).before 23 t d = iblk m hO c 23 t :=
  before0_23_of m hO (dats m hO 0 c) (A_eq m hO c 23) (after0_23 m hO c) t d
/-- What the body finds in window 24's block. -/
theorem before0_24 (hO : Ok m) (c : Dev nD) (t : Fin (cfgM m hO).N) (d) : (dats m hO 0 c).before 24 t d = iblk m hO c 24 t :=
  before0_24_of m hO (dats m hO 0 c) (A_eq m hO c 24) (after0_24 m hO c) t d
/-- What the body finds in window 25's block. -/
theorem before0_25 (hO : Ok m) (c : Dev nD) (t : Fin (cfgM m hO).N) (d) : (dats m hO 0 c).before 25 t d = iblk m hO c 25 t :=
  before0_25_of m hO (dats m hO 0 c) (A_eq m hO c 25) (after0_25 m hO c) t d
/-- What the body finds in window 26's block. -/
theorem before0_26 (hO : Ok m) (c : Dev nD) (t : Fin (cfgM m hO).N) (d) : (dats m hO 0 c).before 26 t d = iblk m hO c 26 t :=
  before0_26_of m hO (dats m hO 0 c) (A_eq m hO c 26) (after0_26 m hO c) t d
/-- What the body finds in window 27's block. -/
theorem before0_27 (hO : Ok m) (c : Dev nD) (t : Fin (cfgM m hO).N) (d) : (dats m hO 0 c).before 27 t d = iblk m hO c 27 t :=
  before0_27_of m hO (dats m hO 0 c) (A_eq m hO c 27) (after0_27 m hO c) t d
/-- What the body finds in window 28's block. -/
theorem before0_28 (hO : Ok m) (c : Dev nD) (t : Fin (cfgM m hO).N) (d) : (dats m hO 0 c).before 28 t d = iblk m hO c 28 t :=
  before0_28_of m hO (dats m hO 0 c) (A_eq m hO c 28) (after0_28 m hO c) t d
/-- What the body finds in window 29's block. -/
theorem before0_29 (hO : Ok m) (c : Dev nD) (t : Fin (cfgM m hO).N) (d) : (dats m hO 0 c).before 29 t d = iblk m hO c 29 t :=
  before0_29_of m hO (dats m hO 0 c) (A_eq m hO c 29) (after0_29 m hO c) t d
/-- What the body finds in window 30's block. -/
theorem before0_30 (hO : Ok m) (c : Dev nD) (t : Fin (cfgM m hO).N) (d) : (dats m hO 0 c).before 30 t d = iblk m hO c 30 t :=
  before0_30_of m hO (dats m hO 0 c) (A_eq m hO c 30) (after0_30 m hO c) t d
/-- What the body finds in window 31's block. -/
theorem before0_31 (hO : Ok m) (c : Dev nD) (t : Fin (cfgM m hO).N) (d) : (dats m hO 0 c).before 31 t d = iblk m hO c 31 t :=
  before0_31_of m hO (dats m hO 0 c) (A_eq m hO c 31) (after0_31 m hO c) t d
/-- What the body finds in window 32's block. -/
theorem before0_32 (hO : Ok m) (c : Dev nD) (t : Fin (cfgM m hO).N) (d) : (dats m hO 0 c).before 32 t d = iblk m hO c 32 t :=
  before0_32_of m hO (dats m hO 0 c) (A_eq m hO c 32) (after0_32 m hO c) t d
/-- What the body finds in window 33's block. -/
theorem before0_33 (hO : Ok m) (c : Dev nD) (t : Fin (cfgM m hO).N) (d) : (dats m hO 0 c).before 33 t d = iblk m hO c 33 t :=
  before0_33_of m hO (dats m hO 0 c) (A_eq m hO c 33) (after0_33 m hO c) t d

def bodyPre (hO : Ok m) (c : Dev nD) (t : Fin (cfgM m hO).N) : sProp 𝕄 :=
  iprop((dats m hO 0 c).Φ t.castSucc ∗ (dats m hO 0 c).owesAt () t.castSucc
    ∗ (∃ d, owns (c : Thread nD τ) (ms0_0 m hO t) fullShare ((dats m hO 0 c).before 0 t d))
    ∗ (∃ d, owns (c : Thread nD τ) (ms0_1 m hO t) fullShare ((dats m hO 0 c).before 1 t d))
    ∗ (∃ d, owns (c : Thread nD τ) (ms0_2 m hO t) fullShare ((dats m hO 0 c).before 2 t d))
    ∗ (∃ d, owns (c : Thread nD τ) (ms0_3 m hO t) fullShare ((dats m hO 0 c).before 3 t d))
    ∗ (∃ d, owns (c : Thread nD τ) (ms0_4 m hO t) fullShare ((dats m hO 0 c).before 4 t d))
    ∗ (∃ d, owns (c : Thread nD τ) (ms0_5 m hO t) fullShare ((dats m hO 0 c).before 5 t d))
    ∗ (∃ d, owns (c : Thread nD τ) (ms0_6 m hO t) fullShare ((dats m hO 0 c).before 6 t d))
    ∗ (∃ d, owns (c : Thread nD τ) (ms0_7 m hO t) fullShare ((dats m hO 0 c).before 7 t d))
    ∗ (∃ d, owns (c : Thread nD τ) (ms0_8 m hO t) fullShare ((dats m hO 0 c).before 8 t d))
    ∗ (∃ d, owns (c : Thread nD τ) (ms0_9 m hO t) fullShare ((dats m hO 0 c).before 9 t d))
    ∗ (∃ d, owns (c : Thread nD τ) (ms0_10 m hO t) fullShare ((dats m hO 0 c).before 10 t d))
    ∗ (∃ d, owns (c : Thread nD τ) (ms0_11 m hO t) fullShare ((dats m hO 0 c).before 11 t d))
    ∗ (∃ d, owns (c : Thread nD τ) (ms0_12 m hO t) fullShare ((dats m hO 0 c).before 12 t d))
    ∗ (∃ d, owns (c : Thread nD τ) (ms0_13 m hO t) fullShare ((dats m hO 0 c).before 13 t d))
    ∗ (∃ d, owns (c : Thread nD τ) (ms0_14 m hO t) fullShare ((dats m hO 0 c).before 14 t d))
    ∗ (∃ d, owns (c : Thread nD τ) (ms0_15 m hO t) fullShare ((dats m hO 0 c).before 15 t d))
    ∗ (∃ d, owns (c : Thread nD τ) (ms0_16 m hO t) fullShare ((dats m hO 0 c).before 16 t d))
    ∗ (∃ d, owns (c : Thread nD τ) (ms0_17 m hO t) fullShare ((dats m hO 0 c).before 17 t d))
    ∗ (∃ d, owns (c : Thread nD τ) (ms0_18 m hO t) fullShare ((dats m hO 0 c).before 18 t d))
    ∗ (∃ d, owns (c : Thread nD τ) (ms0_19 m hO t) fullShare ((dats m hO 0 c).before 19 t d))
    ∗ (∃ d, owns (c : Thread nD τ) (ms0_20 m hO t) fullShare ((dats m hO 0 c).before 20 t d))
    ∗ (∃ d, owns (c : Thread nD τ) (ms0_21 m hO t) fullShare ((dats m hO 0 c).before 21 t d))
    ∗ (∃ d, owns (c : Thread nD τ) (ms0_22 m hO t) fullShare ((dats m hO 0 c).before 22 t d))
    ∗ (∃ d, owns (c : Thread nD τ) (ms0_23 m hO t) fullShare ((dats m hO 0 c).before 23 t d))
    ∗ (∃ d, owns (c : Thread nD τ) (ms0_24 m hO t) fullShare ((dats m hO 0 c).before 24 t d))
    ∗ (∃ d, owns (c : Thread nD τ) (ms0_25 m hO t) fullShare ((dats m hO 0 c).before 25 t d))
    ∗ (∃ d, owns (c : Thread nD τ) (ms0_26 m hO t) fullShare ((dats m hO 0 c).before 26 t d))
    ∗ (∃ d, owns (c : Thread nD τ) (ms0_27 m hO t) fullShare ((dats m hO 0 c).before 27 t d))
    ∗ (∃ d, owns (c : Thread nD τ) (ms0_28 m hO t) fullShare ((dats m hO 0 c).before 28 t d))
    ∗ (∃ d, owns (c : Thread nD τ) (ms0_29 m hO t) fullShare ((dats m hO 0 c).before 29 t d))
    ∗ (∃ d, owns (c : Thread nD τ) (ms0_30 m hO t) fullShare ((dats m hO 0 c).before 30 t d))
    ∗ (∃ d, owns (c : Thread nD τ) (ms0_31 m hO t) fullShare ((dats m hO 0 c).before 31 t d))
    ∗ (∃ d, owns (c : Thread nD τ) (ms0_32 m hO t) fullShare ((dats m hO 0 c).before 32 t d))
    ∗ (∃ d, owns (c : Thread nD τ) (ms0_33 m hO t) fullShare ((dats m hO 0 c).before 33 t d))
    ∗ (∃ d, owns (c : Thread nD τ) (ms0_34 m hO t) fullShare ((dats m hO 0 c).before 34 t d))
    ∗ (∃ d, owns (c : Thread nD τ) (ms0_35 m hO t) fullShare ((dats m hO 0 c).before 35 t d)))

def bodyPost (hO : Ok m) (c : Dev nD) (t : Fin (cfgM m hO).N) : sProp 𝕄 :=
  iprop((dats m hO 0 c).Φ t.succ ∗ (dats m hO 0 c).owesAt () t.succ
    ∗ owns (c : Thread nD τ) (ms0_0 m hO t) fullShare ((dats m hO 0 c).after 0 t)
    ∗ owns (c : Thread nD τ) (ms0_1 m hO t) fullShare ((dats m hO 0 c).after 1 t)
    ∗ owns (c : Thread nD τ) (ms0_2 m hO t) fullShare ((dats m hO 0 c).after 2 t)
    ∗ owns (c : Thread nD τ) (ms0_3 m hO t) fullShare ((dats m hO 0 c).after 3 t)
    ∗ owns (c : Thread nD τ) (ms0_4 m hO t) fullShare ((dats m hO 0 c).after 4 t)
    ∗ owns (c : Thread nD τ) (ms0_5 m hO t) fullShare ((dats m hO 0 c).after 5 t)
    ∗ owns (c : Thread nD τ) (ms0_6 m hO t) fullShare ((dats m hO 0 c).after 6 t)
    ∗ owns (c : Thread nD τ) (ms0_7 m hO t) fullShare ((dats m hO 0 c).after 7 t)
    ∗ owns (c : Thread nD τ) (ms0_8 m hO t) fullShare ((dats m hO 0 c).after 8 t)
    ∗ owns (c : Thread nD τ) (ms0_9 m hO t) fullShare ((dats m hO 0 c).after 9 t)
    ∗ owns (c : Thread nD τ) (ms0_10 m hO t) fullShare ((dats m hO 0 c).after 10 t)
    ∗ owns (c : Thread nD τ) (ms0_11 m hO t) fullShare ((dats m hO 0 c).after 11 t)
    ∗ owns (c : Thread nD τ) (ms0_12 m hO t) fullShare ((dats m hO 0 c).after 12 t)
    ∗ owns (c : Thread nD τ) (ms0_13 m hO t) fullShare ((dats m hO 0 c).after 13 t)
    ∗ owns (c : Thread nD τ) (ms0_14 m hO t) fullShare ((dats m hO 0 c).after 14 t)
    ∗ owns (c : Thread nD τ) (ms0_15 m hO t) fullShare ((dats m hO 0 c).after 15 t)
    ∗ owns (c : Thread nD τ) (ms0_16 m hO t) fullShare ((dats m hO 0 c).after 16 t)
    ∗ owns (c : Thread nD τ) (ms0_17 m hO t) fullShare ((dats m hO 0 c).after 17 t)
    ∗ owns (c : Thread nD τ) (ms0_18 m hO t) fullShare ((dats m hO 0 c).after 18 t)
    ∗ owns (c : Thread nD τ) (ms0_19 m hO t) fullShare ((dats m hO 0 c).after 19 t)
    ∗ owns (c : Thread nD τ) (ms0_20 m hO t) fullShare ((dats m hO 0 c).after 20 t)
    ∗ owns (c : Thread nD τ) (ms0_21 m hO t) fullShare ((dats m hO 0 c).after 21 t)
    ∗ owns (c : Thread nD τ) (ms0_22 m hO t) fullShare ((dats m hO 0 c).after 22 t)
    ∗ owns (c : Thread nD τ) (ms0_23 m hO t) fullShare ((dats m hO 0 c).after 23 t)
    ∗ owns (c : Thread nD τ) (ms0_24 m hO t) fullShare ((dats m hO 0 c).after 24 t)
    ∗ owns (c : Thread nD τ) (ms0_25 m hO t) fullShare ((dats m hO 0 c).after 25 t)
    ∗ owns (c : Thread nD τ) (ms0_26 m hO t) fullShare ((dats m hO 0 c).after 26 t)
    ∗ owns (c : Thread nD τ) (ms0_27 m hO t) fullShare ((dats m hO 0 c).after 27 t)
    ∗ owns (c : Thread nD τ) (ms0_28 m hO t) fullShare ((dats m hO 0 c).after 28 t)
    ∗ owns (c : Thread nD τ) (ms0_29 m hO t) fullShare ((dats m hO 0 c).after 29 t)
    ∗ owns (c : Thread nD τ) (ms0_30 m hO t) fullShare ((dats m hO 0 c).after 30 t)
    ∗ owns (c : Thread nD τ) (ms0_31 m hO t) fullShare ((dats m hO 0 c).after 31 t)
    ∗ owns (c : Thread nD τ) (ms0_32 m hO t) fullShare ((dats m hO 0 c).after 32 t)
    ∗ owns (c : Thread nD τ) (ms0_33 m hO t) fullShare ((dats m hO 0 c).after 33 t)
    ∗ owns (c : Thread nD τ) (ms0_34 m hO t) fullShare ((dats m hO 0 c).after 34 t)
    ∗ owns (c : Thread nD τ) (ms0_35 m hO t) fullShare ((dats m hO 0 c).after 35 t))

set_option maxHeartbeats 3600000 in
/-- The body run once on the blocks of a point leaves that point's outputs. -/
theorem sound_body (hO : Ok m) (c : Dev nD) (t : Fin (cfgM m hO).N) :
    bodyPre m hO c t ⊢ wp frame (wpE (defs₀ (F := F)) Variants.none c none) Set.univ (bodyAt0 (adm m hO) t) (fun _ => bodyPost m hO c t) := by
  unfold bodyPre bodyPost bodyAt0
  simp only [before0_0, before0_1, before0_2, before0_3, before0_4, before0_5, before0_6, before0_7, before0_8, before0_9, before0_10, before0_11, before0_12, before0_13, before0_14, before0_15, before0_16, before0_17, before0_18, before0_19, before0_20, before0_21, before0_22, before0_23, before0_24, before0_25, before0_26, before0_27, before0_28, before0_29, before0_30, before0_31, before0_32, before0_33]
  rw [show (dats m hO 0 c).Φ t.succ = (dats m hO 0 c).Φ t.castSucc from rfl,
    show (dats m hO 0 c).owesAt () t.succ = (dats m hO 0 c).owesAt () t.castSucc from rfl,
    after0_0, after0_1, after0_2, after0_3, after0_4, after0_5, after0_6, after0_7, after0_8, after0_9, after0_10, after0_11, after0_12, after0_13, after0_14, after0_15, after0_16, after0_17, after0_18, after0_19, after0_20, after0_21, after0_22, after0_23, after0_24, after0_25, after0_26, after0_27, after0_28, after0_29, after0_30, after0_31, after0_32, after0_33, after0_34, after0_35]
  rw [show (dats m hO 0 c).Φ t.castSucc = iprop(Pipeline.ΦA spec0 c ∗ Pipeline.ΦT pre0 (tbl m) c) from rfl, PhiT0_eq]
  unfold outsAt0
  unfold out0_A_34 out0_A_35; (try dsimp only)
  iintro ⟨⟨HΦ, ⟨HT0, HT1, HT2⟩⟩, Ho, ⟨%d0, H0⟩, ⟨%d1, H1⟩, ⟨%d2, H2⟩, ⟨%d3, H3⟩, ⟨%d4, H4⟩, ⟨%d5, H5⟩, ⟨%d6, H6⟩, ⟨%d7, H7⟩, ⟨%d8, H8⟩, ⟨%d9, H9⟩, ⟨%d10, H10⟩, ⟨%d11, H11⟩, ⟨%d12, H12⟩, ⟨%d13, H13⟩, ⟨%d14, H14⟩, ⟨%d15, H15⟩, ⟨%d16, H16⟩, ⟨%d17, H17⟩, ⟨%d18, H18⟩, ⟨%d19, H19⟩, ⟨%d20, H20⟩, ⟨%d21, H21⟩, ⟨%d22, H22⟩, ⟨%d23, H23⟩, ⟨%d24, H24⟩, ⟨%d25, H25⟩, ⟨%d26, H26⟩, ⟨%d27, H27⟩, ⟨%d28, H28⟩, ⟨%d29, H29⟩, ⟨%d30, H30⟩, ⟨%d31, H31⟩, ⟨%d32, H32⟩, ⟨%d33, H33⟩, ⟨%d34, H34⟩, ⟨%d35, H35⟩⟩
  iapply ((kernelRun0_A c (grid0.coords t) _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ (iblk m hO c 0 t) (iblk m hO c 1 t) (iblk m hO c 2 t) (iblk m hO c 3 t) (iblk m hO c 4 t) (iblk m hO c 5 t) (iblk m hO c 6 t) (iblk m hO c 7 t) (iblk m hO c 8 t) (iblk m hO c 9 t) (iblk m hO c 10 t) (iblk m hO c 11 t) (iblk m hO c 12 t) (iblk m hO c 13 t) (iblk m hO c 14 t) (iblk m hO c 15 t) (iblk m hO c 16 t) (iblk m hO c 17 t) (iblk m hO c 18 t) (iblk m hO c 19 t) (iblk m hO c 20 t) (iblk m hO c 21 t) (iblk m hO c 22 t) (iblk m hO c 23 t) (iblk m hO c 24 t) (iblk m hO c 25 t) (iblk m hO c 26 t) (iblk m hO c 27 t) (iblk m hO c 28 t) (iblk m hO c 29 t) (iblk m hO c 30 t) (iblk m hO c 31 t) (iblk m hO c 32 t) (iblk m hO c 33 t) (tbl m 0) (tbl m 1) (tbl m 2)).2.2 Set.univ _)
  isplitl [H0]; · iexact H0
  isplitl [H1]; · iexact H1
  isplitl [H2]; · iexact H2
  isplitl [H3]; · iexact H3
  isplitl [H4]; · iexact H4
  isplitl [H5]; · iexact H5
  isplitl [H6]; · iexact H6
  isplitl [H7]; · iexact H7
  isplitl [H8]; · iexact H8
  isplitl [H9]; · iexact H9
  isplitl [H10]; · iexact H10
  isplitl [H11]; · iexact H11
  isplitl [H12]; · iexact H12
  isplitl [H13]; · iexact H13
  isplitl [H14]; · iexact H14
  isplitl [H15]; · iexact H15
  isplitl [H16]; · iexact H16
  isplitl [H17]; · iexact H17
  isplitl [H18]; · iexact H18
  isplitl [H19]; · iexact H19
  isplitl [H20]; · iexact H20
  isplitl [H21]; · iexact H21
  isplitl [H22]; · iexact H22
  isplitl [H23]; · iexact H23
  isplitl [H24]; · iexact H24
  isplitl [H25]; · iexact H25
  isplitl [H26]; · iexact H26
  isplitl [H27]; · iexact H27
  isplitl [H28]; · iexact H28
  isplitl [H29]; · iexact H29
  isplitl [H30]; · iexact H30
  isplitl [H31]; · iexact H31
  isplitl [H32]; · iexact H32
  isplitl [H33]; · iexact H33
  isplitl [H34]; · iexists _; iexact H34
  isplitl [H35]; · iexists _; iexact H35
  isplitl [HT0]; · iexact HT0
  isplitl [HT1]; · iexact HT1
  isplitl [HT2]; · iexact HT2
  iintro ⟨H0, H1, H2, H3, H4, H5, H6, H7, H8, H9, H10, H11, H12, H13, H14, H15, H16, H17, H18, H19, H20, H21, H22, H23, H24, H25, H26, H27, H28, H29, H30, H31, H32, H33, ⟨%e34, H34⟩, ⟨%e35, H35⟩, HT0, HT1, HT2⟩
  isplitl [HΦ HT0 HT1 HT2]
  · isplitl [HΦ]
    · iexact HΦ
    isplitl [HT0]; · iexact HT0
    isplitl [HT1]; · iexact HT1
    iexact HT2
  isplitl [Ho]; · iexact Ho
  isplitl [H0]; · iexact H0
  isplitl [H1]; · iexact H1
  isplitl [H2]; · iexact H2
  isplitl [H3]; · iexact H3
  isplitl [H4]; · iexact H4
  isplitl [H5]; · iexact H5
  isplitl [H6]; · iexact H6
  isplitl [H7]; · iexact H7
  isplitl [H8]; · iexact H8
  isplitl [H9]; · iexact H9
  isplitl [H10]; · iexact H10
  isplitl [H11]; · iexact H11
  isplitl [H12]; · iexact H12
  isplitl [H13]; · iexact H13
  isplitl [H14]; · iexact H14
  isplitl [H15]; · iexact H15
  isplitl [H16]; · iexact H16
  isplitl [H17]; · iexact H17
  isplitl [H18]; · iexact H18
  isplitl [H19]; · iexact H19
  isplitl [H20]; · iexact H20
  isplitl [H21]; · iexact H21
  isplitl [H22]; · iexact H22
  isplitl [H23]; · iexact H23
  isplitl [H24]; · iexact H24
  isplitl [H25]; · iexact H25
  isplitl [H26]; · iexact H26
  isplitl [H27]; · iexact H27
  isplitl [H28]; · iexact H28
  isplitl [H29]; · iexact H29
  isplitl [H30]; · iexact H30
  isplitl [H31]; · iexact H31
  isplitl [H32]; · iexact H32
  isplitl [H33]; · iexact H33
  isplitl [H34]
  · unfold owns; iexists _; isplitr
    swap; · iexact H34
    ipureintro; exact View.read_writes_of_cover _ _ _ _ _ (cover0_A_34 c _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _)
  unfold owns; iexists _; isplitr
  swap; · iexact H35
  ipureintro; exact View.read_writes_of_cover _ _ _ _ _ (cover0_A_35 c _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _)

/-- The launched body at a point. -/
theorem defs₀_row (hO : Ok m) (t : Fin (cfgM m hO).N) :
    defs₀ (F := F) .tc (cfgM m hO).body ((cfgM m hO).bodyArgs t ((cfgM m hO).slots t)) = bodyAt0 (adm m hO) t := by
  unfold defs₀; rw [Defs.onTc_tc]

set_option maxHeartbeats 4000000 in
/-- The body meets the pipeline's obligation at every point. -/
theorem body_obligation (hO : Ok m) (c : Dev nD) : BodyObligation (dats (F := F) m hO 0 c) (defs₀ (F := F)) Variants.none () Set.univ := fun t => by
  rw [bigSep_W0, bigSep_W0, defs₀_row m hO]
  exact triple_restated (sound_body m hO c t) rfl .rfl fun _ => .rfl

set_option backward.isDefEq.respectTransparency.types false in
/-- The whole program runs to its end, leaves the folded arrays and all counters at zero. -/
theorem run_main_quiescent (hO : Ok m) : θ_run defs (onTc (τ := τ) (main (F := F))) (s₀ m ρ) (fun r => (Pipeline.FramePost (Pipeline.pin pcfgs fun _ => adm m hO) (dats m hO) 0 (V m)) r ∧ r.2.sem = fun _ => 0) :=
  Pipeline.θ_run_frameP_shared (Q' := _) pcfgs (fun _ => adm m hO) (dats m hO) (0 : Fin 1) launch₀0 defs₀ Variants.none m ρ main
    (hbody := fun c => (body_obligation m hO c).loose) (hq := fun _ _ _ => rfl)
    (howed := fun _ _ => rfl) (V := V m) (hmain := hmain m Variants.none) (hA := A_eq m hO) (hpf := V_pre m)
    (hΦ := fun _ _ => rfl)

/-- The whole program runs to its end and leaves the folded arrays. -/
theorem run_main (hO : Ok m) : θ_run defs (onTc (τ := τ) (main (F := F))) (s₀ m ρ) (Pipeline.FramePost (Pipeline.pin pcfgs fun _ => adm m hO) (dats m hO) 0 (V m)) :=
  (θ_run defs _ _).mono (fun _ h => h.1) (run_main_quiescent m ρ hO)

/-- The arguments end as they began. -/
theorem unchanged (hO : Ok m) : θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)) :=
  frame_of m ρ hO (dats m hO) (A_eq m hO) (run_main m ρ hO)

/-- The program runs to its end, its arguments unchanged and its counters at zero. -/
theorem frame (hO : Ok m) : θ_run defs (onTc (τ := τ) (main (F := F))) ⟨m, fun _ => 0, ρ⟩ (fun r => (∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8))
      ∧ r.2.sem = fun _ => 0) :=
  θ_run_and (unchanged m ρ hO) ((θ_run defs _ _).mono (fun _ h => h.2) (run_main_quiescent m ρ hO))

end Cert.TwoIdeal.Kit

end
-- ==== Proof.TwoIdealTables.lean ====
/-
  The second stage's blocks are inside their arrays where the table of charts names charts.
-/
module

public import proofs.«01_k».proof.Proof.Gen.TwoIdeal

@[expose] public section

noncomputable section

namespace Cert.TwoIdeal.Kit

open Cert.TwoIdeal Cert.TwoIdeal.Gen Idealize.ShloMosaic Idealize.ShloMosaic.TcCoe

variable {F : FTy → Type} [FloatOps F]

/-- A block at a chart below 1024 is inside the array. -/
theorem fits0 (n : BitVec 32) (h : n.toNat < 1024) (a : Fin 3) :
    ((![n.toNat, (0#32).toNat, (0#32).toNat] : Fin 3 → Nat) a + 1) * S1x64x64.size a ≤ S1024x64x64.size a := by
  match a with
  | ⟨0, _⟩ => show (n.toNat + 1) * 1 ≤ 1024; omega
  | ⟨1, _⟩ => exact (by decide : (0 + 1) * S1x64x64.size 1 ≤ S1024x64x64.size 1)
  | ⟨2, _⟩ => exact (by decide : (0 + 1) * S1x64x64.size 2 ≤ S1024x64x64.size 2)

/-- A block at a chart below 1024 is inside the array. -/
theorem fits1 (n : BitVec 32) (h : n.toNat < 1024) (a : Fin 3) :
    ((![n.toNat, (0#32).toNat, (0#32).toNat] : Fin 3 → Nat) a + 1) * S1x1x256.size a ≤ S1024x1x256.size a := by
  match a with
  | ⟨0, _⟩ => show (n.toNat + 1) * 1 ≤ 1024; omega
  | ⟨1, _⟩ => exact (by decide : (0 + 1) * S1x1x256.size 1 ≤ S1024x1x256.size 1)
  | ⟨2, _⟩ => exact (by decide : (0 + 1) * S1x1x256.size 2 ≤ S1024x1x256.size 2)

/-- A table of charts below 1024 is admissible: every block it selects is inside its array. -/
theorem ok_of_range (pf : pre0.Contents (Elt F)) (h : ∀ i : S4096.Idx, (pf 1 i : BitVec 32).toNat < 1024) : ok0 pf := by
  unfold ok0
  repeat' apply And.intro
  all_goals first | exact fun i => ⟨fits0 _ (h _), .inl rfl⟩ | exact fun i => ⟨fits1 _ (h _), .inl rfl⟩

end Cert.TwoIdeal.Kit

end
-- ==== Proof.TwoRow.lean ====
/-
  The second stage's body, one row at a time: row `r` of the block it writes is the row mapped by the new chart where a
  switch is asked for, and the row as it was elsewhere; lane `r` of the charts it writes is that row's chart.
-/
module

public import proofs.«01_k».proof.Proof.Gen.TwoIdeal.Skeleton
public import proofs.«01_k».proof.Proof.MinIndex
public import Idealize.ShloMosaic.Lib.Pipeline.Value
public import Idealize.ShloMosaic.Lib.MatmulPlain
public import Idealize.ShloMosaic.Lib.ValueLayout
public import Idealize.ShloMosaic.Lib.ValueLayoutCasts

@[expose] public section

noncomputable section

namespace Cert.Atlas

open Idealize.ShloMosaic Idealize.ShloMosaic.ValueIdx Cert.TwoIdeal Cert.TwoIdeal.Gen

/-- A point `y` under the affine map with matrix `W` and offset `b`. -/
def affine (W : Fin 64 → Fin 64 → EReal) (b y : Fin 64 → EReal) (d : Fin 64) : EReal := (∑ e, y e * W d e) + b d

/-- A row of the second stage: the point mapped by the new chart where the switch is positive, else the row as it was. -/
def secondRow (s : BitVec 32) (W : Fin 64 → Fin 64 → EReal) (b y z : Fin 64 → EReal) (d : Fin 64) : EReal :=
  Scalar.select (Scalar.cmpi .sgt s 0#32) (affine W b y d) (z d)

/-- Sixteen words in the first lanes of a row of 128, the other lanes zero. -/
def spread (f : Fin 16 → BitVec 32) (l : Fin 128) : BitVec 32 := if h : l.val < 16 then f ⟨l.val, h⟩ else 0#32

/-- The row the body computes for one sample. -/
theorem second_pay (s : BitVec 32) (p : Vec Ideal S1x1x64 .f32) (y : Vec Ideal S1x64 .f32) (W : Vec Ideal S1x64x64 .f32)
    (z : Vec Ideal S1x64 .f32) (d : Fin 64) :
    k0_pay1 (F := Ideal) s p y W z (ix2 0 d)
      = secondRow s (fun d e => W (ix3 0 d e)) (fun d => p (ix3 0 0 d)) (fun e => y (ix2 0 e)) (fun d => z (ix2 0 d)) d := by
  unfold k0_pay1 secondRow affine
  dsimp only
  have hm : ∀ X : FVec Ideal S64x64 .f32, (matmul (F := Ideal) (φ₁ := .f32) (φ₂ := .f32) dot_S1x64_S64x64_S1x64_1_1_0_0_n_n none y X (constant S1x64 .f32 0x00000000#32)) (ix2 0 d)
      = ∑ e : Fin 64, y (ix2 0 e) * X (ix2 d e) := fun X =>
    (Ideal.matmul_transposedRhs_apply (M := 1) (K := 64) (N := 64) none y X _ 0 d).trans (by
      rw [constant_apply, Ideal.ofBits_zero_f32, zero_add])
  have ha : addf (F := Ideal) (matmul (F := Ideal) (φ₁ := .f32) (φ₂ := .f32) dot_S1x64_S64x64_S1x64_1_1_0_0_n_n none y
        (shapeCast S64x64 W shapeCasts_S1x64x64_S64x64) (constant S1x64 .f32 0x00000000#32))
      (shapeCast S1x64 p shapeCasts_S1x1x64_S1x64) (ix2 0 d)
      = (∑ e : Fin 64, y (ix2 0 e) * W (ix3 0 d e)) + p (ix3 0 0 d) := by
    rw [addf_apply, hm, shapeCast_1ab_ab_apply]
    refine congrArg₂ (· + ·) (Finset.sum_congr rfl fun e _ => ?_) rfl
    rw [shapeCast_1ab_ab_apply]
  rw [← ha]
  unfold Scalar.select
  split <;> rfl

/-- Sixteen rows stacked, read at row `r`. -/
theorem rows_apply {α : Type} (f : Fin 16 → (S1x64.Idx → α))
    (h : Shape.Concatenates [S1x64, S1x64, S1x64, S1x64, S1x64, S1x64, S1x64, S1x64, S1x64, S1x64, S1x64, S1x64, S1x64, S1x64, S1x64, S1x64] S16x64 0)
    (r : Fin 16) (d : Fin 64) :
    concatenate S16x64 0 [⟨S1x64, f 0⟩, ⟨S1x64, f 1⟩, ⟨S1x64, f 2⟩, ⟨S1x64, f 3⟩, ⟨S1x64, f 4⟩, ⟨S1x64, f 5⟩, ⟨S1x64, f 6⟩, ⟨S1x64, f 7⟩,
      ⟨S1x64, f 8⟩, ⟨S1x64, f 9⟩, ⟨S1x64, f 10⟩, ⟨S1x64, f 11⟩, ⟨S1x64, f 12⟩, ⟨S1x64, f 13⟩, ⟨S1x64, f 14⟩, ⟨S1x64, f 15⟩] h (ix2 r d)
      = f r (ix2 0 d) :=
  concatenate_ofFn_unit_apply (t := S16x64) (s₁ := S1x64) 0 f h rfl rfl (ix2 r d) r rfl (ix2 0 d) fun b hb => by
    match b with
    | ⟨0, _⟩ => exact absurd rfl hb
    | ⟨1, _⟩ => rfl

/-- The block of rows the body stores. -/
theorem second_block (S : Fin 16 → BitVec 32) (P : Fin 16 → Vec Ideal S1x1x64 .f32) (Y : Fin 16 → Vec Ideal S1x64 .f32)
    (W : Fin 16 → Vec Ideal S1x64x64 .f32) (Z : Fin 16 → Vec Ideal S1x64 .f32) (r : Fin 16) (d : Fin 64) :
    k0_pay22 (F := Ideal) (k0_pay1 (S 0) (P 0) (Y 0) (W 0) (Z 0)) (k0_pay2 (S 1) (P 1) (Y 1) (W 1) (Z 1))
      (k0_pay5 (S 2) (k0_pay3 (P 2)) (k0_pay4 (Y 2) (W 2)) (Z 2)) (k0_pay6 (S 3) (P 3) (Y 3) (W 3) (Z 3))
      (k0_pay7 (S 4) (P 4) (Y 4) (W 4) (Z 4)) (k0_pay9 (S 5) (k0_pay8 (P 5)) (Y 5) (W 5) (Z 5))
      (k0_pay10 (S 6) (P 6) (Y 6) (W 6) (Z 6)) (k0_pay11 (S 7) (P 7) (Y 7) (W 7) (Z 7)) (k0_pay12 (S 8) (P 8) (Y 8) (W 8) (Z 8))
      (k0_pay15 (S 9) (k0_pay13 (P 9)) (Y 9) (k0_pay14 (W 9)) (constant S1x64 .f32 0x00000000#32) (Z 9))
      (k0_pay16 (S 10) (P 10) (Y 10) (W 10) (Z 10)) (k0_pay17 (S 11) (P 11) (Y 11) (W 11) (Z 11))
      (k0_pay19 (S 12) (k0_pay18 (P 12)) (Y 12) (W 12) (Z 12)) (k0_pay20 (S 13) (P 13) (Y 13) (W 13) (Z 13))
      (k0_pay21 (S 14) (P 14) (Y 14) (W 14) (Z 14)) (S 15) (P 15) (Y 15) (W 15) (Z 15) (ix2 r d)
      = secondRow (S r) (fun d e => W r (ix3 0 d e)) (fun d => P r (ix3 0 0 d)) (fun e => Y r (ix2 0 e)) (fun d => Z r (ix2 0 d)) d :=
  (rows_apply (fun r => k0_pay1 (F := Ideal) (S r) (P r) (Y r) (W r) (Z r)) concatenates_S1x64_S1x64_S1x64_S1x64_S1x64_S1x64_S1x64_S1x64_S1x64_S1x64_S1x64_S1x64_S1x64_S1x64_S1x64_S1x64_S16x64_d0 r d).trans
    (second_pay _ _ _ _ _ d)

/-- One lane's share of a word: the word in its own lane, zero in the others. -/
theorem lane_share (j : Fin 16) (v : BitVec 32) (l : Fin 128) :
    Scalar.select (Scalar.cmpi .eq (BitVec.ofNat 32 l.val) (BitVec.ofNat 32 j.val)) v 0#32 = if l.val = j.val then v else 0#32 := by
  have : (BitVec.ofNat 32 l.val = BitVec.ofNat 32 j.val) ↔ l.val = j.val := by
    constructor
    · intro h
      have := congrArg BitVec.toNat h
      simp only [BitVec.toNat_ofNat] at this
      omega
    · intro h; rw [h]
  by_cases h : l.val = j.val
  · rw [if_pos h, h]; simp [Scalar.select, Scalar.cmpi, IntOp.cmpi]
  · rw [if_neg h]
    have hb : (BitVec.ofNat 32 l.val == BitVec.ofNat 32 j.val) = false := by
      rw [beq_eq_false_iff_ne]; exact fun e => h (this.mp e)
    simp [Scalar.select, Scalar.cmpi, IntOp.cmpi, hb]

/-- The row of charts the body stores. -/
theorem second_lanes (f : Fin 16 → BitVec 32) (l : Fin 128) :
    k0_pay27 (f 10) (f 11) (f 12) (f 13) (f 14) (f 15) (iota .tc S1x128 32 [1] iota_S1x128_d1_w32)
      (k0_pay25 (f 3) (f 4) (f 5) (f 6) (f 7) (f 8) (f 9) (iota .tc S1x128 32 [1] iota_S1x128_d1_w32)
        (k0_pay23 (f 0) (f 1)) (k0_pay24 (f 2)))
      (k0_pay26 (iota .tc S1x128 32 [1] iota_S1x128_d1_w32)) (ix3 0 0 l) = spread f l := by
  unfold k0_pay27 k0_pay26 k0_pay25 k0_pay24 k0_pay23
  dsimp only
  rw [shapeCast_ab_1ab_apply]
  have hI : iota .tc S1x128 32 [1] iota_S1x128_d1_w32 (ix2 0 l) = BitVec.ofNat 32 l.val := by rw [iota_single_apply]
  generalize iota .tc S1x128 32 [1] iota_S1x128_d1_w32 = I at hI ⊢
  have key : ∀ j : Fin 16, Scalar.select (Scalar.cmpi .eq (I (ix2 0 l)) (BitVec.ofNat 32 j.val)) (f j) 0#32
      = if l.val = j.val then f j else 0#32 := fun j => by rw [hI]; exact lane_share j (f j) l
  have k0 := key 0; have k1 := key 1; have k2 := key 2; have k3 := key 3; have k4 := key 4; have k5 := key 5
  have k6 := key 6; have k7 := key 7; have k8 := key 8; have k9 := key 9; have k10 := key 10; have k11 := key 11
  have k12 := key 12; have k13 := key 13; have k14 := key 14; have k15 := key 15
  refine Eq.trans (b := 0#32 + (if l.val = 0 then f 0 else 0#32) + (if l.val = 1 then f 1 else 0#32) + (if l.val = 2 then f 2 else 0#32)
    + (if l.val = 3 then f 3 else 0#32) + (if l.val = 4 then f 4 else 0#32) + (if l.val = 5 then f 5 else 0#32)
    + (if l.val = 6 then f 6 else 0#32) + (if l.val = 7 then f 7 else 0#32) + (if l.val = 8 then f 8 else 0#32)
    + (if l.val = 9 then f 9 else 0#32) + (if l.val = 10 then f 10 else 0#32) + (if l.val = 11 then f 11 else 0#32)
    + (if l.val = 12 then f 12 else 0#32) + (if l.val = 13 then f 13 else 0#32) + (if l.val = 14 then f 14 else 0#32)
    + (if l.val = 15 then f 15 else 0#32)) ?_ ?_
  · exact congrArg₂ (· + ·) (congrArg₂ (· + ·) (congrArg₂ (· + ·) (congrArg₂ (· + ·) (congrArg₂ (· + ·) (congrArg₂ (· + ·)
      (congrArg₂ (· + ·) (congrArg₂ (· + ·) (congrArg₂ (· + ·) (congrArg₂ (· + ·) (congrArg₂ (· + ·) (congrArg₂ (· + ·)
      (congrArg₂ (· + ·) (congrArg₂ (· + ·) (congrArg₂ (· + ·) (congrArg (0#32 + ·) k0) k1) k2) k3) k4) k5) k6) k7) k8) k9) k10) k11) k12) k13) k14) k15
  · unfold spread
    by_cases hl : l.val < 16
    · rw [dif_pos hl]
      obtain ⟨l, hl'⟩ := l
      simp only at hl ⊢
      interval_cases l <;> simp
    · rw [dif_neg hl]
      have h : ∀ j : Nat, j < 16 → ¬ l.val = j := fun j hj => by omega
      simp only [if_neg (h 0 (by decide)), if_neg (h 1 (by decide)), if_neg (h 2 (by decide)), if_neg (h 3 (by decide)),
        if_neg (h 4 (by decide)), if_neg (h 5 (by decide)), if_neg (h 6 (by decide)), if_neg (h 7 (by decide)),
        if_neg (h 8 (by decide)), if_neg (h 9 (by decide)), if_neg (h 10 (by decide)), if_neg (h 11 (by decide)),
        if_neg (h 12 (by decide)), if_neg (h 13 (by decide)), if_neg (h 14 (by decide)), if_neg (h 15 (by decide))]
      rfl

end Cert.Atlas

end
-- ==== Proof.TwoOut.lean ====
/-
  What one run of the second stage's body leaves in its two blocks: sixteen rows, and the row of sixteen charts.
-/
module

public import proofs.«01_k».proof.Proof.TwoIdealRunA
public import proofs.«01_k».proof.Proof.TwoRow
public import Idealize.ShloMosaic.Lib.WholeRead

@[expose] public section

set_option maxRecDepth 16384

noncomputable section

namespace Cert.TwoIdeal.Kit

open Cert.TwoIdeal Cert.TwoIdeal.Gen Idealize.ShloMosaic Idealize.ShloMosaic.TcCoe Idealize.SL.Sem Idealize.ShloMosaic.ValueIdx

/-- The first sixty-four lanes of a block of parameters. -/
def lanes (x : Vec Ideal S1x1x256 .f32) : Vec Ideal S1x1x64 .f32 :=
  fun k => x ((Rect.unit (s := S1x1x256) ![0, 0, 0] ![1, 1, 64] inb_S1x1x256_S1x1x64_0_0_0).toLoadRect.idx k)

/-- A block's matrix, loaded whole. -/
def mat (x : Vec Ideal S1x64x64 .f32) : Vec Ideal S1x64x64 .f32 :=
  fun k => x ((Rect.unit (s := S1x64x64) ![0, 0, 0] ![1, 64, 64] inb_S1x64x64_S1x64x64_0_0_0).toLoadRect.idx k)

/-- One row of a block of sixteen. -/
def row (x : Vec Ideal S16x64 .f32) (j : Fin 16) (h : ∀ a, (![j.val, 0] : Fin 2 → Nat) a + (![1, 64] : Fin 2 → Nat) a ≤ S16x64.size a) : Vec Ideal S1x64 .f32 :=
  fun k => x ((Rect.unit (s := S16x64) ![j.val, 0] ![1, 64] h).toLoadRect.idx k)

/-- A row lies in its block. -/
theorem row_inb (j : Fin 16) : ∀ a, (![j.val, 0] : Fin 2 → Nat) a + (![1, 64] : Fin 2 → Nat) a ≤ S16x64.size a
  | ⟨0, _⟩ => by have := j.isLt; show j.val + 1 ≤ 16; omega
  | ⟨1, _⟩ => by show 0 + 64 ≤ 64; omega

/-- The first sixty-four lanes of a block of parameters, at an index. -/
theorem lanes_apply (x : Vec Ideal S1x1x256 .f32) (d : Fin 64) : lanes x (ix3 0 0 d) = x (ix3 0 0 ⟨d.val, by omega⟩) :=
  congrArg x (funext fun
    | ⟨0, _⟩ => Fin.ext rfl
    | ⟨1, _⟩ => Fin.ext rfl
    | ⟨2, _⟩ => Fin.ext (by show 0 + 1 * d.val = d.val; omega))

/-- A matrix out of its block, at an index. -/
theorem mat_apply (x : Vec Ideal S1x64x64 .f32) (d e : Fin 64) : mat x (ix3 0 d e) = x (ix3 0 d e) :=
  congrArg x (funext fun
    | ⟨0, _⟩ => Fin.ext rfl
    | ⟨1, _⟩ => Fin.ext (by show 0 + 1 * d.val = d.val; omega)
    | ⟨2, _⟩ => Fin.ext (by show 0 + 1 * e.val = e.val; omega))

/-- A row of a block, at an index. -/
theorem row_apply' (x : Vec Ideal S16x64 .f32) (j : Fin 16) (h) (d : Fin 64) : row x j h (ix2 0 d) = x (ix2 j d) :=
  congrArg x (funext fun
    | ⟨0, _⟩ => Fin.ext (by show j.val + 1 * 0 = j.val; omega)
    | ⟨1, _⟩ => Fin.ext (by show 0 + 1 * d.val = d.val; omega))

/-- The load of the first sixty-four lanes is `lanes`. -/
theorem lanes_read {sp : Space} (M : Memref sig .tc sp S1x1x256 .f32) (h : M.IsWhole) (x : Vec Ideal S1x1x256 .f32) :
    View.readAt (Elt Ideal) M.view (Rect.unit (s := S1x1x256) ![0, 0, 0] ![1, 1, 64] inb_S1x1x256_S1x1x64_0_0_0).toLoadRect (h.unread x) = lanes x :=
  funext fun _ => Memref.IsWhole.readAt_unread h x _ _

/-- The load of a matrix is the matrix. -/
theorem mat_read {sp : Space} (M : Memref sig .tc sp S1x64x64 .f32) (h : M.IsWhole) (x : Vec Ideal S1x64x64 .f32) :
    View.readAt (Elt Ideal) M.view (Rect.unit (s := S1x64x64) ![0, 0, 0] ![1, 64, 64] inb_S1x64x64_S1x64x64_0_0_0).toLoadRect (h.unread x) = mat x :=
  funext fun _ => Memref.IsWhole.readAt_unread h x _ _

/-- The load of a row is the row. -/
theorem row_read {sp : Space} (M : Memref sig .tc sp S16x64 .f32) (h : M.IsWhole) (x : Vec Ideal S16x64 .f32) (j : Fin 16) (hj) :
    View.readAt (Elt Ideal) M.view (Rect.unit (s := S16x64) ![j.val, 0] ![1, 64] hj).toLoadRect (h.unread x) = row x j hj :=
  funext fun _ => Memref.IsWhole.readAt_unread h x _ _

/-- Row `r` of point `a`, as the body computes it, is row `16 a + r`. -/
theorem row_word (i : grid0.Coords) (r : Fin 16) (a : Fin 1) : k0_off1 i (BitVec.ofNat 32 r.val) a = 16 * (i 0).val + r.val := by
  have ha : (i 0).val < 256 := (i 0).isLt
  have hr := r.isLt
  have e : (BitVec.ofNat 32 (i 0).val * 16#32 + BitVec.ofNat 32 r.val).toNat = 16 * (i 0).val + r.val := by
    simp only [BitVec.toNat_add, BitVec.toNat_mul, BitVec.toNat_ofNat]
    omega
  match a with
  | ⟨0, _⟩ => exact e

/-- Row `r` of a point is a row of the table. -/
theorem row_lt (i : grid0.Coords) (r : Fin 16) : 16 * (i 0).val + r.val < 4096 := by
  have ha : (i 0).val < 256 := (i 0).isLt
  have hr := r.isLt
  omega

/-- The word a table holds for row `r` of a point. -/
def word (xt : S4096.Idx → BitVec 32) (i : grid0.Coords) (r : Fin 16) : BitVec 32 := xt (ix1 ⟨16 * (i 0).val + r.val, row_lt i r⟩)

/-- The table's entry at a row of a point. -/
theorem word_eq (xt : S4096.Idx → BitVec 32) (i : grid0.Coords) (r : Fin 16) (h1 : 0 < (Rect.unit (s := S4096) (k0_off1 i (BitVec.ofNat 32 r.val)) S1.size (k0_off1_inb i r)).toLoadRect.shape.numel) :
    xt ((Rect.unit (s := S4096) (k0_off1 i (BitVec.ofNat 32 r.val)) S1.size (k0_off1_inb i r)).toLoadRect.idx (Shape.Idx.first h1)) = word xt i r :=
  congrArg xt (funext fun
    | ⟨0, _⟩ => Fin.ext (by
        show k0_off1 i (BitVec.ofNat 32 r.val) 0 + 1 * _ = _
        rw [row_word]; rfl))

/-- The same loads, as the body makes them. -/
def ldP {sp : Space} (M : Memref sig .tc sp S1x1x256 .f32) (h : M.IsWhole) (x : Vec Ideal S1x1x256 .f32) : Vec Ideal S1x1x64 .f32 :=
  View.readAt (Elt Ideal) M.view (Rect.unit (s := S1x1x256) ![0, 0, 0] ![1, 1, 64] inb_S1x1x256_S1x1x64_0_0_0).toLoadRect (h.unread x)
def ldW {sp : Space} (M : Memref sig .tc sp S1x64x64 .f32) (h : M.IsWhole) (x : Vec Ideal S1x64x64 .f32) : Vec Ideal S1x64x64 .f32 :=
  View.readAt (Elt Ideal) M.view (Rect.unit (s := S1x64x64) ![0, 0, 0] ![1, 64, 64] inb_S1x64x64_S1x64x64_0_0_0).toLoadRect (h.unread x)
def ldR {sp : Space} (M : Memref sig .tc sp S16x64 .f32) (h : M.IsWhole) (x : Vec Ideal S16x64 .f32) (j : Fin 16) : Vec Ideal S1x64 .f32 :=
  View.readAt (Elt Ideal) M.view (Rect.unit (s := S16x64) ![j.val, 0] ![1, 64] (row_inb j)).toLoadRect (h.unread x)

/-- The table's word for row `r`, as the body loads it. -/
def load0 (c : Dev nD) (xt : TbBuf0 (F := Ideal) c tbM0_0) (i : grid0.Coords) (r : Fin 16) : BitVec 32 :=
  View.readAt (Elt Ideal) tbM0_0.view (Rect.unit (s := S4096) (k0_off1 i (BitVec.ofNat 32 r.val)) S1.size (k0_off1_inb i r)).toLoadRect xt (Shape.Idx.first (show 0 < S1.numel by decide))
def load1 (c : Dev nD) (xt : TbBuf0 (F := Ideal) c tbM0_1) (i : grid0.Coords) (r : Fin 16) : BitVec 32 :=
  View.readAt (Elt Ideal) tbM0_1.view (Rect.unit (s := S4096) (k0_off1 i (BitVec.ofNat 32 r.val)) S1.size (k0_off1_inb i r)).toLoadRect xt (Shape.Idx.first (show 0 < S1.numel by decide))
def load2 (c : Dev nD) (xt : TbBuf0 (F := Ideal) c tbM0_2) (i : grid0.Coords) (r : Fin 16) : BitVec 32 :=
  View.readAt (Elt Ideal) tbM0_2.view (Rect.unit (s := S4096) (k0_off1 i (BitVec.ofNat 32 r.val)) S1.size (k0_off1_inb i r)).toLoadRect xt (Shape.Idx.first (show 0 < S1.numel by decide))

/-- The load from table 0 is its entry. -/
theorem load0_eq (c : Dev nD) (xt) (i : grid0.Coords) (r : Fin 16) : load0 c xt i r = word xt i r := word_eq xt i r _
/-- The load from table 1 is its entry. -/
theorem load1_eq (c : Dev nD) (xt) (i : grid0.Coords) (r : Fin 16) : load1 c xt i r = word xt i r := word_eq xt i r _
/-- The load from table 2 is its entry. -/
theorem load2_eq (c : Dev nD) (xt) (i : grid0.Coords) (r : Fin 16) : load2 c xt i r = word xt i r := word_eq xt i r _

/-- The one piece stored to the block of rows. -/
theorem rows_piece (c : Dev nD) (i : grid0.Coords) (arg4 : Memref sig .tc .vmem S1x64x64 .f32) (harg4 : arg4.IsWhole) (arg5 : Memref sig .tc .vmem S1x64x64 .f32) (harg5 : arg5.IsWhole) (arg6 : Memref sig .tc .vmem S1x64x64 .f32) (harg6 : arg6.IsWhole) (arg7 : Memref sig .tc .vmem S1x64x64 .f32) (harg7 : arg7.IsWhole) (arg8 : Memref sig .tc .vmem S1x64x64 .f32) (harg8 : arg8.IsWhole) (arg9 : Memref sig .tc .vmem S1x64x64 .f32) (harg9 : arg9.IsWhole) (arg10 : Memref sig .tc .vmem S1x64x64 .f32) (harg10 : arg10.IsWhole) (arg11 : Memref sig .tc .vmem S1x64x64 .f32) (harg11 : arg11.IsWhole) (arg12 : Memref sig .tc .vmem S1x64x64 .f32) (harg12 : arg12.IsWhole) (arg13 : Memref sig .tc .vmem S1x64x64 .f32) (harg13 : arg13.IsWhole) (arg14 : Memref sig .tc .vmem S1x64x64 .f32) (harg14 : arg14.IsWhole) (arg15 : Memref sig .tc .vmem S1x64x64 .f32) (harg15 : arg15.IsWhole) (arg16 : Memref sig .tc .vmem S1x64x64 .f32) (harg16 : arg16.IsWhole) (arg17 : Memref sig .tc .vmem S1x64x64 .f32) (harg17 : arg17.IsWhole) (arg18 : Memref sig .tc .vmem S1x64x64 .f32) (harg18 : arg18.IsWhole) (arg19 : Memref sig .tc .vmem S1x64x64 .f32) (harg19 : arg19.IsWhole) (arg20 : Memref sig .tc .vmem S1x1x256 .f32) (harg20 : arg20.IsWhole) (arg21 : Memref sig .tc .vmem S1x1x256 .f32) (harg21 : arg21.IsWhole) (arg22 : Memref sig .tc .vmem S1x1x256 .f32) (harg22 : arg22.IsWhole) (arg23 : Memref sig .tc .vmem S1x1x256 .f32) (harg23 : arg23.IsWhole) (arg24 : Memref sig .tc .vmem S1x1x256 .f32) (harg24 : arg24.IsWhole) (arg25 : Memref sig .tc .vmem S1x1x256 .f32) (harg25 : arg25.IsWhole) (arg26 : Memref sig .tc .vmem S1x1x256 .f32) (harg26 : arg26.IsWhole) (arg27 : Memref sig .tc .vmem S1x1x256 .f32) (harg27 : arg27.IsWhole) (arg28 : Memref sig .tc .vmem S1x1x256 .f32) (harg28 : arg28.IsWhole) (arg29 : Memref sig .tc .vmem S1x1x256 .f32) (harg29 : arg29.IsWhole) (arg30 : Memref sig .tc .vmem S1x1x256 .f32) (harg30 : arg30.IsWhole) (arg31 : Memref sig .tc .vmem S1x1x256 .f32) (harg31 : arg31.IsWhole) (arg32 : Memref sig .tc .vmem S1x1x256 .f32) (harg32 : arg32.IsWhole) (arg33 : Memref sig .tc .vmem S1x1x256 .f32) (harg33 : arg33.IsWhole) (arg34 : Memref sig .tc .vmem S1x1x256 .f32) (harg34 : arg34.IsWhole) (arg35 : Memref sig .tc .vmem S1x1x256 .f32) (harg35 : arg35.IsWhole) (arg36 : Memref sig .tc .vmem S16x64 .f32) (harg36 : arg36.IsWhole) (arg37 : Memref sig .tc .vmem S16x64 .f32) (harg37 : arg37.IsWhole) (arg38 : Memref sig .tc .vmem S16x64 .f32) (harg38 : arg38.IsWhole) (arg39 : Memref sig .tc .vmem S1x1x128 .i32) (harg39 : arg39.IsWhole) (X : Fin 16 → Vec Ideal S1x64x64 .f32) (p : Fin 16 → Vec Ideal S1x1x256 .f32) (y z : Vec Ideal S16x64 .f32)
    (xt0 : TbBuf0 (F := Ideal) c tbM0_0) (xt1 : TbBuf0 (F := Ideal) c tbM0_1) (xt2 : TbBuf0 (F := Ideal) c tbM0_2) :
    (kernelRun0_A (F := Ideal) c i arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 arg25 harg25 arg26 harg26 arg27 harg27 arg28 harg28 arg29 harg29 arg30 harg30 arg31 harg31 arg32 harg32 arg33 harg33 arg34 harg34 arg35 harg35 arg36 harg36 arg37 harg37 arg38 harg38 arg39 harg39 (X 0) (X 1) (X 2) (X 3) (X 4) (X 5) (X 6) (X 7) (X 8) (X 9) (X 10) (X 11) (X 12) (X 13) (X 14) (X 15) (p 0) (p 1) (p 2) (p 3) (p 4) (p 5) (p 6) (p 7) (p 8) (p 9) (p 10) (p 11) (p 12) (p 13) (p 14) (p 15) y z xt0 xt1 xt2).1 = [⟨Rect.unit ![0, 0] ![16, 64] inb_S16x64_S16x64_0_0,
      k0_pay22 (F := Ideal) (k0_pay1 (load2 c xt2 i 0) (ldP arg20 harg20 (p 0)) (ldR arg36 harg36 y 0) (ldW arg4 harg4 (X 0)) (ldR arg37 harg37 z 0))
        (k0_pay2 (load2 c xt2 i 1) (ldP arg21 harg21 (p 1)) (ldR arg36 harg36 y 1) (ldW arg5 harg5 (X 1)) (ldR arg37 harg37 z 1))
        (k0_pay5 (load2 c xt2 i 2) (k0_pay3 (ldP arg22 harg22 (p 2))) (k0_pay4 (ldR arg36 harg36 y 2) (ldW arg6 harg6 (X 2))) (ldR arg37 harg37 z 2))
        (k0_pay6 (load2 c xt2 i 3) (ldP arg23 harg23 (p 3)) (ldR arg36 harg36 y 3) (ldW arg7 harg7 (X 3)) (ldR arg37 harg37 z 3))
        (k0_pay7 (load2 c xt2 i 4) (ldP arg24 harg24 (p 4)) (ldR arg36 harg36 y 4) (ldW arg8 harg8 (X 4)) (ldR arg37 harg37 z 4))
        (k0_pay9 (load2 c xt2 i 5) (k0_pay8 (ldP arg25 harg25 (p 5))) (ldR arg36 harg36 y 5) (ldW arg9 harg9 (X 5)) (ldR arg37 harg37 z 5))
        (k0_pay10 (load2 c xt2 i 6) (ldP arg26 harg26 (p 6)) (ldR arg36 harg36 y 6) (ldW arg10 harg10 (X 6)) (ldR arg37 harg37 z 6))
        (k0_pay11 (load2 c xt2 i 7) (ldP arg27 harg27 (p 7)) (ldR arg36 harg36 y 7) (ldW arg11 harg11 (X 7)) (ldR arg37 harg37 z 7))
        (k0_pay12 (load2 c xt2 i 8) (ldP arg28 harg28 (p 8)) (ldR arg36 harg36 y 8) (ldW arg12 harg12 (X 8)) (ldR arg37 harg37 z 8))
        (k0_pay15 (load2 c xt2 i 9) (k0_pay13 (ldP arg29 harg29 (p 9))) (ldR arg36 harg36 y 9) (k0_pay14 (ldW arg13 harg13 (X 9))) (constant S1x64 .f32 0x00000000#32) (ldR arg37 harg37 z 9))
        (k0_pay16 (load2 c xt2 i 10) (ldP arg30 harg30 (p 10)) (ldR arg36 harg36 y 10) (ldW arg14 harg14 (X 10)) (ldR arg37 harg37 z 10))
        (k0_pay17 (load2 c xt2 i 11) (ldP arg31 harg31 (p 11)) (ldR arg36 harg36 y 11) (ldW arg15 harg15 (X 11)) (ldR arg37 harg37 z 11))
        (k0_pay19 (load2 c xt2 i 12) (k0_pay18 (ldP arg32 harg32 (p 12))) (ldR arg36 harg36 y 12) (ldW arg16 harg16 (X 12)) (ldR arg37 harg37 z 12))
        (k0_pay20 (load2 c xt2 i 13) (ldP arg33 harg33 (p 13)) (ldR arg36 harg36 y 13) (ldW arg17 harg17 (X 13)) (ldR arg37 harg37 z 13))
        (k0_pay21 (load2 c xt2 i 14) (ldP arg34 harg34 (p 14)) (ldR arg36 harg36 y 14) (ldW arg18 harg18 (X 14)) (ldR arg37 harg37 z 14))
        (load2 c xt2 i 15) (ldP arg35 harg35 (p 15)) (ldR arg36 harg36 y 15) (ldW arg19 harg19 (X 15)) (ldR arg37 harg37 z 15)⟩] := rfl

/-- The same piece over the blocks themselves. -/
theorem rows_piece' (c : Dev nD) (i : grid0.Coords) (arg4 : Memref sig .tc .vmem S1x64x64 .f32) (harg4 : arg4.IsWhole) (arg5 : Memref sig .tc .vmem S1x64x64 .f32) (harg5 : arg5.IsWhole) (arg6 : Memref sig .tc .vmem S1x64x64 .f32) (harg6 : arg6.IsWhole) (arg7 : Memref sig .tc .vmem S1x64x64 .f32) (harg7 : arg7.IsWhole) (arg8 : Memref sig .tc .vmem S1x64x64 .f32) (harg8 : arg8.IsWhole) (arg9 : Memref sig .tc .vmem S1x64x64 .f32) (harg9 : arg9.IsWhole) (arg10 : Memref sig .tc .vmem S1x64x64 .f32) (harg10 : arg10.IsWhole) (arg11 : Memref sig .tc .vmem S1x64x64 .f32) (harg11 : arg11.IsWhole) (arg12 : Memref sig .tc .vmem S1x64x64 .f32) (harg12 : arg12.IsWhole) (arg13 : Memref sig .tc .vmem S1x64x64 .f32) (harg13 : arg13.IsWhole) (arg14 : Memref sig .tc .vmem S1x64x64 .f32) (harg14 : arg14.IsWhole) (arg15 : Memref sig .tc .vmem S1x64x64 .f32) (harg15 : arg15.IsWhole) (arg16 : Memref sig .tc .vmem S1x64x64 .f32) (harg16 : arg16.IsWhole) (arg17 : Memref sig .tc .vmem S1x64x64 .f32) (harg17 : arg17.IsWhole) (arg18 : Memref sig .tc .vmem S1x64x64 .f32) (harg18 : arg18.IsWhole) (arg19 : Memref sig .tc .vmem S1x64x64 .f32) (harg19 : arg19.IsWhole) (arg20 : Memref sig .tc .vmem S1x1x256 .f32) (harg20 : arg20.IsWhole) (arg21 : Memref sig .tc .vmem S1x1x256 .f32) (harg21 : arg21.IsWhole) (arg22 : Memref sig .tc .vmem S1x1x256 .f32) (harg22 : arg22.IsWhole) (arg23 : Memref sig .tc .vmem S1x1x256 .f32) (harg23 : arg23.IsWhole) (arg24 : Memref sig .tc .vmem S1x1x256 .f32) (harg24 : arg24.IsWhole) (arg25 : Memref sig .tc .vmem S1x1x256 .f32) (harg25 : arg25.IsWhole) (arg26 : Memref sig .tc .vmem S1x1x256 .f32) (harg26 : arg26.IsWhole) (arg27 : Memref sig .tc .vmem S1x1x256 .f32) (harg27 : arg27.IsWhole) (arg28 : Memref sig .tc .vmem S1x1x256 .f32) (harg28 : arg28.IsWhole) (arg29 : Memref sig .tc .vmem S1x1x256 .f32) (harg29 : arg29.IsWhole) (arg30 : Memref sig .tc .vmem S1x1x256 .f32) (harg30 : arg30.IsWhole) (arg31 : Memref sig .tc .vmem S1x1x256 .f32) (harg31 : arg31.IsWhole) (arg32 : Memref sig .tc .vmem S1x1x256 .f32) (harg32 : arg32.IsWhole) (arg33 : Memref sig .tc .vmem S1x1x256 .f32) (harg33 : arg33.IsWhole) (arg34 : Memref sig .tc .vmem S1x1x256 .f32) (harg34 : arg34.IsWhole) (arg35 : Memref sig .tc .vmem S1x1x256 .f32) (harg35 : arg35.IsWhole) (arg36 : Memref sig .tc .vmem S16x64 .f32) (harg36 : arg36.IsWhole) (arg37 : Memref sig .tc .vmem S16x64 .f32) (harg37 : arg37.IsWhole) (arg38 : Memref sig .tc .vmem S16x64 .f32) (harg38 : arg38.IsWhole) (arg39 : Memref sig .tc .vmem S1x1x128 .i32) (harg39 : arg39.IsWhole) (X : Fin 16 → Vec Ideal S1x64x64 .f32) (p : Fin 16 → Vec Ideal S1x1x256 .f32) (y z : Vec Ideal S16x64 .f32)
    (xt0 : TbBuf0 (F := Ideal) c tbM0_0) (xt1 : TbBuf0 (F := Ideal) c tbM0_1) (xt2 : TbBuf0 (F := Ideal) c tbM0_2) :
    (kernelRun0_A (F := Ideal) c i arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 arg25 harg25 arg26 harg26 arg27 harg27 arg28 harg28 arg29 harg29 arg30 harg30 arg31 harg31 arg32 harg32 arg33 harg33 arg34 harg34 arg35 harg35 arg36 harg36 arg37 harg37 arg38 harg38 arg39 harg39 (X 0) (X 1) (X 2) (X 3) (X 4) (X 5) (X 6) (X 7) (X 8) (X 9) (X 10) (X 11) (X 12) (X 13) (X 14) (X 15) (p 0) (p 1) (p 2) (p 3) (p 4) (p 5) (p 6) (p 7) (p 8) (p 9) (p 10) (p 11) (p 12) (p 13) (p 14) (p 15) y z xt0 xt1 xt2).1 = [⟨Rect.unit ![0, 0] ![16, 64] inb_S16x64_S16x64_0_0,
      k0_pay22 (F := Ideal) (k0_pay1 (load2 c xt2 i 0) (lanes (p 0)) (row y 0 (row_inb 0)) (mat (X 0)) (row z 0 (row_inb 0)))
        (k0_pay2 (load2 c xt2 i 1) (lanes (p 1)) (row y 1 (row_inb 1)) (mat (X 1)) (row z 1 (row_inb 1)))
        (k0_pay5 (load2 c xt2 i 2) (k0_pay3 (lanes (p 2))) (k0_pay4 (row y 2 (row_inb 2)) (mat (X 2))) (row z 2 (row_inb 2)))
        (k0_pay6 (load2 c xt2 i 3) (lanes (p 3)) (row y 3 (row_inb 3)) (mat (X 3)) (row z 3 (row_inb 3)))
        (k0_pay7 (load2 c xt2 i 4) (lanes (p 4)) (row y 4 (row_inb 4)) (mat (X 4)) (row z 4 (row_inb 4)))
        (k0_pay9 (load2 c xt2 i 5) (k0_pay8 (lanes (p 5))) (row y 5 (row_inb 5)) (mat (X 5)) (row z 5 (row_inb 5)))
        (k0_pay10 (load2 c xt2 i 6) (lanes (p 6)) (row y 6 (row_inb 6)) (mat (X 6)) (row z 6 (row_inb 6)))
        (k0_pay11 (load2 c xt2 i 7) (lanes (p 7)) (row y 7 (row_inb 7)) (mat (X 7)) (row z 7 (row_inb 7)))
        (k0_pay12 (load2 c xt2 i 8) (lanes (p 8)) (row y 8 (row_inb 8)) (mat (X 8)) (row z 8 (row_inb 8)))
        (k0_pay15 (load2 c xt2 i 9) (k0_pay13 (lanes (p 9))) (row y 9 (row_inb 9)) (k0_pay14 (mat (X 9))) (constant S1x64 .f32 0x00000000#32) (row z 9 (row_inb 9)))
        (k0_pay16 (load2 c xt2 i 10) (lanes (p 10)) (row y 10 (row_inb 10)) (mat (X 10)) (row z 10 (row_inb 10)))
        (k0_pay17 (load2 c xt2 i 11) (lanes (p 11)) (row y 11 (row_inb 11)) (mat (X 11)) (row z 11 (row_inb 11)))
        (k0_pay19 (load2 c xt2 i 12) (k0_pay18 (lanes (p 12))) (row y 12 (row_inb 12)) (mat (X 12)) (row z 12 (row_inb 12)))
        (k0_pay20 (load2 c xt2 i 13) (lanes (p 13)) (row y 13 (row_inb 13)) (mat (X 13)) (row z 13 (row_inb 13)))
        (k0_pay21 (load2 c xt2 i 14) (lanes (p 14)) (row y 14 (row_inb 14)) (mat (X 14)) (row z 14 (row_inb 14)))
        (load2 c xt2 i 15) (lanes (p 15)) (row y 15 (row_inb 15)) (mat (X 15)) (row z 15 (row_inb 15))⟩] := by
  rw [rows_piece]
  have eP {sp : Space} (M : Memref sig .tc sp S1x1x256 .f32) (h : M.IsWhole) (x : Vec Ideal S1x1x256 .f32) : ldP M h x = lanes x := lanes_read M h x
  have eW {sp : Space} (M : Memref sig .tc sp S1x64x64 .f32) (h : M.IsWhole) (x : Vec Ideal S1x64x64 .f32) : ldW M h x = mat x := mat_read M h x
  have eR {sp : Space} (M : Memref sig .tc sp S16x64 .f32) (h : M.IsWhole) (x : Vec Ideal S16x64 .f32) (j : Fin 16) : ldR M h x j = row x j (row_inb j) := row_read M h x j (row_inb j)
  simp only [eP, eW, eR]

/-- The one piece stored to the row of charts. -/
theorem charts_piece (c : Dev nD) (i : grid0.Coords) (arg4 : Memref sig .tc .vmem S1x64x64 .f32) (harg4 : arg4.IsWhole) (arg5 : Memref sig .tc .vmem S1x64x64 .f32) (harg5 : arg5.IsWhole) (arg6 : Memref sig .tc .vmem S1x64x64 .f32) (harg6 : arg6.IsWhole) (arg7 : Memref sig .tc .vmem S1x64x64 .f32) (harg7 : arg7.IsWhole) (arg8 : Memref sig .tc .vmem S1x64x64 .f32) (harg8 : arg8.IsWhole) (arg9 : Memref sig .tc .vmem S1x64x64 .f32) (harg9 : arg9.IsWhole) (arg10 : Memref sig .tc .vmem S1x64x64 .f32) (harg10 : arg10.IsWhole) (arg11 : Memref sig .tc .vmem S1x64x64 .f32) (harg11 : arg11.IsWhole) (arg12 : Memref sig .tc .vmem S1x64x64 .f32) (harg12 : arg12.IsWhole) (arg13 : Memref sig .tc .vmem S1x64x64 .f32) (harg13 : arg13.IsWhole) (arg14 : Memref sig .tc .vmem S1x64x64 .f32) (harg14 : arg14.IsWhole) (arg15 : Memref sig .tc .vmem S1x64x64 .f32) (harg15 : arg15.IsWhole) (arg16 : Memref sig .tc .vmem S1x64x64 .f32) (harg16 : arg16.IsWhole) (arg17 : Memref sig .tc .vmem S1x64x64 .f32) (harg17 : arg17.IsWhole) (arg18 : Memref sig .tc .vmem S1x64x64 .f32) (harg18 : arg18.IsWhole) (arg19 : Memref sig .tc .vmem S1x64x64 .f32) (harg19 : arg19.IsWhole) (arg20 : Memref sig .tc .vmem S1x1x256 .f32) (harg20 : arg20.IsWhole) (arg21 : Memref sig .tc .vmem S1x1x256 .f32) (harg21 : arg21.IsWhole) (arg22 : Memref sig .tc .vmem S1x1x256 .f32) (harg22 : arg22.IsWhole) (arg23 : Memref sig .tc .vmem S1x1x256 .f32) (harg23 : arg23.IsWhole) (arg24 : Memref sig .tc .vmem S1x1x256 .f32) (harg24 : arg24.IsWhole) (arg25 : Memref sig .tc .vmem S1x1x256 .f32) (harg25 : arg25.IsWhole) (arg26 : Memref sig .tc .vmem S1x1x256 .f32) (harg26 : arg26.IsWhole) (arg27 : Memref sig .tc .vmem S1x1x256 .f32) (harg27 : arg27.IsWhole) (arg28 : Memref sig .tc .vmem S1x1x256 .f32) (harg28 : arg28.IsWhole) (arg29 : Memref sig .tc .vmem S1x1x256 .f32) (harg29 : arg29.IsWhole) (arg30 : Memref sig .tc .vmem S1x1x256 .f32) (harg30 : arg30.IsWhole) (arg31 : Memref sig .tc .vmem S1x1x256 .f32) (harg31 : arg31.IsWhole) (arg32 : Memref sig .tc .vmem S1x1x256 .f32) (harg32 : arg32.IsWhole) (arg33 : Memref sig .tc .vmem S1x1x256 .f32) (harg33 : arg33.IsWhole) (arg34 : Memref sig .tc .vmem S1x1x256 .f32) (harg34 : arg34.IsWhole) (arg35 : Memref sig .tc .vmem S1x1x256 .f32) (harg35 : arg35.IsWhole) (arg36 : Memref sig .tc .vmem S16x64 .f32) (harg36 : arg36.IsWhole) (arg37 : Memref sig .tc .vmem S16x64 .f32) (harg37 : arg37.IsWhole) (arg38 : Memref sig .tc .vmem S16x64 .f32) (harg38 : arg38.IsWhole) (arg39 : Memref sig .tc .vmem S1x1x128 .i32) (harg39 : arg39.IsWhole) (X : Fin 16 → Vec Ideal S1x64x64 .f32) (p : Fin 16 → Vec Ideal S1x1x256 .f32) (y z : Vec Ideal S16x64 .f32)
    (xt0 : TbBuf0 (F := Ideal) c tbM0_0) (xt1 : TbBuf0 (F := Ideal) c tbM0_1) (xt2 : TbBuf0 (F := Ideal) c tbM0_2) :
    (kernelRun0_A (F := Ideal) c i arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 arg25 harg25 arg26 harg26 arg27 harg27 arg28 harg28 arg29 harg29 arg30 harg30 arg31 harg31 arg32 harg32 arg33 harg33 arg34 harg34 arg35 harg35 arg36 harg36 arg37 harg37 arg38 harg38 arg39 harg39 (X 0) (X 1) (X 2) (X 3) (X 4) (X 5) (X 6) (X 7) (X 8) (X 9) (X 10) (X 11) (X 12) (X 13) (X 14) (X 15) (p 0) (p 1) (p 2) (p 3) (p 4) (p 5) (p 6) (p 7) (p 8) (p 9) (p 10) (p 11) (p 12) (p 13) (p 14) (p 15) y z xt0 xt1 xt2).2.1 = [⟨Rect.unit ![0, 0, 0] ![1, 1, 128] inb_S1x1x128_S1x1x128_0_0_0,
      (fun f : Fin 16 → BitVec 32 => k0_pay27 (f 10) (f 11) (f 12) (f 13) (f 14) (f 15) (iota .tc S1x128 32 [1] iota_S1x128_d1_w32)
      (k0_pay25 (f 3) (f 4) (f 5) (f 6) (f 7) (f 8) (f 9) (iota .tc S1x128 32 [1] iota_S1x128_d1_w32)
        (k0_pay23 (f 0) (f 1)) (k0_pay24 (f 2)))
      (k0_pay26 (iota .tc S1x128 32 [1] iota_S1x128_d1_w32)))
      (fun j => Scalar.select (Scalar.cmpi .sgt (load2 c xt2 i j) 0#32) (load1 c xt1 i j) (load0 c xt0 i j))⟩] := rfl

end Cert.TwoIdeal.Kit

end
-- ==== Proof.TwoParams.lean ====
/-
  The array of parameters the second stage stages: the offsets, the centres, the bridge charts as floats, and no padding.
-/
module

public import proofs.«01_k».proof.Proof.TwoIdealRuns
public import Idealize.ShloMosaic.Lib.Pipeline.Value
public import Idealize.ShloMosaic.Lib.Pipeline.Value
public import Idealize.ShloMosaic.Lib.MatmulPlain
public import Idealize.ShloMosaic.Lib.ValueLayout
public import Idealize.ShloMosaic.Lib.ValueLayoutCasts

@[expose] public section

set_option maxRecDepth 16384

noncomputable section

namespace Cert.TwoIdeal.Kit

open Cert.TwoIdeal Cert.TwoIdeal.Gen Idealize.ShloMosaic Idealize.ShloMosaic.TcCoe Idealize.SL.Sem Idealize.ShloMosaic.ValueIdx

variable (m : (ℓ : Loc nD τ sig) → Buf (Elt Ideal) ℓ)

/-- The first sixty-four columns of the four arrays side by side are the first array. -/
theorem first_piece (A B : S1024x64.Idx → EReal) (C : S1024x128.Idx → EReal) (D : S1024x0.Idx → EReal) (h) (k : Fin 1024) (d : Fin 64) :
    concatenate S1024x256 1 [⟨S1024x64, A⟩, ⟨S1024x64, B⟩, ⟨S1024x128, C⟩, ⟨S1024x0, D⟩] h (ix2 k ⟨d.val, by omega⟩) = A (ix2 k d) := by
  refine concatenate_apply_piece (t := S1024x256) 1 [⟨S1024x64, A⟩, ⟨S1024x64, B⟩, ⟨S1024x128, C⟩, ⟨S1024x0, D⟩] h _ 0 (Nat.succ_pos 3) S1024x64 A rfl rfl 0 rfl (ix2 k d) ?_ ?_
  · intro b hb
    match b with
    | ⟨0, _⟩ => rfl
    | ⟨1, _⟩ => exact absurd (Fin.ext rfl) hb
  · exact Nat.zero_add _

set_option maxHeartbeats 4000000 in
/-- The array of parameters as the calls before the launch leave it: its first sixty-four lanes are the offsets. -/
theorem params (c : Dev nD) (k : Fin 1024) (d : Fin 64) :
    (V m c main_v3 : FVec Ideal S1024x1x256 .f32) (ix3 k 0 ⟨d.val, by omega⟩) = (m ((c : Thread nD τ).loc main_arg7) : FVec Ideal S1024x64 .f32) (ix2 k d) := by
  unfold V
  simp only [hostOps0, List.flatten_cons, List.flatten_nil, List.append_nil, List.cons_append, List.nil_append]
  after_results
  refine (shapeCast_apply _ shapeCasts_S1024x256_S1024x1x256 (ix3 k 0 ⟨d.val, by omega⟩) (ix2 k ⟨d.val, by omega⟩) ?_).trans ?_
  · rw [Shape.rowMajor_val_two, Shape.rowMajor_val_three]
    show k.val * 256 + d.val = (k.val * 1 + 0) * 256 + d.val
    omega
  · refine (first_piece _ _ _ _ _ k d).trans ?_
    refine congrFun (?_ : _ = m ((c : Thread nD τ).loc main_arg7)) (ix2 k d)
    change HloOp.result _ _ (Proc.devRef .tc main_arg7) = _
    rw [StableHlo.unary_result_ne _ _ _ _ _ _ (by decide), StableHlo.unary_result_ne _ _ _ _ _ _ (by decide), StableHlo.nullary_result_ne _ _ _ _ (by decide)]

end Cert.TwoIdeal.Kit

end
-- ==== Proof.TwoBlocks.lean ====
/-
  The blocks the second stage's body reads, as entries of the arguments: the matrix and the offset of the new chart of each
  of the sixteen rows, and the sixteen rows themselves.
-/
module

public import proofs.«01_k».proof.Proof.TwoIdealRuns
public import proofs.«01_k».proof.Proof.TwoIdealTables
public import proofs.«01_k».proof.Proof.TwoOut
public import proofs.«01_k».proof.Proof.TwoParams
public import Idealize.ShloMosaic.Lib.Pipeline.ValueKit.Basic

@[expose] public section

set_option maxRecDepth 16384

noncomputable section

namespace Cert.TwoIdeal.Kit

open Cert.TwoIdeal Cert.TwoIdeal.Gen Idealize.ShloMosaic Idealize.ShloMosaic.TcCoe Idealize.SL.Sem Idealize.ShloMosaic.ValueIdx

variable (m : (ℓ : Loc nD τ sig) → Buf (Elt Ideal) ℓ)

/-- The grid's points in order. -/
theorem coord (t : Fin grid0.N) : (grid0.coords t 0).val = t.val := by
  revert t
  decide +kernel

/-- The word that selects the blocks of row `r` of a point. -/
theorem at_row (pf : pre0.Contents (Elt Ideal)) (i : grid0.Coords) (r : Fin 16) (inb) (h1) :
    pf.at 1 (Rect.unit (s := S4096) (k0_off1 i (BitVec.ofNat 32 r.val)) S1.size inb) h1 = word (pf 1) i r :=
  congrArg (pf 1) (funext fun
    | ⟨0, _⟩ => Fin.ext (by
        show k0_off1 i (BitVec.ofNat 32 r.val) 0 + 1 * _ = _
        rw [row_word]; rfl))

/-- The second table is the argument of new charts. -/
theorem tbl_new (c : Dev nD) : tbl m 1 = m ((c : Thread nD τ).loc main_arg1) := (V_pre m c 1).symm.trans (V_main_arg1 m c)
/-- The table of old charts is the call's first argument. -/
theorem tbl_old (c : Dev nD) : tbl m 0 = m ((c : Thread nD τ).loc main_arg0) := (V_pre m c 0).symm.trans (V_main_arg0 m c)
/-- The table of switches is the call's third argument. -/
theorem tbl_switch (c : Dev nD) : tbl m 2 = m ((c : Thread nD τ).loc main_arg2) := (V_pre m c 2).symm.trans (V_main_arg2 m c)

variable (hO : Ok m) (c : Dev nD) (t : Fin (cfgM m hO).N) (h : ∀ i, (tbl m 1 i : BitVec 32).toNat < 1024)

set_option maxHeartbeats 4000000 in
/-- The matrix block of row 0. -/
theorem mat_blk0 (d e : Fin 64) : iblk m hO c 0 t (ix3 0 d e)
    = (m ((c : Thread nD τ).loc main_arg6) : FVec Ideal S1024x64x64 .f32) (ix3 ⟨(word (tbl m 1) (grid0.coords t) 0).toNat, h _⟩ d e) := by
  show V m c main_arg6 ((((cfgM m hO).win 0).rect t).emb (ix3 0 d e)) = _
  rw [V_main_arg6]
  refine congrArg _ (funext fun a => Fin.ext ?_)
  match a with
  | ⟨0, _⟩ =>
    refine (((cfgM m hO).win 0).rect_emb_val t (ix3 0 d e) (0 : Fin 3)).trans ?_
    show ((tbl m).at 1 (Rect.unit (s := S4096) (k0_off1 (grid0.coords t) (BitVec.ofNat 32 (0 : Fin 16).val)) S1.size (k0_off1_inb _ 0)) numel1_S1).toNat * 1 + 0 = _
    refine (congrArg (fun n : BitVec 32 => n.toNat * 1 + 0) (at_row (tbl m) (grid0.coords t) 0 _ numel1_S1)).trans ?_
    show _ * 1 + 0 = _; rw [Nat.mul_one]; rfl
  | ⟨1, _⟩ =>
    refine (((cfgM m hO).win 0).rect_emb_val t (ix3 0 d e) (1 : Fin 3)).trans ?_
    show 0 * 64 + d.val = d.val; omega
  | ⟨2, _⟩ =>
    refine (((cfgM m hO).win 0).rect_emb_val t (ix3 0 d e) (2 : Fin 3)).trans ?_
    show 0 * 64 + e.val = e.val; omega

set_option maxHeartbeats 4000000 in
/-- The matrix block of row 1. -/
theorem mat_blk1 (d e : Fin 64) : iblk m hO c 1 t (ix3 0 d e)
    = (m ((c : Thread nD τ).loc main_arg6) : FVec Ideal S1024x64x64 .f32) (ix3 ⟨(word (tbl m 1) (grid0.coords t) 1).toNat, h _⟩ d e) := by
  show V m c main_arg6 ((((cfgM m hO).win 1).rect t).emb (ix3 0 d e)) = _
  rw [V_main_arg6]
  refine congrArg _ (funext fun a => Fin.ext ?_)
  match a with
  | ⟨0, _⟩ =>
    refine (((cfgM m hO).win 1).rect_emb_val t (ix3 0 d e) (0 : Fin 3)).trans ?_
    show ((tbl m).at 1 (Rect.unit (s := S4096) (k0_off1 (grid0.coords t) (BitVec.ofNat 32 (1 : Fin 16).val)) S1.size (k0_off1_inb _ 1)) numel1_S1).toNat * 1 + 0 = _
    refine (congrArg (fun n : BitVec 32 => n.toNat * 1 + 0) (at_row (tbl m) (grid0.coords t) 1 _ numel1_S1)).trans ?_
    show _ * 1 + 0 = _; rw [Nat.mul_one]; rfl
  | ⟨1, _⟩ =>
    refine (((cfgM m hO).win 1).rect_emb_val t (ix3 0 d e) (1 : Fin 3)).trans ?_
    show 0 * 64 + d.val = d.val; omega
  | ⟨2, _⟩ =>
    refine (((cfgM m hO).win 1).rect_emb_val t (ix3 0 d e) (2 : Fin 3)).trans ?_
    show 0 * 64 + e.val = e.val; omega

set_option maxHeartbeats 4000000 in
/-- The matrix block of row 2. -/
theorem mat_blk2 (d e : Fin 64) : iblk m hO c 2 t (ix3 0 d e)
    = (m ((c : Thread nD τ).loc main_arg6) : FVec Ideal S1024x64x64 .f32) (ix3 ⟨(word (tbl m 1) (grid0.coords t) 2).toNat, h _⟩ d e) := by
  show V m c main_arg6 ((((cfgM m hO).win 2).rect t).emb (ix3 0 d e)) = _
  rw [V_main_arg6]
  refine congrArg _ (funext fun a => Fin.ext ?_)
  match a with
  | ⟨0, _⟩ =>
    refine (((cfgM m hO).win 2).rect_emb_val t (ix3 0 d e) (0 : Fin 3)).trans ?_
    show ((tbl m).at 1 (Rect.unit (s := S4096) (k0_off1 (grid0.coords t) (BitVec.ofNat 32 (2 : Fin 16).val)) S1.size (k0_off1_inb _ 2)) numel1_S1).toNat * 1 + 0 = _
    refine (congrArg (fun n : BitVec 32 => n.toNat * 1 + 0) (at_row (tbl m) (grid0.coords t) 2 _ numel1_S1)).trans ?_
    show _ * 1 + 0 = _; rw [Nat.mul_one]; rfl
  | ⟨1, _⟩ =>
    refine (((cfgM m hO).win 2).rect_emb_val t (ix3 0 d e) (1 : Fin 3)).trans ?_
    show 0 * 64 + d.val = d.val; omega
  | ⟨2, _⟩ =>
    refine (((cfgM m hO).win 2).rect_emb_val t (ix3 0 d e) (2 : Fin 3)).trans ?_
    show 0 * 64 + e.val = e.val; omega

set_option maxHeartbeats 4000000 in
/-- The matrix block of row 3. -/
theorem mat_blk3 (d e : Fin 64) : iblk m hO c 3 t (ix3 0 d e)
    = (m ((c : Thread nD τ).loc main_arg6) : FVec Ideal S1024x64x64 .f32) (ix3 ⟨(word (tbl m 1) (grid0.coords t) 3).toNat, h _⟩ d e) := by
  show V m c main_arg6 ((((cfgM m hO).win 3).rect t).emb (ix3 0 d e)) = _
  rw [V_main_arg6]
  refine congrArg _ (funext fun a => Fin.ext ?_)
  match a with
  | ⟨0, _⟩ =>
    refine (((cfgM m hO).win 3).rect_emb_val t (ix3 0 d e) (0 : Fin 3)).trans ?_
    show ((tbl m).at 1 (Rect.unit (s := S4096) (k0_off1 (grid0.coords t) (BitVec.ofNat 32 (3 : Fin 16).val)) S1.size (k0_off1_inb _ 3)) numel1_S1).toNat * 1 + 0 = _
    refine (congrArg (fun n : BitVec 32 => n.toNat * 1 + 0) (at_row (tbl m) (grid0.coords t) 3 _ numel1_S1)).trans ?_
    show _ * 1 + 0 = _; rw [Nat.mul_one]; rfl
  | ⟨1, _⟩ =>
    refine (((cfgM m hO).win 3).rect_emb_val t (ix3 0 d e) (1 : Fin 3)).trans ?_
    show 0 * 64 + d.val = d.val; omega
  | ⟨2, _⟩ =>
    refine (((cfgM m hO).win 3).rect_emb_val t (ix3 0 d e) (2 : Fin 3)).trans ?_
    show 0 * 64 + e.val = e.val; omega

set_option maxHeartbeats 4000000 in
/-- The matrix block of row 4. -/
theorem mat_blk4 (d e : Fin 64) : iblk m hO c 4 t (ix3 0 d e)
    = (m ((c : Thread nD τ).loc main_arg6) : FVec Ideal S1024x64x64 .f32) (ix3 ⟨(word (tbl m 1) (grid0.coords t) 4).toNat, h _⟩ d e) := by
  show V m c main_arg6 ((((cfgM m hO).win 4).rect t).emb (ix3 0 d e)) = _
  rw [V_main_arg6]
  refine congrArg _ (funext fun a => Fin.ext ?_)
  match a with
  | ⟨0, _⟩ =>
    refine (((cfgM m hO).win 4).rect_emb_val t (ix3 0 d e) (0 : Fin 3)).trans ?_
    show ((tbl m).at 1 (Rect.unit (s := S4096) (k0_off1 (grid0.coords t) (BitVec.ofNat 32 (4 : Fin 16).val)) S1.size (k0_off1_inb _ 4)) numel1_S1).toNat * 1 + 0 = _
    refine (congrArg (fun n : BitVec 32 => n.toNat * 1 + 0) (at_row (tbl m) (grid0.coords t) 4 _ numel1_S1)).trans ?_
    show _ * 1 + 0 = _; rw [Nat.mul_one]; rfl
  | ⟨1, _⟩ =>
    refine (((cfgM m hO).win 4).rect_emb_val t (ix3 0 d e) (1 : Fin 3)).trans ?_
    show 0 * 64 + d.val = d.val; omega
  | ⟨2, _⟩ =>
    refine (((cfgM m hO).win 4).rect_emb_val t (ix3 0 d e) (2 : Fin 3)).trans ?_
    show 0 * 64 + e.val = e.val; omega

set_option maxHeartbeats 4000000 in
/-- The matrix block of row 5. -/
theorem mat_blk5 (d e : Fin 64) : iblk m hO c 5 t (ix3 0 d e)
    = (m ((c : Thread nD τ).loc main_arg6) : FVec Ideal S1024x64x64 .f32) (ix3 ⟨(word (tbl m 1) (grid0.coords t) 5).toNat, h _⟩ d e) := by
  show V m c main_arg6 ((((cfgM m hO).win 5).rect t).emb (ix3 0 d e)) = _
  rw [V_main_arg6]
  refine congrArg _ (funext fun a => Fin.ext ?_)
  match a with
  | ⟨0, _⟩ =>
    refine (((cfgM m hO).win 5).rect_emb_val t (ix3 0 d e) (0 : Fin 3)).trans ?_
    show ((tbl m).at 1 (Rect.unit (s := S4096) (k0_off1 (grid0.coords t) (BitVec.ofNat 32 (5 : Fin 16).val)) S1.size (k0_off1_inb _ 5)) numel1_S1).toNat * 1 + 0 = _
    refine (congrArg (fun n : BitVec 32 => n.toNat * 1 + 0) (at_row (tbl m) (grid0.coords t) 5 _ numel1_S1)).trans ?_
    show _ * 1 + 0 = _; rw [Nat.mul_one]; rfl
  | ⟨1, _⟩ =>
    refine (((cfgM m hO).win 5).rect_emb_val t (ix3 0 d e) (1 : Fin 3)).trans ?_
    show 0 * 64 + d.val = d.val; omega
  | ⟨2, _⟩ =>
    refine (((cfgM m hO).win 5).rect_emb_val t (ix3 0 d e) (2 : Fin 3)).trans ?_
    show 0 * 64 + e.val = e.val; omega

set_option maxHeartbeats 4000000 in
/-- The matrix block of row 6. -/
theorem mat_blk6 (d e : Fin 64) : iblk m hO c 6 t (ix3 0 d e)
    = (m ((c : Thread nD τ).loc main_arg6) : FVec Ideal S1024x64x64 .f32) (ix3 ⟨(word (tbl m 1) (grid0.coords t) 6).toNat, h _⟩ d e) := by
  show V m c main_arg6 ((((cfgM m hO).win 6).rect t).emb (ix3 0 d e)) = _
  rw [V_main_arg6]
  refine congrArg _ (funext fun a => Fin.ext ?_)
  match a with
  | ⟨0, _⟩ =>
    refine (((cfgM m hO).win 6).rect_emb_val t (ix3 0 d e) (0 : Fin 3)).trans ?_
    show ((tbl m).at 1 (Rect.unit (s := S4096) (k0_off1 (grid0.coords t) (BitVec.ofNat 32 (6 : Fin 16).val)) S1.size (k0_off1_inb _ 6)) numel1_S1).toNat * 1 + 0 = _
    refine (congrArg (fun n : BitVec 32 => n.toNat * 1 + 0) (at_row (tbl m) (grid0.coords t) 6 _ numel1_S1)).trans ?_
    show _ * 1 + 0 = _; rw [Nat.mul_one]; rfl
  | ⟨1, _⟩ =>
    refine (((cfgM m hO).win 6).rect_emb_val t (ix3 0 d e) (1 : Fin 3)).trans ?_
    show 0 * 64 + d.val = d.val; omega
  | ⟨2, _⟩ =>
    refine (((cfgM m hO).win 6).rect_emb_val t (ix3 0 d e) (2 : Fin 3)).trans ?_
    show 0 * 64 + e.val = e.val; omega

set_option maxHeartbeats 4000000 in
/-- The matrix block of row 7. -/
theorem mat_blk7 (d e : Fin 64) : iblk m hO c 7 t (ix3 0 d e)
    = (m ((c : Thread nD τ).loc main_arg6) : FVec Ideal S1024x64x64 .f32) (ix3 ⟨(word (tbl m 1) (grid0.coords t) 7).toNat, h _⟩ d e) := by
  show V m c main_arg6 ((((cfgM m hO).win 7).rect t).emb (ix3 0 d e)) = _
  rw [V_main_arg6]
  refine congrArg _ (funext fun a => Fin.ext ?_)
  match a with
  | ⟨0, _⟩ =>
    refine (((cfgM m hO).win 7).rect_emb_val t (ix3 0 d e) (0 : Fin 3)).trans ?_
    show ((tbl m).at 1 (Rect.unit (s := S4096) (k0_off1 (grid0.coords t) (BitVec.ofNat 32 (7 : Fin 16).val)) S1.size (k0_off1_inb _ 7)) numel1_S1).toNat * 1 + 0 = _
    refine (congrArg (fun n : BitVec 32 => n.toNat * 1 + 0) (at_row (tbl m) (grid0.coords t) 7 _ numel1_S1)).trans ?_
    show _ * 1 + 0 = _; rw [Nat.mul_one]; rfl
  | ⟨1, _⟩ =>
    refine (((cfgM m hO).win 7).rect_emb_val t (ix3 0 d e) (1 : Fin 3)).trans ?_
    show 0 * 64 + d.val = d.val; omega
  | ⟨2, _⟩ =>
    refine (((cfgM m hO).win 7).rect_emb_val t (ix3 0 d e) (2 : Fin 3)).trans ?_
    show 0 * 64 + e.val = e.val; omega

set_option maxHeartbeats 4000000 in
/-- The matrix block of row 8. -/
theorem mat_blk8 (d e : Fin 64) : iblk m hO c 8 t (ix3 0 d e)
    = (m ((c : Thread nD τ).loc main_arg6) : FVec Ideal S1024x64x64 .f32) (ix3 ⟨(word (tbl m 1) (grid0.coords t) 8).toNat, h _⟩ d e) := by
  show V m c main_arg6 ((((cfgM m hO).win 8).rect t).emb (ix3 0 d e)) = _
  rw [V_main_arg6]
  refine congrArg _ (funext fun a => Fin.ext ?_)
  match a with
  | ⟨0, _⟩ =>
    refine (((cfgM m hO).win 8).rect_emb_val t (ix3 0 d e) (0 : Fin 3)).trans ?_
    show ((tbl m).at 1 (Rect.unit (s := S4096) (k0_off1 (grid0.coords t) (BitVec.ofNat 32 (8 : Fin 16).val)) S1.size (k0_off1_inb _ 8)) numel1_S1).toNat * 1 + 0 = _
    refine (congrArg (fun n : BitVec 32 => n.toNat * 1 + 0) (at_row (tbl m) (grid0.coords t) 8 _ numel1_S1)).trans ?_
    show _ * 1 + 0 = _; rw [Nat.mul_one]; rfl
  | ⟨1, _⟩ =>
    refine (((cfgM m hO).win 8).rect_emb_val t (ix3 0 d e) (1 : Fin 3)).trans ?_
    show 0 * 64 + d.val = d.val; omega
  | ⟨2, _⟩ =>
    refine (((cfgM m hO).win 8).rect_emb_val t (ix3 0 d e) (2 : Fin 3)).trans ?_
    show 0 * 64 + e.val = e.val; omega

set_option maxHeartbeats 4000000 in
/-- The matrix block of row 9. -/
theorem mat_blk9 (d e : Fin 64) : iblk m hO c 9 t (ix3 0 d e)
    = (m ((c : Thread nD τ).loc main_arg6) : FVec Ideal S1024x64x64 .f32) (ix3 ⟨(word (tbl m 1) (grid0.coords t) 9).toNat, h _⟩ d e) := by
  show V m c main_arg6 ((((cfgM m hO).win 9).rect t).emb (ix3 0 d e)) = _
  rw [V_main_arg6]
  refine congrArg _ (funext fun a => Fin.ext ?_)
  match a with
  | ⟨0, _⟩ =>
    refine (((cfgM m hO).win 9).rect_emb_val t (ix3 0 d e) (0 : Fin 3)).trans ?_
    show ((tbl m).at 1 (Rect.unit (s := S4096) (k0_off1 (grid0.coords t) (BitVec.ofNat 32 (9 : Fin 16).val)) S1.size (k0_off1_inb _ 9)) numel1_S1).toNat * 1 + 0 = _
    refine (congrArg (fun n : BitVec 32 => n.toNat * 1 + 0) (at_row (tbl m) (grid0.coords t) 9 _ numel1_S1)).trans ?_
    show _ * 1 + 0 = _; rw [Nat.mul_one]; rfl
  | ⟨1, _⟩ =>
    refine (((cfgM m hO).win 9).rect_emb_val t (ix3 0 d e) (1 : Fin 3)).trans ?_
    show 0 * 64 + d.val = d.val; omega
  | ⟨2, _⟩ =>
    refine (((cfgM m hO).win 9).rect_emb_val t (ix3 0 d e) (2 : Fin 3)).trans ?_
    show 0 * 64 + e.val = e.val; omega

set_option maxHeartbeats 4000000 in
/-- The matrix block of row 10. -/
theorem mat_blk10 (d e : Fin 64) : iblk m hO c 10 t (ix3 0 d e)
    = (m ((c : Thread nD τ).loc main_arg6) : FVec Ideal S1024x64x64 .f32) (ix3 ⟨(word (tbl m 1) (grid0.coords t) 10).toNat, h _⟩ d e) := by
  show V m c main_arg6 ((((cfgM m hO).win 10).rect t).emb (ix3 0 d e)) = _
  rw [V_main_arg6]
  refine congrArg _ (funext fun a => Fin.ext ?_)
  match a with
  | ⟨0, _⟩ =>
    refine (((cfgM m hO).win 10).rect_emb_val t (ix3 0 d e) (0 : Fin 3)).trans ?_
    show ((tbl m).at 1 (Rect.unit (s := S4096) (k0_off1 (grid0.coords t) (BitVec.ofNat 32 (10 : Fin 16).val)) S1.size (k0_off1_inb _ 10)) numel1_S1).toNat * 1 + 0 = _
    refine (congrArg (fun n : BitVec 32 => n.toNat * 1 + 0) (at_row (tbl m) (grid0.coords t) 10 _ numel1_S1)).trans ?_
    show _ * 1 + 0 = _; rw [Nat.mul_one]; rfl
  | ⟨1, _⟩ =>
    refine (((cfgM m hO).win 10).rect_emb_val t (ix3 0 d e) (1 : Fin 3)).trans ?_
    show 0 * 64 + d.val = d.val; omega
  | ⟨2, _⟩ =>
    refine (((cfgM m hO).win 10).rect_emb_val t (ix3 0 d e) (2 : Fin 3)).trans ?_
    show 0 * 64 + e.val = e.val; omega

set_option maxHeartbeats 4000000 in
/-- The matrix block of row 11. -/
theorem mat_blk11 (d e : Fin 64) : iblk m hO c 11 t (ix3 0 d e)
    = (m ((c : Thread nD τ).loc main_arg6) : FVec Ideal S1024x64x64 .f32) (ix3 ⟨(word (tbl m 1) (grid0.coords t) 11).toNat, h _⟩ d e) := by
  show V m c main_arg6 ((((cfgM m hO).win 11).rect t).emb (ix3 0 d e)) = _
  rw [V_main_arg6]
  refine congrArg _ (funext fun a => Fin.ext ?_)
  match a with
  | ⟨0, _⟩ =>
    refine (((cfgM m hO).win 11).rect_emb_val t (ix3 0 d e) (0 : Fin 3)).trans ?_
    show ((tbl m).at 1 (Rect.unit (s := S4096) (k0_off1 (grid0.coords t) (BitVec.ofNat 32 (11 : Fin 16).val)) S1.size (k0_off1_inb _ 11)) numel1_S1).toNat * 1 + 0 = _
    refine (congrArg (fun n : BitVec 32 => n.toNat * 1 + 0) (at_row (tbl m) (grid0.coords t) 11 _ numel1_S1)).trans ?_
    show _ * 1 + 0 = _; rw [Nat.mul_one]; rfl
  | ⟨1, _⟩ =>
    refine (((cfgM m hO).win 11).rect_emb_val t (ix3 0 d e) (1 : Fin 3)).trans ?_
    show 0 * 64 + d.val = d.val; omega
  | ⟨2, _⟩ =>
    refine (((cfgM m hO).win 11).rect_emb_val t (ix3 0 d e) (2 : Fin 3)).trans ?_
    show 0 * 64 + e.val = e.val; omega

set_option maxHeartbeats 4000000 in
/-- The matrix block of row 12. -/
theorem mat_blk12 (d e : Fin 64) : iblk m hO c 12 t (ix3 0 d e)
    = (m ((c : Thread nD τ).loc main_arg6) : FVec Ideal S1024x64x64 .f32) (ix3 ⟨(word (tbl m 1) (grid0.coords t) 12).toNat, h _⟩ d e) := by
  show V m c main_arg6 ((((cfgM m hO).win 12).rect t).emb (ix3 0 d e)) = _
  rw [V_main_arg6]
  refine congrArg _ (funext fun a => Fin.ext ?_)
  match a with
  | ⟨0, _⟩ =>
    refine (((cfgM m hO).win 12).rect_emb_val t (ix3 0 d e) (0 : Fin 3)).trans ?_
    show ((tbl m).at 1 (Rect.unit (s := S4096) (k0_off1 (grid0.coords t) (BitVec.ofNat 32 (12 : Fin 16).val)) S1.size (k0_off1_inb _ 12)) numel1_S1).toNat * 1 + 0 = _
    refine (congrArg (fun n : BitVec 32 => n.toNat * 1 + 0) (at_row (tbl m) (grid0.coords t) 12 _ numel1_S1)).trans ?_
    show _ * 1 + 0 = _; rw [Nat.mul_one]; rfl
  | ⟨1, _⟩ =>
    refine (((cfgM m hO).win 12).rect_emb_val t (ix3 0 d e) (1 : Fin 3)).trans ?_
    show 0 * 64 + d.val = d.val; omega
  | ⟨2, _⟩ =>
    refine (((cfgM m hO).win 12).rect_emb_val t (ix3 0 d e) (2 : Fin 3)).trans ?_
    show 0 * 64 + e.val = e.val; omega

set_option maxHeartbeats 4000000 in
/-- The matrix block of row 13. -/
theorem mat_blk13 (d e : Fin 64) : iblk m hO c 13 t (ix3 0 d e)
    = (m ((c : Thread nD τ).loc main_arg6) : FVec Ideal S1024x64x64 .f32) (ix3 ⟨(word (tbl m 1) (grid0.coords t) 13).toNat, h _⟩ d e) := by
  show V m c main_arg6 ((((cfgM m hO).win 13).rect t).emb (ix3 0 d e)) = _
  rw [V_main_arg6]
  refine congrArg _ (funext fun a => Fin.ext ?_)
  match a with
  | ⟨0, _⟩ =>
    refine (((cfgM m hO).win 13).rect_emb_val t (ix3 0 d e) (0 : Fin 3)).trans ?_
    show ((tbl m).at 1 (Rect.unit (s := S4096) (k0_off1 (grid0.coords t) (BitVec.ofNat 32 (13 : Fin 16).val)) S1.size (k0_off1_inb _ 13)) numel1_S1).toNat * 1 + 0 = _
    refine (congrArg (fun n : BitVec 32 => n.toNat * 1 + 0) (at_row (tbl m) (grid0.coords t) 13 _ numel1_S1)).trans ?_
    show _ * 1 + 0 = _; rw [Nat.mul_one]; rfl
  | ⟨1, _⟩ =>
    refine (((cfgM m hO).win 13).rect_emb_val t (ix3 0 d e) (1 : Fin 3)).trans ?_
    show 0 * 64 + d.val = d.val; omega
  | ⟨2, _⟩ =>
    refine (((cfgM m hO).win 13).rect_emb_val t (ix3 0 d e) (2 : Fin 3)).trans ?_
    show 0 * 64 + e.val = e.val; omega

set_option maxHeartbeats 4000000 in
/-- The matrix block of row 14. -/
theorem mat_blk14 (d e : Fin 64) : iblk m hO c 14 t (ix3 0 d e)
    = (m ((c : Thread nD τ).loc main_arg6) : FVec Ideal S1024x64x64 .f32) (ix3 ⟨(word (tbl m 1) (grid0.coords t) 14).toNat, h _⟩ d e) := by
  show V m c main_arg6 ((((cfgM m hO).win 14).rect t).emb (ix3 0 d e)) = _
  rw [V_main_arg6]
  refine congrArg _ (funext fun a => Fin.ext ?_)
  match a with
  | ⟨0, _⟩ =>
    refine (((cfgM m hO).win 14).rect_emb_val t (ix3 0 d e) (0 : Fin 3)).trans ?_
    show ((tbl m).at 1 (Rect.unit (s := S4096) (k0_off1 (grid0.coords t) (BitVec.ofNat 32 (14 : Fin 16).val)) S1.size (k0_off1_inb _ 14)) numel1_S1).toNat * 1 + 0 = _
    refine (congrArg (fun n : BitVec 32 => n.toNat * 1 + 0) (at_row (tbl m) (grid0.coords t) 14 _ numel1_S1)).trans ?_
    show _ * 1 + 0 = _; rw [Nat.mul_one]; rfl
  | ⟨1, _⟩ =>
    refine (((cfgM m hO).win 14).rect_emb_val t (ix3 0 d e) (1 : Fin 3)).trans ?_
    show 0 * 64 + d.val = d.val; omega
  | ⟨2, _⟩ =>
    refine (((cfgM m hO).win 14).rect_emb_val t (ix3 0 d e) (2 : Fin 3)).trans ?_
    show 0 * 64 + e.val = e.val; omega

set_option maxHeartbeats 4000000 in
/-- The matrix block of row 15. -/
theorem mat_blk15 (d e : Fin 64) : iblk m hO c 15 t (ix3 0 d e)
    = (m ((c : Thread nD τ).loc main_arg6) : FVec Ideal S1024x64x64 .f32) (ix3 ⟨(word (tbl m 1) (grid0.coords t) 15).toNat, h _⟩ d e) := by
  show V m c main_arg6 ((((cfgM m hO).win 15).rect t).emb (ix3 0 d e)) = _
  rw [V_main_arg6]
  refine congrArg _ (funext fun a => Fin.ext ?_)
  match a with
  | ⟨0, _⟩ =>
    refine (((cfgM m hO).win 15).rect_emb_val t (ix3 0 d e) (0 : Fin 3)).trans ?_
    show ((tbl m).at 1 (Rect.unit (s := S4096) (k0_off1 (grid0.coords t) (BitVec.ofNat 32 (15 : Fin 16).val)) S1.size (k0_off1_inb _ 15)) numel1_S1).toNat * 1 + 0 = _
    refine (congrArg (fun n : BitVec 32 => n.toNat * 1 + 0) (at_row (tbl m) (grid0.coords t) 15 _ numel1_S1)).trans ?_
    show _ * 1 + 0 = _; rw [Nat.mul_one]; rfl
  | ⟨1, _⟩ =>
    refine (((cfgM m hO).win 15).rect_emb_val t (ix3 0 d e) (1 : Fin 3)).trans ?_
    show 0 * 64 + d.val = d.val; omega
  | ⟨2, _⟩ =>
    refine (((cfgM m hO).win 15).rect_emb_val t (ix3 0 d e) (2 : Fin 3)).trans ?_
    show 0 * 64 + e.val = e.val; omega

set_option maxHeartbeats 4000000 in
/-- The offset block of row 0. -/
theorem par_blk0 (d : Fin 64) : iblk m hO c 16 t (ix3 0 0 ⟨d.val, by omega⟩)
    = (m ((c : Thread nD τ).loc main_arg7) : FVec Ideal S1024x64 .f32) (ix2 ⟨(word (tbl m 1) (grid0.coords t) 0).toNat, h _⟩ d) := by
  refine Eq.trans ?_ (params m c _ d)
  show V m c main_v3 ((((cfgM m hO).win 16).rect t).emb (ix3 0 0 ⟨d.val, by omega⟩)) = _
  refine congrArg _ (funext fun a => Fin.ext ?_)
  match a with
  | ⟨0, _⟩ =>
    refine (((cfgM m hO).win 16).rect_emb_val t (ix3 0 0 ⟨d.val, by omega⟩) (0 : Fin 3)).trans ?_
    show ((tbl m).at 1 (Rect.unit (s := S4096) (k0_off1 (grid0.coords t) (BitVec.ofNat 32 (0 : Fin 16).val)) S1.size (k0_off1_inb _ 0)) numel1_S1).toNat * 1 + 0 = _
    refine (congrArg (fun n : BitVec 32 => n.toNat * 1 + 0) (at_row (tbl m) (grid0.coords t) 0 _ numel1_S1)).trans ?_
    show _ * 1 + 0 = _; rw [Nat.mul_one]; rfl
  | ⟨1, _⟩ =>
    refine (((cfgM m hO).win 16).rect_emb_val t (ix3 0 0 ⟨d.val, by omega⟩) (1 : Fin 3)).trans ?_
    rfl
  | ⟨2, _⟩ =>
    refine (((cfgM m hO).win 16).rect_emb_val t (ix3 0 0 ⟨d.val, by omega⟩) (2 : Fin 3)).trans ?_
    show 0 * 256 + d.val = d.val; omega

set_option maxHeartbeats 4000000 in
/-- The offset block of row 1. -/
theorem par_blk1 (d : Fin 64) : iblk m hO c 17 t (ix3 0 0 ⟨d.val, by omega⟩)
    = (m ((c : Thread nD τ).loc main_arg7) : FVec Ideal S1024x64 .f32) (ix2 ⟨(word (tbl m 1) (grid0.coords t) 1).toNat, h _⟩ d) := by
  refine Eq.trans ?_ (params m c _ d)
  show V m c main_v3 ((((cfgM m hO).win 17).rect t).emb (ix3 0 0 ⟨d.val, by omega⟩)) = _
  refine congrArg _ (funext fun a => Fin.ext ?_)
  match a with
  | ⟨0, _⟩ =>
    refine (((cfgM m hO).win 17).rect_emb_val t (ix3 0 0 ⟨d.val, by omega⟩) (0 : Fin 3)).trans ?_
    show ((tbl m).at 1 (Rect.unit (s := S4096) (k0_off1 (grid0.coords t) (BitVec.ofNat 32 (1 : Fin 16).val)) S1.size (k0_off1_inb _ 1)) numel1_S1).toNat * 1 + 0 = _
    refine (congrArg (fun n : BitVec 32 => n.toNat * 1 + 0) (at_row (tbl m) (grid0.coords t) 1 _ numel1_S1)).trans ?_
    show _ * 1 + 0 = _; rw [Nat.mul_one]; rfl
  | ⟨1, _⟩ =>
    refine (((cfgM m hO).win 17).rect_emb_val t (ix3 0 0 ⟨d.val, by omega⟩) (1 : Fin 3)).trans ?_
    rfl
  | ⟨2, _⟩ =>
    refine (((cfgM m hO).win 17).rect_emb_val t (ix3 0 0 ⟨d.val, by omega⟩) (2 : Fin 3)).trans ?_
    show 0 * 256 + d.val = d.val; omega

set_option maxHeartbeats 4000000 in
/-- The offset block of row 2. -/
theorem par_blk2 (d : Fin 64) : iblk m hO c 18 t (ix3 0 0 ⟨d.val, by omega⟩)
    = (m ((c : Thread nD τ).loc main_arg7) : FVec Ideal S1024x64 .f32) (ix2 ⟨(word (tbl m 1) (grid0.coords t) 2).toNat, h _⟩ d) := by
  refine Eq.trans ?_ (params m c _ d)
  show V m c main_v3 ((((cfgM m hO).win 18).rect t).emb (ix3 0 0 ⟨d.val, by omega⟩)) = _
  refine congrArg _ (funext fun a => Fin.ext ?_)
  match a with
  | ⟨0, _⟩ =>
    refine (((cfgM m hO).win 18).rect_emb_val t (ix3 0 0 ⟨d.val, by omega⟩) (0 : Fin 3)).trans ?_
    show ((tbl m).at 1 (Rect.unit (s := S4096) (k0_off1 (grid0.coords t) (BitVec.ofNat 32 (2 : Fin 16).val)) S1.size (k0_off1_inb _ 2)) numel1_S1).toNat * 1 + 0 = _
    refine (congrArg (fun n : BitVec 32 => n.toNat * 1 + 0) (at_row (tbl m) (grid0.coords t) 2 _ numel1_S1)).trans ?_
    show _ * 1 + 0 = _; rw [Nat.mul_one]; rfl
  | ⟨1, _⟩ =>
    refine (((cfgM m hO).win 18).rect_emb_val t (ix3 0 0 ⟨d.val, by omega⟩) (1 : Fin 3)).trans ?_
    rfl
  | ⟨2, _⟩ =>
    refine (((cfgM m hO).win 18).rect_emb_val t (ix3 0 0 ⟨d.val, by omega⟩) (2 : Fin 3)).trans ?_
    show 0 * 256 + d.val = d.val; omega

set_option maxHeartbeats 4000000 in
/-- The offset block of row 3. -/
theorem par_blk3 (d : Fin 64) : iblk m hO c 19 t (ix3 0 0 ⟨d.val, by omega⟩)
    = (m ((c : Thread nD τ).loc main_arg7) : FVec Ideal S1024x64 .f32) (ix2 ⟨(word (tbl m 1) (grid0.coords t) 3).toNat, h _⟩ d) := by
  refine Eq.trans ?_ (params m c _ d)
  show V m c main_v3 ((((cfgM m hO).win 19).rect t).emb (ix3 0 0 ⟨d.val, by omega⟩)) = _
  refine congrArg _ (funext fun a => Fin.ext ?_)
  match a with
  | ⟨0, _⟩ =>
    refine (((cfgM m hO).win 19).rect_emb_val t (ix3 0 0 ⟨d.val, by omega⟩) (0 : Fin 3)).trans ?_
    show ((tbl m).at 1 (Rect.unit (s := S4096) (k0_off1 (grid0.coords t) (BitVec.ofNat 32 (3 : Fin 16).val)) S1.size (k0_off1_inb _ 3)) numel1_S1).toNat * 1 + 0 = _
    refine (congrArg (fun n : BitVec 32 => n.toNat * 1 + 0) (at_row (tbl m) (grid0.coords t) 3 _ numel1_S1)).trans ?_
    show _ * 1 + 0 = _; rw [Nat.mul_one]; rfl
  | ⟨1, _⟩ =>
    refine (((cfgM m hO).win 19).rect_emb_val t (ix3 0 0 ⟨d.val, by omega⟩) (1 : Fin 3)).trans ?_
    rfl
  | ⟨2, _⟩ =>
    refine (((cfgM m hO).win 19).rect_emb_val t (ix3 0 0 ⟨d.val, by omega⟩) (2 : Fin 3)).trans ?_
    show 0 * 256 + d.val = d.val; omega

set_option maxHeartbeats 4000000 in
/-- The offset block of row 4. -/
theorem par_blk4 (d : Fin 64) : iblk m hO c 20 t (ix3 0 0 ⟨d.val, by omega⟩)
    = (m ((c : Thread nD τ).loc main_arg7) : FVec Ideal S1024x64 .f32) (ix2 ⟨(word (tbl m 1) (grid0.coords t) 4).toNat, h _⟩ d) := by
  refine Eq.trans ?_ (params m c _ d)
  show V m c main_v3 ((((cfgM m hO).win 20).rect t).emb (ix3 0 0 ⟨d.val, by omega⟩)) = _
  refine congrArg _ (funext fun a => Fin.ext ?_)
  match a with
  | ⟨0, _⟩ =>
    refine (((cfgM m hO).win 20).rect_emb_val t (ix3 0 0 ⟨d.val, by omega⟩) (0 : Fin 3)).trans ?_
    show ((tbl m).at 1 (Rect.unit (s := S4096) (k0_off1 (grid0.coords t) (BitVec.ofNat 32 (4 : Fin 16).val)) S1.size (k0_off1_inb _ 4)) numel1_S1).toNat * 1 + 0 = _
    refine (congrArg (fun n : BitVec 32 => n.toNat * 1 + 0) (at_row (tbl m) (grid0.coords t) 4 _ numel1_S1)).trans ?_
    show _ * 1 + 0 = _; rw [Nat.mul_one]; rfl
  | ⟨1, _⟩ =>
    refine (((cfgM m hO).win 20).rect_emb_val t (ix3 0 0 ⟨d.val, by omega⟩) (1 : Fin 3)).trans ?_
    rfl
  | ⟨2, _⟩ =>
    refine (((cfgM m hO).win 20).rect_emb_val t (ix3 0 0 ⟨d.val, by omega⟩) (2 : Fin 3)).trans ?_
    show 0 * 256 + d.val = d.val; omega

set_option maxHeartbeats 4000000 in
/-- The offset block of row 5. -/
theorem par_blk5 (d : Fin 64) : iblk m hO c 21 t (ix3 0 0 ⟨d.val, by omega⟩)
    = (m ((c : Thread nD τ).loc main_arg7) : FVec Ideal S1024x64 .f32) (ix2 ⟨(word (tbl m 1) (grid0.coords t) 5).toNat, h _⟩ d) := by
  refine Eq.trans ?_ (params m c _ d)
  show V m c main_v3 ((((cfgM m hO).win 21).rect t).emb (ix3 0 0 ⟨d.val, by omega⟩)) = _
  refine congrArg _ (funext fun a => Fin.ext ?_)
  match a with
  | ⟨0, _⟩ =>
    refine (((cfgM m hO).win 21).rect_emb_val t (ix3 0 0 ⟨d.val, by omega⟩) (0 : Fin 3)).trans ?_
    show ((tbl m).at 1 (Rect.unit (s := S4096) (k0_off1 (grid0.coords t) (BitVec.ofNat 32 (5 : Fin 16).val)) S1.size (k0_off1_inb _ 5)) numel1_S1).toNat * 1 + 0 = _
    refine (congrArg (fun n : BitVec 32 => n.toNat * 1 + 0) (at_row (tbl m) (grid0.coords t) 5 _ numel1_S1)).trans ?_
    show _ * 1 + 0 = _; rw [Nat.mul_one]; rfl
  | ⟨1, _⟩ =>
    refine (((cfgM m hO).win 21).rect_emb_val t (ix3 0 0 ⟨d.val, by omega⟩) (1 : Fin 3)).trans ?_
    rfl
  | ⟨2, _⟩ =>
    refine (((cfgM m hO).win 21).rect_emb_val t (ix3 0 0 ⟨d.val, by omega⟩) (2 : Fin 3)).trans ?_
    show 0 * 256 + d.val = d.val; omega

set_option maxHeartbeats 4000000 in
/-- The offset block of row 6. -/
theorem par_blk6 (d : Fin 64) : iblk m hO c 22 t (ix3 0 0 ⟨d.val, by omega⟩)
    = (m ((c : Thread nD τ).loc main_arg7) : FVec Ideal S1024x64 .f32) (ix2 ⟨(word (tbl m 1) (grid0.coords t) 6).toNat, h _⟩ d) := by
  refine Eq.trans ?_ (params m c _ d)
  show V m c main_v3 ((((cfgM m hO).win 22).rect t).emb (ix3 0 0 ⟨d.val, by omega⟩)) = _
  refine congrArg _ (funext fun a => Fin.ext ?_)
  match a with
  | ⟨0, _⟩ =>
    refine (((cfgM m hO).win 22).rect_emb_val t (ix3 0 0 ⟨d.val, by omega⟩) (0 : Fin 3)).trans ?_
    show ((tbl m).at 1 (Rect.unit (s := S4096) (k0_off1 (grid0.coords t) (BitVec.ofNat 32 (6 : Fin 16).val)) S1.size (k0_off1_inb _ 6)) numel1_S1).toNat * 1 + 0 = _
    refine (congrArg (fun n : BitVec 32 => n.toNat * 1 + 0) (at_row (tbl m) (grid0.coords t) 6 _ numel1_S1)).trans ?_
    show _ * 1 + 0 = _; rw [Nat.mul_one]; rfl
  | ⟨1, _⟩ =>
    refine (((cfgM m hO).win 22).rect_emb_val t (ix3 0 0 ⟨d.val, by omega⟩) (1 : Fin 3)).trans ?_
    rfl
  | ⟨2, _⟩ =>
    refine (((cfgM m hO).win 22).rect_emb_val t (ix3 0 0 ⟨d.val, by omega⟩) (2 : Fin 3)).trans ?_
    show 0 * 256 + d.val = d.val; omega

set_option maxHeartbeats 4000000 in
/-- The offset block of row 7. -/
theorem par_blk7 (d : Fin 64) : iblk m hO c 23 t (ix3 0 0 ⟨d.val, by omega⟩)
    = (m ((c : Thread nD τ).loc main_arg7) : FVec Ideal S1024x64 .f32) (ix2 ⟨(word (tbl m 1) (grid0.coords t) 7).toNat, h _⟩ d) := by
  refine Eq.trans ?_ (params m c _ d)
  show V m c main_v3 ((((cfgM m hO).win 23).rect t).emb (ix3 0 0 ⟨d.val, by omega⟩)) = _
  refine congrArg _ (funext fun a => Fin.ext ?_)
  match a with
  | ⟨0, _⟩ =>
    refine (((cfgM m hO).win 23).rect_emb_val t (ix3 0 0 ⟨d.val, by omega⟩) (0 : Fin 3)).trans ?_
    show ((tbl m).at 1 (Rect.unit (s := S4096) (k0_off1 (grid0.coords t) (BitVec.ofNat 32 (7 : Fin 16).val)) S1.size (k0_off1_inb _ 7)) numel1_S1).toNat * 1 + 0 = _
    refine (congrArg (fun n : BitVec 32 => n.toNat * 1 + 0) (at_row (tbl m) (grid0.coords t) 7 _ numel1_S1)).trans ?_
    show _ * 1 + 0 = _; rw [Nat.mul_one]; rfl
  | ⟨1, _⟩ =>
    refine (((cfgM m hO).win 23).rect_emb_val t (ix3 0 0 ⟨d.val, by omega⟩) (1 : Fin 3)).trans ?_
    rfl
  | ⟨2, _⟩ =>
    refine (((cfgM m hO).win 23).rect_emb_val t (ix3 0 0 ⟨d.val, by omega⟩) (2 : Fin 3)).trans ?_
    show 0 * 256 + d.val = d.val; omega

set_option maxHeartbeats 4000000 in
/-- The offset block of row 8. -/
theorem par_blk8 (d : Fin 64) : iblk m hO c 24 t (ix3 0 0 ⟨d.val, by omega⟩)
    = (m ((c : Thread nD τ).loc main_arg7) : FVec Ideal S1024x64 .f32) (ix2 ⟨(word (tbl m 1) (grid0.coords t) 8).toNat, h _⟩ d) := by
  refine Eq.trans ?_ (params m c _ d)
  show V m c main_v3 ((((cfgM m hO).win 24).rect t).emb (ix3 0 0 ⟨d.val, by omega⟩)) = _
  refine congrArg _ (funext fun a => Fin.ext ?_)
  match a with
  | ⟨0, _⟩ =>
    refine (((cfgM m hO).win 24).rect_emb_val t (ix3 0 0 ⟨d.val, by omega⟩) (0 : Fin 3)).trans ?_
    show ((tbl m).at 1 (Rect.unit (s := S4096) (k0_off1 (grid0.coords t) (BitVec.ofNat 32 (8 : Fin 16).val)) S1.size (k0_off1_inb _ 8)) numel1_S1).toNat * 1 + 0 = _
    refine (congrArg (fun n : BitVec 32 => n.toNat * 1 + 0) (at_row (tbl m) (grid0.coords t) 8 _ numel1_S1)).trans ?_
    show _ * 1 + 0 = _; rw [Nat.mul_one]; rfl
  | ⟨1, _⟩ =>
    refine (((cfgM m hO).win 24).rect_emb_val t (ix3 0 0 ⟨d.val, by omega⟩) (1 : Fin 3)).trans ?_
    rfl
  | ⟨2, _⟩ =>
    refine (((cfgM m hO).win 24).rect_emb_val t (ix3 0 0 ⟨d.val, by omega⟩) (2 : Fin 3)).trans ?_
    show 0 * 256 + d.val = d.val; omega

set_option maxHeartbeats 4000000 in
/-- The offset block of row 9. -/
theorem par_blk9 (d : Fin 64) : iblk m hO c 25 t (ix3 0 0 ⟨d.val, by omega⟩)
    = (m ((c : Thread nD τ).loc main_arg7) : FVec Ideal S1024x64 .f32) (ix2 ⟨(word (tbl m 1) (grid0.coords t) 9).toNat, h _⟩ d) := by
  refine Eq.trans ?_ (params m c _ d)
  show V m c main_v3 ((((cfgM m hO).win 25).rect t).emb (ix3 0 0 ⟨d.val, by omega⟩)) = _
  refine congrArg _ (funext fun a => Fin.ext ?_)
  match a with
  | ⟨0, _⟩ =>
    refine (((cfgM m hO).win 25).rect_emb_val t (ix3 0 0 ⟨d.val, by omega⟩) (0 : Fin 3)).trans ?_
    show ((tbl m).at 1 (Rect.unit (s := S4096) (k0_off1 (grid0.coords t) (BitVec.ofNat 32 (9 : Fin 16).val)) S1.size (k0_off1_inb _ 9)) numel1_S1).toNat * 1 + 0 = _
    refine (congrArg (fun n : BitVec 32 => n.toNat * 1 + 0) (at_row (tbl m) (grid0.coords t) 9 _ numel1_S1)).trans ?_
    show _ * 1 + 0 = _; rw [Nat.mul_one]; rfl
  | ⟨1, _⟩ =>
    refine (((cfgM m hO).win 25).rect_emb_val t (ix3 0 0 ⟨d.val, by omega⟩) (1 : Fin 3)).trans ?_
    rfl
  | ⟨2, _⟩ =>
    refine (((cfgM m hO).win 25).rect_emb_val t (ix3 0 0 ⟨d.val, by omega⟩) (2 : Fin 3)).trans ?_
    show 0 * 256 + d.val = d.val; omega

set_option maxHeartbeats 4000000 in
/-- The offset block of row 10. -/
theorem par_blk10 (d : Fin 64) : iblk m hO c 26 t (ix3 0 0 ⟨d.val, by omega⟩)
    = (m ((c : Thread nD τ).loc main_arg7) : FVec Ideal S1024x64 .f32) (ix2 ⟨(word (tbl m 1) (grid0.coords t) 10).toNat, h _⟩ d) := by
  refine Eq.trans ?_ (params m c _ d)
  show V m c main_v3 ((((cfgM m hO).win 26).rect t).emb (ix3 0 0 ⟨d.val, by omega⟩)) = _
  refine congrArg _ (funext fun a => Fin.ext ?_)
  match a with
  | ⟨0, _⟩ =>
    refine (((cfgM m hO).win 26).rect_emb_val t (ix3 0 0 ⟨d.val, by omega⟩) (0 : Fin 3)).trans ?_
    show ((tbl m).at 1 (Rect.unit (s := S4096) (k0_off1 (grid0.coords t) (BitVec.ofNat 32 (10 : Fin 16).val)) S1.size (k0_off1_inb _ 10)) numel1_S1).toNat * 1 + 0 = _
    refine (congrArg (fun n : BitVec 32 => n.toNat * 1 + 0) (at_row (tbl m) (grid0.coords t) 10 _ numel1_S1)).trans ?_
    show _ * 1 + 0 = _; rw [Nat.mul_one]; rfl
  | ⟨1, _⟩ =>
    refine (((cfgM m hO).win 26).rect_emb_val t (ix3 0 0 ⟨d.val, by omega⟩) (1 : Fin 3)).trans ?_
    rfl
  | ⟨2, _⟩ =>
    refine (((cfgM m hO).win 26).rect_emb_val t (ix3 0 0 ⟨d.val, by omega⟩) (2 : Fin 3)).trans ?_
    show 0 * 256 + d.val = d.val; omega

set_option maxHeartbeats 4000000 in
/-- The offset block of row 11. -/
theorem par_blk11 (d : Fin 64) : iblk m hO c 27 t (ix3 0 0 ⟨d.val, by omega⟩)
    = (m ((c : Thread nD τ).loc main_arg7) : FVec Ideal S1024x64 .f32) (ix2 ⟨(word (tbl m 1) (grid0.coords t) 11).toNat, h _⟩ d) := by
  refine Eq.trans ?_ (params m c _ d)
  show V m c main_v3 ((((cfgM m hO).win 27).rect t).emb (ix3 0 0 ⟨d.val, by omega⟩)) = _
  refine congrArg _ (funext fun a => Fin.ext ?_)
  match a with
  | ⟨0, _⟩ =>
    refine (((cfgM m hO).win 27).rect_emb_val t (ix3 0 0 ⟨d.val, by omega⟩) (0 : Fin 3)).trans ?_
    show ((tbl m).at 1 (Rect.unit (s := S4096) (k0_off1 (grid0.coords t) (BitVec.ofNat 32 (11 : Fin 16).val)) S1.size (k0_off1_inb _ 11)) numel1_S1).toNat * 1 + 0 = _
    refine (congrArg (fun n : BitVec 32 => n.toNat * 1 + 0) (at_row (tbl m) (grid0.coords t) 11 _ numel1_S1)).trans ?_
    show _ * 1 + 0 = _; rw [Nat.mul_one]; rfl
  | ⟨1, _⟩ =>
    refine (((cfgM m hO).win 27).rect_emb_val t (ix3 0 0 ⟨d.val, by omega⟩) (1 : Fin 3)).trans ?_
    rfl
  | ⟨2, _⟩ =>
    refine (((cfgM m hO).win 27).rect_emb_val t (ix3 0 0 ⟨d.val, by omega⟩) (2 : Fin 3)).trans ?_
    show 0 * 256 + d.val = d.val; omega

set_option maxHeartbeats 4000000 in
/-- The offset block of row 12. -/
theorem par_blk12 (d : Fin 64) : iblk m hO c 28 t (ix3 0 0 ⟨d.val, by omega⟩)
    = (m ((c : Thread nD τ).loc main_arg7) : FVec Ideal S1024x64 .f32) (ix2 ⟨(word (tbl m 1) (grid0.coords t) 12).toNat, h _⟩ d) := by
  refine Eq.trans ?_ (params m c _ d)
  show V m c main_v3 ((((cfgM m hO).win 28).rect t).emb (ix3 0 0 ⟨d.val, by omega⟩)) = _
  refine congrArg _ (funext fun a => Fin.ext ?_)
  match a with
  | ⟨0, _⟩ =>
    refine (((cfgM m hO).win 28).rect_emb_val t (ix3 0 0 ⟨d.val, by omega⟩) (0 : Fin 3)).trans ?_
    show ((tbl m).at 1 (Rect.unit (s := S4096) (k0_off1 (grid0.coords t) (BitVec.ofNat 32 (12 : Fin 16).val)) S1.size (k0_off1_inb _ 12)) numel1_S1).toNat * 1 + 0 = _
    refine (congrArg (fun n : BitVec 32 => n.toNat * 1 + 0) (at_row (tbl m) (grid0.coords t) 12 _ numel1_S1)).trans ?_
    show _ * 1 + 0 = _; rw [Nat.mul_one]; rfl
  | ⟨1, _⟩ =>
    refine (((cfgM m hO).win 28).rect_emb_val t (ix3 0 0 ⟨d.val, by omega⟩) (1 : Fin 3)).trans ?_
    rfl
  | ⟨2, _⟩ =>
    refine (((cfgM m hO).win 28).rect_emb_val t (ix3 0 0 ⟨d.val, by omega⟩) (2 : Fin 3)).trans ?_
    show 0 * 256 + d.val = d.val; omega

set_option maxHeartbeats 4000000 in
/-- The offset block of row 13. -/
theorem par_blk13 (d : Fin 64) : iblk m hO c 29 t (ix3 0 0 ⟨d.val, by omega⟩)
    = (m ((c : Thread nD τ).loc main_arg7) : FVec Ideal S1024x64 .f32) (ix2 ⟨(word (tbl m 1) (grid0.coords t) 13).toNat, h _⟩ d) := by
  refine Eq.trans ?_ (params m c _ d)
  show V m c main_v3 ((((cfgM m hO).win 29).rect t).emb (ix3 0 0 ⟨d.val, by omega⟩)) = _
  refine congrArg _ (funext fun a => Fin.ext ?_)
  match a with
  | ⟨0, _⟩ =>
    refine (((cfgM m hO).win 29).rect_emb_val t (ix3 0 0 ⟨d.val, by omega⟩) (0 : Fin 3)).trans ?_
    show ((tbl m).at 1 (Rect.unit (s := S4096) (k0_off1 (grid0.coords t) (BitVec.ofNat 32 (13 : Fin 16).val)) S1.size (k0_off1_inb _ 13)) numel1_S1).toNat * 1 + 0 = _
    refine (congrArg (fun n : BitVec 32 => n.toNat * 1 + 0) (at_row (tbl m) (grid0.coords t) 13 _ numel1_S1)).trans ?_
    show _ * 1 + 0 = _; rw [Nat.mul_one]; rfl
  | ⟨1, _⟩ =>
    refine (((cfgM m hO).win 29).rect_emb_val t (ix3 0 0 ⟨d.val, by omega⟩) (1 : Fin 3)).trans ?_
    rfl
  | ⟨2, _⟩ =>
    refine (((cfgM m hO).win 29).rect_emb_val t (ix3 0 0 ⟨d.val, by omega⟩) (2 : Fin 3)).trans ?_
    show 0 * 256 + d.val = d.val; omega

set_option maxHeartbeats 4000000 in
/-- The offset block of row 14. -/
theorem par_blk14 (d : Fin 64) : iblk m hO c 30 t (ix3 0 0 ⟨d.val, by omega⟩)
    = (m ((c : Thread nD τ).loc main_arg7) : FVec Ideal S1024x64 .f32) (ix2 ⟨(word (tbl m 1) (grid0.coords t) 14).toNat, h _⟩ d) := by
  refine Eq.trans ?_ (params m c _ d)
  show V m c main_v3 ((((cfgM m hO).win 30).rect t).emb (ix3 0 0 ⟨d.val, by omega⟩)) = _
  refine congrArg _ (funext fun a => Fin.ext ?_)
  match a with
  | ⟨0, _⟩ =>
    refine (((cfgM m hO).win 30).rect_emb_val t (ix3 0 0 ⟨d.val, by omega⟩) (0 : Fin 3)).trans ?_
    show ((tbl m).at 1 (Rect.unit (s := S4096) (k0_off1 (grid0.coords t) (BitVec.ofNat 32 (14 : Fin 16).val)) S1.size (k0_off1_inb _ 14)) numel1_S1).toNat * 1 + 0 = _
    refine (congrArg (fun n : BitVec 32 => n.toNat * 1 + 0) (at_row (tbl m) (grid0.coords t) 14 _ numel1_S1)).trans ?_
    show _ * 1 + 0 = _; rw [Nat.mul_one]; rfl
  | ⟨1, _⟩ =>
    refine (((cfgM m hO).win 30).rect_emb_val t (ix3 0 0 ⟨d.val, by omega⟩) (1 : Fin 3)).trans ?_
    rfl
  | ⟨2, _⟩ =>
    refine (((cfgM m hO).win 30).rect_emb_val t (ix3 0 0 ⟨d.val, by omega⟩) (2 : Fin 3)).trans ?_
    show 0 * 256 + d.val = d.val; omega

set_option maxHeartbeats 4000000 in
/-- The offset block of row 15. -/
theorem par_blk15 (d : Fin 64) : iblk m hO c 31 t (ix3 0 0 ⟨d.val, by omega⟩)
    = (m ((c : Thread nD τ).loc main_arg7) : FVec Ideal S1024x64 .f32) (ix2 ⟨(word (tbl m 1) (grid0.coords t) 15).toNat, h _⟩ d) := by
  refine Eq.trans ?_ (params m c _ d)
  show V m c main_v3 ((((cfgM m hO).win 31).rect t).emb (ix3 0 0 ⟨d.val, by omega⟩)) = _
  refine congrArg _ (funext fun a => Fin.ext ?_)
  match a with
  | ⟨0, _⟩ =>
    refine (((cfgM m hO).win 31).rect_emb_val t (ix3 0 0 ⟨d.val, by omega⟩) (0 : Fin 3)).trans ?_
    show ((tbl m).at 1 (Rect.unit (s := S4096) (k0_off1 (grid0.coords t) (BitVec.ofNat 32 (15 : Fin 16).val)) S1.size (k0_off1_inb _ 15)) numel1_S1).toNat * 1 + 0 = _
    refine (congrArg (fun n : BitVec 32 => n.toNat * 1 + 0) (at_row (tbl m) (grid0.coords t) 15 _ numel1_S1)).trans ?_
    show _ * 1 + 0 = _; rw [Nat.mul_one]; rfl
  | ⟨1, _⟩ =>
    refine (((cfgM m hO).win 31).rect_emb_val t (ix3 0 0 ⟨d.val, by omega⟩) (1 : Fin 3)).trans ?_
    rfl
  | ⟨2, _⟩ =>
    refine (((cfgM m hO).win 31).rect_emb_val t (ix3 0 0 ⟨d.val, by omega⟩) (2 : Fin 3)).trans ?_
    show 0 * 256 + d.val = d.val; omega

set_option maxHeartbeats 4000000 in
/-- The sixteen rows of argument 3. -/
theorem row_blk32 (r : Fin 16) (d : Fin 64) : iblk m hO c 32 t (ix2 r d)
    = (m ((c : Thread nD τ).loc main_arg3) : FVec Ideal S4096x64 .f32) (ix2 ⟨16 * (grid0.coords t 0).val + r.val, row_lt _ r⟩ d) := by
  show V m c main_arg3 ((((cfgM m hO).win 32).rect t).emb (ix2 r d)) = _
  rw [V_main_arg3]
  refine congrArg _ (funext fun a => Fin.ext ?_)
  match a with
  | ⟨0, _⟩ =>
    refine (((cfgM m hO).win 32).rect_emb_val t (ix2 r d) (0 : Fin 2)).trans ?_
    show (BitVec.ofNat 32 (grid0.coords t 0).val).toNat * 16 + r.val = 16 * (grid0.coords t 0).val + r.val
    have ha : (grid0.coords t 0).val < 256 := (grid0.coords t 0).isLt
    rw [BitVec.toNat_ofNat]; omega
  | ⟨1, _⟩ =>
    refine (((cfgM m hO).win 32).rect_emb_val t (ix2 r d) (1 : Fin 2)).trans ?_
    show 0 * 64 + d.val = d.val; omega

set_option maxHeartbeats 4000000 in
/-- The sixteen rows of argument 4. -/
theorem row_blk33 (r : Fin 16) (d : Fin 64) : iblk m hO c 33 t (ix2 r d)
    = (m ((c : Thread nD τ).loc main_arg4) : FVec Ideal S4096x64 .f32) (ix2 ⟨16 * (grid0.coords t 0).val + r.val, row_lt _ r⟩ d) := by
  show V m c main_arg4 ((((cfgM m hO).win 33).rect t).emb (ix2 r d)) = _
  rw [V_main_arg4]
  refine congrArg _ (funext fun a => Fin.ext ?_)
  match a with
  | ⟨0, _⟩ =>
    refine (((cfgM m hO).win 33).rect_emb_val t (ix2 r d) (0 : Fin 2)).trans ?_
    show (BitVec.ofNat 32 (grid0.coords t 0).val).toNat * 16 + r.val = 16 * (grid0.coords t 0).val + r.val
    have ha : (grid0.coords t 0).val < 256 := (grid0.coords t 0).isLt
    rw [BitVec.toNat_ofNat]; omega
  | ⟨1, _⟩ =>
    refine (((cfgM m hO).win 33).rect_emb_val t (ix2 r d) (1 : Fin 2)).trans ?_
    show 0 * 64 + d.val = d.val; omega

end Cert.TwoIdeal.Kit

end
-- ==== Proof.TwoValue.lean ====
/-
  What the second stage leaves in its two result arrays: the moved rows, and the chosen charts laid out as rows of lanes.
-/
module

public import proofs.«01_k».proof.Proof.TwoIdealFrame
public import proofs.«01_k».proof.Proof.TwoBlocks
public import proofs.«01_k».proof.Proof.TwoRow
public import Idealize.ShloMosaic.Lib.Pipeline.ValueKit.Basic

@[expose] public section

set_option maxRecDepth 16384

noncomputable section

namespace Cert.TwoIdeal.Kit

open Cert.Atlas Cert.TwoIdeal Cert.TwoIdeal.Gen Idealize.ShloMosaic Idealize.ShloMosaic.TcCoe Idealize.SL.Sem Idealize.ShloMosaic.ValueIdx
open Idealize.ShloMosaic.Pipeline (Dat)

/-- The block of rows one run of the body leaves, row by row. -/
theorem rows_out (c : Dev nD) (i : grid0.Coords) (arg4 : Memref sig .tc .vmem S1x64x64 .f32) (harg4 : arg4.IsWhole) (arg5 : Memref sig .tc .vmem S1x64x64 .f32) (harg5 : arg5.IsWhole) (arg6 : Memref sig .tc .vmem S1x64x64 .f32) (harg6 : arg6.IsWhole) (arg7 : Memref sig .tc .vmem S1x64x64 .f32) (harg7 : arg7.IsWhole) (arg8 : Memref sig .tc .vmem S1x64x64 .f32) (harg8 : arg8.IsWhole) (arg9 : Memref sig .tc .vmem S1x64x64 .f32) (harg9 : arg9.IsWhole) (arg10 : Memref sig .tc .vmem S1x64x64 .f32) (harg10 : arg10.IsWhole) (arg11 : Memref sig .tc .vmem S1x64x64 .f32) (harg11 : arg11.IsWhole) (arg12 : Memref sig .tc .vmem S1x64x64 .f32) (harg12 : arg12.IsWhole) (arg13 : Memref sig .tc .vmem S1x64x64 .f32) (harg13 : arg13.IsWhole) (arg14 : Memref sig .tc .vmem S1x64x64 .f32) (harg14 : arg14.IsWhole) (arg15 : Memref sig .tc .vmem S1x64x64 .f32) (harg15 : arg15.IsWhole) (arg16 : Memref sig .tc .vmem S1x64x64 .f32) (harg16 : arg16.IsWhole) (arg17 : Memref sig .tc .vmem S1x64x64 .f32) (harg17 : arg17.IsWhole) (arg18 : Memref sig .tc .vmem S1x64x64 .f32) (harg18 : arg18.IsWhole) (arg19 : Memref sig .tc .vmem S1x64x64 .f32) (harg19 : arg19.IsWhole) (arg20 : Memref sig .tc .vmem S1x1x256 .f32) (harg20 : arg20.IsWhole) (arg21 : Memref sig .tc .vmem S1x1x256 .f32) (harg21 : arg21.IsWhole) (arg22 : Memref sig .tc .vmem S1x1x256 .f32) (harg22 : arg22.IsWhole) (arg23 : Memref sig .tc .vmem S1x1x256 .f32) (harg23 : arg23.IsWhole) (arg24 : Memref sig .tc .vmem S1x1x256 .f32) (harg24 : arg24.IsWhole) (arg25 : Memref sig .tc .vmem S1x1x256 .f32) (harg25 : arg25.IsWhole) (arg26 : Memref sig .tc .vmem S1x1x256 .f32) (harg26 : arg26.IsWhole) (arg27 : Memref sig .tc .vmem S1x1x256 .f32) (harg27 : arg27.IsWhole) (arg28 : Memref sig .tc .vmem S1x1x256 .f32) (harg28 : arg28.IsWhole) (arg29 : Memref sig .tc .vmem S1x1x256 .f32) (harg29 : arg29.IsWhole) (arg30 : Memref sig .tc .vmem S1x1x256 .f32) (harg30 : arg30.IsWhole) (arg31 : Memref sig .tc .vmem S1x1x256 .f32) (harg31 : arg31.IsWhole) (arg32 : Memref sig .tc .vmem S1x1x256 .f32) (harg32 : arg32.IsWhole) (arg33 : Memref sig .tc .vmem S1x1x256 .f32) (harg33 : arg33.IsWhole) (arg34 : Memref sig .tc .vmem S1x1x256 .f32) (harg34 : arg34.IsWhole) (arg35 : Memref sig .tc .vmem S1x1x256 .f32) (harg35 : arg35.IsWhole) (arg36 : Memref sig .tc .vmem S16x64 .f32) (harg36 : arg36.IsWhole) (arg37 : Memref sig .tc .vmem S16x64 .f32) (harg37 : arg37.IsWhole) (arg38 : Memref sig .tc .vmem S16x64 .f32) (harg38 : arg38.IsWhole) (arg39 : Memref sig .tc .vmem S1x1x128 .i32) (harg39 : arg39.IsWhole) (X : Fin 16 → Vec Ideal S1x64x64 .f32) (p : Fin 16 → Vec Ideal S1x1x256 .f32) (y z : Vec Ideal S16x64 .f32)
    (xt0 : TbBuf0 (F := Ideal) c tbM0_0) (xt1 : TbBuf0 (F := Ideal) c tbM0_1) (xt2 : TbBuf0 (F := Ideal) c tbM0_2) (r : Fin 16) (d : Fin 64) :
    out0_A_34 (F := Ideal) c i arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 arg25 harg25 arg26 harg26 arg27 harg27 arg28 harg28 arg29 harg29 arg30 harg30 arg31 harg31 arg32 harg32 arg33 harg33 arg34 harg34 arg35 harg35 arg36 harg36 arg37 harg37 arg38 harg38 arg39 harg39 (X 0) (X 1) (X 2) (X 3) (X 4) (X 5) (X 6) (X 7) (X 8) (X 9) (X 10) (X 11) (X 12) (X 13) (X 14) (X 15) (p 0) (p 1) (p 2) (p 3) (p 4) (p 5) (p 6) (p 7) (p 8) (p 9) (p 10) (p 11) (p 12) (p 13) (p 14) (p 15) y z xt0 xt1 xt2 (ix2 r d)
      = secondRow (word xt2 i r) (fun d e => X r (ix3 0 d e)) (fun d => p r (ix3 0 0 ⟨d.val, by omega⟩)) (fun e => y (ix2 r e)) (fun d => z (ix2 r d)) d := by
  unfold out0_A_34
  rw [View.read_writes_junk_eq_canon, rows_piece', View.canon_unit_zero (by funext a; fin_cases a <;> rfl)]
  refine (second_block (load2 c xt2 i) (fun j => lanes (p j)) (fun j => row y j (row_inb j)) (fun j => mat (X j)) (fun j => row z j (row_inb j)) r d).trans ?_
  simp only [load2_eq, lanes_apply, row_apply', mat_apply]

/-- The row of charts one run of the body leaves, lane by lane. -/
theorem lanes_out (c : Dev nD) (i : grid0.Coords) (arg4 : Memref sig .tc .vmem S1x64x64 .f32) (harg4 : arg4.IsWhole) (arg5 : Memref sig .tc .vmem S1x64x64 .f32) (harg5 : arg5.IsWhole) (arg6 : Memref sig .tc .vmem S1x64x64 .f32) (harg6 : arg6.IsWhole) (arg7 : Memref sig .tc .vmem S1x64x64 .f32) (harg7 : arg7.IsWhole) (arg8 : Memref sig .tc .vmem S1x64x64 .f32) (harg8 : arg8.IsWhole) (arg9 : Memref sig .tc .vmem S1x64x64 .f32) (harg9 : arg9.IsWhole) (arg10 : Memref sig .tc .vmem S1x64x64 .f32) (harg10 : arg10.IsWhole) (arg11 : Memref sig .tc .vmem S1x64x64 .f32) (harg11 : arg11.IsWhole) (arg12 : Memref sig .tc .vmem S1x64x64 .f32) (harg12 : arg12.IsWhole) (arg13 : Memref sig .tc .vmem S1x64x64 .f32) (harg13 : arg13.IsWhole) (arg14 : Memref sig .tc .vmem S1x64x64 .f32) (harg14 : arg14.IsWhole) (arg15 : Memref sig .tc .vmem S1x64x64 .f32) (harg15 : arg15.IsWhole) (arg16 : Memref sig .tc .vmem S1x64x64 .f32) (harg16 : arg16.IsWhole) (arg17 : Memref sig .tc .vmem S1x64x64 .f32) (harg17 : arg17.IsWhole) (arg18 : Memref sig .tc .vmem S1x64x64 .f32) (harg18 : arg18.IsWhole) (arg19 : Memref sig .tc .vmem S1x64x64 .f32) (harg19 : arg19.IsWhole) (arg20 : Memref sig .tc .vmem S1x1x256 .f32) (harg20 : arg20.IsWhole) (arg21 : Memref sig .tc .vmem S1x1x256 .f32) (harg21 : arg21.IsWhole) (arg22 : Memref sig .tc .vmem S1x1x256 .f32) (harg22 : arg22.IsWhole) (arg23 : Memref sig .tc .vmem S1x1x256 .f32) (harg23 : arg23.IsWhole) (arg24 : Memref sig .tc .vmem S1x1x256 .f32) (harg24 : arg24.IsWhole) (arg25 : Memref sig .tc .vmem S1x1x256 .f32) (harg25 : arg25.IsWhole) (arg26 : Memref sig .tc .vmem S1x1x256 .f32) (harg26 : arg26.IsWhole) (arg27 : Memref sig .tc .vmem S1x1x256 .f32) (harg27 : arg27.IsWhole) (arg28 : Memref sig .tc .vmem S1x1x256 .f32) (harg28 : arg28.IsWhole) (arg29 : Memref sig .tc .vmem S1x1x256 .f32) (harg29 : arg29.IsWhole) (arg30 : Memref sig .tc .vmem S1x1x256 .f32) (harg30 : arg30.IsWhole) (arg31 : Memref sig .tc .vmem S1x1x256 .f32) (harg31 : arg31.IsWhole) (arg32 : Memref sig .tc .vmem S1x1x256 .f32) (harg32 : arg32.IsWhole) (arg33 : Memref sig .tc .vmem S1x1x256 .f32) (harg33 : arg33.IsWhole) (arg34 : Memref sig .tc .vmem S1x1x256 .f32) (harg34 : arg34.IsWhole) (arg35 : Memref sig .tc .vmem S1x1x256 .f32) (harg35 : arg35.IsWhole) (arg36 : Memref sig .tc .vmem S16x64 .f32) (harg36 : arg36.IsWhole) (arg37 : Memref sig .tc .vmem S16x64 .f32) (harg37 : arg37.IsWhole) (arg38 : Memref sig .tc .vmem S16x64 .f32) (harg38 : arg38.IsWhole) (arg39 : Memref sig .tc .vmem S1x1x128 .i32) (harg39 : arg39.IsWhole) (X : Fin 16 → Vec Ideal S1x64x64 .f32) (p : Fin 16 → Vec Ideal S1x1x256 .f32) (y z : Vec Ideal S16x64 .f32)
    (xt0 : TbBuf0 (F := Ideal) c tbM0_0) (xt1 : TbBuf0 (F := Ideal) c tbM0_1) (xt2 : TbBuf0 (F := Ideal) c tbM0_2) (l : Fin 128) :
    out0_A_35 (F := Ideal) c i arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 arg25 harg25 arg26 harg26 arg27 harg27 arg28 harg28 arg29 harg29 arg30 harg30 arg31 harg31 arg32 harg32 arg33 harg33 arg34 harg34 arg35 harg35 arg36 harg36 arg37 harg37 arg38 harg38 arg39 harg39 (X 0) (X 1) (X 2) (X 3) (X 4) (X 5) (X 6) (X 7) (X 8) (X 9) (X 10) (X 11) (X 12) (X 13) (X 14) (X 15) (p 0) (p 1) (p 2) (p 3) (p 4) (p 5) (p 6) (p 7) (p 8) (p 9) (p 10) (p 11) (p 12) (p 13) (p 14) (p 15) y z xt0 xt1 xt2 (ix3 0 0 l)
      = spread (fun j => Scalar.select (Scalar.cmpi .sgt (word xt2 i j) 0#32) (word xt1 i j) (word xt0 i j)) l := by
  unfold out0_A_35
  rw [View.read_writes_junk_eq_canon, charts_piece, View.canon_unit_zero (by funext a; fin_cases a <;> rfl)]
  refine (second_lanes (fun j => Scalar.select (Scalar.cmpi .sgt (load2 c xt2 i j) 0#32) (load1 c xt1 i j) (load0 c xt0 i j)) l).trans ?_
  simp only [load2_eq, load1_eq, load0_eq]

/-- Every row moved by its new chart's matrix and offset where its switch is set, kept otherwise. -/
def movedRows (x1 : S4096.Idx → BitVec 32) (h : ∀ i, (x1 i).toNat < 1024) (x2 : S4096.Idx → BitVec 32) (x3 x4 : FVec Ideal S4096x64 .f32)
    (x6 : FVec Ideal S1024x64x64 .f32) (x7 : FVec Ideal S1024x64 .f32) : FVec Ideal S4096x64 .f32 := fun i =>
  secondRow (x2 (ix1 (i 0 : Fin 4096))) (fun d e => x6 (ix3 ⟨(x1 (ix1 (i 0 : Fin 4096))).toNat, h _⟩ d e))
    (fun d => x7 (ix2 ⟨(x1 (ix1 (i 0 : Fin 4096))).toNat, h _⟩ d)) (fun e => x3 (ix2 (i 0 : Fin 4096) e)) (fun d => x4 (ix2 (i 0 : Fin 4096) d)) (i 1 : Fin 64)

/-- Row `j` of line `t` is a row of the table. -/
theorem lane_lt (t : Fin 256) (j : Fin 16) : 16 * t.val + j.val < 4096 := by omega

/-- The chosen charts: sixteen to a row, in the first sixteen lanes. -/
def chosen (x0 x1 x2 : S4096.Idx → BitVec 32) : S256x1x128.Idx → BitVec 32 := fun i =>
  spread (fun j => Scalar.select (Scalar.cmpi .sgt (x2 (ix1 ⟨16 * (i 0).val + j.val, lane_lt (i 0) j⟩)) 0#32)
    (x1 (ix1 ⟨16 * (i 0).val + j.val, lane_lt (i 0) j⟩)) (x0 (ix1 ⟨16 * (i 0).val + j.val, lane_lt (i 0) j⟩))) (i 2 : Fin 128)

variable (m : (ℓ : Loc nD τ sig) → Buf (Elt Ideal) ℓ) (ρ : Dev nD → PrngReg)
variable (hO : Ok m) (c : Dev nD)

/-- The sixteen matrices of a point. -/
def matsAt (t : Fin (cfgM m hO).N) : Fin 16 → Vec Ideal S1x64x64 .f32 :=
  ![iblk m hO c 0 t, iblk m hO c 1 t, iblk m hO c 2 t, iblk m hO c 3 t, iblk m hO c 4 t, iblk m hO c 5 t, iblk m hO c 6 t, iblk m hO c 7 t, iblk m hO c 8 t, iblk m hO c 9 t, iblk m hO c 10 t, iblk m hO c 11 t, iblk m hO c 12 t, iblk m hO c 13 t, iblk m hO c 14 t, iblk m hO c 15 t]

/-- The sixteen blocks of parameters of a point. -/
def parsAt (t : Fin (cfgM m hO).N) : Fin 16 → Vec Ideal S1x1x256 .f32 :=
  ![iblk m hO c 16 t, iblk m hO c 17 t, iblk m hO c 18 t, iblk m hO c 19 t, iblk m hO c 20 t, iblk m hO c 21 t, iblk m hO c 22 t, iblk m hO c 23 t, iblk m hO c 24 t, iblk m hO c 25 t, iblk m hO c 26 t, iblk m hO c 27 t, iblk m hO c 28 t, iblk m hO c 29 t, iblk m hO c 30 t, iblk m hO c 31 t]

set_option maxHeartbeats 4000000 in
/-- Each is the matrix of its row's new chart. -/
theorem matsAt_apply (t : Fin (cfgM m hO).N) (h : ∀ i, (tbl m 1 i : BitVec 32).toNat < 1024) (r : Fin 16) (d e : Fin 64) :
    matsAt m hO c t r (ix3 0 d e)
      = (m ((c : Thread nD τ).loc main_arg6) : FVec Ideal S1024x64x64 .f32) (ix3 ⟨(word (tbl m 1) (grid0.coords t) r).toNat, h _⟩ d e) := by
  obtain ⟨k, hk⟩ := r
  interval_cases k
  · exact mat_blk0 m hO c t h d e
  · exact mat_blk1 m hO c t h d e
  · exact mat_blk2 m hO c t h d e
  · exact mat_blk3 m hO c t h d e
  · exact mat_blk4 m hO c t h d e
  · exact mat_blk5 m hO c t h d e
  · exact mat_blk6 m hO c t h d e
  · exact mat_blk7 m hO c t h d e
  · exact mat_blk8 m hO c t h d e
  · exact mat_blk9 m hO c t h d e
  · exact mat_blk10 m hO c t h d e
  · exact mat_blk11 m hO c t h d e
  · exact mat_blk12 m hO c t h d e
  · exact mat_blk13 m hO c t h d e
  · exact mat_blk14 m hO c t h d e
  · exact mat_blk15 m hO c t h d e

set_option maxHeartbeats 4000000 in
/-- The first sixty-four lanes of each are the offset of its row's new chart. -/
theorem parsAt_apply (t : Fin (cfgM m hO).N) (h : ∀ i, (tbl m 1 i : BitVec 32).toNat < 1024) (r : Fin 16) (d : Fin 64) :
    parsAt m hO c t r (ix3 0 0 ⟨d.val, by omega⟩)
      = (m ((c : Thread nD τ).loc main_arg7) : FVec Ideal S1024x64 .f32) (ix2 ⟨(word (tbl m 1) (grid0.coords t) r).toNat, h _⟩ d) := by
  obtain ⟨k, hk⟩ := r
  interval_cases k
  · exact par_blk0 m hO c t h d
  · exact par_blk1 m hO c t h d
  · exact par_blk2 m hO c t h d
  · exact par_blk3 m hO c t h d
  · exact par_blk4 m hO c t h d
  · exact par_blk5 m hO c t h d
  · exact par_blk6 m hO c t h d
  · exact par_blk7 m hO c t h d
  · exact par_blk8 m hO c t h d
  · exact par_blk9 m hO c t h d
  · exact par_blk10 m hO c t h d
  · exact par_blk11 m hO c t h d
  · exact par_blk12 m hO c t h d
  · exact par_blk13 m hO c t h d
  · exact par_blk14 m hO c t h d
  · exact par_blk15 m hO c t h d

set_option maxHeartbeats 4000000 in
/-- A point's block of rows, from the blocks it is given. -/
theorem after_rows_blocks (t : Fin (cfgM m hO).N) (r : Fin 16) (d : Fin 64) :
    (outsAt0 m hO c t).1 (ix2 r d) = secondRow (word (tbl m 2) (grid0.coords t) r) (fun d e => matsAt m hO c t r (ix3 0 d e))
      (fun d => parsAt m hO c t r (ix3 0 0 ⟨d.val, by omega⟩)) (fun e => (iblk m hO c 32 t : Vec Ideal S16x64 .f32) (ix2 r e))
      (fun d => (iblk m hO c 33 t : Vec Ideal S16x64 .f32) (ix2 r d)) d := by
  unfold outsAt0
  exact rows_out c (grid0.coords t) (ms0_0 m hO t) (hs0_0 m hO t) (ms0_1 m hO t) (hs0_1 m hO t) (ms0_2 m hO t) (hs0_2 m hO t) (ms0_3 m hO t) (hs0_3 m hO t) (ms0_4 m hO t) (hs0_4 m hO t) (ms0_5 m hO t) (hs0_5 m hO t) (ms0_6 m hO t) (hs0_6 m hO t) (ms0_7 m hO t) (hs0_7 m hO t) (ms0_8 m hO t) (hs0_8 m hO t) (ms0_9 m hO t) (hs0_9 m hO t) (ms0_10 m hO t) (hs0_10 m hO t) (ms0_11 m hO t) (hs0_11 m hO t) (ms0_12 m hO t) (hs0_12 m hO t) (ms0_13 m hO t) (hs0_13 m hO t) (ms0_14 m hO t) (hs0_14 m hO t) (ms0_15 m hO t) (hs0_15 m hO t) (ms0_16 m hO t) (hs0_16 m hO t) (ms0_17 m hO t) (hs0_17 m hO t) (ms0_18 m hO t) (hs0_18 m hO t) (ms0_19 m hO t) (hs0_19 m hO t) (ms0_20 m hO t) (hs0_20 m hO t) (ms0_21 m hO t) (hs0_21 m hO t) (ms0_22 m hO t) (hs0_22 m hO t) (ms0_23 m hO t) (hs0_23 m hO t) (ms0_24 m hO t) (hs0_24 m hO t) (ms0_25 m hO t) (hs0_25 m hO t) (ms0_26 m hO t) (hs0_26 m hO t) (ms0_27 m hO t) (hs0_27 m hO t) (ms0_28 m hO t) (hs0_28 m hO t) (ms0_29 m hO t) (hs0_29 m hO t) (ms0_30 m hO t) (hs0_30 m hO t) (ms0_31 m hO t) (hs0_31 m hO t) (ms0_32 m hO t) (hs0_32 m hO t) (ms0_33 m hO t) (hs0_33 m hO t) (ms0_34 m hO t) (hs0_34 m hO t) (ms0_35 m hO t) (hs0_35 m hO t) (matsAt m hO c t) (parsAt m hO c t) (iblk m hO c 32 t) (iblk m hO c 33 t) (tbl m 0) (tbl m 1) (tbl m 2) r d

/-- A point's block of rows. -/
theorem after_rows (t : Fin (cfgM m hO).N) (h : ∀ i, (tbl m 1 i : BitVec 32).toNat < 1024) (r : Fin 16) (d : Fin 64) :
    (outsAt0 m hO c t).1 (ix2 r d) = movedRows (tbl m 1) h (tbl m 2) (m ((c : Thread nD τ).loc main_arg3)) (m ((c : Thread nD τ).loc main_arg4))
      (m ((c : Thread nD τ).loc main_arg6)) (m ((c : Thread nD τ).loc main_arg7)) (ix2 ⟨16 * (grid0.coords t 0).val + r.val, row_lt _ r⟩ d) := by
  refine (after_rows_blocks m hO c t r d).trans ?_
  have e1 : (fun d e => matsAt m hO c t r (ix3 0 d e)) = _ := funext fun d => funext fun e => matsAt_apply m hO c t h r d e
  have e2 : (fun d : Fin 64 => parsAt m hO c t r (ix3 0 0 ⟨d.val, by omega⟩)) = _ := funext fun d => parsAt_apply m hO c t h r d
  have e3 : (fun e => (iblk m hO c 32 t : Vec Ideal S16x64 .f32) (ix2 r e)) = _ := funext fun e => row_blk32 m hO c t r e
  have e4 : (fun e => (iblk m hO c 33 t : Vec Ideal S16x64 .f32) (ix2 r e)) = _ := funext fun e => row_blk33 m hO c t r e
  rw [e1, e2, e3, e4]
  rfl

set_option maxHeartbeats 4000000 in
/-- Where a point's block of rows lies. -/
theorem row_index (t : Fin (cfgM m hO).N) (r : Fin 16) (d : Fin 64) :
    ((((cfgM m hO).win 34).rect t).emb (ix2 r d) : S4096x64.Idx) = ix2 ⟨16 * (grid0.coords t 0).val + r.val, row_lt _ r⟩ d := by
  refine funext fun a => Fin.ext ?_
  match a with
  | ⟨0, _⟩ =>
    refine (((cfgM m hO).win 34).rect_emb_val t (ix2 r d) (0 : Fin 2)).trans ?_
    show (BitVec.ofNat 32 (grid0.coords t 0).val).toNat * 16 + r.val = 16 * (grid0.coords t 0).val + r.val
    have ha : (grid0.coords t 0).val < 256 := (grid0.coords t 0).isLt
    rw [BitVec.toNat_ofNat]; omega
  | ⟨1, _⟩ =>
    refine (((cfgM m hO).win 34).rect_emb_val t (ix2 r d) (1 : Fin 2)).trans ?_
    show 0 * 64 + d.val = d.val; omega

set_option maxHeartbeats 4000000 in
/-- Where a point's row of charts lies. -/
theorem lane_index (t : Fin (cfgM m hO).N) (l : Fin 128) :
    ((((cfgM m hO).win 35).rect t).emb (ix3 0 0 l) : S256x1x128.Idx) = ix3 (grid0.coords t 0) 0 l := by
  refine funext fun a => Fin.ext ?_
  match a with
  | ⟨0, _⟩ =>
    refine (((cfgM m hO).win 35).rect_emb_val t (ix3 0 0 l) (0 : Fin 3)).trans ?_
    show (BitVec.ofNat 32 (grid0.coords t 0).val).toNat * 1 + 0 = (grid0.coords t 0).val
    have ha : (grid0.coords t 0).val < 256 := (grid0.coords t 0).isLt
    rw [BitVec.toNat_ofNat]; omega
  | ⟨1, _⟩ => exact ((cfgM m hO).win 35).rect_emb_val t (ix3 0 0 l) (1 : Fin 3)
  | ⟨2, _⟩ =>
    refine (((cfgM m hO).win 35).rect_emb_val t (ix3 0 0 l) (2 : Fin 3)).trans ?_
    show 0 * 128 + l.val = l.val; omega

set_option maxHeartbeats 4000000 in
/-- A point's row of charts, from the tables. -/
theorem after_lanes_tables (t : Fin (cfgM m hO).N) (l : Fin 128) :
    (outsAt0 m hO c t).2 (ix3 0 0 l)
      = spread (fun j => Scalar.select (Scalar.cmpi .sgt (word (tbl m 2) (grid0.coords t) j) 0#32) (word (tbl m 1) (grid0.coords t) j)
          (word (tbl m 0) (grid0.coords t) j)) l := by
  unfold outsAt0
  dsimp only
  exact lanes_out c (grid0.coords t) (ms0_0 m hO t) (hs0_0 m hO t) (ms0_1 m hO t) (hs0_1 m hO t) (ms0_2 m hO t) (hs0_2 m hO t) (ms0_3 m hO t) (hs0_3 m hO t) (ms0_4 m hO t) (hs0_4 m hO t) (ms0_5 m hO t) (hs0_5 m hO t) (ms0_6 m hO t) (hs0_6 m hO t) (ms0_7 m hO t) (hs0_7 m hO t) (ms0_8 m hO t) (hs0_8 m hO t) (ms0_9 m hO t) (hs0_9 m hO t) (ms0_10 m hO t) (hs0_10 m hO t) (ms0_11 m hO t) (hs0_11 m hO t) (ms0_12 m hO t) (hs0_12 m hO t) (ms0_13 m hO t) (hs0_13 m hO t) (ms0_14 m hO t) (hs0_14 m hO t) (ms0_15 m hO t) (hs0_15 m hO t) (ms0_16 m hO t) (hs0_16 m hO t) (ms0_17 m hO t) (hs0_17 m hO t) (ms0_18 m hO t) (hs0_18 m hO t) (ms0_19 m hO t) (hs0_19 m hO t) (ms0_20 m hO t) (hs0_20 m hO t) (ms0_21 m hO t) (hs0_21 m hO t) (ms0_22 m hO t) (hs0_22 m hO t) (ms0_23 m hO t) (hs0_23 m hO t) (ms0_24 m hO t) (hs0_24 m hO t) (ms0_25 m hO t) (hs0_25 m hO t) (ms0_26 m hO t) (hs0_26 m hO t) (ms0_27 m hO t) (hs0_27 m hO t) (ms0_28 m hO t) (hs0_28 m hO t) (ms0_29 m hO t) (hs0_29 m hO t) (ms0_30 m hO t) (hs0_30 m hO t) (ms0_31 m hO t) (hs0_31 m hO t) (ms0_32 m hO t) (hs0_32 m hO t) (ms0_33 m hO t) (hs0_33 m hO t) (ms0_34 m hO t) (hs0_34 m hO t) (ms0_35 m hO t) (hs0_35 m hO t) (matsAt m hO c t) (parsAt m hO c t) (iblk m hO c 32 t) (iblk m hO c 33 t) (tbl m 0) (tbl m 1) (tbl m 2) l

/-- A point's row of charts. -/
theorem after_lanes (t : Fin (cfgM m hO).N) (l : Fin 128) :
    (outsAt0 m hO c t).2 (ix3 0 0 l) = chosen (tbl m 0) (tbl m 1) (tbl m 2) (ix3 (grid0.coords t 0) 0 l) :=
  (after_lanes_tables m hO c t l).trans rfl

set_option maxHeartbeats 4000000 in
/-- What a point writes back is its block of the moved rows. -/
theorem flushed_rows (t : Fin (cfgM m hO).N) (h : ∀ i, (tbl m 1 i : BitVec 32).toNat < 1024) :
    (dats m hO 0 c).flushed 34 t = (((cfgM m hO).win 34).blk t).view.read (Elt Ideal)
      (movedRows (tbl m 1) h (tbl m 2) (m ((c : Thread nD τ).loc main_arg3)) (m ((c : Thread nD τ).loc main_arg4))
        (m ((c : Thread nD τ).loc main_arg6)) (m ((c : Thread nD τ).loc main_arg7))) := by
  show ((cfgM m hO).win 34).cut (grid0.coords t) ((dats m hO 0 c).after 34 t) = _
  rw [after0_34]
  funext (y : S16x64.Idx)
  obtain ⟨r, d, rfl⟩ : ∃ (r : Fin 16) (d : Fin 64), y = ix2 r d := ⟨y 0, y 1, funext fun a => by
    match a with
    | ⟨0, _⟩ => rfl
    | ⟨1, _⟩ => rfl⟩
  show (outsAt0 m hO c t).1 (ix2 r d) = movedRows (tbl m 1) h (tbl m 2) (m ((c : Thread nD τ).loc main_arg3)) (m ((c : Thread nD τ).loc main_arg4))
        (m ((c : Thread nD τ).loc main_arg6)) (m ((c : Thread nD τ).loc main_arg7)) ((((cfgM m hO).win 34).rect t).emb (ix2 r d))
  exact (after_rows m hO c t h r d).trans (congrArg _ (row_index m hO t r d).symm)

set_option maxHeartbeats 4000000 in
/-- What a point writes back is its row of the chosen charts. -/
theorem flushed_lanes (t : Fin (cfgM m hO).N) :
    (dats m hO 0 c).flushed 35 t = (((cfgM m hO).win 35).blk t).view.read (Elt Ideal) (chosen (tbl m 0) (tbl m 1) (tbl m 2)) := by
  show ((cfgM m hO).win 35).cut (grid0.coords t) ((dats m hO 0 c).after 35 t) = _
  rw [after0_35]
  funext (y : S1x1x128.Idx)
  obtain ⟨l, rfl⟩ : ∃ l : Fin 128, y = ix3 0 0 l := ⟨y 2, funext fun a => by
    match a with
    | ⟨0, _⟩ => exact Fin.ext (by have := (y 0).isLt; change (y 0).val < 1 at this; show (y 0).val = 0; omega)
    | ⟨1, _⟩ => exact Fin.ext (by have := (y 1).isLt; change (y 1).val < 1 at this; show (y 1).val = 0; omega)
    | ⟨2, _⟩ => rfl⟩
  show (outsAt0 m hO c t).2 (ix3 0 0 l) = chosen (tbl m 0) (tbl m 1) (tbl m 2) ((((cfgM m hO).win 35).rect t).emb (ix3 0 0 l))
  exact (after_lanes m hO c t l).trans (congrArg _ (lane_index m hO t l).symm)

/-- A point holding a given first coordinate. -/
theorem point_of (a : Nat) (ha : a < 256) : ∃ t : Fin grid0.N, (grid0.coords t 0).val = a := ⟨⟨a, ha⟩, coord _⟩

set_option maxHeartbeats 4000000 in
/-- Every entry of the rows is in some point's block. -/
theorem cover_rows (i : S4096x64.Idx) : ∃ t : Fin (cfgM m hO).N, ((cfgM m hO).win 34).flush t = true ∧ i ∈ (((cfgM m hO).win 34).blk t).view.set := by
  have h0 : (i 0).val < 4096 := (i 0).isLt
  have h1 : (i 1).val < 64 := (i 1).isLt
  obtain ⟨t, ht⟩ := point_of ((i 0).val / 16) (by omega)
  refine ⟨t, flush0_34 _ t, ?_⟩
  have e : (((cfgM m hO).win 34).blk t).view.emb (ix2 (⟨(i 0).val % 16, Nat.mod_lt _ (by omega)⟩ : Fin 16) (⟨(i 1).val, h1⟩ : Fin 64)) = i :=
    (row_index m hO t ⟨(i 0).val % 16, Nat.mod_lt _ (by omega)⟩ ⟨(i 1).val, h1⟩).trans (funext fun a => Fin.ext (by
      match a with
      | ⟨0, _⟩ =>
        show 16 * (grid0.coords t 0).val + (i 0).val % 16 = (i 0).val
        rw [ht]; omega
      | ⟨1, _⟩ => rfl))
  exact e ▸ View.emb_mem_set _ _

set_option maxHeartbeats 4000000 in
/-- Every lane is in some point's row. -/
theorem cover_lanes (i : S256x1x128.Idx) : ∃ t : Fin (cfgM m hO).N, ((cfgM m hO).win 35).flush t = true ∧ i ∈ (((cfgM m hO).win 35).blk t).view.set := by
  have h0 : (i 0).val < 256 := (i 0).isLt
  have h1 : (i 1).val < 1 := (i 1).isLt
  have h2 : (i 2).val < 128 := (i 2).isLt
  obtain ⟨t, ht⟩ := point_of (i 0).val h0
  refine ⟨t, flush0_35 _ t, ?_⟩
  have e : (((cfgM m hO).win 35).blk t).view.emb (ix3 (0 : Fin 1) (0 : Fin 1) (⟨(i 2).val, h2⟩ : Fin 128)) = i :=
    (lane_index m hO t ⟨(i 2).val, h2⟩).trans (funext fun a => Fin.ext (by
      match a with
      | ⟨0, _⟩ => exact ht
      | ⟨1, _⟩ => show 0 = (i 1).val; omega
      | ⟨2, _⟩ => rfl))
  exact e ▸ View.emb_mem_set _ _

/-- The call leaves the moved rows and the chosen charts, its arguments unchanged. -/
theorem two_run (h : ∀ i, (tbl m 1 i : BitVec 32).toNat < 1024) :
    θ_run defs (onTc (τ := τ) (main (F := Ideal))) ⟨m, fun _ => 0, ρ⟩ fun r => ∀ c : Dev nD,
      r.2.mem ((c : Thread nD τ).loc main_v4_0) = movedRows (tbl m 1) h (tbl m 2) (m ((c : Thread nD τ).loc main_arg3)) (m ((c : Thread nD τ).loc main_arg4))
        (m ((c : Thread nD τ).loc main_arg6)) (m ((c : Thread nD τ).loc main_arg7))
      ∧ r.2.mem ((c : Thread nD τ).loc main_v4_1) = chosen (tbl m 0) (tbl m 1) (tbl m 2) :=
  (θ_run defs _ _).mono (fun r hr c =>
    ⟨((hr c).1 34).trans ((dats m (ok_of_range _ h) 0 c).arrAt_eq_of_cover 34 _ (fun t _ => flushed_rows m _ c t h) (cover_rows m _)),
      ((hr c).1 35).trans ((dats m (ok_of_range _ h) 0 c).arrAt_eq_of_cover 35 _ (fun t _ => flushed_lanes m _ c t) (cover_lanes m _))⟩)
    (run_main m ρ (ok_of_range _ h))

end Cert.TwoIdeal.Kit

end
-- ==== Proof.TwoReferenceIdealRun.lean ====
/-
  The host program `TwoReferenceIdeal` as the list of its operations, and its run: every result buffer ends at the operations'
  composed value of the arguments, the arguments unchanged.
-/
module

public import proofs.«01_k».proof.Proof.Gen.TwoReferenceIdeal
public import Idealize.ShloMosaic.Lib.StableHlo.Run

@[expose] public section

noncomputable section

namespace Cert.TwoReferenceIdeal.Value

open Cert.TwoReferenceIdeal Cert.TwoReferenceIdeal.Gen Idealize.ShloMosaic Idealize.ShloMosaic.TcCoe Idealize.SL.Sem Idealize.ShloMosaic.StableHlo

variable {F : FTy → Type} [FloatOps F]

/-- @main's 59 operations, in order (a called function's operations stand in its call's place, spelt `TRef.…`). -/
abbrev ops : List (HloOp τ sig (Elt F)) :=
  [ nullary main_c (constantI S_ 32 0#32),
    unary main_c main_v0 (broadcastInDim S4096 ![] bcast_S_S4096 : (⟨S_, .i32⟩ : BufTy).Contents (Elt F) → (⟨S4096, .i32⟩ : BufTy).Contents (Elt F)),
    binary main_arg2 main_v0 main_v1 (cmpi .sgt : (⟨S4096, .i32⟩ : BufTy).Contents (Elt F) → (⟨S4096, .i32⟩ : BufTy).Contents (Elt F) → (⟨S4096, .i1⟩ : BufTy).Contents (Elt F)),
    TRef.nullary (TRef.of (T := ⟨S_, .i32⟩) main_call0_c) (constantI S_ 32 0#32),
    TRef.unary (TRef.of (T := ⟨S_, .i32⟩) main_call0_c) (TRef.of (T := ⟨S4096, .i32⟩) main_call0_v0) (broadcastInDim S4096 ![] bcast_S_S4096),
    TRef.binary (TRef.of (T := ⟨S4096, .i32⟩) main_arg1) (TRef.of (T := ⟨S4096, .i32⟩) main_call0_v0) (TRef.of (T := ⟨S4096, .i1⟩) main_call0_v1) (cmpi .slt),
    TRef.nullary (TRef.of (T := ⟨S_, .i32⟩) main_call0_c_0) (constantI S_ 32 1024#32),
    TRef.unary (TRef.of (T := ⟨S_, .i32⟩) main_call0_c_0) (TRef.of (T := ⟨S4096, .i32⟩) main_call0_v2) (broadcastInDim S4096 ![] bcast_S_S4096),
    TRef.binary (TRef.of (T := ⟨S4096, .i32⟩) main_arg1) (TRef.of (T := ⟨S4096, .i32⟩) main_call0_v2) (TRef.of (T := ⟨S4096, .i32⟩) main_call0_v3) addi,
    TRef.ternary (TRef.of (T := ⟨S4096, .i1⟩) main_call0_v1) (TRef.of (T := ⟨S4096, .i32⟩) main_call0_v3) (TRef.of (T := ⟨S4096, .i32⟩) main_arg1) (TRef.of (T := ⟨S4096, .i32⟩) main_call0_v4) select,
    TRef.unary (TRef.of (T := ⟨S4096, .i32⟩) main_call0_v4) (TRef.of (T := ⟨S4096x1, .i32⟩) main_call0_v5) (broadcastInDim S4096x1 ![0] bcast_S4096_S4096x1_0),
    TRef.nullary (TRef.of (T := ⟨S1, .i32⟩) main_call0_c_1) (constantI S1 32 1023#32),
    TRef.nullary (TRef.of (T := ⟨S_, .i32⟩) main_call0_c_2) (constantI S_ 32 0#32),
    TRef.unary (TRef.of (T := ⟨S_, .i32⟩) main_call0_c_2) (TRef.of (T := ⟨S4096x1, .i32⟩) main_call0_v6) (broadcastInDim S4096x1 ![] bcast_S_S4096x1),
    TRef.binary (TRef.of (T := ⟨S4096x1, .i32⟩) main_call0_v5) (TRef.of (T := ⟨S4096x1, .i32⟩) main_call0_v6) (TRef.of (T := ⟨S4096x1, .i1⟩) main_call0_v7) (cmpi .sge),
    TRef.unary (TRef.of (T := ⟨S1, .i32⟩) main_call0_c_1) (TRef.of (T := ⟨S1x1, .i32⟩) main_call0_v8) (broadcastInDim S1x1 ![1] bcast_S1_S1x1_1),
    TRef.unary (TRef.of (T := ⟨S1x1, .i32⟩) main_call0_v8) (TRef.of (T := ⟨S4096x1, .i32⟩) main_call0_v9) (broadcastInDim S4096x1 ![0, 1] bcast_S1x1_S4096x1_0_1),
    TRef.binary (TRef.of (T := ⟨S4096x1, .i32⟩) main_call0_v5) (TRef.of (T := ⟨S4096x1, .i32⟩) main_call0_v9) (TRef.of (T := ⟨S4096x1, .i1⟩) main_call0_v10) (cmpi .sle),
    TRef.binary (TRef.of (T := ⟨S4096x1, .i1⟩) main_call0_v7) (TRef.of (T := ⟨S4096x1, .i1⟩) main_call0_v10) (TRef.of (T := ⟨S4096x1, .i1⟩) main_call0_v11) andi,
    TRef.nullary (TRef.of (T := ⟨S_, .i1⟩) main_call0_c_3) (constantI S_ 1 1#1),
    TRef.binary (TRef.of (T := ⟨S4096x1, .i1⟩) main_call0_v11) (TRef.of (T := ⟨S_, .i1⟩) main_call0_c_3) (TRef.of (T := ⟨S4096, .i1⟩) main_call0_v12) (fun x v => Host.reduce IntOp.andi x v reducesTo_S4096x1_S4096_d1 h_S_),
    TRef.binary (TRef.of (T := ⟨S1024x64x64, .f32⟩) main_arg6) (TRef.of (T := ⟨S4096x1, .i32⟩) main_call0_v5) (TRef.of (T := ⟨S4096x64x64, .f32⟩) main_call0_v13) (fun x i => Host.gather gather_S1024x64x64_S4096x1_S4096x64x64_12_0_n_n_0_1_16464 x i),
    TRef.unary (TRef.of (T := ⟨S4096, .i1⟩) main_call0_v12) (TRef.of (T := ⟨S4096x64x64, .i1⟩) main_call0_v14) (broadcastInDim S4096x64x64 ![0] bcast_S4096_S4096x64x64_0),
    TRef.nullary (TRef.of (T := ⟨S_, .f32⟩) main_call0_cst) (constant S_ .f32 0x7FC00000#32),
    TRef.unary (TRef.of (T := ⟨S_, .f32⟩) main_call0_cst) (TRef.of (T := ⟨S4096x64x64, .f32⟩) main_call0_v15) (broadcastInDim S4096x64x64 ![] bcast_S_S4096x64x64),
    TRef.ternary (TRef.of (T := ⟨S4096x64x64, .i1⟩) main_call0_v14) (TRef.of (T := ⟨S4096x64x64, .f32⟩) main_call0_v13) (TRef.of (T := ⟨S4096x64x64, .f32⟩) main_call0_v15) (TRef.of (T := ⟨S4096x64x64, .f32⟩) main_v2) select,
    TRef.nullary (TRef.of (T := ⟨S_, .i32⟩) main_call1_c) (constantI S_ 32 0#32),
    TRef.unary (TRef.of (T := ⟨S_, .i32⟩) main_call1_c) (TRef.of (T := ⟨S4096, .i32⟩) main_call1_v0) (broadcastInDim S4096 ![] bcast_S_S4096),
    TRef.binary (TRef.of (T := ⟨S4096, .i32⟩) main_arg1) (TRef.of (T := ⟨S4096, .i32⟩) main_call1_v0) (TRef.of (T := ⟨S4096, .i1⟩) main_call1_v1) (cmpi .slt),
    TRef.nullary (TRef.of (T := ⟨S_, .i32⟩) main_call1_c_0) (constantI S_ 32 1024#32),
    TRef.unary (TRef.of (T := ⟨S_, .i32⟩) main_call1_c_0) (TRef.of (T := ⟨S4096, .i32⟩) main_call1_v2) (broadcastInDim S4096 ![] bcast_S_S4096),
    TRef.binary (TRef.of (T := ⟨S4096, .i32⟩) main_arg1) (TRef.of (T := ⟨S4096, .i32⟩) main_call1_v2) (TRef.of (T := ⟨S4096, .i32⟩) main_call1_v3) addi,
    TRef.ternary (TRef.of (T := ⟨S4096, .i1⟩) main_call1_v1) (TRef.of (T := ⟨S4096, .i32⟩) main_call1_v3) (TRef.of (T := ⟨S4096, .i32⟩) main_arg1) (TRef.of (T := ⟨S4096, .i32⟩) main_call1_v4) select,
    TRef.unary (TRef.of (T := ⟨S4096, .i32⟩) main_call1_v4) (TRef.of (T := ⟨S4096x1, .i32⟩) main_call1_v5) (broadcastInDim S4096x1 ![0] bcast_S4096_S4096x1_0),
    TRef.nullary (TRef.of (T := ⟨S1, .i32⟩) main_call1_c_1) (constantI S1 32 1023#32),
    TRef.nullary (TRef.of (T := ⟨S_, .i32⟩) main_call1_c_2) (constantI S_ 32 0#32),
    TRef.unary (TRef.of (T := ⟨S_, .i32⟩) main_call1_c_2) (TRef.of (T := ⟨S4096x1, .i32⟩) main_call1_v6) (broadcastInDim S4096x1 ![] bcast_S_S4096x1),
    TRef.binary (TRef.of (T := ⟨S4096x1, .i32⟩) main_call1_v5) (TRef.of (T := ⟨S4096x1, .i32⟩) main_call1_v6) (TRef.of (T := ⟨S4096x1, .i1⟩) main_call1_v7) (cmpi .sge),
    TRef.unary (TRef.of (T := ⟨S1, .i32⟩) main_call1_c_1) (TRef.of (T := ⟨S1x1, .i32⟩) main_call1_v8) (broadcastInDim S1x1 ![1] bcast_S1_S1x1_1),
    TRef.unary (TRef.of (T := ⟨S1x1, .i32⟩) main_call1_v8) (TRef.of (T := ⟨S4096x1, .i32⟩) main_call1_v9) (broadcastInDim S4096x1 ![0, 1] bcast_S1x1_S4096x1_0_1),
    TRef.binary (TRef.of (T := ⟨S4096x1, .i32⟩) main_call1_v5) (TRef.of (T := ⟨S4096x1, .i32⟩) main_call1_v9) (TRef.of (T := ⟨S4096x1, .i1⟩) main_call1_v10) (cmpi .sle),
    TRef.binary (TRef.of (T := ⟨S4096x1, .i1⟩) main_call1_v7) (TRef.of (T := ⟨S4096x1, .i1⟩) main_call1_v10) (TRef.of (T := ⟨S4096x1, .i1⟩) main_call1_v11) andi,
    TRef.nullary (TRef.of (T := ⟨S_, .i1⟩) main_call1_c_3) (constantI S_ 1 1#1),
    TRef.binary (TRef.of (T := ⟨S4096x1, .i1⟩) main_call1_v11) (TRef.of (T := ⟨S_, .i1⟩) main_call1_c_3) (TRef.of (T := ⟨S4096, .i1⟩) main_call1_v12) (fun x v => Host.reduce IntOp.andi x v reducesTo_S4096x1_S4096_d1 h_S_),
    TRef.binary (TRef.of (T := ⟨S1024x64, .f32⟩) main_arg7) (TRef.of (T := ⟨S4096x1, .i32⟩) main_call1_v5) (TRef.of (T := ⟨S4096x64, .f32⟩) main_call1_v13) (fun x i => Host.gather gather_S1024x64_S4096x1_S4096x64_1_0_n_n_0_1_164 x i),
    TRef.unary (TRef.of (T := ⟨S4096, .i1⟩) main_call1_v12) (TRef.of (T := ⟨S4096x64, .i1⟩) main_call1_v14) (broadcastInDim S4096x64 ![0] bcast_S4096_S4096x64_0),
    TRef.nullary (TRef.of (T := ⟨S_, .f32⟩) main_call1_cst) (constant S_ .f32 0x7FC00000#32),
    TRef.unary (TRef.of (T := ⟨S_, .f32⟩) main_call1_cst) (TRef.of (T := ⟨S4096x64, .f32⟩) main_call1_v15) (broadcastInDim S4096x64 ![] bcast_S_S4096x64),
    TRef.ternary (TRef.of (T := ⟨S4096x64, .i1⟩) main_call1_v14) (TRef.of (T := ⟨S4096x64, .f32⟩) main_call1_v13) (TRef.of (T := ⟨S4096x64, .f32⟩) main_call1_v15) (TRef.of (T := ⟨S4096x64, .f32⟩) main_v3) select,
    binary main_v2 main_arg3 main_v4 ((fun l r => Host.dotGeneral dot_S4096x64x64_S4096x64_S4096x64_2_1_1_n_0_0 none l r) : (⟨S4096x64x64, .f32⟩ : BufTy).Contents (Elt F) → (⟨S4096x64, .f32⟩ : BufTy).Contents (Elt F) → (⟨S4096x64, .f32⟩ : BufTy).Contents (Elt F)),
    binary main_v4 main_v3 main_v5 (addf : (⟨S4096x64, .f32⟩ : BufTy).Contents (Elt F) → (⟨S4096x64, .f32⟩ : BufTy).Contents (Elt F) → (⟨S4096x64, .f32⟩ : BufTy).Contents (Elt F)),
    TRef.ternary (TRef.of (T := ⟨S4096, .i1⟩) main_v1) (TRef.of (T := ⟨S4096, .i32⟩) main_arg1) (TRef.of (T := ⟨S4096, .i32⟩) main_arg0) (TRef.of (T := ⟨S4096, .i32⟩) main_v6) select,
    unary main_v1 main_v7 (broadcastInDim S4096x1 ![0] bcast_S4096_S4096x1_0 : (⟨S4096, .i1⟩ : BufTy).Contents (Elt F) → (⟨S4096x1, .i1⟩ : BufTy).Contents (Elt F)),
    TRef.unary (TRef.of (T := ⟨S4096x1, .i1⟩) main_v7) (TRef.of (T := ⟨S4096x64, .i1⟩) main_call3_v0) (broadcastInDim S4096x64 ![0, 1] bcast_S4096x1_S4096x64_0_1),
    TRef.ternary (TRef.of (T := ⟨S4096x64, .i1⟩) main_call3_v0) (TRef.of (T := ⟨S4096x64, .f32⟩) main_v5) (TRef.of (T := ⟨S4096x64, .f32⟩) main_arg4) (TRef.of (T := ⟨S4096x64, .f32⟩) main_v8) select,
    reshape main_v6 main_v9 (rfl : (.i32 : EltTy) = .i32) shapeCasts_S4096_S256x1x16,
    nullary main_c_0 (constantI S_ 32 0#32),
    TRef.unary (TRef.of (T := ⟨S_, .i32⟩) main_c_0) (TRef.of (T := ⟨S_, .i32⟩) main_call4_v0) id,
    TRef.binary (TRef.of (T := ⟨S256x1x16, .i32⟩) main_v9) (TRef.of (T := ⟨S_, .i32⟩) main_call4_v0) (TRef.of (T := ⟨S256x1x128, .i32⟩) main_v10) (fun x v => pad S256x1x128 ![0, 0, 0] ![0, 0, 112] ![0, 0, 0] x v pads_S256x1x16_S256x1x128_000_000_01120 h_S_) ]

set_option maxRecDepth 8192 in
/-- The program is its list of operations in order. -/
theorem main_eq (c : Dev nD) : main (F := F) c = seq ops := rfl
/-- No buffer is scoped. -/
theorem scopedRefs_eq : (Finset.univ.filter fun b : Ref sig .tc => b.isScoped) = ∅ := by decide
/-- No semaphore is scoped. -/
theorem scopedSems_eq : (Finset.univ.filter fun sm : SemLoc sig => sm.isScoped .tc) = ∅ := by decide
set_option maxRecDepth 8192 in
/-- Every operation touches buffers of the program alone. -/
theorem ops_sub : (ops : List (HloOp τ sig (Elt F))).Forall fun op => op.bufs ⊆ tcRefs τ sig :=
  ⟨nullary_bufs_sub .., unary_bufs_sub .., binary_bufs_sub .., nullary_bufs_sub .., unary_bufs_sub .., binary_bufs_sub .., nullary_bufs_sub .., unary_bufs_sub .., binary_bufs_sub .., ternary_bufs_sub .., unary_bufs_sub .., nullary_bufs_sub .., nullary_bufs_sub .., unary_bufs_sub .., binary_bufs_sub .., unary_bufs_sub .., unary_bufs_sub .., binary_bufs_sub .., binary_bufs_sub .., nullary_bufs_sub .., binary_bufs_sub .., binary_bufs_sub .., unary_bufs_sub .., nullary_bufs_sub .., unary_bufs_sub .., ternary_bufs_sub .., nullary_bufs_sub .., unary_bufs_sub .., binary_bufs_sub .., nullary_bufs_sub .., unary_bufs_sub .., binary_bufs_sub .., ternary_bufs_sub .., unary_bufs_sub .., nullary_bufs_sub .., nullary_bufs_sub .., unary_bufs_sub .., binary_bufs_sub .., unary_bufs_sub .., unary_bufs_sub .., binary_bufs_sub .., binary_bufs_sub .., nullary_bufs_sub .., binary_bufs_sub .., binary_bufs_sub .., unary_bufs_sub .., nullary_bufs_sub .., unary_bufs_sub .., ternary_bufs_sub .., binary_bufs_sub .., binary_bufs_sub .., ternary_bufs_sub .., unary_bufs_sub .., unary_bufs_sub .., ternary_bufs_sub .., reshape_bufs_sub .., nullary_bufs_sub .., unary_bufs_sub .., binary_bufs_sub ..⟩

set_option maxRecDepth 8192 in
set_option maxHeartbeats 2000000 in
/-- On every device, for any float values, from any memory with zero counters: every weakly fair execution of
    @main terminates with each result at the operations' composed term of the arguments and the arguments
    unchanged. -/
theorem run (m : (ℓ : Loc nD τ sig) → Buf (Elt F) ℓ) (ρ : Dev nD → PrngReg) :
    θ_run defs (onTc (τ := τ) (main (F := F))) ⟨m, fun _ => 0, ρ⟩ fun r => ∀ c : Dev nD,
      r.2.mem ((c.tc : Thread nD τ).loc main_v8) = select (broadcastInDim S4096x64 ![0, 1] bcast_S4096x1_S4096x64_0_1 (broadcastInDim S4096x1 ![0] bcast_S4096_S4096x1_0 (cmpi .sgt (m ((c.tc : Thread nD τ).loc main_arg2)) (broadcastInDim S4096 ![] bcast_S_S4096 (constantI S_ 32 0#32))))) (addf (Host.dotGeneral dot_S4096x64x64_S4096x64_S4096x64_2_1_1_n_0_0 none (select (broadcastInDim S4096x64x64 ![0] bcast_S4096_S4096x64x64_0 (Host.reduce IntOp.andi (andi (cmpi .sge (broadcastInDim S4096x1 ![0] bcast_S4096_S4096x1_0 (select (cmpi .slt (m ((c.tc : Thread nD τ).loc main_arg1)) (broadcastInDim S4096 ![] bcast_S_S4096 (constantI S_ 32 0#32))) (addi (m ((c.tc : Thread nD τ).loc main_arg1)) (broadcastInDim S4096 ![] bcast_S_S4096 (constantI S_ 32 1024#32))) (m ((c.tc : Thread nD τ).loc main_arg1)))) (broadcastInDim S4096x1 ![] bcast_S_S4096x1 (constantI S_ 32 0#32))) (cmpi .sle (broadcastInDim S4096x1 ![0] bcast_S4096_S4096x1_0 (select (cmpi .slt (m ((c.tc : Thread nD τ).loc main_arg1)) (broadcastInDim S4096 ![] bcast_S_S4096 (constantI S_ 32 0#32))) (addi (m ((c.tc : Thread nD τ).loc main_arg1)) (broadcastInDim S4096 ![] bcast_S_S4096 (constantI S_ 32 1024#32))) (m ((c.tc : Thread nD τ).loc main_arg1)))) (broadcastInDim S4096x1 ![0, 1] bcast_S1x1_S4096x1_0_1 (broadcastInDim S1x1 ![1] bcast_S1_S1x1_1 (constantI S1 32 1023#32))))) (constantI S_ 1 1#1) reducesTo_S4096x1_S4096_d1 h_S_)) (Host.gather gather_S1024x64x64_S4096x1_S4096x64x64_12_0_n_n_0_1_16464 (m ((c.tc : Thread nD τ).loc main_arg6)) (broadcastInDim S4096x1 ![0] bcast_S4096_S4096x1_0 (select (cmpi .slt (m ((c.tc : Thread nD τ).loc main_arg1)) (broadcastInDim S4096 ![] bcast_S_S4096 (constantI S_ 32 0#32))) (addi (m ((c.tc : Thread nD τ).loc main_arg1)) (broadcastInDim S4096 ![] bcast_S_S4096 (constantI S_ 32 1024#32))) (m ((c.tc : Thread nD τ).loc main_arg1))))) (broadcastInDim S4096x64x64 ![] bcast_S_S4096x64x64 (constant S_ .f32 0x7FC00000#32))) (m ((c.tc : Thread nD τ).loc main_arg3))) (select (broadcastInDim S4096x64 ![0] bcast_S4096_S4096x64_0 (Host.reduce IntOp.andi (andi (cmpi .sge (broadcastInDim S4096x1 ![0] bcast_S4096_S4096x1_0 (select (cmpi .slt (m ((c.tc : Thread nD τ).loc main_arg1)) (broadcastInDim S4096 ![] bcast_S_S4096 (constantI S_ 32 0#32))) (addi (m ((c.tc : Thread nD τ).loc main_arg1)) (broadcastInDim S4096 ![] bcast_S_S4096 (constantI S_ 32 1024#32))) (m ((c.tc : Thread nD τ).loc main_arg1)))) (broadcastInDim S4096x1 ![] bcast_S_S4096x1 (constantI S_ 32 0#32))) (cmpi .sle (broadcastInDim S4096x1 ![0] bcast_S4096_S4096x1_0 (select (cmpi .slt (m ((c.tc : Thread nD τ).loc main_arg1)) (broadcastInDim S4096 ![] bcast_S_S4096 (constantI S_ 32 0#32))) (addi (m ((c.tc : Thread nD τ).loc main_arg1)) (broadcastInDim S4096 ![] bcast_S_S4096 (constantI S_ 32 1024#32))) (m ((c.tc : Thread nD τ).loc main_arg1)))) (broadcastInDim S4096x1 ![0, 1] bcast_S1x1_S4096x1_0_1 (broadcastInDim S1x1 ![1] bcast_S1_S1x1_1 (constantI S1 32 1023#32))))) (constantI S_ 1 1#1) reducesTo_S4096x1_S4096_d1 h_S_)) (Host.gather gather_S1024x64_S4096x1_S4096x64_1_0_n_n_0_1_164 (m ((c.tc : Thread nD τ).loc main_arg7)) (broadcastInDim S4096x1 ![0] bcast_S4096_S4096x1_0 (select (cmpi .slt (m ((c.tc : Thread nD τ).loc main_arg1)) (broadcastInDim S4096 ![] bcast_S_S4096 (constantI S_ 32 0#32))) (addi (m ((c.tc : Thread nD τ).loc main_arg1)) (broadcastInDim S4096 ![] bcast_S_S4096 (constantI S_ 32 1024#32))) (m ((c.tc : Thread nD τ).loc main_arg1))))) (broadcastInDim S4096x64 ![] bcast_S_S4096x64 (constant S_ .f32 0x7FC00000#32)))) (m ((c.tc : Thread nD τ).loc main_arg4))
      ∧ r.2.mem ((c.tc : Thread nD τ).loc main_v10) = pad S256x1x128 ![0, 0, 0] ![0, 0, 112] ![0, 0, 0] (shapeCast _ (select (cmpi .sgt (m ((c.tc : Thread nD τ).loc main_arg2)) (broadcastInDim S4096 ![] bcast_S_S4096 (constantI S_ 32 0#32))) (m ((c.tc : Thread nD τ).loc main_arg1)) (m ((c.tc : Thread nD τ).loc main_arg0))) shapeCasts_S4096_S256x1x16) (id (constantI S_ 32 0#32)) pads_S256x1x16_S256x1x128_000_000_01120 h_S_
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8) :=
  (θ_run defs _ _).mono (fun _ h c => ⟨(h c main_v8).trans (by simp only [ops, TRef.binary, TRef.nullary, TRef.ternary, TRef.unary, TRef.toBuf, TRef.ofBuf, cast_eq]; after_results_simp <;> rfl),
      (h c main_v10).trans (by simp only [ops, TRef.binary, TRef.nullary, TRef.ternary, TRef.unary, TRef.toBuf, TRef.ofBuf, cast_eq]; after_results_simp <;> rfl),
      (h c main_arg0).trans (by simp only [ops, TRef.binary, TRef.nullary, TRef.ternary, TRef.unary, TRef.toBuf, TRef.ofBuf, cast_eq]; after_results_simp <;> rfl),
      (h c main_arg1).trans (by simp only [ops, TRef.binary, TRef.nullary, TRef.ternary, TRef.unary, TRef.toBuf, TRef.ofBuf, cast_eq]; after_results_simp <;> rfl),
      (h c main_arg2).trans (by simp only [ops, TRef.binary, TRef.nullary, TRef.ternary, TRef.unary, TRef.toBuf, TRef.ofBuf, cast_eq]; after_results_simp <;> rfl),
      (h c main_arg3).trans (by simp only [ops, TRef.binary, TRef.nullary, TRef.ternary, TRef.unary, TRef.toBuf, TRef.ofBuf, cast_eq]; after_results_simp <;> rfl),
      (h c main_arg4).trans (by simp only [ops, TRef.binary, TRef.nullary, TRef.ternary, TRef.unary, TRef.toBuf, TRef.ofBuf, cast_eq]; after_results_simp <;> rfl),
      (h c main_arg5).trans (by simp only [ops, TRef.binary, TRef.nullary, TRef.ternary, TRef.unary, TRef.toBuf, TRef.ofBuf, cast_eq]; after_results_simp <;> rfl),
      (h c main_arg6).trans (by simp only [ops, TRef.binary, TRef.nullary, TRef.ternary, TRef.unary, TRef.toBuf, TRef.ofBuf, cast_eq]; after_results_simp <;> rfl),
      (h c main_arg7).trans (by simp only [ops, TRef.binary, TRef.nullary, TRef.ternary, TRef.unary, TRef.toBuf, TRef.ofBuf, cast_eq]; after_results_simp <;> rfl),
      (h c main_arg8).trans (by simp only [ops, TRef.binary, TRef.nullary, TRef.ternary, TRef.unary, TRef.toBuf, TRef.ofBuf, cast_eq]; after_results_simp <;> rfl)⟩)
    (run_seq scopedRefs_eq scopedSems_eq defs main (fun _ => ops) main_eq (fun _ => ops_sub) m ρ)

end Cert.TwoReferenceIdeal.Value

end
-- ==== Proof.TwoReferenceIdealRead.lean ====
/-
  The host program `TwoReferenceIdeal` one operation at a time: `val_b` is the value written to buffer `b` as a function of the
  arguments it depends on, `val_b_apply` that value at an index from its operands' values at an index.
-/
module

public import proofs.«01_k».proof.Proof.TwoReferenceIdealRun
public import Idealize.ShloMosaic.Lib.Pipeline.Value
public import Idealize.ShloMosaic.Lib.ValueIdx
public import Idealize.ShloMosaic.PureOps.Ideal.Laws

@[expose] public section

noncomputable section

namespace Cert.TwoReferenceIdeal.Read

open Cert.TwoReferenceIdeal Cert.TwoReferenceIdeal.Gen Idealize.ShloMosaic Idealize.ShloMosaic.TcCoe Idealize.SL.Sem Idealize.ShloMosaic.StableHlo

variable {F : FTy → Type} [FloatOps F]

def val_main_c : (⟨S_, .i32⟩ : BufTy).Contents (Elt F) :=
  constantI S_ 32 0#32
/-- The stage `c` of the reference, read at an index. -/
theorem val_main_c_apply (i : S_.Idx) :
    val_main_c (F := F) i = 0#32 := rfl

def val_main_v0 : (⟨S4096, .i32⟩ : BufTy).Contents (Elt F) :=
  broadcastInDim S4096 ![] bcast_S_S4096 (val_main_c (F := F))
abbrev idx_main_v0 (i : S4096.Idx) : S_.Idx := fun a => a.elim0
/-- The stage `v0` of the reference, read at an index. -/
theorem val_main_v0_apply (i : S4096.Idx) :
    val_main_v0 (F := F) i = val_main_c (F := F) (idx_main_v0 i) := by
  unfold val_main_v0
  generalize val_main_c (F := F) = y
  exact broadcastInDim_apply _ bcast_S_S4096 y i (idx_main_v0 i) (fun a => a.elim0)

def val_main_v1 (x2 : (⟨S4096, .i32⟩ : BufTy).Contents (Elt F)) : (⟨S4096, .i1⟩ : BufTy).Contents (Elt F) :=
  cmpi .sgt (x2) (val_main_v0 (F := F))
/-- The stage `v1` of the reference, read at an index. -/
theorem val_main_v1_apply (x2 : (⟨S4096, .i32⟩ : BufTy).Contents (Elt F)) (i : S4096.Idx) :
    val_main_v1 (F := F) x2 i = IntOp.cmpi .sgt (x2 i) (val_main_v0 (F := F) i) := rfl

def val_main_call0_c : (⟨S_, .i32⟩ : BufTy).Contents (Elt F) :=
  constantI S_ 32 0#32
/-- The stage `call0_c` of the reference, read at an index. -/
theorem val_main_call0_c_apply (i : S_.Idx) :
    val_main_call0_c (F := F) i = 0#32 := rfl

def val_main_call0_v0 : (⟨S4096, .i32⟩ : BufTy).Contents (Elt F) :=
  broadcastInDim S4096 ![] bcast_S_S4096 (val_main_call0_c (F := F))
abbrev idx_main_call0_v0 (i : S4096.Idx) : S_.Idx := fun a => a.elim0
/-- The stage `call0_v0` of the reference, read at an index. -/
theorem val_main_call0_v0_apply (i : S4096.Idx) :
    val_main_call0_v0 (F := F) i = val_main_call0_c (F := F) (idx_main_call0_v0 i) := by
  unfold val_main_call0_v0
  generalize val_main_call0_c (F := F) = y
  exact broadcastInDim_apply _ bcast_S_S4096 y i (idx_main_call0_v0 i) (fun a => a.elim0)

def val_main_call0_v1 (x1 : (⟨S4096, .i32⟩ : BufTy).Contents (Elt F)) : (⟨S4096, .i1⟩ : BufTy).Contents (Elt F) :=
  cmpi .slt (x1) (val_main_call0_v0 (F := F))
/-- The stage `call0_v1` of the reference, read at an index. -/
theorem val_main_call0_v1_apply (x1 : (⟨S4096, .i32⟩ : BufTy).Contents (Elt F)) (i : S4096.Idx) :
    val_main_call0_v1 (F := F) x1 i = IntOp.cmpi .slt (x1 i) (val_main_call0_v0 (F := F) i) := rfl

def val_main_call0_c_0 : (⟨S_, .i32⟩ : BufTy).Contents (Elt F) :=
  constantI S_ 32 1024#32
/-- The stage `call0_c_0` of the reference, read at an index. -/
theorem val_main_call0_c_0_apply (i : S_.Idx) :
    val_main_call0_c_0 (F := F) i = 1024#32 := rfl

def val_main_call0_v2 : (⟨S4096, .i32⟩ : BufTy).Contents (Elt F) :=
  broadcastInDim S4096 ![] bcast_S_S4096 (val_main_call0_c_0 (F := F))
abbrev idx_main_call0_v2 (i : S4096.Idx) : S_.Idx := fun a => a.elim0
/-- The stage `call0_v2` of the reference, read at an index. -/
theorem val_main_call0_v2_apply (i : S4096.Idx) :
    val_main_call0_v2 (F := F) i = val_main_call0_c_0 (F := F) (idx_main_call0_v2 i) := by
  unfold val_main_call0_v2
  generalize val_main_call0_c_0 (F := F) = y
  exact broadcastInDim_apply _ bcast_S_S4096 y i (idx_main_call0_v2 i) (fun a => a.elim0)

def val_main_call0_v3 (x1 : (⟨S4096, .i32⟩ : BufTy).Contents (Elt F)) : (⟨S4096, .i32⟩ : BufTy).Contents (Elt F) :=
  addi (x1) (val_main_call0_v2 (F := F))
/-- The stage `call0_v3` of the reference, read at an index. -/
theorem val_main_call0_v3_apply (x1 : (⟨S4096, .i32⟩ : BufTy).Contents (Elt F)) (i : S4096.Idx) :
    val_main_call0_v3 (F := F) x1 i = IntOp.addi (x1 i) (val_main_call0_v2 (F := F) i) := rfl

def val_main_call0_v4 (x1 : (⟨S4096, .i32⟩ : BufTy).Contents (Elt F)) : (⟨S4096, .i32⟩ : BufTy).Contents (Elt F) :=
  select (val_main_call0_v1 (F := F) x1) (val_main_call0_v3 (F := F) x1) (x1)
/-- The stage `call0_v4` of the reference, read at an index. -/
theorem val_main_call0_v4_apply (x1 : (⟨S4096, .i32⟩ : BufTy).Contents (Elt F)) (i : S4096.Idx) :
    val_main_call0_v4 (F := F) x1 i = Scalar.select (val_main_call0_v1 (F := F) x1 i) (val_main_call0_v3 (F := F) x1 i) (x1 i) := rfl

def val_main_call0_v5 (x1 : (⟨S4096, .i32⟩ : BufTy).Contents (Elt F)) : (⟨S4096x1, .i32⟩ : BufTy).Contents (Elt F) :=
  broadcastInDim S4096x1 ![0] bcast_S4096_S4096x1_0 (val_main_call0_v4 (F := F) x1)
abbrev idx_main_call0_v5 (i : S4096x1.Idx) : S4096.Idx := fun a => match a with
  | ⟨0, _⟩ => ⟨(i 0).val, (i 0).isLt⟩
/-- The stage `call0_v5` of the reference, read at an index. -/
theorem val_main_call0_v5_apply (x1 : (⟨S4096, .i32⟩ : BufTy).Contents (Elt F)) (i : S4096x1.Idx) :
    val_main_call0_v5 (F := F) x1 i = val_main_call0_v4 (F := F) x1 (idx_main_call0_v5 i) := by
  unfold val_main_call0_v5
  generalize val_main_call0_v4 (F := F) x1 = y
  exact broadcastInDim_apply _ bcast_S4096_S4096x1_0 y i (idx_main_call0_v5 i) (fun a => match a with
    | ⟨0, _⟩ => by show (i 0).val = if (4096 : Nat) = 1 then 0 else (i 0).val; rw [if_neg (by decide)])

def val_main_call0_c_1 : (⟨S1, .i32⟩ : BufTy).Contents (Elt F) :=
  constantI S1 32 1023#32
/-- The stage `call0_c_1` of the reference, read at an index. -/
theorem val_main_call0_c_1_apply (i : S1.Idx) :
    val_main_call0_c_1 (F := F) i = 1023#32 := rfl

def val_main_call0_c_2 : (⟨S_, .i32⟩ : BufTy).Contents (Elt F) :=
  constantI S_ 32 0#32
/-- The stage `call0_c_2` of the reference, read at an index. -/
theorem val_main_call0_c_2_apply (i : S_.Idx) :
    val_main_call0_c_2 (F := F) i = 0#32 := rfl

def val_main_call0_v6 : (⟨S4096x1, .i32⟩ : BufTy).Contents (Elt F) :=
  broadcastInDim S4096x1 ![] bcast_S_S4096x1 (val_main_call0_c_2 (F := F))
abbrev idx_main_call0_v6 (i : S4096x1.Idx) : S_.Idx := fun a => a.elim0
/-- The stage `call0_v6` of the reference, read at an index. -/
theorem val_main_call0_v6_apply (i : S4096x1.Idx) :
    val_main_call0_v6 (F := F) i = val_main_call0_c_2 (F := F) (idx_main_call0_v6 i) := by
  unfold val_main_call0_v6
  generalize val_main_call0_c_2 (F := F) = y
  exact broadcastInDim_apply _ bcast_S_S4096x1 y i (idx_main_call0_v6 i) (fun a => a.elim0)

def val_main_call0_v7 (x1 : (⟨S4096, .i32⟩ : BufTy).Contents (Elt F)) : (⟨S4096x1, .i1⟩ : BufTy).Contents (Elt F) :=
  cmpi .sge (val_main_call0_v5 (F := F) x1) (val_main_call0_v6 (F := F))
/-- The stage `call0_v7` of the reference, read at an index. -/
theorem val_main_call0_v7_apply (x1 : (⟨S4096, .i32⟩ : BufTy).Contents (Elt F)) (i : S4096x1.Idx) :
    val_main_call0_v7 (F := F) x1 i = IntOp.cmpi .sge (val_main_call0_v5 (F := F) x1 i) (val_main_call0_v6 (F := F) i) := rfl

def val_main_call0_v8 : (⟨S1x1, .i32⟩ : BufTy).Contents (Elt F) :=
  broadcastInDim S1x1 ![1] bcast_S1_S1x1_1 (val_main_call0_c_1 (F := F))
abbrev idx_main_call0_v8 (i : S1x1.Idx) : S1.Idx := fun a => match a with
  | ⟨0, _⟩ => ⟨0, Nat.one_pos⟩
/-- The stage `call0_v8` of the reference, read at an index. -/
theorem val_main_call0_v8_apply (i : S1x1.Idx) :
    val_main_call0_v8 (F := F) i = val_main_call0_c_1 (F := F) (idx_main_call0_v8 i) := by
  unfold val_main_call0_v8
  generalize val_main_call0_c_1 (F := F) = y
  exact broadcastInDim_apply _ bcast_S1_S1x1_1 y i (idx_main_call0_v8 i) (fun a => match a with
    | ⟨0, _⟩ => by show 0 = if (1 : Nat) = 1 then 0 else (i 1).val; rw [if_pos rfl])

def val_main_call0_v9 : (⟨S4096x1, .i32⟩ : BufTy).Contents (Elt F) :=
  broadcastInDim S4096x1 ![0, 1] bcast_S1x1_S4096x1_0_1 (val_main_call0_v8 (F := F))
abbrev idx_main_call0_v9 (i : S4096x1.Idx) : S1x1.Idx := fun a => match a with
  | ⟨0, _⟩ => ⟨0, Nat.one_pos⟩
  | ⟨1, _⟩ => ⟨0, Nat.one_pos⟩
/-- The stage `call0_v9` of the reference, read at an index. -/
theorem val_main_call0_v9_apply (i : S4096x1.Idx) :
    val_main_call0_v9 (F := F) i = val_main_call0_v8 (F := F) (idx_main_call0_v9 i) := by
  unfold val_main_call0_v9
  generalize val_main_call0_v8 (F := F) = y
  exact broadcastInDim_apply _ bcast_S1x1_S4096x1_0_1 y i (idx_main_call0_v9 i) (fun a => match a with
    | ⟨0, _⟩ => by show 0 = if (1 : Nat) = 1 then 0 else (i 0).val; rw [if_pos rfl]
    | ⟨1, _⟩ => by show 0 = if (1 : Nat) = 1 then 0 else (i 1).val; rw [if_pos rfl])

def val_main_call0_v10 (x1 : (⟨S4096, .i32⟩ : BufTy).Contents (Elt F)) : (⟨S4096x1, .i1⟩ : BufTy).Contents (Elt F) :=
  cmpi .sle (val_main_call0_v5 (F := F) x1) (val_main_call0_v9 (F := F))
/-- The stage `call0_v10` of the reference, read at an index. -/
theorem val_main_call0_v10_apply (x1 : (⟨S4096, .i32⟩ : BufTy).Contents (Elt F)) (i : S4096x1.Idx) :
    val_main_call0_v10 (F := F) x1 i = IntOp.cmpi .sle (val_main_call0_v5 (F := F) x1 i) (val_main_call0_v9 (F := F) i) := rfl

def val_main_call0_v11 (x1 : (⟨S4096, .i32⟩ : BufTy).Contents (Elt F)) : (⟨S4096x1, .i1⟩ : BufTy).Contents (Elt F) :=
  andi (val_main_call0_v7 (F := F) x1) (val_main_call0_v10 (F := F) x1)
/-- The stage `call0_v11` of the reference, read at an index. -/
theorem val_main_call0_v11_apply (x1 : (⟨S4096, .i32⟩ : BufTy).Contents (Elt F)) (i : S4096x1.Idx) :
    val_main_call0_v11 (F := F) x1 i = IntOp.andi (val_main_call0_v7 (F := F) x1 i) (val_main_call0_v10 (F := F) x1 i) := rfl

def val_main_call0_c_3 : (⟨S_, .i1⟩ : BufTy).Contents (Elt F) :=
  constantI S_ 1 1#1
/-- The stage `call0_c_3` of the reference, read at an index. -/
theorem val_main_call0_c_3_apply (i : S_.Idx) :
    val_main_call0_c_3 (F := F) i = 1#1 := rfl

def val_main_call0_v12 (x1 : (⟨S4096, .i32⟩ : BufTy).Contents (Elt F)) : (⟨S4096, .i1⟩ : BufTy).Contents (Elt F) :=
  Host.reduce IntOp.andi (val_main_call0_v11 (F := F) x1) (val_main_call0_c_3 (F := F)) reducesTo_S4096x1_S4096_d1 h_S_

def val_main_call0_v13 (x1 : (⟨S4096, .i32⟩ : BufTy).Contents (Elt F)) (x6 : (⟨S1024x64x64, .f32⟩ : BufTy).Contents (Elt F)) : (⟨S4096x64x64, .f32⟩ : BufTy).Contents (Elt F) :=
  Host.gather gather_S1024x64x64_S4096x1_S4096x64x64_12_0_n_n_0_1_16464 (x6) (val_main_call0_v5 (F := F) x1)

def val_main_call0_v14 (x1 : (⟨S4096, .i32⟩ : BufTy).Contents (Elt F)) : (⟨S4096x64x64, .i1⟩ : BufTy).Contents (Elt F) :=
  broadcastInDim S4096x64x64 ![0] bcast_S4096_S4096x64x64_0 (val_main_call0_v12 (F := F) x1)
abbrev idx_main_call0_v14 (i : S4096x64x64.Idx) : S4096.Idx := fun a => match a with
  | ⟨0, _⟩ => ⟨(i 0).val, (i 0).isLt⟩
/-- The stage `call0_v14` of the reference, read at an index. -/
theorem val_main_call0_v14_apply (x1 : (⟨S4096, .i32⟩ : BufTy).Contents (Elt F)) (i : S4096x64x64.Idx) :
    val_main_call0_v14 (F := F) x1 i = val_main_call0_v12 (F := F) x1 (idx_main_call0_v14 i) := by
  unfold val_main_call0_v14
  generalize val_main_call0_v12 (F := F) x1 = y
  exact broadcastInDim_apply _ bcast_S4096_S4096x64x64_0 y i (idx_main_call0_v14 i) (fun a => match a with
    | ⟨0, _⟩ => by show (i 0).val = if (4096 : Nat) = 1 then 0 else (i 0).val; rw [if_neg (by decide)])

def val_main_call0_cst : (⟨S_, .f32⟩ : BufTy).Contents (Elt F) :=
  constant S_ .f32 0x7FC00000#32
/-- The stage `call0_cst` of the reference, read at an index. -/
theorem val_main_call0_cst_apply (i : S_.Idx) :
    val_main_call0_cst (F := F) i = FloatOps.ofBits .f32 0x7FC00000#32 := rfl

def val_main_call0_v15 : (⟨S4096x64x64, .f32⟩ : BufTy).Contents (Elt F) :=
  broadcastInDim S4096x64x64 ![] bcast_S_S4096x64x64 (val_main_call0_cst (F := F))
abbrev idx_main_call0_v15 (i : S4096x64x64.Idx) : S_.Idx := fun a => a.elim0
/-- The stage `call0_v15` of the reference, read at an index. -/
theorem val_main_call0_v15_apply (i : S4096x64x64.Idx) :
    val_main_call0_v15 (F := F) i = val_main_call0_cst (F := F) (idx_main_call0_v15 i) := by
  unfold val_main_call0_v15
  generalize val_main_call0_cst (F := F) = y
  exact broadcastInDim_apply _ bcast_S_S4096x64x64 y i (idx_main_call0_v15 i) (fun a => a.elim0)

def val_main_v2 (x1 : (⟨S4096, .i32⟩ : BufTy).Contents (Elt F)) (x6 : (⟨S1024x64x64, .f32⟩ : BufTy).Contents (Elt F)) : (⟨S4096x64x64, .f32⟩ : BufTy).Contents (Elt F) :=
  select (val_main_call0_v14 (F := F) x1) (val_main_call0_v13 (F := F) x1 x6) (val_main_call0_v15 (F := F))
/-- The stage `v2` of the reference, read at an index. -/
theorem val_main_v2_apply (x1 : (⟨S4096, .i32⟩ : BufTy).Contents (Elt F)) (x6 : (⟨S1024x64x64, .f32⟩ : BufTy).Contents (Elt F)) (i : S4096x64x64.Idx) :
    val_main_v2 (F := F) x1 x6 i = Scalar.select (val_main_call0_v14 (F := F) x1 i) (val_main_call0_v13 (F := F) x1 x6 i) (val_main_call0_v15 (F := F) i) := rfl

def val_main_call1_c : (⟨S_, .i32⟩ : BufTy).Contents (Elt F) :=
  constantI S_ 32 0#32
/-- The stage `call1_c` of the reference, read at an index. -/
theorem val_main_call1_c_apply (i : S_.Idx) :
    val_main_call1_c (F := F) i = 0#32 := rfl

def val_main_call1_v0 : (⟨S4096, .i32⟩ : BufTy).Contents (Elt F) :=
  broadcastInDim S4096 ![] bcast_S_S4096 (val_main_call1_c (F := F))
abbrev idx_main_call1_v0 (i : S4096.Idx) : S_.Idx := fun a => a.elim0
/-- The stage `call1_v0` of the reference, read at an index. -/
theorem val_main_call1_v0_apply (i : S4096.Idx) :
    val_main_call1_v0 (F := F) i = val_main_call1_c (F := F) (idx_main_call1_v0 i) := by
  unfold val_main_call1_v0
  generalize val_main_call1_c (F := F) = y
  exact broadcastInDim_apply _ bcast_S_S4096 y i (idx_main_call1_v0 i) (fun a => a.elim0)

def val_main_call1_v1 (x1 : (⟨S4096, .i32⟩ : BufTy).Contents (Elt F)) : (⟨S4096, .i1⟩ : BufTy).Contents (Elt F) :=
  cmpi .slt (x1) (val_main_call1_v0 (F := F))
/-- The stage `call1_v1` of the reference, read at an index. -/
theorem val_main_call1_v1_apply (x1 : (⟨S4096, .i32⟩ : BufTy).Contents (Elt F)) (i : S4096.Idx) :
    val_main_call1_v1 (F := F) x1 i = IntOp.cmpi .slt (x1 i) (val_main_call1_v0 (F := F) i) := rfl

def val_main_call1_c_0 : (⟨S_, .i32⟩ : BufTy).Contents (Elt F) :=
  constantI S_ 32 1024#32
/-- The stage `call1_c_0` of the reference, read at an index. -/
theorem val_main_call1_c_0_apply (i : S_.Idx) :
    val_main_call1_c_0 (F := F) i = 1024#32 := rfl

def val_main_call1_v2 : (⟨S4096, .i32⟩ : BufTy).Contents (Elt F) :=
  broadcastInDim S4096 ![] bcast_S_S4096 (val_main_call1_c_0 (F := F))
abbrev idx_main_call1_v2 (i : S4096.Idx) : S_.Idx := fun a => a.elim0
/-- The stage `call1_v2` of the reference, read at an index. -/
theorem val_main_call1_v2_apply (i : S4096.Idx) :
    val_main_call1_v2 (F := F) i = val_main_call1_c_0 (F := F) (idx_main_call1_v2 i) := by
  unfold val_main_call1_v2
  generalize val_main_call1_c_0 (F := F) = y
  exact broadcastInDim_apply _ bcast_S_S4096 y i (idx_main_call1_v2 i) (fun a => a.elim0)

def val_main_call1_v3 (x1 : (⟨S4096, .i32⟩ : BufTy).Contents (Elt F)) : (⟨S4096, .i32⟩ : BufTy).Contents (Elt F) :=
  addi (x1) (val_main_call1_v2 (F := F))
/-- The stage `call1_v3` of the reference, read at an index. -/
theorem val_main_call1_v3_apply (x1 : (⟨S4096, .i32⟩ : BufTy).Contents (Elt F)) (i : S4096.Idx) :
    val_main_call1_v3 (F := F) x1 i = IntOp.addi (x1 i) (val_main_call1_v2 (F := F) i) := rfl

def val_main_call1_v4 (x1 : (⟨S4096, .i32⟩ : BufTy).Contents (Elt F)) : (⟨S4096, .i32⟩ : BufTy).Contents (Elt F) :=
  select (val_main_call1_v1 (F := F) x1) (val_main_call1_v3 (F := F) x1) (x1)
/-- The stage `call1_v4` of the reference, read at an index. -/
theorem val_main_call1_v4_apply (x1 : (⟨S4096, .i32⟩ : BufTy).Contents (Elt F)) (i : S4096.Idx) :
    val_main_call1_v4 (F := F) x1 i = Scalar.select (val_main_call1_v1 (F := F) x1 i) (val_main_call1_v3 (F := F) x1 i) (x1 i) := rfl

def val_main_call1_v5 (x1 : (⟨S4096, .i32⟩ : BufTy).Contents (Elt F)) : (⟨S4096x1, .i32⟩ : BufTy).Contents (Elt F) :=
  broadcastInDim S4096x1 ![0] bcast_S4096_S4096x1_0 (val_main_call1_v4 (F := F) x1)
abbrev idx_main_call1_v5 (i : S4096x1.Idx) : S4096.Idx := fun a => match a with
  | ⟨0, _⟩ => ⟨(i 0).val, (i 0).isLt⟩
/-- The stage `call1_v5` of the reference, read at an index. -/
theorem val_main_call1_v5_apply (x1 : (⟨S4096, .i32⟩ : BufTy).Contents (Elt F)) (i : S4096x1.Idx) :
    val_main_call1_v5 (F := F) x1 i = val_main_call1_v4 (F := F) x1 (idx_main_call1_v5 i) := by
  unfold val_main_call1_v5
  generalize val_main_call1_v4 (F := F) x1 = y
  exact broadcastInDim_apply _ bcast_S4096_S4096x1_0 y i (idx_main_call1_v5 i) (fun a => match a with
    | ⟨0, _⟩ => by show (i 0).val = if (4096 : Nat) = 1 then 0 else (i 0).val; rw [if_neg (by decide)])

def val_main_call1_c_1 : (⟨S1, .i32⟩ : BufTy).Contents (Elt F) :=
  constantI S1 32 1023#32
/-- The stage `call1_c_1` of the reference, read at an index. -/
theorem val_main_call1_c_1_apply (i : S1.Idx) :
    val_main_call1_c_1 (F := F) i = 1023#32 := rfl

def val_main_call1_c_2 : (⟨S_, .i32⟩ : BufTy).Contents (Elt F) :=
  constantI S_ 32 0#32
/-- The stage `call1_c_2` of the reference, read at an index. -/
theorem val_main_call1_c_2_apply (i : S_.Idx) :
    val_main_call1_c_2 (F := F) i = 0#32 := rfl

def val_main_call1_v6 : (⟨S4096x1, .i32⟩ : BufTy).Contents (Elt F) :=
  broadcastInDim S4096x1 ![] bcast_S_S4096x1 (val_main_call1_c_2 (F := F))
abbrev idx_main_call1_v6 (i : S4096x1.Idx) : S_.Idx := fun a => a.elim0
/-- The stage `call1_v6` of the reference, read at an index. -/
theorem val_main_call1_v6_apply (i : S4096x1.Idx) :
    val_main_call1_v6 (F := F) i = val_main_call1_c_2 (F := F) (idx_main_call1_v6 i) := by
  unfold val_main_call1_v6
  generalize val_main_call1_c_2 (F := F) = y
  exact broadcastInDim_apply _ bcast_S_S4096x1 y i (idx_main_call1_v6 i) (fun a => a.elim0)

def val_main_call1_v7 (x1 : (⟨S4096, .i32⟩ : BufTy).Contents (Elt F)) : (⟨S4096x1, .i1⟩ : BufTy).Contents (Elt F) :=
  cmpi .sge (val_main_call1_v5 (F := F) x1) (val_main_call1_v6 (F := F))
/-- The stage `call1_v7` of the reference, read at an index. -/
theorem val_main_call1_v7_apply (x1 : (⟨S4096, .i32⟩ : BufTy).Contents (Elt F)) (i : S4096x1.Idx) :
    val_main_call1_v7 (F := F) x1 i = IntOp.cmpi .sge (val_main_call1_v5 (F := F) x1 i) (val_main_call1_v6 (F := F) i) := rfl

def val_main_call1_v8 : (⟨S1x1, .i32⟩ : BufTy).Contents (Elt F) :=
  broadcastInDim S1x1 ![1] bcast_S1_S1x1_1 (val_main_call1_c_1 (F := F))
abbrev idx_main_call1_v8 (i : S1x1.Idx) : S1.Idx := fun a => match a with
  | ⟨0, _⟩ => ⟨0, Nat.one_pos⟩
/-- The stage `call1_v8` of the reference, read at an index. -/
theorem val_main_call1_v8_apply (i : S1x1.Idx) :
    val_main_call1_v8 (F := F) i = val_main_call1_c_1 (F := F) (idx_main_call1_v8 i) := by
  unfold val_main_call1_v8
  generalize val_main_call1_c_1 (F := F) = y
  exact broadcastInDim_apply _ bcast_S1_S1x1_1 y i (idx_main_call1_v8 i) (fun a => match a with
    | ⟨0, _⟩ => by show 0 = if (1 : Nat) = 1 then 0 else (i 1).val; rw [if_pos rfl])

def val_main_call1_v9 : (⟨S4096x1, .i32⟩ : BufTy).Contents (Elt F) :=
  broadcastInDim S4096x1 ![0, 1] bcast_S1x1_S4096x1_0_1 (val_main_call1_v8 (F := F))
abbrev idx_main_call1_v9 (i : S4096x1.Idx) : S1x1.Idx := fun a => match a with
  | ⟨0, _⟩ => ⟨0, Nat.one_pos⟩
  | ⟨1, _⟩ => ⟨0, Nat.one_pos⟩
/-- The stage `call1_v9` of the reference, read at an index. -/
theorem val_main_call1_v9_apply (i : S4096x1.Idx) :
    val_main_call1_v9 (F := F) i = val_main_call1_v8 (F := F) (idx_main_call1_v9 i) := by
  unfold val_main_call1_v9
  generalize val_main_call1_v8 (F := F) = y
  exact broadcastInDim_apply _ bcast_S1x1_S4096x1_0_1 y i (idx_main_call1_v9 i) (fun a => match a with
    | ⟨0, _⟩ => by show 0 = if (1 : Nat) = 1 then 0 else (i 0).val; rw [if_pos rfl]
    | ⟨1, _⟩ => by show 0 = if (1 : Nat) = 1 then 0 else (i 1).val; rw [if_pos rfl])

def val_main_call1_v10 (x1 : (⟨S4096, .i32⟩ : BufTy).Contents (Elt F)) : (⟨S4096x1, .i1⟩ : BufTy).Contents (Elt F) :=
  cmpi .sle (val_main_call1_v5 (F := F) x1) (val_main_call1_v9 (F := F))
/-- The stage `call1_v10` of the reference, read at an index. -/
theorem val_main_call1_v10_apply (x1 : (⟨S4096, .i32⟩ : BufTy).Contents (Elt F)) (i : S4096x1.Idx) :
    val_main_call1_v10 (F := F) x1 i = IntOp.cmpi .sle (val_main_call1_v5 (F := F) x1 i) (val_main_call1_v9 (F := F) i) := rfl

def val_main_call1_v11 (x1 : (⟨S4096, .i32⟩ : BufTy).Contents (Elt F)) : (⟨S4096x1, .i1⟩ : BufTy).Contents (Elt F) :=
  andi (val_main_call1_v7 (F := F) x1) (val_main_call1_v10 (F := F) x1)
/-- The stage `call1_v11` of the reference, read at an index. -/
theorem val_main_call1_v11_apply (x1 : (⟨S4096, .i32⟩ : BufTy).Contents (Elt F)) (i : S4096x1.Idx) :
    val_main_call1_v11 (F := F) x1 i = IntOp.andi (val_main_call1_v7 (F := F) x1 i) (val_main_call1_v10 (F := F) x1 i) := rfl

def val_main_call1_c_3 : (⟨S_, .i1⟩ : BufTy).Contents (Elt F) :=
  constantI S_ 1 1#1
/-- The stage `call1_c_3` of the reference, read at an index. -/
theorem val_main_call1_c_3_apply (i : S_.Idx) :
    val_main_call1_c_3 (F := F) i = 1#1 := rfl

def val_main_call1_v12 (x1 : (⟨S4096, .i32⟩ : BufTy).Contents (Elt F)) : (⟨S4096, .i1⟩ : BufTy).Contents (Elt F) :=
  Host.reduce IntOp.andi (val_main_call1_v11 (F := F) x1) (val_main_call1_c_3 (F := F)) reducesTo_S4096x1_S4096_d1 h_S_

def val_main_call1_v13 (x1 : (⟨S4096, .i32⟩ : BufTy).Contents (Elt F)) (x7 : (⟨S1024x64, .f32⟩ : BufTy).Contents (Elt F)) : (⟨S4096x64, .f32⟩ : BufTy).Contents (Elt F) :=
  Host.gather gather_S1024x64_S4096x1_S4096x64_1_0_n_n_0_1_164 (x7) (val_main_call1_v5 (F := F) x1)

def val_main_call1_v14 (x1 : (⟨S4096, .i32⟩ : BufTy).Contents (Elt F)) : (⟨S4096x64, .i1⟩ : BufTy).Contents (Elt F) :=
  broadcastInDim S4096x64 ![0] bcast_S4096_S4096x64_0 (val_main_call1_v12 (F := F) x1)
abbrev idx_main_call1_v14 (i : S4096x64.Idx) : S4096.Idx := fun a => match a with
  | ⟨0, _⟩ => ⟨(i 0).val, (i 0).isLt⟩
/-- The stage `call1_v14` of the reference, read at an index. -/
theorem val_main_call1_v14_apply (x1 : (⟨S4096, .i32⟩ : BufTy).Contents (Elt F)) (i : S4096x64.Idx) :
    val_main_call1_v14 (F := F) x1 i = val_main_call1_v12 (F := F) x1 (idx_main_call1_v14 i) := by
  unfold val_main_call1_v14
  generalize val_main_call1_v12 (F := F) x1 = y
  exact broadcastInDim_apply _ bcast_S4096_S4096x64_0 y i (idx_main_call1_v14 i) (fun a => match a with
    | ⟨0, _⟩ => by show (i 0).val = if (4096 : Nat) = 1 then 0 else (i 0).val; rw [if_neg (by decide)])

def val_main_call1_cst : (⟨S_, .f32⟩ : BufTy).Contents (Elt F) :=
  constant S_ .f32 0x7FC00000#32
/-- The stage `call1_cst` of the reference, read at an index. -/
theorem val_main_call1_cst_apply (i : S_.Idx) :
    val_main_call1_cst (F := F) i = FloatOps.ofBits .f32 0x7FC00000#32 := rfl

def val_main_call1_v15 : (⟨S4096x64, .f32⟩ : BufTy).Contents (Elt F) :=
  broadcastInDim S4096x64 ![] bcast_S_S4096x64 (val_main_call1_cst (F := F))
abbrev idx_main_call1_v15 (i : S4096x64.Idx) : S_.Idx := fun a => a.elim0
/-- The stage `call1_v15` of the reference, read at an index. -/
theorem val_main_call1_v15_apply (i : S4096x64.Idx) :
    val_main_call1_v15 (F := F) i = val_main_call1_cst (F := F) (idx_main_call1_v15 i) := by
  unfold val_main_call1_v15
  generalize val_main_call1_cst (F := F) = y
  exact broadcastInDim_apply _ bcast_S_S4096x64 y i (idx_main_call1_v15 i) (fun a => a.elim0)

def val_main_v3 (x1 : (⟨S4096, .i32⟩ : BufTy).Contents (Elt F)) (x7 : (⟨S1024x64, .f32⟩ : BufTy).Contents (Elt F)) : (⟨S4096x64, .f32⟩ : BufTy).Contents (Elt F) :=
  select (val_main_call1_v14 (F := F) x1) (val_main_call1_v13 (F := F) x1 x7) (val_main_call1_v15 (F := F))
/-- The stage `v3` of the reference, read at an index. -/
theorem val_main_v3_apply (x1 : (⟨S4096, .i32⟩ : BufTy).Contents (Elt F)) (x7 : (⟨S1024x64, .f32⟩ : BufTy).Contents (Elt F)) (i : S4096x64.Idx) :
    val_main_v3 (F := F) x1 x7 i = Scalar.select (val_main_call1_v14 (F := F) x1 i) (val_main_call1_v13 (F := F) x1 x7 i) (val_main_call1_v15 (F := F) i) := rfl

def val_main_v4 (x1 : (⟨S4096, .i32⟩ : BufTy).Contents (Elt F)) (x3 : (⟨S4096x64, .f32⟩ : BufTy).Contents (Elt F)) (x6 : (⟨S1024x64x64, .f32⟩ : BufTy).Contents (Elt F)) : (⟨S4096x64, .f32⟩ : BufTy).Contents (Elt F) :=
  Host.dotGeneral dot_S4096x64x64_S4096x64_S4096x64_2_1_1_n_0_0 none (val_main_v2 (F := F) x1 x6) (x3)
/-- Coordinate 0 of the index the product `v4` reads on its left. -/
theorem lhs_main_v4_0 (i : S4096x64.Idx) (q : dot_S4096x64x64_S4096x64_S4096x64_2_1_1_n_0_0.contr.Idx) :
    (dot_S4096x64x64_S4096x64_S4096x64_2_1_1_n_0_0.lhsIdx i q 0).val = (i 0).val := by
  unfold DotDims.lhsIdx
  rw [dif_pos (show (0 : Fin S4096x64x64.rank) ∈ dot_S4096x64x64_S4096x64_S4096x64_2_1_1_n_0_0.lhsBatch by decide)]
  rfl
/-- Coordinate 1 of the index the product `v4` reads on its left. -/
theorem lhs_main_v4_1 (i : S4096x64.Idx) (q : dot_S4096x64x64_S4096x64_S4096x64_2_1_1_n_0_0.contr.Idx) :
    (dot_S4096x64x64_S4096x64_S4096x64_2_1_1_n_0_0.lhsIdx i q 1).val = (i 1).val := by
  unfold DotDims.lhsIdx
  rw [dif_neg (show ¬(1 : Fin S4096x64x64.rank) ∈ dot_S4096x64x64_S4096x64_S4096x64_2_1_1_n_0_0.lhsBatch by decide), dif_pos (show (1 : Fin S4096x64x64.rank) ∈ dot_S4096x64x64_S4096x64_S4096x64_2_1_1_n_0_0.lhsNonContracting by decide)]
  rfl
/-- Coordinate 2 of the index the product `v4` reads on its left. -/
theorem lhs_main_v4_2 (i : S4096x64.Idx) (q : dot_S4096x64x64_S4096x64_S4096x64_2_1_1_n_0_0.contr.Idx) :
    (dot_S4096x64x64_S4096x64_S4096x64_2_1_1_n_0_0.lhsIdx i q 2).val = (q ⟨0, by decide⟩).val :=
  dot_S4096x64x64_S4096x64_S4096x64_2_1_1_n_0_0.lhsIdx_val_of_single rfl i q
/-- Coordinate 0 of the index the product `v4` reads on its right. -/
theorem rhs_main_v4_0 (i : S4096x64.Idx) (q : dot_S4096x64x64_S4096x64_S4096x64_2_1_1_n_0_0.contr.Idx) :
    (dot_S4096x64x64_S4096x64_S4096x64_2_1_1_n_0_0.rhsIdx i q 0).val = (i 0).val := by
  unfold DotDims.rhsIdx
  rw [dif_pos (show (0 : Fin S4096x64.rank) ∈ dot_S4096x64x64_S4096x64_S4096x64_2_1_1_n_0_0.rhsBatch by decide)]
  rfl
/-- Coordinate 1 of the index the product `v4` reads on its right. -/
theorem rhs_main_v4_1 (i : S4096x64.Idx) (q : dot_S4096x64x64_S4096x64_S4096x64_2_1_1_n_0_0.contr.Idx) :
    (dot_S4096x64x64_S4096x64_S4096x64_2_1_1_n_0_0.rhsIdx i q 1).val = (q ⟨0, by decide⟩).val :=
  dot_S4096x64x64_S4096x64_S4096x64_2_1_1_n_0_0.rhsIdx_val_of_single rfl i q
abbrev lidx_main_v4 (i : S4096x64.Idx) (k : Fin 64) : S4096x64x64.Idx := fun a => match a with
  | ⟨0, _⟩ => ⟨(i 0).val, (i 0).isLt⟩
  | ⟨1, _⟩ => ⟨(i 1).val, (i 1).isLt⟩
  | ⟨2, _⟩ => ⟨k.val, k.isLt⟩
abbrev ridx_main_v4 (i : S4096x64.Idx) (k : Fin 64) : S4096x64.Idx := fun a => match a with
  | ⟨0, _⟩ => ⟨(i 0).val, (i 0).isLt⟩
  | ⟨1, _⟩ => ⟨k.val, k.isLt⟩
/-- Stated at `F := Ideal`, where the host's `dot_general` is this sum; at a bit-exact instance it is an opaque function of its operands. -/
theorem val_main_v4_apply (x1 : (⟨S4096, .i32⟩ : BufTy).Contents (Elt Ideal)) (x3 : (⟨S4096x64, .f32⟩ : BufTy).Contents (Elt Ideal)) (x6 : (⟨S1024x64x64, .f32⟩ : BufTy).Contents (Elt Ideal)) (i : S4096x64.Idx) :
    val_main_v4 (F := Ideal) x1 x3 x6 i = ∑ k : Fin 64, (val_main_v2 (F := Ideal) x1 x6) (lidx_main_v4 i k) * x3 (ridx_main_v4 i k) := by
  unfold val_main_v4
  generalize val_main_v2 (F := Ideal) x1 x6 = y0
  simp only [Host.dotGeneral]
  rw [Ideal.dotGeneral_apply, ← Equiv.sum_comp (ValueIdx.contrEquiv1 dot_S4096x64x64_S4096x64_S4096x64_2_1_1_n_0_0 64 rfl rfl).symm]
  refine Finset.sum_congr rfl fun k _ => ?_
  have hk := ValueIdx.contrEquiv1_symm_val dot_S4096x64x64_S4096x64_S4096x64_2_1_1_n_0_0 64 rfl rfl k
  have el : dot_S4096x64x64_S4096x64_S4096x64_2_1_1_n_0_0.lhsIdx i ((ValueIdx.contrEquiv1 dot_S4096x64x64_S4096x64_S4096x64_2_1_1_n_0_0 64 rfl rfl).symm k) = lidx_main_v4 i k := funext fun a => Fin.ext (by
    match a with
    | ⟨0, _⟩ => exact lhs_main_v4_0 _ _
    | ⟨1, _⟩ => exact lhs_main_v4_1 _ _
    | ⟨2, _⟩ => exact (lhs_main_v4_2 _ _).trans hk)
  have er : dot_S4096x64x64_S4096x64_S4096x64_2_1_1_n_0_0.rhsIdx i ((ValueIdx.contrEquiv1 dot_S4096x64x64_S4096x64_S4096x64_2_1_1_n_0_0 64 rfl rfl).symm k) = ridx_main_v4 i k := funext fun a => Fin.ext (by
    match a with
    | ⟨0, _⟩ => exact rhs_main_v4_0 _ _
    | ⟨1, _⟩ => exact (rhs_main_v4_1 _ _).trans hk)
  rw [el, er]

def val_main_v5 (x1 : (⟨S4096, .i32⟩ : BufTy).Contents (Elt F)) (x3 : (⟨S4096x64, .f32⟩ : BufTy).Contents (Elt F)) (x6 : (⟨S1024x64x64, .f32⟩ : BufTy).Contents (Elt F)) (x7 : (⟨S1024x64, .f32⟩ : BufTy).Contents (Elt F)) : (⟨S4096x64, .f32⟩ : BufTy).Contents (Elt F) :=
  addf (val_main_v4 (F := F) x1 x3 x6) (val_main_v3 (F := F) x1 x7)
/-- The stage `v5` of the reference, read at an index. -/
theorem val_main_v5_apply (x1 : (⟨S4096, .i32⟩ : BufTy).Contents (Elt F)) (x3 : (⟨S4096x64, .f32⟩ : BufTy).Contents (Elt F)) (x6 : (⟨S1024x64x64, .f32⟩ : BufTy).Contents (Elt F)) (x7 : (⟨S1024x64, .f32⟩ : BufTy).Contents (Elt F)) (i : S4096x64.Idx) :
    val_main_v5 (F := F) x1 x3 x6 x7 i = FloatOps.addf (val_main_v4 (F := F) x1 x3 x6 i) (val_main_v3 (F := F) x1 x7 i) := rfl

def val_main_v6 (x0 x1 x2 : (⟨S4096, .i32⟩ : BufTy).Contents (Elt F)) : (⟨S4096, .i32⟩ : BufTy).Contents (Elt F) :=
  select (val_main_v1 (F := F) x2) (x1) (x0)
/-- The stage `v6` of the reference, read at an index. -/
theorem val_main_v6_apply (x0 x1 x2 : (⟨S4096, .i32⟩ : BufTy).Contents (Elt F)) (i : S4096.Idx) :
    val_main_v6 (F := F) x0 x1 x2 i = Scalar.select (val_main_v1 (F := F) x2 i) (x1 i) (x0 i) := rfl

def val_main_v7 (x2 : (⟨S4096, .i32⟩ : BufTy).Contents (Elt F)) : (⟨S4096x1, .i1⟩ : BufTy).Contents (Elt F) :=
  broadcastInDim S4096x1 ![0] bcast_S4096_S4096x1_0 (val_main_v1 (F := F) x2)
abbrev idx_main_v7 (i : S4096x1.Idx) : S4096.Idx := fun a => match a with
  | ⟨0, _⟩ => ⟨(i 0).val, (i 0).isLt⟩
/-- The stage `v7` of the reference, read at an index. -/
theorem val_main_v7_apply (x2 : (⟨S4096, .i32⟩ : BufTy).Contents (Elt F)) (i : S4096x1.Idx) :
    val_main_v7 (F := F) x2 i = val_main_v1 (F := F) x2 (idx_main_v7 i) := by
  unfold val_main_v7
  generalize val_main_v1 (F := F) x2 = y
  exact broadcastInDim_apply _ bcast_S4096_S4096x1_0 y i (idx_main_v7 i) (fun a => match a with
    | ⟨0, _⟩ => by show (i 0).val = if (4096 : Nat) = 1 then 0 else (i 0).val; rw [if_neg (by decide)])

def val_main_call3_v0 (x2 : (⟨S4096, .i32⟩ : BufTy).Contents (Elt F)) : (⟨S4096x64, .i1⟩ : BufTy).Contents (Elt F) :=
  broadcastInDim S4096x64 ![0, 1] bcast_S4096x1_S4096x64_0_1 (val_main_v7 (F := F) x2)
abbrev idx_main_call3_v0 (i : S4096x64.Idx) : S4096x1.Idx := fun a => match a with
  | ⟨0, _⟩ => ⟨(i 0).val, (i 0).isLt⟩
  | ⟨1, _⟩ => ⟨0, Nat.one_pos⟩
/-- The stage `call3_v0` of the reference, read at an index. -/
theorem val_main_call3_v0_apply (x2 : (⟨S4096, .i32⟩ : BufTy).Contents (Elt F)) (i : S4096x64.Idx) :
    val_main_call3_v0 (F := F) x2 i = val_main_v7 (F := F) x2 (idx_main_call3_v0 i) := by
  unfold val_main_call3_v0
  generalize val_main_v7 (F := F) x2 = y
  exact broadcastInDim_apply _ bcast_S4096x1_S4096x64_0_1 y i (idx_main_call3_v0 i) (fun a => match a with
    | ⟨0, _⟩ => by show (i 0).val = if (4096 : Nat) = 1 then 0 else (i 0).val; rw [if_neg (by decide)]
    | ⟨1, _⟩ => by show 0 = if (1 : Nat) = 1 then 0 else (i 1).val; rw [if_pos rfl])

def val_main_v8 (x1 x2 : (⟨S4096, .i32⟩ : BufTy).Contents (Elt F)) (x3 x4 : (⟨S4096x64, .f32⟩ : BufTy).Contents (Elt F)) (x6 : (⟨S1024x64x64, .f32⟩ : BufTy).Contents (Elt F)) (x7 : (⟨S1024x64, .f32⟩ : BufTy).Contents (Elt F)) : (⟨S4096x64, .f32⟩ : BufTy).Contents (Elt F) :=
  select (val_main_call3_v0 (F := F) x2) (val_main_v5 (F := F) x1 x3 x6 x7) (x4)
/-- The stage `v8` of the reference, read at an index. -/
theorem val_main_v8_apply (x1 x2 : (⟨S4096, .i32⟩ : BufTy).Contents (Elt F)) (x3 x4 : (⟨S4096x64, .f32⟩ : BufTy).Contents (Elt F)) (x6 : (⟨S1024x64x64, .f32⟩ : BufTy).Contents (Elt F)) (x7 : (⟨S1024x64, .f32⟩ : BufTy).Contents (Elt F)) (i : S4096x64.Idx) :
    val_main_v8 (F := F) x1 x2 x3 x4 x6 x7 i = Scalar.select (val_main_call3_v0 (F := F) x2 i) (val_main_v5 (F := F) x1 x3 x6 x7 i) (x4 i) := rfl

def val_main_v9 (x0 x1 x2 : (⟨S4096, .i32⟩ : BufTy).Contents (Elt F)) : (⟨S256x1x16, .i32⟩ : BufTy).Contents (Elt F) :=
  shapeCast _ (val_main_v6 (F := F) x0 x1 x2) shapeCasts_S4096_S256x1x16
abbrev idx_main_v9 (i : S256x1x16.Idx) : S4096.Idx := fun a => match a with
  | ⟨0, _⟩ => ⟨((i 0).val * 1 + (i 1).val) * 16 + (i 2).val, by have h0 : (i 0).val < 256 := (i 0).isLt; have h1 : (i 1).val < 1 := (i 1).isLt; have h2 : (i 2).val < 16 := (i 2).isLt; show ((i 0).val * 1 + (i 1).val) * 16 + (i 2).val < 4096; omega⟩
/-- The stage `v9` of the reference, read at an index. -/
theorem val_main_v9_apply (x0 x1 x2 : (⟨S4096, .i32⟩ : BufTy).Contents (Elt F)) (i : S256x1x16.Idx) :
    val_main_v9 (F := F) x0 x1 x2 i = val_main_v6 (F := F) x0 x1 x2 (idx_main_v9 i) := by
  unfold val_main_v9
  generalize val_main_v6 (F := F) x0 x1 x2 = y
  exact shapeCast_apply y shapeCasts_S4096_S256x1x16 i (idx_main_v9 i)
    (by rewrite [Shape.rowMajor_val_one, Shape.rowMajor_val_three]; have h0 : (i 0).val < 256 := (i 0).isLt; have h1 : (i 1).val < 1 := (i 1).isLt; have h2 : (i 2).val < 16 := (i 2).isLt; show ((i 0).val * 1 + (i 1).val) * 16 + (i 2).val = ((i 0).val * 1 + (i 1).val) * 16 + (i 2).val; omega)

def val_main_c_0 : (⟨S_, .i32⟩ : BufTy).Contents (Elt F) :=
  constantI S_ 32 0#32
/-- The stage `c_0` of the reference, read at an index. -/
theorem val_main_c_0_apply (i : S_.Idx) :
    val_main_c_0 (F := F) i = 0#32 := rfl

def val_main_call4_v0 : (⟨S_, .i32⟩ : BufTy).Contents (Elt F) :=
  id (val_main_c_0 (F := F))
/-- The stage `call4_v0` of the reference, read at an index. -/
theorem val_main_call4_v0_apply (i : S_.Idx) :
    val_main_call4_v0 (F := F) i = (val_main_c_0 (F := F) i) := rfl

def val_main_v10 (x0 x1 x2 : (⟨S4096, .i32⟩ : BufTy).Contents (Elt F)) : (⟨S256x1x128, .i32⟩ : BufTy).Contents (Elt F) :=
  pad S256x1x128 ![0, 0, 0] ![0, 0, 112] ![0, 0, 0] (val_main_v9 (F := F) x0 x1 x2) (val_main_call4_v0 (F := F)) pads_S256x1x16_S256x1x128_000_000_01120 h_S_

/-- The term the Run module states for `main_v8` is the stage. -/
theorem val_main_v8_eq (x1 x2 : (⟨S4096, .i32⟩ : BufTy).Contents (Elt F)) (x3 x4 : (⟨S4096x64, .f32⟩ : BufTy).Contents (Elt F)) (x6 : (⟨S1024x64x64, .f32⟩ : BufTy).Contents (Elt F)) (x7 : (⟨S1024x64, .f32⟩ : BufTy).Contents (Elt F)) :
    select (broadcastInDim S4096x64 ![0, 1] bcast_S4096x1_S4096x64_0_1 (broadcastInDim S4096x1 ![0] bcast_S4096_S4096x1_0 (cmpi .sgt (x2) (broadcastInDim S4096 ![] bcast_S_S4096 (constantI S_ 32 0#32))))) (addf (Host.dotGeneral dot_S4096x64x64_S4096x64_S4096x64_2_1_1_n_0_0 none (select (broadcastInDim S4096x64x64 ![0] bcast_S4096_S4096x64x64_0 (Host.reduce IntOp.andi (andi (cmpi .sge (broadcastInDim S4096x1 ![0] bcast_S4096_S4096x1_0 (select (cmpi .slt (x1) (broadcastInDim S4096 ![] bcast_S_S4096 (constantI S_ 32 0#32))) (addi (x1) (broadcastInDim S4096 ![] bcast_S_S4096 (constantI S_ 32 1024#32))) (x1))) (broadcastInDim S4096x1 ![] bcast_S_S4096x1 (constantI S_ 32 0#32))) (cmpi .sle (broadcastInDim S4096x1 ![0] bcast_S4096_S4096x1_0 (select (cmpi .slt (x1) (broadcastInDim S4096 ![] bcast_S_S4096 (constantI S_ 32 0#32))) (addi (x1) (broadcastInDim S4096 ![] bcast_S_S4096 (constantI S_ 32 1024#32))) (x1))) (broadcastInDim S4096x1 ![0, 1] bcast_S1x1_S4096x1_0_1 (broadcastInDim S1x1 ![1] bcast_S1_S1x1_1 (constantI S1 32 1023#32))))) (constantI S_ 1 1#1) reducesTo_S4096x1_S4096_d1 h_S_)) (Host.gather gather_S1024x64x64_S4096x1_S4096x64x64_12_0_n_n_0_1_16464 (x6) (broadcastInDim S4096x1 ![0] bcast_S4096_S4096x1_0 (select (cmpi .slt (x1) (broadcastInDim S4096 ![] bcast_S_S4096 (constantI S_ 32 0#32))) (addi (x1) (broadcastInDim S4096 ![] bcast_S_S4096 (constantI S_ 32 1024#32))) (x1)))) (broadcastInDim S4096x64x64 ![] bcast_S_S4096x64x64 (constant S_ .f32 0x7FC00000#32))) (x3)) (select (broadcastInDim S4096x64 ![0] bcast_S4096_S4096x64_0 (Host.reduce IntOp.andi (andi (cmpi .sge (broadcastInDim S4096x1 ![0] bcast_S4096_S4096x1_0 (select (cmpi .slt (x1) (broadcastInDim S4096 ![] bcast_S_S4096 (constantI S_ 32 0#32))) (addi (x1) (broadcastInDim S4096 ![] bcast_S_S4096 (constantI S_ 32 1024#32))) (x1))) (broadcastInDim S4096x1 ![] bcast_S_S4096x1 (constantI S_ 32 0#32))) (cmpi .sle (broadcastInDim S4096x1 ![0] bcast_S4096_S4096x1_0 (select (cmpi .slt (x1) (broadcastInDim S4096 ![] bcast_S_S4096 (constantI S_ 32 0#32))) (addi (x1) (broadcastInDim S4096 ![] bcast_S_S4096 (constantI S_ 32 1024#32))) (x1))) (broadcastInDim S4096x1 ![0, 1] bcast_S1x1_S4096x1_0_1 (broadcastInDim S1x1 ![1] bcast_S1_S1x1_1 (constantI S1 32 1023#32))))) (constantI S_ 1 1#1) reducesTo_S4096x1_S4096_d1 h_S_)) (Host.gather gather_S1024x64_S4096x1_S4096x64_1_0_n_n_0_1_164 (x7) (broadcastInDim S4096x1 ![0] bcast_S4096_S4096x1_0 (select (cmpi .slt (x1) (broadcastInDim S4096 ![] bcast_S_S4096 (constantI S_ 32 0#32))) (addi (x1) (broadcastInDim S4096 ![] bcast_S_S4096 (constantI S_ 32 1024#32))) (x1)))) (broadcastInDim S4096x64 ![] bcast_S_S4096x64 (constant S_ .f32 0x7FC00000#32)))) (x4)
      = val_main_v8 (F := F) x1 x2 x3 x4 x6 x7 := rfl

/-- The term the Run module states for `main_v10` is the stage. -/
theorem val_main_v10_eq (x0 x1 x2 : (⟨S4096, .i32⟩ : BufTy).Contents (Elt F)) :
    pad S256x1x128 ![0, 0, 0] ![0, 0, 112] ![0, 0, 0] (shapeCast _ (select (cmpi .sgt (x2) (broadcastInDim S4096 ![] bcast_S_S4096 (constantI S_ 32 0#32))) (x1) (x0)) shapeCasts_S4096_S256x1x16) (id (constantI S_ 32 0#32)) pads_S256x1x16_S256x1x128_000_000_01120 h_S_
      = val_main_v10 (F := F) x0 x1 x2 := rfl

end Cert.TwoReferenceIdeal.Read

end
-- ==== Proof.Take.lean ====
/-
  Reading a table at indices that lie in it, as the problem's array lookups print: the index is not wrapped, its range check
  holds, and the lookup reads the row the index names.
-/
module

public import Idealize.ShloMosaic.Lib.ReduceAll
public import Idealize.ShloMosaic.Lib.ValueIdxCore
public import Idealize.ShloMosaic.Lib.WordCmp

@[expose] public section

namespace Cert.Atlas

open Idealize.ShloMosaic Idealize.ShloMosaic.ValueIdx

/-- A word below 1024 reads the same with and without its sign. -/
theorem toInt_small {v : BitVec 32} (h : v.toNat < 1024) : v.toInt = (v.toNat : Int) :=
  BitVec.toInt_eq_toNat_of_lt (by omega)

/-- Such a word is not negative. -/
theorem slt_zero {v : BitVec 32} (h : v.toNat < 1024) : IntOp.cmpi .slt v 0#32 = 0#1 := by
  have : v.slt 0#32 = false := by
    rw [BitVec.slt, toInt_small h]; simp
  simp [IntOp.cmpi, this]

/-- It is at least zero. -/
theorem sge_zero {v : BitVec 32} (h : v.toNat < 1024) : IntOp.cmpi .sge v 0#32 = 1#1 := by
  have : (0#32 : BitVec 32).sle v = true := by
    rw [BitVec.sle, toInt_small h]; simp
  simp [IntOp.cmpi, this]

/-- It is at most 1023. -/
theorem sle_last {v : BitVec 32} (h : v.toNat < 1024) : IntOp.cmpi .sle v 1023#32 = 1#1 := by
  have : v.sle 1023#32 = true := by
    rw [BitVec.sle, toInt_small h, toInt_small (v := 1023#32) (by decide)]
    have e : (1023#32 : BitVec 32).toNat = 1023 := by decide
    rw [e]
    exact decide_eq_true (by omega)
  simp [IntOp.cmpi, this]

/-- A word whose signed reading is at least zero and below 1024 is below 1024. -/
theorem lt_of_range {v : BitVec 32} (h : IntOp.andi (IntOp.cmpi .sge v 0#32) (IntOp.cmpi .slt v 1024#32) = 1#1) : v.toNat < 1024 := by
  have h0 : (0#32 : BitVec 32).sle v = true := by
    by_contra hn
    rw [Bool.not_eq_true] at hn
    simp [IntOp.cmpi, IntOp.andi, hn] at h
  have h1 : v.slt 1024#32 = true := by
    by_contra hn
    rw [Bool.not_eq_true] at hn
    simp [IntOp.cmpi, IntOp.andi, hn] at h
  rw [BitVec.sle, decide_eq_true_eq] at h0
  rw [BitVec.slt, decide_eq_true_eq] at h1
  have e0 : (0#32 : BitVec 32).toInt = 0 := by decide
  have e1 : (1024#32 : BitVec 32).toInt = 1024 := by decide
  rw [e0] at h0
  rw [e1] at h1
  have := v.isLt
  rw [BitVec.toInt_eq_toNat_cond] at h0 h1
  split at h0 <;> omega

section Rows
variable {α : Type}

/-- The lookup of a row of a matrix of width `C`. -/
abbrev rowDims (N C n : Nat)
    (wf : GatherDims.WF ⟨2, ![N, C]⟩ ⟨2, ![n, 1]⟩ ⟨2, ![n, C]⟩ [1] [0] [] [0] [] 1 ![1, C]) :
    GatherDims ⟨2, ![N, C]⟩ ⟨2, ![n, 1]⟩ ⟨2, ![n, C]⟩ where
  offsetDims := [1]
  collapsedSliceDims := [0]
  operandBatchingDims := []
  startIndicesBatchingDims := []
  startIndexMap := [0]
  indexVectorDim := 1
  sliceSizes := ![1, C]
  wf := wf

/-- The lookup of a slab `A × B` of an array of slabs. -/
abbrev slabDims (N A B n : Nat)
    (wf : GatherDims.WF ⟨3, ![N, A, B]⟩ ⟨2, ![n, 1]⟩ ⟨3, ![n, A, B]⟩ [1, 2] [0] [] [0] [] 1 ![1, A, B]) :
    GatherDims ⟨3, ![N, A, B]⟩ ⟨2, ![n, 1]⟩ ⟨3, ![n, A, B]⟩ where
  offsetDims := [1, 2]
  collapsedSliceDims := [0]
  operandBatchingDims := []
  startIndicesBatchingDims := []
  startIndexMap := [0]
  indexVectorDim := 1
  sliceSizes := ![1, A, B]
  wf := wf

/-- The lookup of a row reads that row. -/
theorem row_apply {C n : Nat} (wf : GatherDims.WF ⟨2, ![1024, C]⟩ ⟨2, ![n, 1]⟩ ⟨2, ![n, C]⟩ [1] [0] [] [0] [] 1 ![1, C])
    (x : (⟨2, ![1024, C]⟩ : Shape).Idx → α) (idx : IVec ⟨2, ![n, 1]⟩ 32) (b : Fin n) (c : Fin C) (v : BitVec 32)
    (hv : idx (ix2 b 0) = v) (h : v.toNat < 1024) :
    Host.gather (rowDims 1024 C n wf) x idx (ix2 b c) = x (ix2 ⟨v.toNat, h⟩ c) := by
  unfold Host.gather
  congr 1
  funext a
  refine Fin.ext ?_
  show (rowDims 1024 C n wf).start (ix2 b c) idx a + (rowDims 1024 C n wf).batchCoord (ix2 b c) a
    + (rowDims 1024 C n wf).offCoord (ix2 b c) a = _
  rw [GatherDims.batchCoord_eq_zero _ _ _ List.not_mem_nil, Nat.add_zero]
  match a with
  | ⟨0, _⟩ =>
    rw [GatherDims.offCoord_eq_zero _ _ _ (fun h => ((GatherDims.mem_sKept _ _).mp h).1 (List.mem_singleton.mpr rfl)), Nat.add_zero]
    unfold GatherDims.start
    rw [dif_pos (show (⟨0, by decide⟩ : Fin 2) ∈ (rowDims 1024 C n wf).startIndexMap from List.mem_singleton.mpr rfl)]
    have hsi : (rowDims 1024 C n wf).siIdx (ix2 b c) ⟨List.idxOf (⟨0, by decide⟩ : Fin 2) (rowDims 1024 C n wf).startIndexMap,
        List.idxOf_lt_length_iff.2 (List.mem_singleton.mpr rfl)⟩ = ix2 b 0 := by
      funext e; refine Fin.ext ?_
      match e with
      | ⟨0, _⟩ => rfl
      | ⟨1, _⟩ => rfl
    rw [hsi, hv, toInt_small h]
    show min v.toNat (1024 - 1) = v.toNat
    omega
  | ⟨1, _⟩ =>
    have hz : (rowDims 1024 C n wf).start (ix2 b c) idx ⟨1, Nat.lt_of_sub_eq_succ rfl⟩ = 0 := by
      unfold GatherDims.start
      exact dif_neg (show ¬(⟨1, by decide⟩ : Fin 2) ∈ [(0 : Fin 2)] by decide)
    rw [hz, Nat.zero_add]
    rfl

/-- The lookup of a slab reads that slab. -/
theorem slab_apply {A B n : Nat}
    (wf : GatherDims.WF ⟨3, ![1024, A, B]⟩ ⟨2, ![n, 1]⟩ ⟨3, ![n, A, B]⟩ [1, 2] [0] [] [0] [] 1 ![1, A, B])
    (x : (⟨3, ![1024, A, B]⟩ : Shape).Idx → α) (idx : IVec ⟨2, ![n, 1]⟩ 32) (b : Fin n) (c : Fin A) (d : Fin B) (v : BitVec 32)
    (hv : idx (ix2 b 0) = v) (h : v.toNat < 1024) :
    Host.gather (slabDims 1024 A B n wf) x idx (ix3 b c d) = x (ix3 ⟨v.toNat, h⟩ c d) := by
  unfold Host.gather
  congr 1
  funext a
  refine Fin.ext ?_
  show (slabDims 1024 A B n wf).start (ix3 b c d) idx a + (slabDims 1024 A B n wf).batchCoord (ix3 b c d) a
    + (slabDims 1024 A B n wf).offCoord (ix3 b c d) a = _
  rw [GatherDims.batchCoord_eq_zero _ _ _ List.not_mem_nil, Nat.add_zero]
  match a with
  | ⟨0, _⟩ =>
    rw [GatherDims.offCoord_eq_zero _ _ _ (fun h => ((GatherDims.mem_sKept _ _).mp h).1 (List.mem_singleton.mpr rfl)), Nat.add_zero]
    unfold GatherDims.start
    rw [dif_pos (show (⟨0, by decide⟩ : Fin 3) ∈ (slabDims 1024 A B n wf).startIndexMap from List.mem_singleton.mpr rfl)]
    have hsi : (slabDims 1024 A B n wf).siIdx (ix3 b c d) ⟨List.idxOf (⟨0, by decide⟩ : Fin 3) (slabDims 1024 A B n wf).startIndexMap,
        List.idxOf_lt_length_iff.2 (List.mem_singleton.mpr rfl)⟩ = ix2 b 0 := by
      funext e; refine Fin.ext ?_
      match e with
      | ⟨0, _⟩ => rfl
      | ⟨1, _⟩ => rfl
    rw [hsi, hv, toInt_small h]
    show min v.toNat (1024 - 1) = v.toNat
    omega
  | ⟨1, _⟩ =>
    have hz : (slabDims 1024 A B n wf).start (ix3 b c d) idx ⟨1, Nat.lt_of_sub_eq_succ rfl⟩ = 0 := by
      unfold GatherDims.start
      exact dif_neg (show ¬(⟨1, by decide⟩ : Fin 3) ∈ [(0 : Fin 3)] by decide)
    rw [hz, Nat.zero_add]
    rfl
  | ⟨2, _⟩ =>
    have hz : (slabDims 1024 A B n wf).start (ix3 b c d) idx ⟨2, Nat.lt_of_sub_eq_succ rfl⟩ = 0 := by
      unfold GatherDims.start
      exact dif_neg (show ¬(⟨2, by decide⟩ : Fin 3) ∈ [(0 : Fin 3)] by decide)
    rw [hz, Nat.zero_add]
    rfl

end Rows

end Cert.Atlas

end
-- ==== Proof.TwoRef.lean ====
/-
  The second stage's reference at an index, where the new charts lie in the atlas: its rows are the second stage's rows
  and its lanes the rows' charts.
-/
module

public import proofs.«01_k».proof.Proof.TwoReferenceIdealRead
public import proofs.«01_k».proof.Proof.TwoRow
public import proofs.«01_k».proof.Proof.Take
public import Idealize.ShloMosaic.Lib.KernelVsHost

@[expose] public section

noncomputable section

namespace Cert.TwoReferenceIdeal.Read

open Cert.TwoReferenceIdeal Cert.TwoReferenceIdeal.Gen Idealize.ShloMosaic Idealize.ShloMosaic.ValueIdx Cert.Atlas

variable (x1 : IVec S4096 32) (h : ∀ i : S4096.Idx, (x1 i).toNat < 1024)
include h

/-- The index of the matrix lookup is the new chart. -/
theorem index0 (i : S4096x1.Idx) : val_main_call0_v5 (F := Ideal) x1 i = x1 (idx_main_call0_v5 i) := by
  rw [val_main_call0_v5_apply, val_main_call0_v4_apply, val_main_call0_v1_apply, val_main_call0_v0_apply, val_main_call0_c_apply,
    slt_zero (h _)]
  rfl

/-- The index of the offset lookup is the new chart. -/
theorem index1 (i : S4096x1.Idx) : val_main_call1_v5 (F := Ideal) x1 i = x1 (idx_main_call1_v5 i) := by
  rw [val_main_call1_v5_apply, val_main_call1_v4_apply, val_main_call1_v1_apply, val_main_call1_v0_apply, val_main_call1_c_apply,
    slt_zero (h _)]
  rfl

/-- The matrix lookup's range check holds. -/
theorem check0 (j : S4096.Idx) : val_main_call0_v12 (F := Ideal) x1 j = 1#1 := by
  unfold val_main_call0_v12
  refine Host.reduce_andi_one _ _ _ _ _ rfl fun i => ?_
  rw [val_main_call0_v11_apply, val_main_call0_v7_apply, val_main_call0_v10_apply, index0 x1 h, val_main_call0_v6_apply,
    val_main_call0_c_2_apply, val_main_call0_v9_apply, val_main_call0_v8_apply, val_main_call0_c_1_apply, sge_zero (h _), sle_last (h _)]
  rfl

/-- The offset lookup's range check holds. -/
theorem check1 (j : S4096.Idx) : val_main_call1_v12 (F := Ideal) x1 j = 1#1 := by
  unfold val_main_call1_v12
  refine Host.reduce_andi_one _ _ _ _ _ rfl fun i => ?_
  rw [val_main_call1_v11_apply, val_main_call1_v7_apply, val_main_call1_v10_apply, index1 x1 h, val_main_call1_v6_apply,
    val_main_call1_c_2_apply, val_main_call1_v9_apply, val_main_call1_v8_apply, val_main_call1_c_1_apply, sge_zero (h _), sle_last (h _)]
  rfl

/-- The matrix of row `b` is its new chart's. -/
theorem matrix_apply (x6 : FVec Ideal S1024x64x64 .f32) (b : Fin 4096) (d e : Fin 64) :
    val_main_v2 (F := Ideal) x1 x6 (ix3 b d e) = x6 (ix3 ⟨(x1 (ix1 b)).toNat, h _⟩ d e) := by
  rw [val_main_v2_apply, val_main_call0_v14_apply, check0 x1 h]
  refine (show _ = val_main_call0_v13 (F := Ideal) x1 x6 (ix3 b d e) from rfl).trans ?_
  unfold val_main_call0_v13
  exact slab_apply gather_S1024x64x64_S4096x1_S4096x64x64_12_0_n_n_0_1_16464_wf x6 _ b d e (x1 (ix1 b))
    ((index0 x1 h _).trans (congrArg x1 (funext fun a => Fin.ext (by fin_cases a; rfl)))) (h _)

/-- The offset of row `b` is its new chart's. -/
theorem offset_apply (x7 : FVec Ideal S1024x64 .f32) (b : Fin 4096) (d : Fin 64) :
    val_main_v3 (F := Ideal) x1 x7 (ix2 b d) = x7 (ix2 ⟨(x1 (ix1 b)).toNat, h _⟩ d) := by
  rw [val_main_v3_apply, val_main_call1_v14_apply, check1 x1 h]
  refine (show _ = val_main_call1_v13 (F := Ideal) x1 x7 (ix2 b d) from rfl).trans ?_
  unfold val_main_call1_v13
  exact row_apply gather_S1024x64_S4096x1_S4096x64_1_0_n_n_0_1_164_wf x7 _ b d (x1 (ix1 b))
    ((index1 x1 h _).trans (congrArg x1 (funext fun a => Fin.ext (by fin_cases a; rfl)))) (h _)

/-- The reference's row `b`. -/
theorem rows_ref (x2 : IVec S4096 32) (x3 x4 : FVec Ideal S4096x64 .f32) (x6 : FVec Ideal S1024x64x64 .f32)
    (x7 : FVec Ideal S1024x64 .f32) (b : Fin 4096) (d : Fin 64) :
    val_main_v8 (F := Ideal) x1 x2 x3 x4 x6 x7 (ix2 b d)
      = secondRow (x2 (ix1 b)) (fun d e => x6 (ix3 ⟨(x1 (ix1 b)).toNat, h _⟩ d e)) (fun d => x7 (ix2 ⟨(x1 (ix1 b)).toNat, h _⟩ d))
          (fun e => x3 (ix2 b e)) (fun d => x4 (ix2 b d)) d := by
  rw [val_main_v8_apply, val_main_call3_v0_apply, val_main_v7_apply, val_main_v1_apply, val_main_v0_apply, val_main_c_apply,
    val_main_v5_apply, val_main_v4_apply, offset_apply x1 h, Ideal.addf_def]
  unfold secondRow affine
  refine congrArg₂ (fun c u => Scalar.select c u (x4 (ix2 b d))) ?_ (congrArg (· + _) (Finset.sum_congr rfl fun e _ => ?_))
  · exact congrArg (fun i => IntOp.cmpi .sgt (x2 i) 0#32) (funext fun a => Fin.ext (by fin_cases a; rfl))
  · rw [show lidx_main_v4 (ix2 b d) e = ix3 b d e from funext fun a => Fin.ext (by fin_cases a <;> rfl),
      show ridx_main_v4 (ix2 b d) e = ix2 b e from funext fun a => Fin.ext (by fin_cases a <;> rfl), matrix_apply x1 h, mul_comm]

omit h in
/-- The reference's lanes: lane `j < 16` of line `t` is the chart of row `16 t + j`, and the other lanes are zero. -/
theorem lanes_ref (x0 x2 : IVec S4096 32) (t : Fin 256) (l : Fin 128) :
    val_main_v10 (F := Ideal) x0 x1 x2 (ix3 t 0 l)
      = spread (fun j => Scalar.select (Scalar.cmpi .sgt (x2 (ix1 ⟨16 * t.val + j.val, by omega⟩)) 0#32)
          (x1 (ix1 ⟨16 * t.val + j.val, by omega⟩)) (x0 (ix1 ⟨16 * t.val + j.val, by omega⟩))) l := by
  unfold val_main_v10 spread
  by_cases hl : l.val < 16
  · rw [dif_pos hl, pad_apply_of_inside _ _ _ _ _ _ _ _ (ix3 t 0 ⟨l.val, hl⟩) (fun a => by fin_cases a <;> simp [ix3]),
      val_main_v9_apply, val_main_v6_apply, val_main_v1_apply, val_main_v0_apply, val_main_c_apply]
    have hi : idx_main_v9 (ix3 t 0 ⟨l.val, hl⟩) = ix1 ⟨16 * t.val + l.val, by omega⟩ :=
      funext fun a => Fin.ext (by fin_cases a; show (t.val * 1 + 0) * 16 + l.val = 16 * t.val + l.val; omega)
    rw [hi]
    rfl
  · rw [dif_neg hl, pad_apply_of_not_inside _ _ _ _ _ _ _ _ 2 (fun hc => hl (by
      have h2 := hc.2.2
      simp only [ix3] at h2
      revert h2
      simp))]
    rfl

end Cert.TwoReferenceIdeal.Read

end
-- ==== Proof.TwoClaims.lean ====
/-
  The claims about the second stage and its reference.
-/
module

public import proofs.«01_k».proof.Defs
public import proofs.«01_k».proof.Proof.TwoValue
public import proofs.«01_k».proof.Proof.TwoRef
public import proofs.«01_k».proof.Proof.Gen.Pre_new_charts_in_range
public import proofs.«01_k».proof.Proof.TwoFrame
public import proofs.«01_k».proof.Proof.TwoTables

@[expose] public section

set_option maxRecDepth 16384

noncomputable section

namespace Cert.Atlas

open Idealize.ShloMosaic Idealize.ShloMosaic.TcCoe Idealize.SL.Sem Idealize.ShloMosaic.ValueIdx Cert.TwoIdeal.Kit

/-- A table that passes the range check holds charts below 1024. -/
theorem charts_lt {F : FTy → Type} [FloatOps F] (x0 x1 x2 : IVec ⟨1, ![4096]⟩ 32) (x3 x4 : FVec F ⟨2, ![4096, 64]⟩ .f32) (x5 : IVec ⟨2, ![1024, 128]⟩ 32)
    (x6 : FVec F ⟨3, ![1024, 64, 64]⟩ .f32) (x7 x8 : FVec F ⟨2, ![1024, 64]⟩ .f32)
    (h : Cert.Pre_new_charts_in_range.fn x0 x1 x2 x3 x4 x5 x6 x7 x8 = fun _ => 1#1) (i : (⟨1, ![4096]⟩ : Shape).Idx) :
    (x1 i).toNat < 1024 :=
  lt_of_range (congrFun h i)

/-- The moved rows depend on the table of new charts alone, not on how its range is known. -/
theorem movedRows_congr {x1 y1 : Cert.TwoIdeal.S4096.Idx → BitVec 32} (e : x1 = y1) (h h') {x2 y2 : Cert.TwoIdeal.S4096.Idx → BitVec 32} (e2 : x2 = y2) (x3 x4 x6 x7) :
    movedRows x1 h x2 x3 x4 x6 x7 = movedRows y1 h' y2 x3 x4 x6 x7 := by
  subst e e2; rfl

/-- The reference's rows are the moved rows. -/
theorem ref_rows (x1 x2 : IVec Cert.TwoIdeal.S4096 32) (h : ∀ i, (x1 i).toNat < 1024) (x3 x4 : FVec Ideal Cert.TwoIdeal.S4096x64 .f32)
    (x6 : FVec Ideal Cert.TwoIdeal.S1024x64x64 .f32) (x7 : FVec Ideal Cert.TwoIdeal.S1024x64 .f32) :
    Cert.TwoReferenceIdeal.Read.val_main_v8 (F := Ideal) x1 x2 x3 x4 x6 x7 = movedRows x1 h x2 x3 x4 x6 x7 := by
  funext (i : Cert.TwoIdeal.S4096x64.Idx)
  obtain ⟨b, d, rfl⟩ : ∃ (b : Fin 4096) (d : Fin 64), i = ix2 b d := ⟨i 0, i 1, funext fun a => by
    match a with
    | ⟨0, _⟩ => rfl
    | ⟨1, _⟩ => rfl⟩
  exact Cert.TwoReferenceIdeal.Read.rows_ref x1 h x2 x3 x4 x6 x7 b d

/-- The reference's lanes are the chosen charts. -/
theorem ref_lanes (x0 x1 x2 : IVec Cert.TwoIdeal.S4096 32) :
    Cert.TwoReferenceIdeal.Read.val_main_v10 (F := Ideal) x0 x1 x2 = chosen x0 x1 x2 := by
  funext (i : Cert.TwoIdeal.S256x1x128.Idx)
  obtain ⟨t, l, rfl⟩ : ∃ (t : Fin 256) (l : Fin 128), i = ix3 t 0 l := ⟨i 0, i 2, funext fun a => by
    match a with
    | ⟨0, _⟩ => rfl
    | ⟨1, _⟩ => exact Fin.ext (by have := (i 1).isLt; change (i 1).val < 1 at this; show (i 1).val = 0; omega)
    | ⟨2, _⟩ => rfl⟩
  exact Cert.TwoReferenceIdeal.Read.lanes_ref x1 x0 x2 t l

/-- The second stage's tables are admissible where its new charts are charts. -/
theorem two_tables (m : (ℓ : Loc Cert.TwoIdeal.nD Cert.TwoIdeal.τ Cert.TwoIdeal.sig) → Buf (Elt Ideal) ℓ) (h : Cert.Pre_TwoIdeal m) : ∀ i, (tbl m 1 i : BitVec 32).toNat < 1024 := fun i => by
  rw [tbl_new m 0]; exact charts_lt _ _ _ _ _ _ _ _ _ (h 0) i

/-- The second stage's run: the moved rows and the chosen charts, its arguments unchanged. -/
theorem two_call_run (m : (ℓ : Loc Cert.TwoIdeal.nD Cert.TwoIdeal.τ Cert.TwoIdeal.sig) → Buf (Elt Ideal) ℓ) (g : Dev Cert.TwoIdeal.nD → PrngReg) (h : Cert.Pre_TwoIdeal m) :
    θ_run (Cert.TwoIdeal.defs (F := Ideal)) (onTc (τ := Cert.TwoIdeal.τ) (Cert.TwoIdeal.main (F := Ideal))) ⟨m, fun _ => 0, g⟩ fun r => ∀ c : Dev Cert.TwoIdeal.nD,
      r.2.mem ((c.tc : Thread Cert.TwoIdeal.nD Cert.TwoIdeal.τ).loc Cert.TwoIdeal.main_v4_0) = movedRows (m ((c.tc : Thread Cert.TwoIdeal.nD Cert.TwoIdeal.τ).loc Cert.TwoIdeal.main_arg1)) (charts_lt _ _ _ _ _ _ _ _ _ (h c)) (m ((c.tc : Thread Cert.TwoIdeal.nD Cert.TwoIdeal.τ).loc Cert.TwoIdeal.main_arg2)) (m ((c.tc : Thread Cert.TwoIdeal.nD Cert.TwoIdeal.τ).loc Cert.TwoIdeal.main_arg3)) (m ((c.tc : Thread Cert.TwoIdeal.nD Cert.TwoIdeal.τ).loc Cert.TwoIdeal.main_arg4)) (m ((c.tc : Thread Cert.TwoIdeal.nD Cert.TwoIdeal.τ).loc Cert.TwoIdeal.main_arg6)) (m ((c.tc : Thread Cert.TwoIdeal.nD Cert.TwoIdeal.τ).loc Cert.TwoIdeal.main_arg7))
      ∧ r.2.mem ((c.tc : Thread Cert.TwoIdeal.nD Cert.TwoIdeal.τ).loc Cert.TwoIdeal.main_v4_1) = chosen (m ((c.tc : Thread Cert.TwoIdeal.nD Cert.TwoIdeal.τ).loc Cert.TwoIdeal.main_arg0)) (m ((c.tc : Thread Cert.TwoIdeal.nD Cert.TwoIdeal.τ).loc Cert.TwoIdeal.main_arg1)) (m ((c.tc : Thread Cert.TwoIdeal.nD Cert.TwoIdeal.τ).loc Cert.TwoIdeal.main_arg2))
      ∧ r.2.mem ((c.tc : Thread Cert.TwoIdeal.nD Cert.TwoIdeal.τ).loc Cert.TwoIdeal.main_arg0) = m ((c.tc : Thread Cert.TwoIdeal.nD Cert.TwoIdeal.τ).loc Cert.TwoIdeal.main_arg0)
      ∧ r.2.mem ((c.tc : Thread Cert.TwoIdeal.nD Cert.TwoIdeal.τ).loc Cert.TwoIdeal.main_arg1) = m ((c.tc : Thread Cert.TwoIdeal.nD Cert.TwoIdeal.τ).loc Cert.TwoIdeal.main_arg1)
      ∧ r.2.mem ((c.tc : Thread Cert.TwoIdeal.nD Cert.TwoIdeal.τ).loc Cert.TwoIdeal.main_arg2) = m ((c.tc : Thread Cert.TwoIdeal.nD Cert.TwoIdeal.τ).loc Cert.TwoIdeal.main_arg2)
      ∧ r.2.mem ((c.tc : Thread Cert.TwoIdeal.nD Cert.TwoIdeal.τ).loc Cert.TwoIdeal.main_arg3) = m ((c.tc : Thread Cert.TwoIdeal.nD Cert.TwoIdeal.τ).loc Cert.TwoIdeal.main_arg3)
      ∧ r.2.mem ((c.tc : Thread Cert.TwoIdeal.nD Cert.TwoIdeal.τ).loc Cert.TwoIdeal.main_arg4) = m ((c.tc : Thread Cert.TwoIdeal.nD Cert.TwoIdeal.τ).loc Cert.TwoIdeal.main_arg4)
      ∧ r.2.mem ((c.tc : Thread Cert.TwoIdeal.nD Cert.TwoIdeal.τ).loc Cert.TwoIdeal.main_arg5) = m ((c.tc : Thread Cert.TwoIdeal.nD Cert.TwoIdeal.τ).loc Cert.TwoIdeal.main_arg5)
      ∧ r.2.mem ((c.tc : Thread Cert.TwoIdeal.nD Cert.TwoIdeal.τ).loc Cert.TwoIdeal.main_arg6) = m ((c.tc : Thread Cert.TwoIdeal.nD Cert.TwoIdeal.τ).loc Cert.TwoIdeal.main_arg6)
      ∧ r.2.mem ((c.tc : Thread Cert.TwoIdeal.nD Cert.TwoIdeal.τ).loc Cert.TwoIdeal.main_arg7) = m ((c.tc : Thread Cert.TwoIdeal.nD Cert.TwoIdeal.τ).loc Cert.TwoIdeal.main_arg7)
      ∧ r.2.mem ((c.tc : Thread Cert.TwoIdeal.nD Cert.TwoIdeal.τ).loc Cert.TwoIdeal.main_arg8) = m ((c.tc : Thread Cert.TwoIdeal.nD Cert.TwoIdeal.τ).loc Cert.TwoIdeal.main_arg8) :=
  (θ_run _ _ _).mono
    (fun r hr c => ⟨((hr.1 c).1).trans (movedRows_congr (tbl_new m c) _ _ (tbl_switch m c) _ _ _ _),
      ((hr.1 c).2).trans (by rw [tbl_old m c, tbl_new m c, tbl_switch m c]), hr.2 c⟩)
    (θ_run_and (two_run m g (two_tables m h)) (unchanged m g (ok_of_range _ (two_tables m h))))

/-- The reference's run, as its own text reads: its arguments unchanged. -/
theorem two_ref_run (m : (ℓ : Loc Cert.TwoReferenceIdeal.nD Cert.TwoReferenceIdeal.τ Cert.TwoReferenceIdeal.sig) → Buf (Elt Ideal) ℓ) (g : Dev Cert.TwoReferenceIdeal.nD → PrngReg) :
    θ_run (Cert.TwoReferenceIdeal.defs (F := Ideal)) (onTc (τ := Cert.TwoReferenceIdeal.τ) (Cert.TwoReferenceIdeal.main (F := Ideal))) ⟨m, fun _ => 0, g⟩ fun r => ∀ c : Dev Cert.TwoReferenceIdeal.nD,
      r.2.mem ((c.tc : Thread Cert.TwoReferenceIdeal.nD Cert.TwoReferenceIdeal.τ).loc Cert.TwoReferenceIdeal.main_v8) = Cert.TwoReferenceIdeal.Read.val_main_v8 (F := Ideal) (m ((c.tc : Thread Cert.TwoReferenceIdeal.nD Cert.TwoReferenceIdeal.τ).loc Cert.TwoReferenceIdeal.main_arg1)) (m ((c.tc : Thread Cert.TwoReferenceIdeal.nD Cert.TwoReferenceIdeal.τ).loc Cert.TwoReferenceIdeal.main_arg2)) (m ((c.tc : Thread Cert.TwoReferenceIdeal.nD Cert.TwoReferenceIdeal.τ).loc Cert.TwoReferenceIdeal.main_arg3)) (m ((c.tc : Thread Cert.TwoReferenceIdeal.nD Cert.TwoReferenceIdeal.τ).loc Cert.TwoReferenceIdeal.main_arg4)) (m ((c.tc : Thread Cert.TwoReferenceIdeal.nD Cert.TwoReferenceIdeal.τ).loc Cert.TwoReferenceIdeal.main_arg6)) (m ((c.tc : Thread Cert.TwoReferenceIdeal.nD Cert.TwoReferenceIdeal.τ).loc Cert.TwoReferenceIdeal.main_arg7))
      ∧ r.2.mem ((c.tc : Thread Cert.TwoReferenceIdeal.nD Cert.TwoReferenceIdeal.τ).loc Cert.TwoReferenceIdeal.main_v10) = Cert.TwoReferenceIdeal.Read.val_main_v10 (F := Ideal) (m ((c.tc : Thread Cert.TwoReferenceIdeal.nD Cert.TwoReferenceIdeal.τ).loc Cert.TwoReferenceIdeal.main_arg0)) (m ((c.tc : Thread Cert.TwoReferenceIdeal.nD Cert.TwoReferenceIdeal.τ).loc Cert.TwoReferenceIdeal.main_arg1)) (m ((c.tc : Thread Cert.TwoReferenceIdeal.nD Cert.TwoReferenceIdeal.τ).loc Cert.TwoReferenceIdeal.main_arg2))
      ∧ r.2.mem ((c.tc : Thread Cert.TwoReferenceIdeal.nD Cert.TwoReferenceIdeal.τ).loc Cert.TwoReferenceIdeal.main_arg0) = m ((c.tc : Thread Cert.TwoReferenceIdeal.nD Cert.TwoReferenceIdeal.τ).loc Cert.TwoReferenceIdeal.main_arg0)
      ∧ r.2.mem ((c.tc : Thread Cert.TwoReferenceIdeal.nD Cert.TwoReferenceIdeal.τ).loc Cert.TwoReferenceIdeal.main_arg1) = m ((c.tc : Thread Cert.TwoReferenceIdeal.nD Cert.TwoReferenceIdeal.τ).loc Cert.TwoReferenceIdeal.main_arg1)
      ∧ r.2.mem ((c.tc : Thread Cert.TwoReferenceIdeal.nD Cert.TwoReferenceIdeal.τ).loc Cert.TwoReferenceIdeal.main_arg2) = m ((c.tc : Thread Cert.TwoReferenceIdeal.nD Cert.TwoReferenceIdeal.τ).loc Cert.TwoReferenceIdeal.main_arg2)
      ∧ r.2.mem ((c.tc : Thread Cert.TwoReferenceIdeal.nD Cert.TwoReferenceIdeal.τ).loc Cert.TwoReferenceIdeal.main_arg3) = m ((c.tc : Thread Cert.TwoReferenceIdeal.nD Cert.TwoReferenceIdeal.τ).loc Cert.TwoReferenceIdeal.main_arg3)
      ∧ r.2.mem ((c.tc : Thread Cert.TwoReferenceIdeal.nD Cert.TwoReferenceIdeal.τ).loc Cert.TwoReferenceIdeal.main_arg4) = m ((c.tc : Thread Cert.TwoReferenceIdeal.nD Cert.TwoReferenceIdeal.τ).loc Cert.TwoReferenceIdeal.main_arg4)
      ∧ r.2.mem ((c.tc : Thread Cert.TwoReferenceIdeal.nD Cert.TwoReferenceIdeal.τ).loc Cert.TwoReferenceIdeal.main_arg5) = m ((c.tc : Thread Cert.TwoReferenceIdeal.nD Cert.TwoReferenceIdeal.τ).loc Cert.TwoReferenceIdeal.main_arg5)
      ∧ r.2.mem ((c.tc : Thread Cert.TwoReferenceIdeal.nD Cert.TwoReferenceIdeal.τ).loc Cert.TwoReferenceIdeal.main_arg6) = m ((c.tc : Thread Cert.TwoReferenceIdeal.nD Cert.TwoReferenceIdeal.τ).loc Cert.TwoReferenceIdeal.main_arg6)
      ∧ r.2.mem ((c.tc : Thread Cert.TwoReferenceIdeal.nD Cert.TwoReferenceIdeal.τ).loc Cert.TwoReferenceIdeal.main_arg7) = m ((c.tc : Thread Cert.TwoReferenceIdeal.nD Cert.TwoReferenceIdeal.τ).loc Cert.TwoReferenceIdeal.main_arg7)
      ∧ r.2.mem ((c.tc : Thread Cert.TwoReferenceIdeal.nD Cert.TwoReferenceIdeal.τ).loc Cert.TwoReferenceIdeal.main_arg8) = m ((c.tc : Thread Cert.TwoReferenceIdeal.nD Cert.TwoReferenceIdeal.τ).loc Cert.TwoReferenceIdeal.main_arg8) :=
  (θ_run Cert.TwoReferenceIdeal.defs _ _).mono
    (fun _ h c => ⟨(h c).1.trans (Cert.TwoReferenceIdeal.Read.val_main_v8_eq (F := Ideal) _ _ _ _ _ _),
      (h c).2.1.trans (Cert.TwoReferenceIdeal.Read.val_main_v10_eq (F := Ideal) _ _ _), (h c).2.2⟩)
    (Cert.TwoReferenceIdeal.Value.run (F := Ideal) m g)

/-- The tables of the second stage read with machine floats are admissible under the same condition. -/
theorem two_bits_tables (m : (ℓ : Loc Cert.Two.nD Cert.Two.τ Cert.Two.sig) → Buf (Elt Bits) ℓ) (h : Cert.Pre_Two m) :
    ∀ i, (Cert.Two.Kit.tbl m 1 i : BitVec 32).toNat < 1024 := fun i => by
  rw [show Cert.Two.Kit.tbl m 1 = m (((0 : Dev Cert.Two.nD) : Thread Cert.Two.nD Cert.Two.τ).loc Cert.Two.main_arg1) from
    (Cert.Two.Kit.V_pre m 0 1).symm.trans (Cert.Two.Kit.V_main_arg1 m 0)]
  exact charts_lt _ _ _ _ _ _ _ _ _ (h 0) i

/-- The second stage runs to its end where its new charts are charts, arguments unchanged and counters at zero. -/
theorem two_frame : quiescent_Two := fun m g h => Cert.Two.Kit.frame m g (Cert.Two.Kit.ok_of_range _ (two_bits_tables m h))

/-- The second stage runs to its end where its new charts are charts, arguments unchanged and counters at zero: its ideal reading. -/
theorem twoIdeal_frame : quiescent_TwoIdeal := fun m g h => Cert.TwoIdeal.Kit.frame m g (ok_of_range _ (two_tables m h))

/-- So does the reference, whatever its arguments. -/
theorem twoReferenceIdeal_frame : quiescent_TwoReferenceIdeal := fun m g _ =>
  (θ_run Cert.TwoReferenceIdeal.defs _ _).mono
    (fun r h => ⟨fun c => (h c).2.2, sem_eq_zero_of_no_sems (by decide) r.2⟩) (two_ref_run m g)

/-- And so where its new charts are charts. -/
theorem twoReferenceIdeal_frame_pre : quiescent_TwoReferenceIdeal_pre_new_charts_in_range := fun m g _ =>
  (θ_run Cert.TwoReferenceIdeal.defs _ _).mono
    (fun r h => ⟨fun c => (h c).2.2, sem_eq_zero_of_no_sems (by decide) r.2⟩) (two_ref_run m g)

/-- The second stage and its reference agree on both results. -/
theorem two_algebraic : algebraic_TwoIdeal_TwoReferenceIdeal := fun m g m' g' h hm =>
  ⟨fun c => movedRows (m ((c.tc : Thread Cert.TwoIdeal.nD Cert.TwoIdeal.τ).loc Cert.TwoIdeal.main_arg1)) (charts_lt _ _ _ _ _ _ _ _ _ (h c)) (m ((c.tc : Thread Cert.TwoIdeal.nD Cert.TwoIdeal.τ).loc Cert.TwoIdeal.main_arg2)) (m ((c.tc : Thread Cert.TwoIdeal.nD Cert.TwoIdeal.τ).loc Cert.TwoIdeal.main_arg3)) (m ((c.tc : Thread Cert.TwoIdeal.nD Cert.TwoIdeal.τ).loc Cert.TwoIdeal.main_arg4)) (m ((c.tc : Thread Cert.TwoIdeal.nD Cert.TwoIdeal.τ).loc Cert.TwoIdeal.main_arg6)) (m ((c.tc : Thread Cert.TwoIdeal.nD Cert.TwoIdeal.τ).loc Cert.TwoIdeal.main_arg7)),
    fun c => chosen (m ((c.tc : Thread Cert.TwoIdeal.nD Cert.TwoIdeal.τ).loc Cert.TwoIdeal.main_arg0)) (m ((c.tc : Thread Cert.TwoIdeal.nD Cert.TwoIdeal.τ).loc Cert.TwoIdeal.main_arg1)) (m ((c.tc : Thread Cert.TwoIdeal.nD Cert.TwoIdeal.τ).loc Cert.TwoIdeal.main_arg2)),
    two_call_run m g h,
    (θ_run Cert.TwoReferenceIdeal.defs _ _).mono
      (fun r hr c => by
        obtain ⟨e0, e1, e2, e3, e4, e5, e6, e7, e8⟩ := hm c
        refine ⟨(hr c).1.trans ?_, (hr c).2.1.trans ?_, (hr c).2.2⟩
        · rw [e1, e2, e3, e4, e6, e7]; exact ref_rows _ _ (charts_lt _ _ _ _ _ _ _ _ _ (h c)) _ _ _ _
        · rw [e0, e1, e2]; exact ref_lanes _ _ _) (two_ref_run m' g')⟩

end Cert.Atlas

end
-- ==== Proof.lean ====
/-
  The certificate's claims, assembled.
-/
module

public import proofs.«01_k».proof.Defs
public import proofs.«01_k».proof.Proof.ChartClaims
public import proofs.«01_k».proof.Proof.TwoClaims
public import Idealize.ShloMosaic.Adequacy
public import Idealize.ShloMosaic.Init

@[expose] public section

noncomputable section

namespace Cert.Proof

open Idealize.ShloMosaic Idealize.SL.Sem

/-- Every claim of the certificate. -/
theorem claim : Cert.Claim :=
  ⟨Cert.Chart.Gen.facts, Cert.ChartIdeal.Gen.facts, Cert.ChartReferenceIdeal.Gen.facts, Cert.Two.Gen.facts, Cert.TwoIdeal.Gen.facts,
    Cert.TwoReferenceIdeal.Gen.facts, Cert.Pre_new_charts_in_range.Gen.facts,
    Cert.Atlas.chart_frame, Cert.Atlas.chartIdeal_frame, Cert.Atlas.chartReferenceIdeal_frame,
    Cert.Atlas.two_frame, Cert.Atlas.twoIdeal_frame, Cert.Atlas.twoReferenceIdeal_frame, Cert.Atlas.twoReferenceIdeal_frame_pre,
    trivial, Cert.Atlas.chart_algebraic, trivial, Cert.Atlas.two_algebraic⟩

end Cert.Proof

end
